-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arguments [hPre_finite_arguments : Cert.Pre_finite_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arguments [hPre_finite_arguments : Cert.Pre_finite_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2.2 = (fun _ => 1#1)

def Pre_Projection (m : (ℓ : Loc Cert.Projection.nD Cert.Projection.τ Cert.Projection.sig) → Buf (Elt Bits) ℓ) : Prop :=
  True

def Pre_ProjectionIdeal (m : (ℓ : Loc Cert.ProjectionIdeal.nD Cert.ProjectionIdeal.τ Cert.ProjectionIdeal.sig) → Buf (Elt Ideal) ℓ) : Prop :=
  True

def Pre_ProjectionReferenceIdeal (m : (ℓ : Loc Cert.ProjectionReferenceIdeal.nD Cert.ProjectionReferenceIdeal.τ Cert.ProjectionReferenceIdeal.sig) → Buf (Elt Ideal) ℓ) : Prop :=
  True

def Pre_Output (m : (ℓ : Loc Cert.Output.nD Cert.Output.τ Cert.Output.sig) → Buf (Elt Bits) ℓ) : Prop :=
  True

def Pre_OutputIdeal (m : (ℓ : Loc Cert.OutputIdeal.nD Cert.OutputIdeal.τ Cert.OutputIdeal.sig) → Buf (Elt Ideal) ℓ) : Prop :=
  True

def Pre_OutputReferenceIdeal (m : (ℓ : Loc Cert.OutputReferenceIdeal.nD Cert.OutputReferenceIdeal.τ Cert.OutputReferenceIdeal.sig) → Buf (Elt Ideal) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstReferenceIdeal (m : (ℓ : Loc Cert.FirstReferenceIdeal.nD Cert.FirstReferenceIdeal.τ Cert.FirstReferenceIdeal.sig) → Buf (Elt Ideal) ℓ) : Prop :=
  True

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationReferenceIdeal (m : (ℓ : Loc Cert.ModulationReferenceIdeal.nD Cert.ModulationReferenceIdeal.τ Cert.ModulationReferenceIdeal.sig) → Buf (Elt Ideal) ℓ) : Prop :=
  True

def Pre_Attention (m : (ℓ : Loc Cert.Attention.nD Cert.Attention.τ Cert.Attention.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_arguments [hKernelIdeal : Cert.KernelIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_arguments [hReferenceIdeal : Cert.ReferenceIdeal.Facts] [hPre_finite_arguments : Cert.Pre_finite_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Projection [hProjection : Cert.Projection.Facts] : Prop :=
  ∀ (m : (ℓ : Loc Cert.Projection.nD Cert.Projection.τ Cert.Projection.sig) → Buf (Elt Bits) ℓ) (g : Dev Cert.Projection.nD → PrngReg), Pre_Projection m →
    θ_run (Cert.Projection.defs (F := Bits)) (onTc (τ := Cert.Projection.τ) (Cert.Projection.main (F := Bits))) ⟨m, fun _ => 0, g⟩ (fun r => (∀ c : Dev Cert.Projection.nD,
      r.2.mem ((c.tc : Thread Cert.Projection.nD Cert.Projection.τ).loc Cert.Projection.main_arg0) = m ((c.tc : Thread Cert.Projection.nD Cert.Projection.τ).loc Cert.Projection.main_arg0)
      ∧ r.2.mem ((c.tc : Thread Cert.Projection.nD Cert.Projection.τ).loc Cert.Projection.main_arg1) = m ((c.tc : Thread Cert.Projection.nD Cert.Projection.τ).loc Cert.Projection.main_arg1)
      ∧ r.2.mem ((c.tc : Thread Cert.Projection.nD Cert.Projection.τ).loc Cert.Projection.main_arg2) = m ((c.tc : Thread Cert.Projection.nD Cert.Projection.τ).loc Cert.Projection.main_arg2)
      ∧ r.2.mem ((c.tc : Thread Cert.Projection.nD Cert.Projection.τ).loc Cert.Projection.main_arg3) = m ((c.tc : Thread Cert.Projection.nD Cert.Projection.τ).loc Cert.Projection.main_arg3))
      ∧ r.2.sem = fun _ => 0)

def quiescent_ProjectionIdeal [hProjectionIdeal : Cert.ProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
      ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
      ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3))
      ∧ r.2.sem = fun _ => 0)

def quiescent_ProjectionReferenceIdeal [hProjectionReferenceIdeal : Cert.ProjectionReferenceIdeal.Facts] : Prop :=
  ∀ (m : (ℓ : Loc Cert.ProjectionReferenceIdeal.nD Cert.ProjectionReferenceIdeal.τ Cert.ProjectionReferenceIdeal.sig) → Buf (Elt Ideal) ℓ) (g : Dev Cert.ProjectionReferenceIdeal.nD → PrngReg), Pre_ProjectionReferenceIdeal m →
    θ_run (Cert.ProjectionReferenceIdeal.defs (F := Ideal)) (onTc (τ := Cert.ProjectionReferenceIdeal.τ) (Cert.ProjectionReferenceIdeal.main (F := Ideal))) ⟨m, fun _ => 0, g⟩ (fun r => (∀ c : Dev Cert.ProjectionReferenceIdeal.nD,
      r.2.mem ((c.tc : Thread Cert.ProjectionReferenceIdeal.nD Cert.ProjectionReferenceIdeal.τ).loc Cert.ProjectionReferenceIdeal.main_arg0) = m ((c.tc : Thread Cert.ProjectionReferenceIdeal.nD Cert.ProjectionReferenceIdeal.τ).loc Cert.ProjectionReferenceIdeal.main_arg0)
      ∧ r.2.mem ((c.tc : Thread Cert.ProjectionReferenceIdeal.nD Cert.ProjectionReferenceIdeal.τ).loc Cert.ProjectionReferenceIdeal.main_arg1) = m ((c.tc : Thread Cert.ProjectionReferenceIdeal.nD Cert.ProjectionReferenceIdeal.τ).loc Cert.ProjectionReferenceIdeal.main_arg1)
      ∧ r.2.mem ((c.tc : Thread Cert.ProjectionReferenceIdeal.nD Cert.ProjectionReferenceIdeal.τ).loc Cert.ProjectionReferenceIdeal.main_arg2) = m ((c.tc : Thread Cert.ProjectionReferenceIdeal.nD Cert.ProjectionReferenceIdeal.τ).loc Cert.ProjectionReferenceIdeal.main_arg2)
      ∧ r.2.mem ((c.tc : Thread Cert.ProjectionReferenceIdeal.nD Cert.ProjectionReferenceIdeal.τ).loc Cert.ProjectionReferenceIdeal.main_arg3) = m ((c.tc : Thread Cert.ProjectionReferenceIdeal.nD Cert.ProjectionReferenceIdeal.τ).loc Cert.ProjectionReferenceIdeal.main_arg3))
      ∧ r.2.sem = fun _ => 0)

def quiescent_Output [hOutput : Cert.Output.Facts] : Prop :=
  ∀ (m : (ℓ : Loc Cert.Output.nD Cert.Output.τ Cert.Output.sig) → Buf (Elt Bits) ℓ) (g : Dev Cert.Output.nD → PrngReg), Pre_Output m →
    θ_run (Cert.Output.defs (F := Bits)) (onTc (τ := Cert.Output.τ) (Cert.Output.main (F := Bits))) ⟨m, fun _ => 0, g⟩ (fun r => (∀ c : Dev Cert.Output.nD,
      r.2.mem ((c.tc : Thread Cert.Output.nD Cert.Output.τ).loc Cert.Output.main_arg0) = m ((c.tc : Thread Cert.Output.nD Cert.Output.τ).loc Cert.Output.main_arg0)
      ∧ r.2.mem ((c.tc : Thread Cert.Output.nD Cert.Output.τ).loc Cert.Output.main_arg1) = m ((c.tc : Thread Cert.Output.nD Cert.Output.τ).loc Cert.Output.main_arg1)
      ∧ r.2.mem ((c.tc : Thread Cert.Output.nD Cert.Output.τ).loc Cert.Output.main_arg2) = m ((c.tc : Thread Cert.Output.nD Cert.Output.τ).loc Cert.Output.main_arg2)
      ∧ r.2.mem ((c.tc : Thread Cert.Output.nD Cert.Output.τ).loc Cert.Output.main_arg3) = m ((c.tc : Thread Cert.Output.nD Cert.Output.τ).loc Cert.Output.main_arg3)
      ∧ r.2.mem ((c.tc : Thread Cert.Output.nD Cert.Output.τ).loc Cert.Output.main_arg4) = m ((c.tc : Thread Cert.Output.nD Cert.Output.τ).loc Cert.Output.main_arg4)
      ∧ r.2.mem ((c.tc : Thread Cert.Output.nD Cert.Output.τ).loc Cert.Output.main_arg5) = m ((c.tc : Thread Cert.Output.nD Cert.Output.τ).loc Cert.Output.main_arg5)
      ∧ r.2.mem ((c.tc : Thread Cert.Output.nD Cert.Output.τ).loc Cert.Output.main_arg6) = m ((c.tc : Thread Cert.Output.nD Cert.Output.τ).loc Cert.Output.main_arg6)
      ∧ r.2.mem ((c.tc : Thread Cert.Output.nD Cert.Output.τ).loc Cert.Output.main_arg7) = m ((c.tc : Thread Cert.Output.nD Cert.Output.τ).loc Cert.Output.main_arg7)
      ∧ r.2.mem ((c.tc : Thread Cert.Output.nD Cert.Output.τ).loc Cert.Output.main_arg8) = m ((c.tc : Thread Cert.Output.nD Cert.Output.τ).loc Cert.Output.main_arg8)
      ∧ r.2.mem ((c.tc : Thread Cert.Output.nD Cert.Output.τ).loc Cert.Output.main_arg9) = m ((c.tc : Thread Cert.Output.nD Cert.Output.τ).loc Cert.Output.main_arg9)
      ∧ r.2.mem ((c.tc : Thread Cert.Output.nD Cert.Output.τ).loc Cert.Output.main_arg10) = m ((c.tc : Thread Cert.Output.nD Cert.Output.τ).loc Cert.Output.main_arg10)
      ∧ r.2.mem ((c.tc : Thread Cert.Output.nD Cert.Output.τ).loc Cert.Output.main_arg11) = m ((c.tc : Thread Cert.Output.nD Cert.Output.τ).loc Cert.Output.main_arg11))
      ∧ r.2.sem = fun _ => 0)

def quiescent_OutputIdeal [hOutputIdeal : Cert.OutputIdeal.Facts] : Prop :=
  ∀ (m : (ℓ : Loc Cert.OutputIdeal.nD Cert.OutputIdeal.τ Cert.OutputIdeal.sig) → Buf (Elt Ideal) ℓ) (g : Dev Cert.OutputIdeal.nD → PrngReg), Pre_OutputIdeal m →
    θ_run (Cert.OutputIdeal.defs (F := Ideal)) (onTc (τ := Cert.OutputIdeal.τ) (Cert.OutputIdeal.main (F := Ideal))) ⟨m, fun _ => 0, g⟩ (fun r => (∀ c : Dev Cert.OutputIdeal.nD,
      r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
      ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
      ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
      ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
      ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4)
      ∧ r.2.mem ((c.tc : Thread Cert.OutputIdeal.nD Cert.OutputIdeal.τ).loc Cert.OutputIdeal.main_arg5) = m ((c.tc : Thread Cert.OutputIdeal.nD Cert.OutputIdeal.τ).loc Cert.OutputIdeal.main_arg5)
      ∧ r.2.mem ((c.tc : Thread Cert.OutputIdeal.nD Cert.OutputIdeal.τ).loc Cert.OutputIdeal.main_arg6) = m ((c.tc : Thread Cert.OutputIdeal.nD Cert.OutputIdeal.τ).loc Cert.OutputIdeal.main_arg6)
      ∧ r.2.mem ((c.tc : Thread Cert.OutputIdeal.nD Cert.OutputIdeal.τ).loc Cert.OutputIdeal.main_arg7) = m ((c.tc : Thread Cert.OutputIdeal.nD Cert.OutputIdeal.τ).loc Cert.OutputIdeal.main_arg7)
      ∧ r.2.mem ((c.tc : Thread Cert.OutputIdeal.nD Cert.OutputIdeal.τ).loc Cert.OutputIdeal.main_arg8) = m ((c.tc : Thread Cert.OutputIdeal.nD Cert.OutputIdeal.τ).loc Cert.OutputIdeal.main_arg8)
      ∧ r.2.mem ((c.tc : Thread Cert.OutputIdeal.nD Cert.OutputIdeal.τ).loc Cert.OutputIdeal.main_arg9) = m ((c.tc : Thread Cert.OutputIdeal.nD Cert.OutputIdeal.τ).loc Cert.OutputIdeal.main_arg9)
      ∧ r.2.mem ((c.tc : Thread Cert.OutputIdeal.nD Cert.OutputIdeal.τ).loc Cert.OutputIdeal.main_arg10) = m ((c.tc : Thread Cert.OutputIdeal.nD Cert.OutputIdeal.τ).loc Cert.OutputIdeal.main_arg10)
      ∧ r.2.mem ((c.tc : Thread Cert.OutputIdeal.nD Cert.OutputIdeal.τ).loc Cert.OutputIdeal.main_arg11) = m ((c.tc : Thread Cert.OutputIdeal.nD Cert.OutputIdeal.τ).loc Cert.OutputIdeal.main_arg11))
      ∧ r.2.sem = fun _ => 0)

def quiescent_OutputReferenceIdeal [hOutputReferenceIdeal : Cert.OutputReferenceIdeal.Facts] : Prop :=
  ∀ (m : (ℓ : Loc Cert.OutputReferenceIdeal.nD Cert.OutputReferenceIdeal.τ Cert.OutputReferenceIdeal.sig) → Buf (Elt Ideal) ℓ) (g : Dev Cert.OutputReferenceIdeal.nD → PrngReg), Pre_OutputReferenceIdeal m →
    θ_run (Cert.OutputReferenceIdeal.defs (F := Ideal)) (onTc (τ := Cert.OutputReferenceIdeal.τ) (Cert.OutputReferenceIdeal.main (F := Ideal))) ⟨m, fun _ => 0, g⟩ (fun r => (∀ c : Dev Cert.OutputReferenceIdeal.nD,
      r.2.mem ((c.tc : Thread Cert.OutputReferenceIdeal.nD Cert.OutputReferenceIdeal.τ).loc Cert.OutputReferenceIdeal.main_arg0) = m ((c.tc : Thread Cert.OutputReferenceIdeal.nD Cert.OutputReferenceIdeal.τ).loc Cert.OutputReferenceIdeal.main_arg0)
      ∧ r.2.mem ((c.tc : Thread Cert.OutputReferenceIdeal.nD Cert.OutputReferenceIdeal.τ).loc Cert.OutputReferenceIdeal.main_arg1) = m ((c.tc : Thread Cert.OutputReferenceIdeal.nD Cert.OutputReferenceIdeal.τ).loc Cert.OutputReferenceIdeal.main_arg1)
      ∧ r.2.mem ((c.tc : Thread Cert.OutputReferenceIdeal.nD Cert.OutputReferenceIdeal.τ).loc Cert.OutputReferenceIdeal.main_arg2) = m ((c.tc : Thread Cert.OutputReferenceIdeal.nD Cert.OutputReferenceIdeal.τ).loc Cert.OutputReferenceIdeal.main_arg2)
      ∧ r.2.mem ((c.tc : Thread Cert.OutputReferenceIdeal.nD Cert.OutputReferenceIdeal.τ).loc Cert.OutputReferenceIdeal.main_arg3) = m ((c.tc : Thread Cert.OutputReferenceIdeal.nD Cert.OutputReferenceIdeal.τ).loc Cert.OutputReferenceIdeal.main_arg3)
      ∧ r.2.mem ((c.tc : Thread Cert.OutputReferenceIdeal.nD Cert.OutputReferenceIdeal.τ).loc Cert.OutputReferenceIdeal.main_arg4) = m ((c.tc : Thread Cert.OutputReferenceIdeal.nD Cert.OutputReferenceIdeal.τ).loc Cert.OutputReferenceIdeal.main_arg4)
      ∧ r.2.mem ((c.tc : Thread Cert.OutputReferenceIdeal.nD Cert.OutputReferenceIdeal.τ).loc Cert.OutputReferenceIdeal.main_arg5) = m ((c.tc : Thread Cert.OutputReferenceIdeal.nD Cert.OutputReferenceIdeal.τ).loc Cert.OutputReferenceIdeal.main_arg5)
      ∧ r.2.mem ((c.tc : Thread Cert.OutputReferenceIdeal.nD Cert.OutputReferenceIdeal.τ).loc Cert.OutputReferenceIdeal.main_arg6) = m ((c.tc : Thread Cert.OutputReferenceIdeal.nD Cert.OutputReferenceIdeal.τ).loc Cert.OutputReferenceIdeal.main_arg6)
      ∧ r.2.mem ((c.tc : Thread Cert.OutputReferenceIdeal.nD Cert.OutputReferenceIdeal.τ).loc Cert.OutputReferenceIdeal.main_arg7) = m ((c.tc : Thread Cert.OutputReferenceIdeal.nD Cert.OutputReferenceIdeal.τ).loc Cert.OutputReferenceIdeal.main_arg7)
      ∧ r.2.mem ((c.tc : Thread Cert.OutputReferenceIdeal.nD Cert.OutputReferenceIdeal.τ).loc Cert.OutputReferenceIdeal.main_arg8) = m ((c.tc : Thread Cert.OutputReferenceIdeal.nD Cert.OutputReferenceIdeal.τ).loc Cert.OutputReferenceIdeal.main_arg8)
      ∧ r.2.mem ((c.tc : Thread Cert.OutputReferenceIdeal.nD Cert.OutputReferenceIdeal.τ).loc Cert.OutputReferenceIdeal.main_arg9) = m ((c.tc : Thread Cert.OutputReferenceIdeal.nD Cert.OutputReferenceIdeal.τ).loc Cert.OutputReferenceIdeal.main_arg9)
      ∧ r.2.mem ((c.tc : Thread Cert.OutputReferenceIdeal.nD Cert.OutputReferenceIdeal.τ).loc Cert.OutputReferenceIdeal.main_arg10) = m ((c.tc : Thread Cert.OutputReferenceIdeal.nD Cert.OutputReferenceIdeal.τ).loc Cert.OutputReferenceIdeal.main_arg10)
      ∧ r.2.mem ((c.tc : Thread Cert.OutputReferenceIdeal.nD Cert.OutputReferenceIdeal.τ).loc Cert.OutputReferenceIdeal.main_arg11) = m ((c.tc : Thread Cert.OutputReferenceIdeal.nD Cert.OutputReferenceIdeal.τ).loc Cert.OutputReferenceIdeal.main_arg11))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3)
      ∧ r.2.mem ((c.tc : Thread Cert.First.nD Cert.First.τ).loc Cert.First.main_arg4) = m ((c.tc : Thread Cert.First.nD Cert.First.τ).loc Cert.First.main_arg4)
      ∧ r.2.mem ((c.tc : Thread Cert.First.nD Cert.First.τ).loc Cert.First.main_arg5) = m ((c.tc : Thread Cert.First.nD Cert.First.τ).loc Cert.First.main_arg5)
      ∧ r.2.mem ((c.tc : Thread Cert.First.nD Cert.First.τ).loc Cert.First.main_arg6) = m ((c.tc : Thread Cert.First.nD Cert.First.τ).loc Cert.First.main_arg6)
      ∧ r.2.mem ((c.tc : Thread Cert.First.nD Cert.First.τ).loc Cert.First.main_arg7) = m ((c.tc : Thread Cert.First.nD Cert.First.τ).loc Cert.First.main_arg7)
      ∧ r.2.mem ((c.tc : Thread Cert.First.nD Cert.First.τ).loc Cert.First.main_arg8) = m ((c.tc : Thread Cert.First.nD Cert.First.τ).loc Cert.First.main_arg8)
      ∧ r.2.mem ((c.tc : Thread Cert.First.nD Cert.First.τ).loc Cert.First.main_arg9) = m ((c.tc : Thread Cert.First.nD Cert.First.τ).loc Cert.First.main_arg9)
      ∧ r.2.mem ((c.tc : Thread Cert.First.nD Cert.First.τ).loc Cert.First.main_arg10) = m ((c.tc : Thread Cert.First.nD Cert.First.τ).loc Cert.First.main_arg10)
      ∧ r.2.mem ((c.tc : Thread Cert.First.nD Cert.First.τ).loc Cert.First.main_arg11) = m ((c.tc : Thread Cert.First.nD Cert.First.τ).loc Cert.First.main_arg11))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
      ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
      ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6)
      ∧ r.2.mem ((c.tc : Thread Cert.FirstIdeal.nD Cert.FirstIdeal.τ).loc Cert.FirstIdeal.main_arg7) = m ((c.tc : Thread Cert.FirstIdeal.nD Cert.FirstIdeal.τ).loc Cert.FirstIdeal.main_arg7)
      ∧ r.2.mem ((c.tc : Thread Cert.FirstIdeal.nD Cert.FirstIdeal.τ).loc Cert.FirstIdeal.main_arg8) = m ((c.tc : Thread Cert.FirstIdeal.nD Cert.FirstIdeal.τ).loc Cert.FirstIdeal.main_arg8)
      ∧ r.2.mem ((c.tc : Thread Cert.FirstIdeal.nD Cert.FirstIdeal.τ).loc Cert.FirstIdeal.main_arg9) = m ((c.tc : Thread Cert.FirstIdeal.nD Cert.FirstIdeal.τ).loc Cert.FirstIdeal.main_arg9)
      ∧ r.2.mem ((c.tc : Thread Cert.FirstIdeal.nD Cert.FirstIdeal.τ).loc Cert.FirstIdeal.main_arg10) = m ((c.tc : Thread Cert.FirstIdeal.nD Cert.FirstIdeal.τ).loc Cert.FirstIdeal.main_arg10)
      ∧ r.2.mem ((c.tc : Thread Cert.FirstIdeal.nD Cert.FirstIdeal.τ).loc Cert.FirstIdeal.main_arg11) = m ((c.tc : Thread Cert.FirstIdeal.nD Cert.FirstIdeal.τ).loc Cert.FirstIdeal.main_arg11))
      ∧ r.2.sem = fun _ => 0)

def quiescent_FirstReferenceIdeal [hFirstReferenceIdeal : Cert.FirstReferenceIdeal.Facts] : Prop :=
  ∀ (m : (ℓ : Loc Cert.FirstReferenceIdeal.nD Cert.FirstReferenceIdeal.τ Cert.FirstReferenceIdeal.sig) → Buf (Elt Ideal) ℓ) (g : Dev Cert.FirstReferenceIdeal.nD → PrngReg), Pre_FirstReferenceIdeal m →
    θ_run (Cert.FirstReferenceIdeal.defs (F := Ideal)) (onTc (τ := Cert.FirstReferenceIdeal.τ) (Cert.FirstReferenceIdeal.main (F := Ideal))) ⟨m, fun _ => 0, g⟩ (fun r => (∀ c : Dev Cert.FirstReferenceIdeal.nD,
      r.2.mem ((c.tc : Thread Cert.FirstReferenceIdeal.nD Cert.FirstReferenceIdeal.τ).loc Cert.FirstReferenceIdeal.main_arg0) = m ((c.tc : Thread Cert.FirstReferenceIdeal.nD Cert.FirstReferenceIdeal.τ).loc Cert.FirstReferenceIdeal.main_arg0)
      ∧ r.2.mem ((c.tc : Thread Cert.FirstReferenceIdeal.nD Cert.FirstReferenceIdeal.τ).loc Cert.FirstReferenceIdeal.main_arg1) = m ((c.tc : Thread Cert.FirstReferenceIdeal.nD Cert.FirstReferenceIdeal.τ).loc Cert.FirstReferenceIdeal.main_arg1)
      ∧ r.2.mem ((c.tc : Thread Cert.FirstReferenceIdeal.nD Cert.FirstReferenceIdeal.τ).loc Cert.FirstReferenceIdeal.main_arg2) = m ((c.tc : Thread Cert.FirstReferenceIdeal.nD Cert.FirstReferenceIdeal.τ).loc Cert.FirstReferenceIdeal.main_arg2)
      ∧ r.2.mem ((c.tc : Thread Cert.FirstReferenceIdeal.nD Cert.FirstReferenceIdeal.τ).loc Cert.FirstReferenceIdeal.main_arg3) = m ((c.tc : Thread Cert.FirstReferenceIdeal.nD Cert.FirstReferenceIdeal.τ).loc Cert.FirstReferenceIdeal.main_arg3)
      ∧ r.2.mem ((c.tc : Thread Cert.FirstReferenceIdeal.nD Cert.FirstReferenceIdeal.τ).loc Cert.FirstReferenceIdeal.main_arg4) = m ((c.tc : Thread Cert.FirstReferenceIdeal.nD Cert.FirstReferenceIdeal.τ).loc Cert.FirstReferenceIdeal.main_arg4)
      ∧ r.2.mem ((c.tc : Thread Cert.FirstReferenceIdeal.nD Cert.FirstReferenceIdeal.τ).loc Cert.FirstReferenceIdeal.main_arg5) = m ((c.tc : Thread Cert.FirstReferenceIdeal.nD Cert.FirstReferenceIdeal.τ).loc Cert.FirstReferenceIdeal.main_arg5)
      ∧ r.2.mem ((c.tc : Thread Cert.FirstReferenceIdeal.nD Cert.FirstReferenceIdeal.τ).loc Cert.FirstReferenceIdeal.main_arg6) = m ((c.tc : Thread Cert.FirstReferenceIdeal.nD Cert.FirstReferenceIdeal.τ).loc Cert.FirstReferenceIdeal.main_arg6)
      ∧ r.2.mem ((c.tc : Thread Cert.FirstReferenceIdeal.nD Cert.FirstReferenceIdeal.τ).loc Cert.FirstReferenceIdeal.main_arg7) = m ((c.tc : Thread Cert.FirstReferenceIdeal.nD Cert.FirstReferenceIdeal.τ).loc Cert.FirstReferenceIdeal.main_arg7)
      ∧ r.2.mem ((c.tc : Thread Cert.FirstReferenceIdeal.nD Cert.FirstReferenceIdeal.τ).loc Cert.FirstReferenceIdeal.main_arg8) = m ((c.tc : Thread Cert.FirstReferenceIdeal.nD Cert.FirstReferenceIdeal.τ).loc Cert.FirstReferenceIdeal.main_arg8)
      ∧ r.2.mem ((c.tc : Thread Cert.FirstReferenceIdeal.nD Cert.FirstReferenceIdeal.τ).loc Cert.FirstReferenceIdeal.main_arg9) = m ((c.tc : Thread Cert.FirstReferenceIdeal.nD Cert.FirstReferenceIdeal.τ).loc Cert.FirstReferenceIdeal.main_arg9)
      ∧ r.2.mem ((c.tc : Thread Cert.FirstReferenceIdeal.nD Cert.FirstReferenceIdeal.τ).loc Cert.FirstReferenceIdeal.main_arg10) = m ((c.tc : Thread Cert.FirstReferenceIdeal.nD Cert.FirstReferenceIdeal.τ).loc Cert.FirstReferenceIdeal.main_arg10)
      ∧ r.2.mem ((c.tc : Thread Cert.FirstReferenceIdeal.nD Cert.FirstReferenceIdeal.τ).loc Cert.FirstReferenceIdeal.main_arg11) = m ((c.tc : Thread Cert.FirstReferenceIdeal.nD Cert.FirstReferenceIdeal.τ).loc Cert.FirstReferenceIdeal.main_arg11))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ r.2.sem = fun _ => 0)

def quiescent_ModulationReferenceIdeal [hModulationReferenceIdeal : Cert.ModulationReferenceIdeal.Facts] : Prop :=
  ∀ (m : (ℓ : Loc Cert.ModulationReferenceIdeal.nD Cert.ModulationReferenceIdeal.τ Cert.ModulationReferenceIdeal.sig) → Buf (Elt Ideal) ℓ) (g : Dev Cert.ModulationReferenceIdeal.nD → PrngReg), Pre_ModulationReferenceIdeal m →
    θ_run (Cert.ModulationReferenceIdeal.defs (F := Ideal)) (onTc (τ := Cert.ModulationReferenceIdeal.τ) (Cert.ModulationReferenceIdeal.main (F := Ideal))) ⟨m, fun _ => 0, g⟩ (fun r => (∀ c : Dev Cert.ModulationReferenceIdeal.nD,
      r.2.mem ((c.tc : Thread Cert.ModulationReferenceIdeal.nD Cert.ModulationReferenceIdeal.τ).loc Cert.ModulationReferenceIdeal.main_arg0) = m ((c.tc : Thread Cert.ModulationReferenceIdeal.nD Cert.ModulationReferenceIdeal.τ).loc Cert.ModulationReferenceIdeal.main_arg0)
      ∧ r.2.mem ((c.tc : Thread Cert.ModulationReferenceIdeal.nD Cert.ModulationReferenceIdeal.τ).loc Cert.ModulationReferenceIdeal.main_arg1) = m ((c.tc : Thread Cert.ModulationReferenceIdeal.nD Cert.ModulationReferenceIdeal.τ).loc Cert.ModulationReferenceIdeal.main_arg1)
      ∧ r.2.mem ((c.tc : Thread Cert.ModulationReferenceIdeal.nD Cert.ModulationReferenceIdeal.τ).loc Cert.ModulationReferenceIdeal.main_arg2) = m ((c.tc : Thread Cert.ModulationReferenceIdeal.nD Cert.ModulationReferenceIdeal.τ).loc Cert.ModulationReferenceIdeal.main_arg2))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2)
      ∧ r.2.mem ((c.tc : Thread Cert.Attention.nD Cert.Attention.τ).loc Cert.Attention.main_arg3) = m ((c.tc : Thread Cert.Attention.nD Cert.Attention.τ).loc Cert.Attention.main_arg3)
      ∧ r.2.mem ((c.tc : Thread Cert.Attention.nD Cert.Attention.τ).loc Cert.Attention.main_arg4) = m ((c.tc : Thread Cert.Attention.nD Cert.Attention.τ).loc Cert.Attention.main_arg4)
      ∧ r.2.mem ((c.tc : Thread Cert.Attention.nD Cert.Attention.τ).loc Cert.Attention.main_arg5) = m ((c.tc : Thread Cert.Attention.nD Cert.Attention.τ).loc Cert.Attention.main_arg5))
      ∧ r.2.sem = fun _ => 0)

def preserves_Kernel_KernelIdeal : Prop :=
  True

def algebraic_KernelIdeal_ReferenceIdeal_pre_finite_arguments [hKernelIdeal : Cert.KernelIdeal.Facts] [hReferenceIdeal : Cert.ReferenceIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Projection_ProjectionIdeal : Prop :=
  True

def algebraic_ProjectionIdeal_ProjectionReferenceIdeal [hProjectionIdeal : Cert.ProjectionIdeal.Facts] [hProjectionReferenceIdeal : Cert.ProjectionReferenceIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg)
    (m' : (ℓ : Loc Cert.ProjectionReferenceIdeal.nD Cert.ProjectionReferenceIdeal.τ Cert.ProjectionReferenceIdeal.sig) → Buf (Elt Ideal) ℓ) (g' : Dev Cert.ProjectionReferenceIdeal.nD → PrngReg), Pre_ProjectionIdeal m →
    (∀ c : Dev Cert.ProjectionIdeal.nD,
      m' ((c.tc : Thread Cert.ProjectionReferenceIdeal.nD Cert.ProjectionReferenceIdeal.τ).loc Cert.ProjectionReferenceIdeal.main_arg0) = m ((c.tc : Thread Cert.ProjectionIdeal.nD Cert.ProjectionIdeal.τ).loc Cert.ProjectionIdeal.main_arg0)
      ∧ m' ((c.tc : Thread Cert.ProjectionReferenceIdeal.nD Cert.ProjectionReferenceIdeal.τ).loc Cert.ProjectionReferenceIdeal.main_arg1) = m ((c.tc : Thread Cert.ProjectionIdeal.nD Cert.ProjectionIdeal.τ).loc Cert.ProjectionIdeal.main_arg1)
      ∧ m' ((c.tc : Thread Cert.ProjectionReferenceIdeal.nD Cert.ProjectionReferenceIdeal.τ).loc Cert.ProjectionReferenceIdeal.main_arg2) = m ((c.tc : Thread Cert.ProjectionIdeal.nD Cert.ProjectionIdeal.τ).loc Cert.ProjectionIdeal.main_arg2)
      ∧ m' ((c.tc : Thread Cert.ProjectionReferenceIdeal.nD Cert.ProjectionReferenceIdeal.τ).loc Cert.ProjectionReferenceIdeal.main_arg3) = m ((c.tc : Thread Cert.ProjectionIdeal.nD Cert.ProjectionIdeal.τ).loc Cert.ProjectionIdeal.main_arg3)) →
    ∃ (v0 : (c : Dev Cert.ProjectionIdeal.nD) → Buf (Elt Ideal) ((c.tc : Thread Cert.ProjectionIdeal.nD Cert.ProjectionIdeal.τ).loc Cert.ProjectionIdeal.main_v21_0)) (v1 : (c : Dev Cert.ProjectionIdeal.nD) → Buf (Elt Ideal) ((c.tc : Thread Cert.ProjectionIdeal.nD Cert.ProjectionIdeal.τ).loc Cert.ProjectionIdeal.main_v21_1)) (v2 : (c : Dev Cert.ProjectionIdeal.nD) → Buf (Elt Ideal) ((c.tc : Thread Cert.ProjectionIdeal.nD Cert.ProjectionIdeal.τ).loc Cert.ProjectionIdeal.main_v21_2)) (v3 : (c : Dev Cert.ProjectionIdeal.nD) → Buf (Elt Ideal) ((c.tc : Thread Cert.ProjectionIdeal.nD Cert.ProjectionIdeal.τ).loc Cert.ProjectionIdeal.main_v21_3)) (v4 : (c : Dev Cert.ProjectionIdeal.nD) → Buf (Elt Ideal) ((c.tc : Thread Cert.ProjectionIdeal.nD Cert.ProjectionIdeal.τ).loc Cert.ProjectionIdeal.main_v21_4)) (v5 : (c : Dev Cert.ProjectionIdeal.nD) → Buf (Elt Ideal) ((c.tc : Thread Cert.ProjectionIdeal.nD Cert.ProjectionIdeal.τ).loc Cert.ProjectionIdeal.main_v21_5)) (v6 : (c : Dev Cert.ProjectionIdeal.nD) → Buf (Elt Ideal) ((c.tc : Thread Cert.ProjectionIdeal.nD Cert.ProjectionIdeal.τ).loc Cert.ProjectionIdeal.main_v21_6)) (v7 : (c : Dev Cert.ProjectionIdeal.nD) → Buf (Elt Ideal) ((c.tc : Thread Cert.ProjectionIdeal.nD Cert.ProjectionIdeal.τ).loc Cert.ProjectionIdeal.main_v21_7)),
      θ_run (Cert.ProjectionIdeal.defs (F := Ideal)) (onTc (τ := Cert.ProjectionIdeal.τ) (Cert.ProjectionIdeal.main (F := Ideal))) ⟨m, fun _ => 0, g⟩ (fun r => ∀ c : Dev Cert.ProjectionIdeal.nD,
          r.2.mem ((c.tc : Thread Cert.ProjectionIdeal.nD Cert.ProjectionIdeal.τ).loc Cert.ProjectionIdeal.main_v21_0) = v0 c
          ∧ r.2.mem ((c.tc : Thread Cert.ProjectionIdeal.nD Cert.ProjectionIdeal.τ).loc Cert.ProjectionIdeal.main_v21_1) = v1 c
          ∧ r.2.mem ((c.tc : Thread Cert.ProjectionIdeal.nD Cert.ProjectionIdeal.τ).loc Cert.ProjectionIdeal.main_v21_2) = v2 c
          ∧ r.2.mem ((c.tc : Thread Cert.ProjectionIdeal.nD Cert.ProjectionIdeal.τ).loc Cert.ProjectionIdeal.main_v21_3) = v3 c
          ∧ r.2.mem ((c.tc : Thread Cert.ProjectionIdeal.nD Cert.ProjectionIdeal.τ).loc Cert.ProjectionIdeal.main_v21_4) = v4 c
          ∧ r.2.mem ((c.tc : Thread Cert.ProjectionIdeal.nD Cert.ProjectionIdeal.τ).loc Cert.ProjectionIdeal.main_v21_5) = v5 c
          ∧ r.2.mem ((c.tc : Thread Cert.ProjectionIdeal.nD Cert.ProjectionIdeal.τ).loc Cert.ProjectionIdeal.main_v21_6) = v6 c
          ∧ r.2.mem ((c.tc : Thread Cert.ProjectionIdeal.nD Cert.ProjectionIdeal.τ).loc Cert.ProjectionIdeal.main_v21_7) = v7 c
          ∧ r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
          ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
          ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
          ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3))
      ∧ θ_run (Cert.ProjectionReferenceIdeal.defs (F := Ideal)) (onTc (τ := Cert.ProjectionReferenceIdeal.τ) (Cert.ProjectionReferenceIdeal.main (F := Ideal))) ⟨m', fun _ => 0, g'⟩ (fun r => ∀ c : Dev Cert.ProjectionReferenceIdeal.nD,
          r.2.mem ((c.tc : Thread Cert.ProjectionReferenceIdeal.nD Cert.ProjectionReferenceIdeal.τ).loc Cert.ProjectionReferenceIdeal.main_v36) = v0 c
          ∧ r.2.mem ((c.tc : Thread Cert.ProjectionReferenceIdeal.nD Cert.ProjectionReferenceIdeal.τ).loc Cert.ProjectionReferenceIdeal.main_v40) = v1 c
          ∧ r.2.mem ((c.tc : Thread Cert.ProjectionReferenceIdeal.nD Cert.ProjectionReferenceIdeal.τ).loc Cert.ProjectionReferenceIdeal.main_v41) = v2 c
          ∧ r.2.mem ((c.tc : Thread Cert.ProjectionReferenceIdeal.nD Cert.ProjectionReferenceIdeal.τ).loc Cert.ProjectionReferenceIdeal.main_v42) = v3 c
          ∧ r.2.mem ((c.tc : Thread Cert.ProjectionReferenceIdeal.nD Cert.ProjectionReferenceIdeal.τ).loc Cert.ProjectionReferenceIdeal.main_v46) = v4 c
          ∧ r.2.mem ((c.tc : Thread Cert.ProjectionReferenceIdeal.nD Cert.ProjectionReferenceIdeal.τ).loc Cert.ProjectionReferenceIdeal.main_v52) = v5 c
          ∧ r.2.mem ((c.tc : Thread Cert.ProjectionReferenceIdeal.nD Cert.ProjectionReferenceIdeal.τ).loc Cert.ProjectionReferenceIdeal.main_v54) = v6 c
          ∧ r.2.mem ((c.tc : Thread Cert.ProjectionReferenceIdeal.nD Cert.ProjectionReferenceIdeal.τ).loc Cert.ProjectionReferenceIdeal.main_v57) = v7 c
          ∧ r.2.mem ((c.tc : Thread Cert.ProjectionReferenceIdeal.nD Cert.ProjectionReferenceIdeal.τ).loc Cert.ProjectionReferenceIdeal.main_arg0) = m' ((c.tc : Thread Cert.ProjectionReferenceIdeal.nD Cert.ProjectionReferenceIdeal.τ).loc Cert.ProjectionReferenceIdeal.main_arg0)
          ∧ r.2.mem ((c.tc : Thread Cert.ProjectionReferenceIdeal.nD Cert.ProjectionReferenceIdeal.τ).loc Cert.ProjectionReferenceIdeal.main_arg1) = m' ((c.tc : Thread Cert.ProjectionReferenceIdeal.nD Cert.ProjectionReferenceIdeal.τ).loc Cert.ProjectionReferenceIdeal.main_arg1)
          ∧ r.2.mem ((c.tc : Thread Cert.ProjectionReferenceIdeal.nD Cert.ProjectionReferenceIdeal.τ).loc Cert.ProjectionReferenceIdeal.main_arg2) = m' ((c.tc : Thread Cert.ProjectionReferenceIdeal.nD Cert.ProjectionReferenceIdeal.τ).loc Cert.ProjectionReferenceIdeal.main_arg2)
          ∧ r.2.mem ((c.tc : Thread Cert.ProjectionReferenceIdeal.nD Cert.ProjectionReferenceIdeal.τ).loc Cert.ProjectionReferenceIdeal.main_arg3) = m' ((c.tc : Thread Cert.ProjectionReferenceIdeal.nD Cert.ProjectionReferenceIdeal.τ).loc Cert.ProjectionReferenceIdeal.main_arg3))

def preserves_Output_OutputIdeal : Prop :=
  True

def algebraic_OutputIdeal_OutputReferenceIdeal [hOutputIdeal : Cert.OutputIdeal.Facts] [hOutputReferenceIdeal : Cert.OutputReferenceIdeal.Facts] : Prop :=
  ∀ (m : (ℓ : Loc Cert.OutputIdeal.nD Cert.OutputIdeal.τ Cert.OutputIdeal.sig) → Buf (Elt Ideal) ℓ) (g : Dev Cert.OutputIdeal.nD → PrngReg)
    (m' : (ℓ : Loc Cert.OutputReferenceIdeal.nD Cert.OutputReferenceIdeal.τ Cert.OutputReferenceIdeal.sig) → Buf (Elt Ideal) ℓ) (g' : Dev Cert.OutputReferenceIdeal.nD → PrngReg), Pre_OutputIdeal m →
    (∀ c : Dev Cert.OutputIdeal.nD,
      m' ((c.tc : Thread Cert.OutputReferenceIdeal.nD Cert.OutputReferenceIdeal.τ).loc Cert.OutputReferenceIdeal.main_arg0) = m ((c.tc : Thread Cert.OutputIdeal.nD Cert.OutputIdeal.τ).loc Cert.OutputIdeal.main_arg0)
      ∧ m' ((c.tc : Thread Cert.OutputReferenceIdeal.nD Cert.OutputReferenceIdeal.τ).loc Cert.OutputReferenceIdeal.main_arg1) = m ((c.tc : Thread Cert.OutputIdeal.nD Cert.OutputIdeal.τ).loc Cert.OutputIdeal.main_arg1)
      ∧ m' ((c.tc : Thread Cert.OutputReferenceIdeal.nD Cert.OutputReferenceIdeal.τ).loc Cert.OutputReferenceIdeal.main_arg2) = m ((c.tc : Thread Cert.OutputIdeal.nD Cert.OutputIdeal.τ).loc Cert.OutputIdeal.main_arg2)
      ∧ m' ((c.tc : Thread Cert.OutputReferenceIdeal.nD Cert.OutputReferenceIdeal.τ).loc Cert.OutputReferenceIdeal.main_arg3) = m ((c.tc : Thread Cert.OutputIdeal.nD Cert.OutputIdeal.τ).loc Cert.OutputIdeal.main_arg3)
      ∧ m' ((c.tc : Thread Cert.OutputReferenceIdeal.nD Cert.OutputReferenceIdeal.τ).loc Cert.OutputReferenceIdeal.main_arg4) = m ((c.tc : Thread Cert.OutputIdeal.nD Cert.OutputIdeal.τ).loc Cert.OutputIdeal.main_arg4)
      ∧ m' ((c.tc : Thread Cert.OutputReferenceIdeal.nD Cert.OutputReferenceIdeal.τ).loc Cert.OutputReferenceIdeal.main_arg5) = m ((c.tc : Thread Cert.OutputIdeal.nD Cert.OutputIdeal.τ).loc Cert.OutputIdeal.main_arg5)
      ∧ m' ((c.tc : Thread Cert.OutputReferenceIdeal.nD Cert.OutputReferenceIdeal.τ).loc Cert.OutputReferenceIdeal.main_arg6) = m ((c.tc : Thread Cert.OutputIdeal.nD Cert.OutputIdeal.τ).loc Cert.OutputIdeal.main_arg6)
      ∧ m' ((c.tc : Thread Cert.OutputReferenceIdeal.nD Cert.OutputReferenceIdeal.τ).loc Cert.OutputReferenceIdeal.main_arg7) = m ((c.tc : Thread Cert.OutputIdeal.nD Cert.OutputIdeal.τ).loc Cert.OutputIdeal.main_arg7)
      ∧ m' ((c.tc : Thread Cert.OutputReferenceIdeal.nD Cert.OutputReferenceIdeal.τ).loc Cert.OutputReferenceIdeal.main_arg8) = m ((c.tc : Thread Cert.OutputIdeal.nD Cert.OutputIdeal.τ).loc Cert.OutputIdeal.main_arg8)
      ∧ m' ((c.tc : Thread Cert.OutputReferenceIdeal.nD Cert.OutputReferenceIdeal.τ).loc Cert.OutputReferenceIdeal.main_arg9) = m ((c.tc : Thread Cert.OutputIdeal.nD Cert.OutputIdeal.τ).loc Cert.OutputIdeal.main_arg9)
      ∧ m' ((c.tc : Thread Cert.OutputReferenceIdeal.nD Cert.OutputReferenceIdeal.τ).loc Cert.OutputReferenceIdeal.main_arg10) = m ((c.tc : Thread Cert.OutputIdeal.nD Cert.OutputIdeal.τ).loc Cert.OutputIdeal.main_arg10)
      ∧ m' ((c.tc : Thread Cert.OutputReferenceIdeal.nD Cert.OutputReferenceIdeal.τ).loc Cert.OutputReferenceIdeal.main_arg11) = m ((c.tc : Thread Cert.OutputIdeal.nD Cert.OutputIdeal.τ).loc Cert.OutputIdeal.main_arg11)) →
    ∃ (v0 : (c : Dev Cert.OutputIdeal.nD) → Buf (Elt Ideal) ((c.tc : Thread Cert.OutputIdeal.nD Cert.OutputIdeal.τ).loc Cert.OutputIdeal.main_v8)),
      θ_run (Cert.OutputIdeal.defs (F := Ideal)) (onTc (τ := Cert.OutputIdeal.τ) (Cert.OutputIdeal.main (F := Ideal))) ⟨m, fun _ => 0, g⟩ (fun r => ∀ c : Dev Cert.OutputIdeal.nD,
          r.2.mem ((c.tc : Thread Cert.OutputIdeal.nD Cert.OutputIdeal.τ).loc Cert.OutputIdeal.main_v8) = v0 c
          ∧ r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
          ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
          ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
          ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
          ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4)
          ∧ r.2.mem ((c.tc : Thread Cert.OutputIdeal.nD Cert.OutputIdeal.τ).loc Cert.OutputIdeal.main_arg5) = m ((c.tc : Thread Cert.OutputIdeal.nD Cert.OutputIdeal.τ).loc Cert.OutputIdeal.main_arg5)
          ∧ r.2.mem ((c.tc : Thread Cert.OutputIdeal.nD Cert.OutputIdeal.τ).loc Cert.OutputIdeal.main_arg6) = m ((c.tc : Thread Cert.OutputIdeal.nD Cert.OutputIdeal.τ).loc Cert.OutputIdeal.main_arg6)
          ∧ r.2.mem ((c.tc : Thread Cert.OutputIdeal.nD Cert.OutputIdeal.τ).loc Cert.OutputIdeal.main_arg7) = m ((c.tc : Thread Cert.OutputIdeal.nD Cert.OutputIdeal.τ).loc Cert.OutputIdeal.main_arg7)
          ∧ r.2.mem ((c.tc : Thread Cert.OutputIdeal.nD Cert.OutputIdeal.τ).loc Cert.OutputIdeal.main_arg8) = m ((c.tc : Thread Cert.OutputIdeal.nD Cert.OutputIdeal.τ).loc Cert.OutputIdeal.main_arg8)
          ∧ r.2.mem ((c.tc : Thread Cert.OutputIdeal.nD Cert.OutputIdeal.τ).loc Cert.OutputIdeal.main_arg9) = m ((c.tc : Thread Cert.OutputIdeal.nD Cert.OutputIdeal.τ).loc Cert.OutputIdeal.main_arg9)
          ∧ r.2.mem ((c.tc : Thread Cert.OutputIdeal.nD Cert.OutputIdeal.τ).loc Cert.OutputIdeal.main_arg10) = m ((c.tc : Thread Cert.OutputIdeal.nD Cert.OutputIdeal.τ).loc Cert.OutputIdeal.main_arg10)
          ∧ r.2.mem ((c.tc : Thread Cert.OutputIdeal.nD Cert.OutputIdeal.τ).loc Cert.OutputIdeal.main_arg11) = m ((c.tc : Thread Cert.OutputIdeal.nD Cert.OutputIdeal.τ).loc Cert.OutputIdeal.main_arg11))
      ∧ θ_run (Cert.OutputReferenceIdeal.defs (F := Ideal)) (onTc (τ := Cert.OutputReferenceIdeal.τ) (Cert.OutputReferenceIdeal.main (F := Ideal))) ⟨m', fun _ => 0, g'⟩ (fun r => ∀ c : Dev Cert.OutputReferenceIdeal.nD,
          r.2.mem ((c.tc : Thread Cert.OutputReferenceIdeal.nD Cert.OutputReferenceIdeal.τ).loc Cert.OutputReferenceIdeal.main_v78) = v0 c
          ∧ r.2.mem ((c.tc : Thread Cert.OutputReferenceIdeal.nD Cert.OutputReferenceIdeal.τ).loc Cert.OutputReferenceIdeal.main_arg0) = m' ((c.tc : Thread Cert.OutputReferenceIdeal.nD Cert.OutputReferenceIdeal.τ).loc Cert.OutputReferenceIdeal.main_arg0)
          ∧ r.2.mem ((c.tc : Thread Cert.OutputReferenceIdeal.nD Cert.OutputReferenceIdeal.τ).loc Cert.OutputReferenceIdeal.main_arg1) = m' ((c.tc : Thread Cert.OutputReferenceIdeal.nD Cert.OutputReferenceIdeal.τ).loc Cert.OutputReferenceIdeal.main_arg1)
          ∧ r.2.mem ((c.tc : Thread Cert.OutputReferenceIdeal.nD Cert.OutputReferenceIdeal.τ).loc Cert.OutputReferenceIdeal.main_arg2) = m' ((c.tc : Thread Cert.OutputReferenceIdeal.nD Cert.OutputReferenceIdeal.τ).loc Cert.OutputReferenceIdeal.main_arg2)
          ∧ r.2.mem ((c.tc : Thread Cert.OutputReferenceIdeal.nD Cert.OutputReferenceIdeal.τ).loc Cert.OutputReferenceIdeal.main_arg3) = m' ((c.tc : Thread Cert.OutputReferenceIdeal.nD Cert.OutputReferenceIdeal.τ).loc Cert.OutputReferenceIdeal.main_arg3)
          ∧ r.2.mem ((c.tc : Thread Cert.OutputReferenceIdeal.nD Cert.OutputReferenceIdeal.τ).loc Cert.OutputReferenceIdeal.main_arg4) = m' ((c.tc : Thread Cert.OutputReferenceIdeal.nD Cert.OutputReferenceIdeal.τ).loc Cert.OutputReferenceIdeal.main_arg4)
          ∧ r.2.mem ((c.tc : Thread Cert.OutputReferenceIdeal.nD Cert.OutputReferenceIdeal.τ).loc Cert.OutputReferenceIdeal.main_arg5) = m' ((c.tc : Thread Cert.OutputReferenceIdeal.nD Cert.OutputReferenceIdeal.τ).loc Cert.OutputReferenceIdeal.main_arg5)
          ∧ r.2.mem ((c.tc : Thread Cert.OutputReferenceIdeal.nD Cert.OutputReferenceIdeal.τ).loc Cert.OutputReferenceIdeal.main_arg6) = m' ((c.tc : Thread Cert.OutputReferenceIdeal.nD Cert.OutputReferenceIdeal.τ).loc Cert.OutputReferenceIdeal.main_arg6)
          ∧ r.2.mem ((c.tc : Thread Cert.OutputReferenceIdeal.nD Cert.OutputReferenceIdeal.τ).loc Cert.OutputReferenceIdeal.main_arg7) = m' ((c.tc : Thread Cert.OutputReferenceIdeal.nD Cert.OutputReferenceIdeal.τ).loc Cert.OutputReferenceIdeal.main_arg7)
          ∧ r.2.mem ((c.tc : Thread Cert.OutputReferenceIdeal.nD Cert.OutputReferenceIdeal.τ).loc Cert.OutputReferenceIdeal.main_arg8) = m' ((c.tc : Thread Cert.OutputReferenceIdeal.nD Cert.OutputReferenceIdeal.τ).loc Cert.OutputReferenceIdeal.main_arg8)
          ∧ r.2.mem ((c.tc : Thread Cert.OutputReferenceIdeal.nD Cert.OutputReferenceIdeal.τ).loc Cert.OutputReferenceIdeal.main_arg9) = m' ((c.tc : Thread Cert.OutputReferenceIdeal.nD Cert.OutputReferenceIdeal.τ).loc Cert.OutputReferenceIdeal.main_arg9)
          ∧ r.2.mem ((c.tc : Thread Cert.OutputReferenceIdeal.nD Cert.OutputReferenceIdeal.τ).loc Cert.OutputReferenceIdeal.main_arg10) = m' ((c.tc : Thread Cert.OutputReferenceIdeal.nD Cert.OutputReferenceIdeal.τ).loc Cert.OutputReferenceIdeal.main_arg10)
          ∧ r.2.mem ((c.tc : Thread Cert.OutputReferenceIdeal.nD Cert.OutputReferenceIdeal.τ).loc Cert.OutputReferenceIdeal.main_arg11) = m' ((c.tc : Thread Cert.OutputReferenceIdeal.nD Cert.OutputReferenceIdeal.τ).loc Cert.OutputReferenceIdeal.main_arg11))

def preserves_First_FirstIdeal : Prop :=
  True

def algebraic_FirstIdeal_FirstReferenceIdeal [hFirstIdeal : Cert.FirstIdeal.Facts] [hFirstReferenceIdeal : Cert.FirstReferenceIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstReferenceIdeal.nD Cert.FirstReferenceIdeal.τ Cert.FirstReferenceIdeal.sig) → Buf (Elt Ideal) ℓ) (g' : Dev Cert.FirstReferenceIdeal.nD → PrngReg), Pre_FirstIdeal m →
    (∀ c : Dev Cert.FirstIdeal.nD,
      m' ((c.tc : Thread Cert.FirstReferenceIdeal.nD Cert.FirstReferenceIdeal.τ).loc Cert.FirstReferenceIdeal.main_arg0) = m ((c.tc : Thread Cert.FirstIdeal.nD Cert.FirstIdeal.τ).loc Cert.FirstIdeal.main_arg0)
      ∧ m' ((c.tc : Thread Cert.FirstReferenceIdeal.nD Cert.FirstReferenceIdeal.τ).loc Cert.FirstReferenceIdeal.main_arg1) = m ((c.tc : Thread Cert.FirstIdeal.nD Cert.FirstIdeal.τ).loc Cert.FirstIdeal.main_arg1)
      ∧ m' ((c.tc : Thread Cert.FirstReferenceIdeal.nD Cert.FirstReferenceIdeal.τ).loc Cert.FirstReferenceIdeal.main_arg2) = m ((c.tc : Thread Cert.FirstIdeal.nD Cert.FirstIdeal.τ).loc Cert.FirstIdeal.main_arg2)
      ∧ m' ((c.tc : Thread Cert.FirstReferenceIdeal.nD Cert.FirstReferenceIdeal.τ).loc Cert.FirstReferenceIdeal.main_arg3) = m ((c.tc : Thread Cert.FirstIdeal.nD Cert.FirstIdeal.τ).loc Cert.FirstIdeal.main_arg3)
      ∧ m' ((c.tc : Thread Cert.FirstReferenceIdeal.nD Cert.FirstReferenceIdeal.τ).loc Cert.FirstReferenceIdeal.main_arg4) = m ((c.tc : Thread Cert.FirstIdeal.nD Cert.FirstIdeal.τ).loc Cert.FirstIdeal.main_arg4)
      ∧ m' ((c.tc : Thread Cert.FirstReferenceIdeal.nD Cert.FirstReferenceIdeal.τ).loc Cert.FirstReferenceIdeal.main_arg5) = m ((c.tc : Thread Cert.FirstIdeal.nD Cert.FirstIdeal.τ).loc Cert.FirstIdeal.main_arg5)
      ∧ m' ((c.tc : Thread Cert.FirstReferenceIdeal.nD Cert.FirstReferenceIdeal.τ).loc Cert.FirstReferenceIdeal.main_arg6) = m ((c.tc : Thread Cert.FirstIdeal.nD Cert.FirstIdeal.τ).loc Cert.FirstIdeal.main_arg6)
      ∧ m' ((c.tc : Thread Cert.FirstReferenceIdeal.nD Cert.FirstReferenceIdeal.τ).loc Cert.FirstReferenceIdeal.main_arg7) = m ((c.tc : Thread Cert.FirstIdeal.nD Cert.FirstIdeal.τ).loc Cert.FirstIdeal.main_arg7)
      ∧ m' ((c.tc : Thread Cert.FirstReferenceIdeal.nD Cert.FirstReferenceIdeal.τ).loc Cert.FirstReferenceIdeal.main_arg8) = m ((c.tc : Thread Cert.FirstIdeal.nD Cert.FirstIdeal.τ).loc Cert.FirstIdeal.main_arg8)
      ∧ m' ((c.tc : Thread Cert.FirstReferenceIdeal.nD Cert.FirstReferenceIdeal.τ).loc Cert.FirstReferenceIdeal.main_arg9) = m ((c.tc : Thread Cert.FirstIdeal.nD Cert.FirstIdeal.τ).loc Cert.FirstIdeal.main_arg9)
      ∧ m' ((c.tc : Thread Cert.FirstReferenceIdeal.nD Cert.FirstReferenceIdeal.τ).loc Cert.FirstReferenceIdeal.main_arg10) = m ((c.tc : Thread Cert.FirstIdeal.nD Cert.FirstIdeal.τ).loc Cert.FirstIdeal.main_arg10)
      ∧ m' ((c.tc : Thread Cert.FirstReferenceIdeal.nD Cert.FirstReferenceIdeal.τ).loc Cert.FirstReferenceIdeal.main_arg11) = m ((c.tc : Thread Cert.FirstIdeal.nD Cert.FirstIdeal.τ).loc Cert.FirstIdeal.main_arg11)) →
    ∃ (v0 : (c : Dev Cert.FirstIdeal.nD) → Buf (Elt Ideal) ((c.tc : Thread Cert.FirstIdeal.nD Cert.FirstIdeal.τ).loc Cert.FirstIdeal.main_v8)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v8) = v0 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
          ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
          ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
          ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6)
          ∧ r.2.mem ((c.tc : Thread Cert.FirstIdeal.nD Cert.FirstIdeal.τ).loc Cert.FirstIdeal.main_arg7) = m ((c.tc : Thread Cert.FirstIdeal.nD Cert.FirstIdeal.τ).loc Cert.FirstIdeal.main_arg7)
          ∧ r.2.mem ((c.tc : Thread Cert.FirstIdeal.nD Cert.FirstIdeal.τ).loc Cert.FirstIdeal.main_arg8) = m ((c.tc : Thread Cert.FirstIdeal.nD Cert.FirstIdeal.τ).loc Cert.FirstIdeal.main_arg8)
          ∧ r.2.mem ((c.tc : Thread Cert.FirstIdeal.nD Cert.FirstIdeal.τ).loc Cert.FirstIdeal.main_arg9) = m ((c.tc : Thread Cert.FirstIdeal.nD Cert.FirstIdeal.τ).loc Cert.FirstIdeal.main_arg9)
          ∧ r.2.mem ((c.tc : Thread Cert.FirstIdeal.nD Cert.FirstIdeal.τ).loc Cert.FirstIdeal.main_arg10) = m ((c.tc : Thread Cert.FirstIdeal.nD Cert.FirstIdeal.τ).loc Cert.FirstIdeal.main_arg10)
          ∧ r.2.mem ((c.tc : Thread Cert.FirstIdeal.nD Cert.FirstIdeal.τ).loc Cert.FirstIdeal.main_arg11) = m ((c.tc : Thread Cert.FirstIdeal.nD Cert.FirstIdeal.τ).loc Cert.FirstIdeal.main_arg11))
      ∧ θ_run (Cert.FirstReferenceIdeal.defs (F := Ideal)) (onTc (τ := Cert.FirstReferenceIdeal.τ) (Cert.FirstReferenceIdeal.main (F := Ideal))) ⟨m', fun _ => 0, g'⟩ (fun r => ∀ c : Dev Cert.FirstReferenceIdeal.nD,
          r.2.mem ((c.tc : Thread Cert.FirstReferenceIdeal.nD Cert.FirstReferenceIdeal.τ).loc Cert.FirstReferenceIdeal.main_v65) = v0 c
          ∧ r.2.mem ((c.tc : Thread Cert.FirstReferenceIdeal.nD Cert.FirstReferenceIdeal.τ).loc Cert.FirstReferenceIdeal.main_arg0) = m' ((c.tc : Thread Cert.FirstReferenceIdeal.nD Cert.FirstReferenceIdeal.τ).loc Cert.FirstReferenceIdeal.main_arg0)
          ∧ r.2.mem ((c.tc : Thread Cert.FirstReferenceIdeal.nD Cert.FirstReferenceIdeal.τ).loc Cert.FirstReferenceIdeal.main_arg1) = m' ((c.tc : Thread Cert.FirstReferenceIdeal.nD Cert.FirstReferenceIdeal.τ).loc Cert.FirstReferenceIdeal.main_arg1)
          ∧ r.2.mem ((c.tc : Thread Cert.FirstReferenceIdeal.nD Cert.FirstReferenceIdeal.τ).loc Cert.FirstReferenceIdeal.main_arg2) = m' ((c.tc : Thread Cert.FirstReferenceIdeal.nD Cert.FirstReferenceIdeal.τ).loc Cert.FirstReferenceIdeal.main_arg2)
          ∧ r.2.mem ((c.tc : Thread Cert.FirstReferenceIdeal.nD Cert.FirstReferenceIdeal.τ).loc Cert.FirstReferenceIdeal.main_arg3) = m' ((c.tc : Thread Cert.FirstReferenceIdeal.nD Cert.FirstReferenceIdeal.τ).loc Cert.FirstReferenceIdeal.main_arg3)
          ∧ r.2.mem ((c.tc : Thread Cert.FirstReferenceIdeal.nD Cert.FirstReferenceIdeal.τ).loc Cert.FirstReferenceIdeal.main_arg4) = m' ((c.tc : Thread Cert.FirstReferenceIdeal.nD Cert.FirstReferenceIdeal.τ).loc Cert.FirstReferenceIdeal.main_arg4)
          ∧ r.2.mem ((c.tc : Thread Cert.FirstReferenceIdeal.nD Cert.FirstReferenceIdeal.τ).loc Cert.FirstReferenceIdeal.main_arg5) = m' ((c.tc : Thread Cert.FirstReferenceIdeal.nD Cert.FirstReferenceIdeal.τ).loc Cert.FirstReferenceIdeal.main_arg5)
          ∧ r.2.mem ((c.tc : Thread Cert.FirstReferenceIdeal.nD Cert.FirstReferenceIdeal.τ).loc Cert.FirstReferenceIdeal.main_arg6) = m' ((c.tc : Thread Cert.FirstReferenceIdeal.nD Cert.FirstReferenceIdeal.τ).loc Cert.FirstReferenceIdeal.main_arg6)
          ∧ r.2.mem ((c.tc : Thread Cert.FirstReferenceIdeal.nD Cert.FirstReferenceIdeal.τ).loc Cert.FirstReferenceIdeal.main_arg7) = m' ((c.tc : Thread Cert.FirstReferenceIdeal.nD Cert.FirstReferenceIdeal.τ).loc Cert.FirstReferenceIdeal.main_arg7)
          ∧ r.2.mem ((c.tc : Thread Cert.FirstReferenceIdeal.nD Cert.FirstReferenceIdeal.τ).loc Cert.FirstReferenceIdeal.main_arg8) = m' ((c.tc : Thread Cert.FirstReferenceIdeal.nD Cert.FirstReferenceIdeal.τ).loc Cert.FirstReferenceIdeal.main_arg8)
          ∧ r.2.mem ((c.tc : Thread Cert.FirstReferenceIdeal.nD Cert.FirstReferenceIdeal.τ).loc Cert.FirstReferenceIdeal.main_arg9) = m' ((c.tc : Thread Cert.FirstReferenceIdeal.nD Cert.FirstReferenceIdeal.τ).loc Cert.FirstReferenceIdeal.main_arg9)
          ∧ r.2.mem ((c.tc : Thread Cert.FirstReferenceIdeal.nD Cert.FirstReferenceIdeal.τ).loc Cert.FirstReferenceIdeal.main_arg10) = m' ((c.tc : Thread Cert.FirstReferenceIdeal.nD Cert.FirstReferenceIdeal.τ).loc Cert.FirstReferenceIdeal.main_arg10)
          ∧ r.2.mem ((c.tc : Thread Cert.FirstReferenceIdeal.nD Cert.FirstReferenceIdeal.τ).loc Cert.FirstReferenceIdeal.main_arg11) = m' ((c.tc : Thread Cert.FirstReferenceIdeal.nD Cert.FirstReferenceIdeal.τ).loc Cert.FirstReferenceIdeal.main_arg11))

def preserves_Modulation_ModulationIdeal : Prop :=
  True

def algebraic_ModulationIdeal_ModulationReferenceIdeal [hModulationIdeal : Cert.ModulationIdeal.Facts] [hModulationReferenceIdeal : Cert.ModulationReferenceIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationReferenceIdeal.nD Cert.ModulationReferenceIdeal.τ Cert.ModulationReferenceIdeal.sig) → Buf (Elt Ideal) ℓ) (g' : Dev Cert.ModulationReferenceIdeal.nD → PrngReg), Pre_ModulationIdeal m →
    (∀ c : Dev Cert.ModulationIdeal.nD,
      m' ((c.tc : Thread Cert.ModulationReferenceIdeal.nD Cert.ModulationReferenceIdeal.τ).loc Cert.ModulationReferenceIdeal.main_arg0) = m ((c.tc : Thread Cert.ModulationIdeal.nD Cert.ModulationIdeal.τ).loc Cert.ModulationIdeal.main_arg0)
      ∧ m' ((c.tc : Thread Cert.ModulationReferenceIdeal.nD Cert.ModulationReferenceIdeal.τ).loc Cert.ModulationReferenceIdeal.main_arg1) = m ((c.tc : Thread Cert.ModulationIdeal.nD Cert.ModulationIdeal.τ).loc Cert.ModulationIdeal.main_arg1)
      ∧ m' ((c.tc : Thread Cert.ModulationReferenceIdeal.nD Cert.ModulationReferenceIdeal.τ).loc Cert.ModulationReferenceIdeal.main_arg2) = m ((c.tc : Thread Cert.ModulationIdeal.nD Cert.ModulationIdeal.τ).loc Cert.ModulationIdeal.main_arg2)) →
    ∃ (v0 : (c : Dev Cert.ModulationIdeal.nD) → Buf (Elt Ideal) ((c.tc : Thread Cert.ModulationIdeal.nD Cert.ModulationIdeal.τ).loc Cert.ModulationIdeal.main_v1)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v1) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ θ_run (Cert.ModulationReferenceIdeal.defs (F := Ideal)) (onTc (τ := Cert.ModulationReferenceIdeal.τ) (Cert.ModulationReferenceIdeal.main (F := Ideal))) ⟨m', fun _ => 0, g'⟩ (fun r => ∀ c : Dev Cert.ModulationReferenceIdeal.nD,
          r.2.mem ((c.tc : Thread Cert.ModulationReferenceIdeal.nD Cert.ModulationReferenceIdeal.τ).loc Cert.ModulationReferenceIdeal.main_v20) = v0 c
          ∧ r.2.mem ((c.tc : Thread Cert.ModulationReferenceIdeal.nD Cert.ModulationReferenceIdeal.τ).loc Cert.ModulationReferenceIdeal.main_arg0) = m' ((c.tc : Thread Cert.ModulationReferenceIdeal.nD Cert.ModulationReferenceIdeal.τ).loc Cert.ModulationReferenceIdeal.main_arg0)
          ∧ r.2.mem ((c.tc : Thread Cert.ModulationReferenceIdeal.nD Cert.ModulationReferenceIdeal.τ).loc Cert.ModulationReferenceIdeal.main_arg1) = m' ((c.tc : Thread Cert.ModulationReferenceIdeal.nD Cert.ModulationReferenceIdeal.τ).loc Cert.ModulationReferenceIdeal.main_arg1)
          ∧ r.2.mem ((c.tc : Thread Cert.ModulationReferenceIdeal.nD Cert.ModulationReferenceIdeal.τ).loc Cert.ModulationReferenceIdeal.main_arg2) = m' ((c.tc : Thread Cert.ModulationReferenceIdeal.nD Cert.ModulationReferenceIdeal.τ).loc Cert.ModulationReferenceIdeal.main_arg2))

def Claim : Prop :=
  ∃ (hKernel : Cert.Kernel.Facts) (hKernelIdeal : Cert.KernelIdeal.Facts) (hReferenceIdeal : Cert.ReferenceIdeal.Facts) (hProjection : Cert.Projection.Facts) (hProjectionIdeal : Cert.ProjectionIdeal.Facts) (hProjectionReferenceIdeal : Cert.ProjectionReferenceIdeal.Facts) (hOutput : Cert.Output.Facts) (hOutputIdeal : Cert.OutputIdeal.Facts) (hOutputReferenceIdeal : Cert.OutputReferenceIdeal.Facts) (hFirst : Cert.First.Facts) (hFirstIdeal : Cert.FirstIdeal.Facts) (hFirstReferenceIdeal : Cert.FirstReferenceIdeal.Facts) (hModulation : Cert.Modulation.Facts) (hModulationIdeal : Cert.ModulationIdeal.Facts) (hModulationReferenceIdeal : Cert.ModulationReferenceIdeal.Facts) (hAttention : Cert.Attention.Facts) (hPre_finite_arguments : Cert.Pre_finite_arguments.Facts),
    quiescent_Kernel (hKernel := hKernel)
    ∧ quiescent_KernelIdeal (hKernelIdeal := hKernelIdeal)
    ∧ quiescent_KernelIdeal_pre_finite_arguments (hKernelIdeal := hKernelIdeal) (hPre_finite_arguments := hPre_finite_arguments)
    ∧ quiescent_ReferenceIdeal (hReferenceIdeal := hReferenceIdeal)
    ∧ quiescent_ReferenceIdeal_pre_finite_arguments (hReferenceIdeal := hReferenceIdeal) (hPre_finite_arguments := hPre_finite_arguments)
    ∧ quiescent_Projection (hProjection := hProjection)
    ∧ quiescent_ProjectionIdeal (hProjectionIdeal := hProjectionIdeal)
    ∧ quiescent_ProjectionReferenceIdeal (hProjectionReferenceIdeal := hProjectionReferenceIdeal)
    ∧ quiescent_Output (hOutput := hOutput)
    ∧ quiescent_OutputIdeal (hOutputIdeal := hOutputIdeal)
    ∧ quiescent_OutputReferenceIdeal (hOutputReferenceIdeal := hOutputReferenceIdeal)
    ∧ quiescent_First (hFirst := hFirst)
    ∧ quiescent_FirstIdeal (hFirstIdeal := hFirstIdeal)
    ∧ quiescent_FirstReferenceIdeal (hFirstReferenceIdeal := hFirstReferenceIdeal)
    ∧ quiescent_Modulation (hModulation := hModulation)
    ∧ quiescent_ModulationIdeal (hModulationIdeal := hModulationIdeal)
    ∧ quiescent_ModulationReferenceIdeal (hModulationReferenceIdeal := hModulationReferenceIdeal)
    ∧ quiescent_Attention (hAttention := hAttention)
    ∧ preserves_Kernel_KernelIdeal
    ∧ algebraic_KernelIdeal_ReferenceIdeal_pre_finite_arguments (hKernelIdeal := hKernelIdeal) (hReferenceIdeal := hReferenceIdeal) (hPre_finite_arguments := hPre_finite_arguments)
    ∧ preserves_Projection_ProjectionIdeal
    ∧ algebraic_ProjectionIdeal_ProjectionReferenceIdeal (hProjectionIdeal := hProjectionIdeal) (hProjectionReferenceIdeal := hProjectionReferenceIdeal)
    ∧ preserves_Output_OutputIdeal
    ∧ algebraic_OutputIdeal_OutputReferenceIdeal (hOutputIdeal := hOutputIdeal) (hOutputReferenceIdeal := hOutputReferenceIdeal)
    ∧ preserves_First_FirstIdeal
    ∧ algebraic_FirstIdeal_FirstReferenceIdeal (hFirstIdeal := hFirstIdeal) (hFirstReferenceIdeal := hFirstReferenceIdeal)
    ∧ preserves_Modulation_ModulationIdeal
    ∧ algebraic_ModulationIdeal_ModulationReferenceIdeal (hModulationIdeal := hModulationIdeal) (hModulationReferenceIdeal := hModulationReferenceIdeal)
-- ==== Pre_finite_arguments.lean ====
abbrev S4x8192x512 : Shape := ⟨3, ![4, 8192, 512]⟩
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S_ : Shape := ⟨0, ![]⟩

class Facts : Prop where
  bitsLt_bf16_f32 : FTy.bits .bf16 < FTy.bits .f32
  bcast_S_S4x8192x512 : S_.BroadcastsInDim S4x8192x512 (![] : Fin 0 → Fin S4x8192x512.rank)
  bcast_S_S32x64 : S_.BroadcastsInDim S32x64 (![] : Fin 0 → Fin S32x64.rank)
  bcast_S_S32 : S_.BroadcastsInDim S32 (![] : Fin 0 → Fin S32.rank)
  bcast_S_S32x64x16 : S_.BroadcastsInDim S32x64x16 (![] : Fin 0 → Fin S32x64x16.rank)
  bcast_S_S32x16x64 : S_.BroadcastsInDim S32x16x64 (![] : Fin 0 → Fin S32x16x64.rank)

variable [Facts]

def fn_part1 {F : FTy → Type} [FloatOps F] (main_arg1 : FVec F S32x64 .f32) (main_arg2 : FVec F S32x64 .f32) (main_arg6 : FVec F S32x16x64 .f32) (main_arg7 : FVec F S32x16x64 .f32) (main_v3 : IVec S4x8192x512 1) (main_v6 : IVec S32x64 1) (main_v9 : IVec S32x64 1) (main_v12 : IVec S32 1) (main_v15 : IVec S32x64x16 1) (main_v16 : FVec F S32x64x16 .f32) (main_v17 : FVec F S32x64x16 .f32) : IVec S4x8192x512 1 × IVec S32x64 1 × IVec S32x64 1 × IVec S32 1 × IVec S32x64x16 1 × IVec S32x64x16 1 × IVec S32x16x64 1 × IVec S32x16x64 1 × IVec S32x64 1 :=
  let main_v18 : IVec S32x64x16 1 := cmpf .olt main_v16 main_v17
  let main_v19 : FVec F S32x16x64 .f32 := Host.absf main_arg6
  let main_cst_5 : FVec F S_ .f32 := constant S_ .f32 0x7F800000#32
  let main_v20 : FVec F S32x16x64 .f32 := broadcastInDim S32x16x64 ![] bcast_S_S32x16x64 main_cst_5
  let main_v21 : IVec S32x16x64 1 := cmpf .olt main_v19 main_v20
  let main_v22 : FVec F S32x16x64 .f32 := Host.absf main_arg7
  let main_cst_6 : FVec F S_ .f32 := constant S_ .f32 0x7F800000#32
  let main_v23 : FVec F S32x16x64 .f32 := broadcastInDim S32x16x64 ![] bcast_S_S32x16x64 main_cst_6
  let main_v24 : IVec S32x16x64 1 := cmpf .olt main_v22 main_v23
  let main_v25 : FVec F S32x64 .f32 := mulf main_arg1 main_arg1
  let main_v26 : FVec F S32x64 .f32 := mulf main_arg2 main_arg2
  let main_v27 : FVec F S32x64 .f32 := addf main_v25 main_v26
  let main_cst_7 : FVec F S_ .f32 := constant S_ .f32 0x00000000#32
  let main_v28 : FVec F S32x64 .f32 := broadcastInDim S32x64 ![] bcast_S_S32x64 main_cst_7
  let main_v29 : IVec S32x64 1 := cmpf .une main_v27 main_v28
  (main_v3, main_v6, main_v9, main_v12, main_v15, main_v18, main_v21, main_v24, main_v29)

def fn {F : FTy → Type} [FloatOps F] (main_arg0 : FVec F S4x8192x512 .bf16) (main_arg1 : FVec F S32x64 .f32) (main_arg2 : FVec F S32x64 .f32) (main_arg3 : FVec F S32 .f32) (main_arg4 : FVec F S32x64x16 .f32) (main_arg5 : FVec F S32x64x16 .f32) (main_arg6 : FVec F S32x16x64 .f32) (main_arg7 : FVec F S32x16x64 .f32) : IVec S4x8192x512 1 × IVec S32x64 1 × IVec S32x64 1 × IVec S32 1 × IVec S32x64x16 1 × IVec S32x64x16 1 × IVec S32x16x64 1 × IVec S32x16x64 1 × IVec S32x64 1 :=
  let main_v0 : FVec F S4x8192x512 .f32 := (extf .f32 · bitsLt_bf16_f32) main_arg0
  let main_v1 : FVec F S4x8192x512 .f32 := Host.absf main_v0
  let main_cst : FVec F S_ .f32 := constant S_ .f32 0x7F800000#32
  let main_v2 : FVec F S4x8192x512 .f32 := broadcastInDim S4x8192x512 ![] bcast_S_S4x8192x512 main_cst
  let main_v3 : IVec S4x8192x512 1 := cmpf .olt main_v1 main_v2
  let main_v4 : FVec F S32x64 .f32 := Host.absf main_arg1
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_v7 : FVec F S32x64 .f32 := Host.absf main_arg2
  let main_cst_1 : FVec F S_ .f32 := constant S_ .f32 0x7F800000#32
  let main_v8 : FVec F S32x64 .f32 := broadcastInDim S32x64 ![] bcast_S_S32x64 main_cst_1
  let main_v9 : IVec S32x64 1 := cmpf .olt main_v7 main_v8
  let main_v10 : FVec F S32 .f32 := Host.absf main_arg3
  let main_cst_2 : FVec F S_ .f32 := constant S_ .f32 0x7F800000#32
  let main_v11 : FVec F S32 .f32 := broadcastInDim S32 ![] bcast_S_S32 main_cst_2
  let main_v12 : IVec S32 1 := cmpf .olt main_v10 main_v11
  let main_v13 : FVec F S32x64x16 .f32 := Host.absf main_arg4
  let main_cst_3 : FVec F S_ .f32 := constant S_ .f32 0x7F800000#32
  let main_v14 : FVec F S32x64x16 .f32 := broadcastInDim S32x64x16 ![] bcast_S_S32x64x16 main_cst_3
  let main_v15 : IVec S32x64x16 1 := cmpf .olt main_v13 main_v14
  let main_v16 : FVec F S32x64x16 .f32 := Host.absf main_arg5
  let main_cst_4 : FVec F S_ .f32 := constant S_ .f32 0x7F800000#32
  let main_v17 : FVec F S32x64x16 .f32 := broadcastInDim S32x64x16 ![] bcast_S_S32x64x16 main_cst_4
  fn_part1 (F := F) main_arg1 main_arg2 main_arg6 main_arg7 main_v3 main_v6 main_v9 main_v12 main_v15 main_v16 main_v17
-- ==== Kernel.lean ====
abbrev S4x8192x512 : Shape := ⟨3, ![4, 8192, 512]⟩
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S32x1x64 : Shape := ⟨3, ![32, 1, 64]⟩
abbrev S32x1x1 : Shape := ⟨3, ![32, 1, 1]⟩
abbrev S32x512x16 : Shape := ⟨3, ![32, 512, 16]⟩
abbrev S32x512x128 : Shape := ⟨3, ![32, 512, 128]⟩
abbrev S32x2x128 : Shape := ⟨3, ![32, 2, 128]⟩
abbrev S1x1x64 : Shape := ⟨3, ![1, 1, 64]⟩
abbrev S1x1x1 : Shape := ⟨3, ![1, 1, 1]⟩
abbrev S1x16x64 : Shape := ⟨3, ![1, 16, 64]⟩
abbrev S1x512x16 : Shape := ⟨3, ![1, 512, 16]⟩
abbrev S1x512x128 : Shape := ⟨3, ![1, 512, 128]⟩
abbrev S1x2x128 : Shape := ⟨3, ![1, 2, 128]⟩
abbrev S1x64 : Shape := ⟨2, ![1, 64]⟩
abbrev S1x1 : Shape := ⟨2, ![1, 1]⟩
abbrev S16x64 : Shape := ⟨2, ![16, 64]⟩
abbrev S512x64 : Shape := ⟨2, ![512, 64]⟩
abbrev S512x1 : Shape := ⟨2, ![512, 1]⟩
abbrev S16x128 : Shape := ⟨2, ![16, 128]⟩
abbrev S512x128 : Shape := ⟨2, ![512, 128]⟩
abbrev S512x16 : Shape := ⟨2, ![512, 16]⟩
abbrev S1x128 : Shape := ⟨2, ![1, 128]⟩
abbrev S2x128 : Shape := ⟨2, ![2, 128]⟩
abbrev S32x32x16x16 : Shape := ⟨4, ![32, 32, 16, 16]⟩
abbrev S1x32 : Shape := ⟨2, ![1, 32]⟩
abbrev S32x1 : Shape := ⟨2, ![32, 1]⟩
abbrev S32x32 : Shape := ⟨2, ![32, 32]⟩
abbrev S_ : Shape := ⟨0, ![]⟩
abbrev S1x32x32x1x1 : Shape := ⟨5, ![1, 32, 32, 1, 1]⟩
abbrev S32x32x1 : Shape := ⟨3, ![32, 32, 1]⟩
abbrev S32x32x32x16x16 : Shape := ⟨5, ![32, 32, 32, 16, 16]⟩
abbrev S32x32x16x32x16 : Shape := ⟨5, ![32, 32, 16, 32, 16]⟩
abbrev S32x512x512 : Shape := ⟨3, ![32, 512, 512]⟩
abbrev S4x256x32x32x16 : Shape := ⟨5, ![4, 256, 32, 32, 16]⟩
abbrev S32x4x256x32x16 : Shape := ⟨5, ![32, 4, 256, 32, 16]⟩
abbrev S32x1024x512 : Shape := ⟨3, ![32, 1024, 512]⟩
abbrev S1x1024x512 : Shape := ⟨3, ![1, 1024, 512]⟩
abbrev S1x512x512 : Shape := ⟨3, ![1, 512, 512]⟩
abbrev S4x512x128 : Shape := ⟨3, ![4, 512, 128]⟩
abbrev S1024x512 : Shape := ⟨2, ![1024, 512]⟩
abbrev S1024x128 : Shape := ⟨2, ![1024, 128]⟩
abbrev S256x128 : Shape := ⟨2, ![256, 128]⟩
abbrev S1x256x128 : Shape := ⟨3, ![1, 256, 128]⟩
abbrev S1x1x128 : Shape := ⟨3, ![1, 1, 128]⟩
abbrev S512x512 : Shape := ⟨2, ![512, 512]⟩

abbrev nBuf : Space → Nat
  | .hbm => 57
  | .vmem => 35
  | .smem => 0
  | _ => 0

abbrev bufTy : (tb : Table) → Fin (tcTables nBuf tb) → BufTy
  | .hbm, ⟨0, _⟩ => ⟨S4x8192x512, .bf16⟩
  | .hbm, ⟨1, _⟩ => ⟨S32x64, .f32⟩
  | .hbm, ⟨2, _⟩ => ⟨S32x64, .f32⟩
  | .hbm, ⟨3, _⟩ => ⟨S32, .f32⟩
  | .hbm, ⟨4, _⟩ => ⟨S32x64x16, .f32⟩
  | .hbm, ⟨5, _⟩ => ⟨S32x64x16, .f32⟩
  | .hbm, ⟨6, _⟩ => ⟨S32x16x64, .f32⟩
  | .hbm, ⟨7, _⟩ => ⟨S32x16x64, .f32⟩
  | .hbm, ⟨8, _⟩ => ⟨S32x1x64, .f32⟩
  | .hbm, ⟨9, _⟩ => ⟨S32x1x64, .f32⟩
  | .hbm, ⟨10, _⟩ => ⟨S32x1x1, .f32⟩
  | .hbm, ⟨11, _⟩ => ⟨S32x16x64, .f32⟩
  | .hbm, ⟨12, _⟩ => ⟨S32x16x64, .f32⟩
  | .hbm, ⟨13, _⟩ => ⟨S32x512x16, .f32⟩
  | .hbm, ⟨14, _⟩ => ⟨S32x512x128, .f32⟩
  | .hbm, ⟨15, _⟩ => ⟨S32x512x128, .f32⟩
  | .hbm, ⟨16, _⟩ => ⟨S32x2x128, .f32⟩
  | .hbm, ⟨17, _⟩ => ⟨S32x32x16x16, .f32⟩
  | .hbm, ⟨18, _⟩ => ⟨S32, .i32⟩
  | .hbm, ⟨19, _⟩ => ⟨S1x32, .i32⟩
  | .hbm, ⟨20, _⟩ => ⟨S32x1, .i32⟩
  | .hbm, ⟨21, _⟩ => ⟨S32x32, .i32⟩
  | .hbm, ⟨22, _⟩ => ⟨S32x32, .i32⟩
  | .hbm, ⟨23, _⟩ => ⟨S32x32, .i32⟩
  | .hbm, ⟨24, _⟩ => ⟨S_, .i32⟩
  | .hbm, ⟨25, _⟩ => ⟨S32x32, .i32⟩
  | .hbm, ⟨26, _⟩ => ⟨S32x32, .i1⟩
  | .hbm, ⟨27, _⟩ => ⟨S1x32x32x1x1, .i1⟩
  | .hbm, ⟨28, _⟩ => ⟨S_, .i32⟩
  | .hbm, ⟨29, _⟩ => ⟨S32x32, .i32⟩
  | .hbm, ⟨30, _⟩ => ⟨S32x32, .i32⟩
  | .hbm, ⟨31, _⟩ => ⟨S_, .i32⟩
  | .hbm, ⟨32, _⟩ => ⟨S32x32, .i32⟩
  | .hbm, ⟨33, _⟩ => ⟨S32x32, .i1⟩
  | .hbm, ⟨34, _⟩ => ⟨S_, .i32⟩
  | .hbm, ⟨35, _⟩ => ⟨S32x32, .i32⟩
  | .hbm, ⟨36, _⟩ => ⟨S32x32, .i32⟩
  | .hbm, ⟨37, _⟩ => ⟨S32x32, .i32⟩
  | .hbm, ⟨38, _⟩ => ⟨S32x32x1, .i32⟩
  | .hbm, ⟨39, _⟩ => ⟨S32x32x32x16x16, .f32⟩
  | .hbm, ⟨40, _⟩ => ⟨S_, .f32⟩
  | .hbm, ⟨41, _⟩ => ⟨S_, .f32⟩
  | .hbm, ⟨42, _⟩ => ⟨S32x32x32x16x16, .i1⟩
  | .hbm, ⟨43, _⟩ => ⟨S32x32x32x16x16, .f32⟩
  | .hbm, ⟨44, _⟩ => ⟨S32x32x32x16x16, .f32⟩
  | .hbm, ⟨45, _⟩ => ⟨S32x32x16x32x16, .f32⟩
  | .hbm, ⟨46, _⟩ => ⟨S32x512x512, .f32⟩
  | .hbm, ⟨47, _⟩ => ⟨S32x512x512, .bf16⟩
  | .hbm, ⟨48, _⟩ => ⟨S32x512x128, .bf16⟩
  | .hbm, ⟨49, _⟩ => ⟨S32x512x128, .bf16⟩
  | .hbm, ⟨50, _⟩ => ⟨S4x256x32x32x16, .bf16⟩
  | .hbm, ⟨51, _⟩ => ⟨S32x4x256x32x16, .bf16⟩
  | .hbm, ⟨52, _⟩ => ⟨S32x1024x512, .bf16⟩
  | .hbm, ⟨53, _⟩ => ⟨S32x1024x512, .bf16⟩
  | .hbm, ⟨54, _⟩ => ⟨S32x4x256x32x16, .bf16⟩
  | .hbm, ⟨55, _⟩ => ⟨S4x256x32x32x16, .bf16⟩
  | .hbm, ⟨56, _⟩ => ⟨S4x8192x512, .bf16⟩
  | .local _ .vmem, ⟨0, _⟩ => ⟨S1x1x64, .f32⟩
  | .local _ .vmem, ⟨1, _⟩ => ⟨S1x1x64, .f32⟩
  | .local _ .vmem, ⟨2, _⟩ => ⟨S1x1x64, .f32⟩
  | .local _ .vmem, ⟨3, _⟩ => ⟨S1x1x64, .f32⟩
  | .local _ .vmem, ⟨4, _⟩ => ⟨S1x1x1, .f32⟩
  | .local _ .vmem, ⟨5, _⟩ => ⟨S1x1x1, .f32⟩
  | .local _ .vmem, ⟨6, _⟩ => ⟨S1x16x64, .f32⟩
  | .local _ .vmem, ⟨7, _⟩ => ⟨S1x16x64, .f32⟩
  | .local _ .vmem, ⟨8, _⟩ => ⟨S1x16x64, .f32⟩
  | .local _ .vmem, ⟨9, _⟩ => ⟨S1x16x64, .f32⟩
  | .local _ .vmem, ⟨10, _⟩ => ⟨S1x16x64, .f32⟩
  | .local _ .vmem, ⟨11, _⟩ => ⟨S1x16x64, .f32⟩
  | .local _ .vmem, ⟨12, _⟩ => ⟨S1x16x64, .f32⟩
  | .local _ .vmem, ⟨13, _⟩ => ⟨S1x16x64, .f32⟩
  | .local _ .vmem, ⟨14, _⟩ => ⟨S1x512x16, .f32⟩
  | .local _ .vmem, ⟨15, _⟩ => ⟨S1x512x16, .f32⟩
  | .local _ .vmem, ⟨16, _⟩ => ⟨S1x512x128, .f32⟩
  | .local _ .vmem, ⟨17, _⟩ => ⟨S1x512x128, .f32⟩
  | .local _ .vmem, ⟨18, _⟩ => ⟨S1x512x128, .f32⟩
  | .local _ .vmem, ⟨19, _⟩ => ⟨S1x512x128, .f32⟩
  | .local _ .vmem, ⟨20, _⟩ => ⟨S1x2x128, .f32⟩
  | .local _ .vmem, ⟨21, _⟩ => ⟨S1x2x128, .f32⟩
  | .local _ .vmem, ⟨22, _⟩ => ⟨S1x1024x512, .bf16⟩
  | .local _ .vmem, ⟨23, _⟩ => ⟨S1x1024x512, .bf16⟩
  | .local _ .vmem, ⟨24, _⟩ => ⟨S1x512x512, .bf16⟩
  | .local _ .vmem, ⟨25, _⟩ => ⟨S1x512x512, .bf16⟩
  | .local _ .vmem, ⟨26, _⟩ => ⟨S1x512x128, .bf16⟩
  | .local _ .vmem, ⟨27, _⟩ => ⟨S1x512x128, .bf16⟩
  | .local _ .vmem, ⟨28, _⟩ => ⟨S1x512x128, .bf16⟩
  | .local _ .vmem, ⟨29, _⟩ => ⟨S1x512x128, .bf16⟩
  | .local _ .vmem, ⟨30, _⟩ => ⟨S1x2x128, .f32⟩
  | .local _ .vmem, ⟨31, _⟩ => ⟨S1x2x128, .f32⟩
  | .local _ .vmem, ⟨32, _⟩ => ⟨S1x1024x512, .bf16⟩
  | .local _ .vmem, ⟨33, _⟩ => ⟨S1x1024x512, .bf16⟩
  | .local _ .vmem, ⟨34, _⟩ => ⟨S4x512x128, .f32⟩
  | _, _ => ⟨S4x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_0 : Ref sig .tc := ⟨.hbm, 28, rfl⟩
abbrev main_v16 : Ref sig .tc := ⟨.hbm, 29, rfl⟩
abbrev main_v17 : Ref sig .tc := ⟨.hbm, 30, rfl⟩
abbrev main_c_1 : Ref sig .tc := ⟨.hbm, 31, rfl⟩
abbrev main_v18 : Ref sig .tc := ⟨.hbm, 32, rfl⟩
abbrev main_v19 : Ref sig .tc := ⟨.hbm, 33, rfl⟩
abbrev main_c_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc1_stg4_0 : Ref sig .tc := ⟨.vmem, 30, rfl⟩
abbrev cc1_stg4_1 : Ref sig .tc := ⟨.vmem, 31, rfl⟩
abbrev cc1_stg5_0 : Ref sig .tc := ⟨.vmem, 32, rfl⟩
abbrev cc1_stg5_1 : Ref sig .tc := ⟨.vmem, 33, rfl⟩
abbrev cc1_scratch0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem3_1 : DmaSem sig := 29
abbrev cc1_sem4_0 : DmaSem sig := 30
abbrev cc1_sem4_1 : DmaSem sig := 31
abbrev cc1_sem5_0 : DmaSem sig := 32
abbrev cc1_sem5_1 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x512x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x512x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x2x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1024x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S4x8192x512 : Shape := ⟨3, ![4, 8192, 512]⟩
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S32x1 : Shape := ⟨2, ![32, 1]⟩
abbrev S_ : Shape := ⟨0, ![]⟩
abbrev S32x64x1 : Shape := ⟨3, ![32, 64, 1]⟩
abbrev S4x8192x32x16 : Shape := ⟨4, ![4, 8192, 32, 16]⟩
abbrev S32x64x4x8192 : Shape := ⟨4, ![32, 64, 4, 8192]⟩
abbrev S8192x4x32x64 : Shape := ⟨4, ![8192, 4, 32, 64]⟩
abbrev S4x32x64 : Shape := ⟨3, ![4, 32, 64]⟩
abbrev S1x4x32x64 : Shape := ⟨4, ![1, 4, 32, 64]⟩
abbrev S1x32x64 : Shape := ⟨3, ![1, 32, 64]⟩
abbrev S32x16x8192x4 : Shape := ⟨4, ![32, 16, 8192, 4]⟩

abbrev nBuf : Space → Nat
  | .hbm => 118
  | .vmem => 0
  | .smem => 0
  | _ => 0

abbrev bufTy : (tb : Table) → Fin (tcTables nBuf tb) → BufTy
  | .hbm, ⟨0, _⟩ => ⟨S4x8192x512, .bf16⟩
  | .hbm, ⟨1, _⟩ => ⟨S32x64, .f32⟩
  | .hbm, ⟨2, _⟩ => ⟨S32x64, .f32⟩
  | .hbm, ⟨3, _⟩ => ⟨S32, .f32⟩
  | .hbm, ⟨4, _⟩ => ⟨S32x64x16, .f32⟩
  | .hbm, ⟨5, _⟩ => ⟨S32x64x16, .f32⟩
  | .hbm, ⟨6, _⟩ => ⟨S32x16x64, .f32⟩
  | .hbm, ⟨7, _⟩ => ⟨S32x16x64, .f32⟩
  | .hbm, ⟨8, _⟩ => ⟨S32, .f32⟩
  | .hbm, ⟨9, _⟩ => ⟨S32x1, .f32⟩
  | .hbm, ⟨10, _⟩ => ⟨S32x64, .f32⟩
  | .hbm, ⟨11, _⟩ => ⟨S32x64, .f32⟩
  | .hbm, ⟨12, _⟩ => ⟨S32x64, .f32⟩
  | .hbm, ⟨13, _⟩ => ⟨S32x64, .f32⟩
  | .hbm, ⟨14, _⟩ => ⟨S32x64, .f32⟩
  | .hbm, ⟨15, _⟩ => ⟨S32x64, .f32⟩
  | .hbm, ⟨16, _⟩ => ⟨S32x64, .f32⟩
  | .hbm, ⟨17, _⟩ => ⟨S32x64, .f32⟩
  | .hbm, ⟨18, _⟩ => ⟨S32x64, .f32⟩
  | .hbm, ⟨19, _⟩ => ⟨S32x64, .f32⟩
  | .hbm, ⟨20, _⟩ => ⟨S32x64, .f32⟩
  | .hbm, ⟨21, _⟩ => ⟨S32x64, .f32⟩
  | .hbm, ⟨22, _⟩ => ⟨S32x64, .f32⟩
  | .hbm, ⟨23, _⟩ => ⟨S32x64, .f32⟩
  | .hbm, ⟨24, _⟩ => ⟨S_, .f32⟩
  | .hbm, ⟨25, _⟩ => ⟨S32x64, .f32⟩
  | .hbm, ⟨26, _⟩ => ⟨S32x64, .f32⟩
  | .hbm, ⟨27, _⟩ => ⟨S32x64, .f32⟩
  | .hbm, ⟨28, _⟩ => ⟨S32x64, .f32⟩
  | .hbm, ⟨29, _⟩ => ⟨S32x64, .f32⟩
  | .hbm, ⟨30, _⟩ => ⟨S32x64, .f32⟩
  | .hbm, ⟨31, _⟩ => ⟨S32x64, .f32⟩
  | .hbm, ⟨32, _⟩ => ⟨S32x64, .f32⟩
  | .hbm, ⟨33, _⟩ => ⟨S32x64, .f32⟩
  | .hbm, ⟨34, _⟩ => ⟨S32x64, .f32⟩
  | .hbm, ⟨35, _⟩ => ⟨S32x64x1, .f32⟩
  | .hbm, ⟨36, _⟩ => ⟨S32x64x16, .f32⟩
  | .hbm, ⟨37, _⟩ => ⟨S32x64x16, .f32⟩
  | .hbm, ⟨38, _⟩ => ⟨S32x64x1, .f32⟩
  | .hbm, ⟨39, _⟩ => ⟨S32x64x16, .f32⟩
  | .hbm, ⟨40, _⟩ => ⟨S32x64x16, .f32⟩
  | .hbm, ⟨41, _⟩ => ⟨S32x64x16, .f32⟩
  | .hbm, ⟨42, _⟩ => ⟨S32x64x1, .f32⟩
  | .hbm, ⟨43, _⟩ => ⟨S32x64x16, .f32⟩
  | .hbm, ⟨44, _⟩ => ⟨S32x64x16, .f32⟩
  | .hbm, ⟨45, _⟩ => ⟨S32x64x1, .f32⟩
  | .hbm, ⟨46, _⟩ => ⟨S32x64x16, .f32⟩
  | .hbm, ⟨47, _⟩ => ⟨S32x64x16, .f32⟩
  | .hbm, ⟨48, _⟩ => ⟨S32x64x16, .f32⟩
  | .hbm, ⟨49, _⟩ => ⟨S4x8192x512, .f32⟩
  | .hbm, ⟨50, _⟩ => ⟨S4x8192x32x16, .f32⟩
  | .hbm, ⟨51, _⟩ => ⟨S32x64x4x8192, .f32⟩
  | .hbm, ⟨52, _⟩ => ⟨S8192x4x32x64, .f32⟩
  | .hbm, ⟨53, _⟩ => ⟨S32x64x4x8192, .f32⟩
  | .hbm, ⟨54, _⟩ => ⟨S8192x4x32x64, .f32⟩
  | .hbm, ⟨55, _⟩ => ⟨S_, .f32⟩
  | .hbm, ⟨56, _⟩ => ⟨S4x32x64, .f32⟩
  | .hbm, ⟨57, _⟩ => ⟨S_, .f32⟩
  | .hbm, ⟨58, _⟩ => ⟨S8192x4x32x64, .f32⟩
  | .hbm, ⟨59, _⟩ => ⟨S_, .f32⟩
  | .hbm, ⟨60, _⟩ => ⟨S8192x4x32x64, .f32⟩
  | .hbm, ⟨61, _⟩ => ⟨S_, .i32⟩
  | .hbm, ⟨62, _⟩ => ⟨S8192x4x32x64, .f32⟩
  | .hbm, ⟨63, _⟩ => ⟨S8192x4x32x64, .f32⟩
  | .hbm, ⟨64, _⟩ => ⟨S32x64, .f32⟩
  | .hbm, ⟨65, _⟩ => ⟨S32x64, .f32⟩
  | .hbm, ⟨66, _⟩ => ⟨S_, .i32⟩
  | .hbm, ⟨67, _⟩ => ⟨S4x32x64, .f32⟩
  | .hbm, ⟨68, _⟩ => ⟨S4x32x64, .f32⟩
  | .hbm, ⟨69, _⟩ => ⟨S8192x4x32x64, .f32⟩
  | .hbm, ⟨70, _⟩ => ⟨S8192x4x32x64, .f32⟩
  | .hbm, ⟨71, _⟩ => ⟨S_, .i32⟩
  | .hbm, ⟨72, _⟩ => ⟨S_, .i1⟩
  | .hbm, ⟨73, _⟩ => ⟨S_, .i32⟩
  | .hbm, ⟨74, _⟩ => ⟨S_, .i32⟩
  | .hbm, ⟨75, _⟩ => ⟨S_, .i32⟩
  | .hbm, ⟨76, _⟩ => ⟨S1x4x32x64, .f32⟩
  | .hbm, ⟨77, _⟩ => ⟨S4x32x64, .f32⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S1x4x32x64, .f32⟩
  | .hbm, ⟨82, _⟩ => ⟨S4x32x64, .f32⟩
  | .hbm, ⟨83, _⟩ => ⟨S1x32x64, .f32⟩
  | .hbm, ⟨84, _⟩ => ⟨S4x32x64, .f32⟩
  | .hbm, ⟨85, _⟩ => ⟨S4x32x64, .f32⟩
  | .hbm, ⟨86, _⟩ => ⟨S1x32x64, .f32⟩
  | .hbm, ⟨87, _⟩ => ⟨S4x32x64, .f32⟩
  | .hbm, ⟨88, _⟩ => ⟨S4x32x64, .f32⟩
  | .hbm, ⟨89, _⟩ => ⟨S4x32x64, .f32⟩
  | .hbm, ⟨90, _⟩ => ⟨S4x32x64, .f32⟩
  | .hbm, ⟨91, _⟩ => ⟨S1x32x64, .f32⟩
  | .hbm, ⟨92, _⟩ => ⟨S4x32x64, .f32⟩
  | .hbm, ⟨93, _⟩ => ⟨S4x32x64, .f32⟩
  | .hbm, ⟨94, _⟩ => ⟨S1x32x64, .f32⟩
  | .hbm, ⟨95, _⟩ => ⟨S4x32x64, .f32⟩
  | .hbm, ⟨96, _⟩ => ⟨S4x32x64, .f32⟩
  | .hbm, ⟨97, _⟩ => ⟨S4x32x64, .f32⟩
  | .hbm, ⟨98, _⟩ => ⟨S4x32x64, .f32⟩
  | .hbm, ⟨99, _⟩ => ⟨S1x4x32x64, .f32⟩
  | .hbm, ⟨100, _⟩ => ⟨S_, .i32⟩
  | .hbm, ⟨101, _⟩ => ⟨S_, .i32⟩
  | .hbm, ⟨102, _⟩ => ⟨S_, .i32⟩
  | .hbm, ⟨103, _⟩ => ⟨S8192x4x32x64, .f32⟩
  | .hbm, ⟨104, _⟩ => ⟨S1x4x32x64, .f32⟩
  | .hbm, ⟨105, _⟩ => ⟨S_, .i32⟩
  | .hbm, ⟨106, _⟩ => ⟨S_, .i32⟩
  | .hbm, ⟨107, _⟩ => ⟨S_, .i32⟩
  | .hbm, ⟨108, _⟩ => ⟨S8192x4x32x64, .f32⟩
  | .hbm, ⟨109, _⟩ => ⟨S_, .i32⟩
  | .hbm, ⟨110, _⟩ => ⟨S_, .i32⟩
  | .hbm, ⟨111, _⟩ => ⟨S32x16x8192x4, .f32⟩
  | .hbm, ⟨112, _⟩ => ⟨S4x8192x32x16, .f32⟩
  | .hbm, ⟨113, _⟩ => ⟨S32x16x8192x4, .f32⟩
  | .hbm, ⟨114, _⟩ => ⟨S4x8192x32x16, .f32⟩
  | .hbm, ⟨115, _⟩ => ⟨S4x8192x32x16, .f32⟩
  | .hbm, ⟨116, _⟩ => ⟨S4x8192x512, .f32⟩
  | .hbm, ⟨117, _⟩ => ⟨S4x8192x512, .bf16⟩
  | _, _ => ⟨S4x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst_0 : Ref sig .tc := ⟨.hbm, 55, rfl⟩
abbrev main_v46 : Ref sig .tc := ⟨.hbm, 56, rfl⟩
abbrev main_cst_1 : Ref sig .tc := ⟨.hbm, 57, rfl⟩
abbrev main_v47 : Ref sig .tc := ⟨.hbm, 58, rfl⟩
abbrev main_cst_2 : Ref sig .tc := ⟨.hbm, 59, rfl⟩
abbrev main_v48 : Ref sig .tc := ⟨.hbm, 60, rfl⟩
abbrev main_c : Ref sig .tc := ⟨.hbm, 61, rfl⟩
abbrev main_v49_0 : Ref sig .tc := ⟨.hbm, 62, rfl⟩
abbrev main_v49_1 : Ref sig .tc := ⟨.hbm, 63, rfl⟩
abbrev main_v49_2 : Ref sig .tc := ⟨.hbm, 64, rfl⟩
abbrev main_v49_3 : Ref sig .tc := ⟨.hbm, 65, rfl⟩
abbrev main_v49_4 : Ref sig .tc := ⟨.hbm, 66, rfl⟩
abbrev main_v49_5 : Ref sig .tc := ⟨.hbm, 67, rfl⟩
abbrev main_v49_6 : Ref sig .tc := ⟨.hbm, 68, rfl⟩
abbrev main_v49_7 : Ref sig .tc := ⟨.hbm, 69, rfl⟩
abbrev main_v49_8 : Ref sig .tc := ⟨.hbm, 70, rfl⟩
abbrev main_while0c_c_11 : Ref sig .tc := ⟨.hbm, 71, rfl⟩
abbrev main_while0c_v57 : Ref sig .tc := ⟨.hbm, 72, rfl⟩
abbrev main_while0b_call0_c : Ref sig .tc := ⟨.hbm, 73, rfl⟩
abbrev main_while0b_call0_c_0 : Ref sig .tc := ⟨.hbm, 74, rfl⟩
abbrev main_while0b_call0_c_1 : Ref sig .tc := ⟨.hbm, 75, rfl⟩
abbrev main_while0b_call0_v0 : Ref sig .tc := ⟨.hbm, 76, rfl⟩
abbrev main_while0b_v57 : Ref sig .tc := ⟨.hbm, 77, rfl⟩
abbrev main_while0b_call1_c : Ref sig .tc := ⟨.hbm, 78, rfl⟩
abbrev main_while0b_call1_c_0 : Ref sig .tc := ⟨.hbm, 79, rfl⟩
abbrev main_while0b_call1_c_1 : Ref sig .tc := ⟨.hbm, 80, rfl⟩
abbrev main_while0b_call1_v0 : Ref sig .tc := ⟨.hbm, 81, rfl⟩
abbrev main_while0b_v58 : Ref sig .tc := ⟨.hbm, 82, rfl⟩
abbrev main_while0b_v59 : Ref sig .tc := ⟨.hbm, 83, rfl⟩
abbrev main_while0b_v60 : Ref sig .tc := ⟨.hbm, 84, rfl⟩
abbrev main_while0b_v61 : Ref sig .tc := ⟨.hbm, 85, rfl⟩
abbrev main_while0b_v62 : Ref sig .tc := ⟨.hbm, 86, rfl⟩
abbrev main_while0b_v63 : Ref sig .tc := ⟨.hbm, 87, rfl⟩
abbrev main_while0b_v64 : Ref sig .tc := ⟨.hbm, 88, rfl⟩
abbrev main_while0b_v65 : Ref sig .tc := ⟨.hbm, 89, rfl⟩
abbrev main_while0b_v66 : Ref sig .tc := ⟨.hbm, 90, rfl⟩
abbrev main_while0b_v67 : Ref sig .tc := ⟨.hbm, 91, rfl⟩
abbrev main_while0b_v68 : Ref sig .tc := ⟨.hbm, 92, rfl⟩
abbrev main_while0b_v69 : Ref sig .tc := ⟨.hbm, 93, rfl⟩
abbrev main_while0b_v70 : Ref sig .tc := ⟨.hbm, 94, rfl⟩
abbrev main_while0b_v71 : Ref sig .tc := ⟨.hbm, 95, rfl⟩
abbrev main_while0b_v72 : Ref sig .tc := ⟨.hbm, 96, rfl⟩
abbrev main_while0b_v73 : Ref sig .tc := ⟨.hbm, 97, rfl⟩
abbrev main_while0b_v74 : Ref sig .tc := ⟨.hbm, 98, rfl⟩
abbrev main_while0b_call2_v0 : Ref sig .tc := ⟨.hbm, 99, rfl⟩
abbrev main_while0b_call2_c : Ref sig .tc := ⟨.hbm, 100, rfl⟩
abbrev main_while0b_call2_c_0 : Ref sig .tc := ⟨.hbm, 101, rfl⟩
abbrev main_while0b_call2_c_1 : Ref sig .tc := ⟨.hbm, 102, rfl⟩
abbrev main_while0b_v75 : Ref sig .tc := ⟨.hbm, 103, rfl⟩
abbrev main_while0b_call3_v0 : Ref sig .tc := ⟨.hbm, 104, rfl⟩
abbrev main_while0b_call3_c : Ref sig .tc := ⟨.hbm, 105, rfl⟩
abbrev main_while0b_call3_c_0 : Ref sig .tc := ⟨.hbm, 106, rfl⟩
abbrev main_while0b_call3_c_1 : Ref sig .tc := ⟨.hbm, 107, rfl⟩
abbrev main_while0b_v76 : Ref sig .tc := ⟨.hbm, 108, rfl⟩
abbrev main_while0b_c_11 : Ref sig .tc := ⟨.hbm, 109, rfl⟩
abbrev main_while0b_v77 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩

abbrev nD : Nat := 1
abbrev τ : Topo := Topo.v7x

variable {F : FTy → Type} [FloatOps F]

abbrev main_while0_count : Scf.Loop 32 := ⟨0#32, 8192#32, 1#32⟩
-- ==== Projection.lean ====
abbrev S4x8192x1024 : Shape := ⟨3, ![4, 8192, 1024]⟩
abbrev S1024 : Shape := ⟨1, ![1024]⟩
abbrev S4x3072 : Shape := ⟨2, ![4, 3072]⟩
abbrev S1024x4808 : Shape := ⟨2, ![1024, 4808]⟩
abbrev S1024x1024 : Shape := ⟨2, ![1024, 1024]⟩
abbrev S1024x512 : Shape := ⟨2, ![1024, 512]⟩
abbrev S1024x3584 : Shape := ⟨2, ![1024, 3584]⟩
abbrev S1024x64 : Shape := ⟨2, ![1024, 64]⟩
abbrev S1024x128 : Shape := ⟨2, ![1024, 128]⟩
abbrev S1024x8 : Shape := ⟨2, ![1024, 8]⟩
abbrev S1024x1096 : Shape := ⟨2, ![1024, 1096]⟩
abbrev S1096x1024 : Shape := ⟨2, ![1096, 1024]⟩
abbrev S_ : Shape := ⟨0, ![]⟩
abbrev S1104x1024 : Shape := ⟨2, ![1104, 1024]⟩
abbrev S4x1x3072 : Shape := ⟨3, ![4, 1, 3072]⟩
abbrev S1x1024 : Shape := ⟨2, ![1, 1024]⟩
abbrev S4x8192x3584 : Shape := ⟨3, ![4, 8192, 3584]⟩
abbrev S4x8192x512 : Shape := ⟨3, ![4, 8192, 512]⟩
abbrev S4x8192x64 : Shape := ⟨3, ![4, 8192, 64]⟩
abbrev S4x8192x128 : Shape := ⟨3, ![4, 8192, 128]⟩
abbrev S4x32x64x2048 : Shape := ⟨4, ![4, 32, 64, 2048]⟩
abbrev S4x64x8192 : Shape := ⟨3, ![4, 64, 8192]⟩
abbrev S4x8x8192 : Shape := ⟨3, ![4, 8, 8192]⟩
abbrev S1x256x1024 : Shape := ⟨3, ![1, 256, 1024]⟩
abbrev S1x1x3072 : Shape := ⟨3, ![1, 1, 3072]⟩
abbrev S1x256x3584 : Shape := ⟨3, ![1, 256, 3584]⟩
abbrev S1x256x512 : Shape := ⟨3, ![1, 256, 512]⟩
abbrev S1x256x64 : Shape := ⟨3, ![1, 256, 64]⟩
abbrev S1x256x128 : Shape := ⟨3, ![1, 256, 128]⟩
abbrev S1x1x64x2048 : Shape := ⟨4, ![1, 1, 64, 2048]⟩
abbrev S1x64x256 : Shape := ⟨3, ![1, 64, 256]⟩
abbrev S1x8x256 : Shape := ⟨3, ![1, 8, 256]⟩
abbrev S256x1024 : Shape := ⟨2, ![256, 1024]⟩
abbrev S256 : Shape := ⟨1, ![256]⟩
abbrev S256x1 : Shape := ⟨2, ![256, 1]⟩
abbrev S1x1x1024 : Shape := ⟨3, ![1, 1, 1024]⟩
abbrev S256x3584 : Shape := ⟨2, ![256, 3584]⟩
abbrev S256x512 : Shape := ⟨2, ![256, 512]⟩
abbrev S256x128 : Shape := ⟨2, ![256, 128]⟩
abbrev S256x64 : Shape := ⟨2, ![256, 64]⟩
abbrev S1104x256 : Shape := ⟨2, ![1104, 256]⟩
abbrev S512x256 : Shape := ⟨2, ![512, 256]⟩
abbrev S64x256 : Shape := ⟨2, ![64, 256]⟩
abbrev S64x2048 : Shape := ⟨2, ![64, 2048]⟩
abbrev S8x256 : Shape := ⟨2, ![8, 256]⟩

abbrev nBuf : Space → Nat
  | .hbm => 35
  | .vmem => 24
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x3072, .f32⟩
  | .hbm, ⟨3, _⟩ => ⟨S1024x4808, .f32⟩
  | .hbm, ⟨4, _⟩ => ⟨S1024x1024, .f32⟩
  | .hbm, ⟨5, _⟩ => ⟨S1024x1024, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x3584, .f32⟩
  | .hbm, ⟨10, _⟩ => ⟨S1024x3584, .bf16⟩
  | .hbm, ⟨11, _⟩ => ⟨S1024x64, .f32⟩
  | .hbm, ⟨12, _⟩ => ⟨S1024x64, .f32⟩
  | .hbm, ⟨13, _⟩ => ⟨S1024x128, .f32⟩
  | .hbm, ⟨14, _⟩ => ⟨S1024x128, .bf16⟩
  | .hbm, ⟨15, _⟩ => ⟨S1024x512, .f32⟩
  | .hbm, ⟨16, _⟩ => ⟨S1024x512, .f32⟩
  | .hbm, ⟨17, _⟩ => ⟨S1024x64, .f32⟩
  | .hbm, ⟨18, _⟩ => ⟨S1024x8, .f32⟩
  | .hbm, ⟨19, _⟩ => ⟨S1024x1096, .f32⟩
  | .hbm, ⟨20, _⟩ => ⟨S1096x1024, .f32⟩
  | .hbm, ⟨21, _⟩ => ⟨S_, .i32⟩
  | .hbm, ⟨22, _⟩ => ⟨S_, .f32⟩
  | .hbm, ⟨23, _⟩ => ⟨S1104x1024, .f32⟩
  | .hbm, ⟨24, _⟩ => ⟨S1104x1024, .bf16⟩
  | .hbm, ⟨25, _⟩ => ⟨S4x1x3072, .f32⟩
  | .hbm, ⟨26, _⟩ => ⟨S1x1024, .f32⟩
  | .hbm, ⟨27, _⟩ => ⟨S4x8192x3584, .f32⟩
  | .hbm, ⟨28, _⟩ => ⟨S4x8192x512, .bf16⟩
  | .hbm, ⟨29, _⟩ => ⟨S4x8192x64, .bf16⟩
  | .hbm, ⟨30, _⟩ => ⟨S4x8192x128, .bf16⟩
  | .hbm, ⟨31, _⟩ => ⟨S4x32x64x2048, .bf16⟩
  | .hbm, ⟨32, _⟩ => ⟨S4x32x64x2048, .bf16⟩
  | .hbm, ⟨33, _⟩ => ⟨S4x64x8192, .bf16⟩
  | .hbm, ⟨34, _⟩ => ⟨S4x8x8192, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x3072, .f32⟩
  | .local _ .vmem, ⟨4, _⟩ => ⟨S1x1x3072, .f32⟩
  | .local _ .vmem, ⟨5, _⟩ => ⟨S1024x3584, .bf16⟩
  | .local _ .vmem, ⟨6, _⟩ => ⟨S1024x128, .bf16⟩
  | .local _ .vmem, ⟨7, _⟩ => ⟨S1104x1024, .bf16⟩
  | .local _ .vmem, ⟨8, _⟩ => ⟨S1x256x3584, .f32⟩
  | .local _ .vmem, ⟨9, _⟩ => ⟨S1x256x3584, .f32⟩
  | .local _ .vmem, ⟨10, _⟩ => ⟨S1x256x512, .bf16⟩
  | .local _ .vmem, ⟨11, _⟩ => ⟨S1x256x512, .bf16⟩
  | .local _ .vmem, ⟨12, _⟩ => ⟨S1x256x64, .bf16⟩
  | .local _ .vmem, ⟨13, _⟩ => ⟨S1x256x64, .bf16⟩
  | .local _ .vmem, ⟨14, _⟩ => ⟨S1x256x128, .bf16⟩
  | .local _ .vmem, ⟨15, _⟩ => ⟨S1x256x128, .bf16⟩
  | .local _ .vmem, ⟨16, _⟩ => ⟨S1x1x64x2048, .bf16⟩
  | .local _ .vmem, ⟨17, _⟩ => ⟨S1x1x64x2048, .bf16⟩
  | .local _ .vmem, ⟨18, _⟩ => ⟨S1x1x64x2048, .bf16⟩
  | .local _ .vmem, ⟨19, _⟩ => ⟨S1x1x64x2048, .bf16⟩
  | .local _ .vmem, ⟨20, _⟩ => ⟨S1x64x256, .bf16⟩
  | .local _ .vmem, ⟨21, _⟩ => ⟨S1x64x256, .bf16⟩
  | .local _ .vmem, ⟨22, _⟩ => ⟨S1x8x256, .f32⟩
  | .local _ .vmem, ⟨23, _⟩ => ⟨S1x8x256, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_c : Ref sig .tc := ⟨.hbm, 21, rfl⟩
abbrev main_call0_v0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21_0 : Ref sig .tc := ⟨.hbm, 27, rfl⟩
abbrev main_v21_1 : Ref sig .tc := ⟨.hbm, 28, rfl⟩
abbrev main_v21_2 : Ref sig .tc := ⟨.hbm, 29, rfl⟩
abbrev main_v21_3 : Ref sig .tc := ⟨.hbm, 30, rfl⟩
abbrev main_v21_4 : Ref sig .tc := ⟨.hbm, 31, rfl⟩
abbrev main_v21_5 : Ref sig .tc := ⟨.hbm, 32, rfl⟩
abbrev main_v21_6 : Ref sig .tc := ⟨.hbm, 33, rfl⟩
abbrev main_v21_7 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x3584 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1104x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x3584 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x64x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x64x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x64x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ProjectionReferenceIdeal.lean ====
abbrev S4x8192x1024 : Shape := ⟨3, ![4, 8192, 1024]⟩
abbrev S1024 : Shape := ⟨1, ![1024]⟩
abbrev S4x3072 : Shape := ⟨2, ![4, 3072]⟩
abbrev S1024x4808 : Shape := ⟨2, ![1024, 4808]⟩
abbrev S4x1024 : Shape := ⟨2, ![4, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x1x1024 : Shape := ⟨3, ![4, 1, 1024]⟩
abbrev S4x8192x4808 : Shape := ⟨3, ![4, 8192, 4808]⟩
abbrev S4x8192x512 : Shape := ⟨3, ![4, 8192, 512]⟩
abbrev S4x8192x64 : Shape := ⟨3, ![4, 8192, 64]⟩
abbrev S4x8192x8 : Shape := ⟨3, ![4, 8192, 8]⟩
abbrev S4x8192x3584 : Shape := ⟨3, ![4, 8192, 3584]⟩
abbrev S4x8192x63 : Shape := ⟨3, ![4, 8192, 63]⟩
abbrev S4x8192x128 : Shape := ⟨3, ![4, 8192, 128]⟩
abbrev S4x32x256x8x64 : Shape := ⟨5, ![4, 32, 256, 8, 64]⟩
abbrev S4x32x64x8x256 : Shape := ⟨5, ![4, 32, 64, 8, 256]⟩
abbrev S4x32x64x2048 : Shape := ⟨4, ![4, 32, 64, 2048]⟩
abbrev S4x64x8192 : Shape := ⟨3, ![4, 64, 8192]⟩
abbrev S4x8x8192 : Shape := ⟨3, ![4, 8, 8192]⟩

abbrev nBuf : Space → Nat
  | .hbm => 70
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x3072, .f32⟩
  | .hbm, ⟨3, _⟩ => ⟨S1024x4808, .f32⟩
  | .hbm, ⟨4, _⟩ => ⟨S4x1024, .f32⟩
  | .hbm, ⟨5, _⟩ => ⟨S4x1024, .f32⟩
  | .hbm, ⟨6, _⟩ => ⟨S4x1024, .f32⟩
  | .hbm, ⟨7, _⟩ => ⟨S4x8192x1024, .f32⟩
  | .hbm, ⟨8, _⟩ => ⟨S_, .f32⟩
  | .hbm, ⟨9, _⟩ => ⟨S4x8192, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S4x8192x1, .f32⟩
  | .hbm, ⟨18, _⟩ => ⟨S4x8192x1024, .f32⟩
  | .hbm, ⟨19, _⟩ => ⟨S4x8192x1024, .f32⟩
  | .hbm, ⟨20, _⟩ => ⟨S1x1x1024, .f32⟩
  | .hbm, ⟨21, _⟩ => ⟨S4x8192x1024, .f32⟩
  | .hbm, ⟨22, _⟩ => ⟨S4x8192x1024, .f32⟩
  | .hbm, ⟨23, _⟩ => ⟨S4x1x1024, .f32⟩
  | .hbm, ⟨24, _⟩ => ⟨S_, .f32⟩
  | .hbm, ⟨25, _⟩ => ⟨S4x1x1024, .f32⟩
  | .hbm, ⟨26, _⟩ => ⟨S4x1x1024, .f32⟩
  | .hbm, ⟨27, _⟩ => ⟨S4x8192x1024, .f32⟩
  | .hbm, ⟨28, _⟩ => ⟨S4x8192x1024, .f32⟩
  | .hbm, ⟨29, _⟩ => ⟨S4x1x1024, .f32⟩
  | .hbm, ⟨30, _⟩ => ⟨S4x8192x1024, .f32⟩
  | .hbm, ⟨31, _⟩ => ⟨S4x8192x1024, .f32⟩
  | .hbm, ⟨32, _⟩ => ⟨S4x8192x4808, .f32⟩
  | .hbm, ⟨33, _⟩ => ⟨S4x8192x512, .f32⟩
  | .hbm, ⟨34, _⟩ => ⟨S4x8192x512, .f32⟩
  | .hbm, ⟨35, _⟩ => ⟨S4x8192x512, .f32⟩
  | .hbm, ⟨36, _⟩ => ⟨S4x8192x64, .f32⟩
  | .hbm, ⟨37, _⟩ => ⟨S4x8192x64, .f32⟩
  | .hbm, ⟨38, _⟩ => ⟨S4x8192x512, .f32⟩
  | .hbm, ⟨39, _⟩ => ⟨S4x8192x512, .f32⟩
  | .hbm, ⟨40, _⟩ => ⟨S4x8192x64, .f32⟩
  | .hbm, ⟨41, _⟩ => ⟨S4x8192x8, .f32⟩
  | .hbm, ⟨42, _⟩ => ⟨S4x8192x1024, .f32⟩
  | .hbm, ⟨43, _⟩ => ⟨S4x8192x1024, .f32⟩
  | .hbm, ⟨44, _⟩ => ⟨S4x8192x3584, .f32⟩
  | .hbm, ⟨45, _⟩ => ⟨S_, .f32⟩
  | .hbm, ⟨46, _⟩ => ⟨S4x8192x1, .f32⟩
  | .hbm, ⟨47, _⟩ => ⟨S_, .f32⟩
  | .hbm, ⟨48, _⟩ => ⟨S4x8192x63, .f32⟩
  | .hbm, ⟨49, _⟩ => ⟨S4x8192x128, .f32⟩
  | .hbm, ⟨50, _⟩ => ⟨S4x8192x512, .bf16⟩
  | .hbm, ⟨51, _⟩ => ⟨S4x8192x64, .bf16⟩
  | .hbm, ⟨52, _⟩ => ⟨S4x8192x128, .bf16⟩
  | .hbm, ⟨53, _⟩ => ⟨S4x32x256x8x64, .f32⟩
  | .hbm, ⟨54, _⟩ => ⟨S4x32x64x8x256, .f32⟩
  | .hbm, ⟨55, _⟩ => ⟨S4x32x64x2048, .f32⟩
  | .hbm, ⟨56, _⟩ => ⟨S4x32x64x2048, .bf16⟩
  | .hbm, ⟨57, _⟩ => ⟨S_, .f32⟩
  | .hbm, ⟨58, _⟩ => ⟨S4x8192x512, .f32⟩
  | .hbm, ⟨59, _⟩ => ⟨S4x8192x512, .f32⟩
  | .hbm, ⟨60, _⟩ => ⟨S4x32x256x8x64, .f32⟩
  | .hbm, ⟨61, _⟩ => ⟨S4x32x64x8x256, .f32⟩
  | .hbm, ⟨62, _⟩ => ⟨S4x32x64x2048, .f32⟩
  | .hbm, ⟨63, _⟩ => ⟨S4x32x64x2048, .bf16⟩
  | .hbm, ⟨64, _⟩ => ⟨S4x64x8192, .f32⟩
  | .hbm, ⟨65, _⟩ => ⟨S4x64x8192, .bf16⟩
  | .hbm, ⟨66, _⟩ => ⟨S4x8x8192, .f32⟩
  | .hbm, ⟨67, _⟩ => ⟨S_, .f32⟩
  | .hbm, ⟨68, _⟩ => ⟨S4x8x8192, .f32⟩
  | .hbm, ⟨69, _⟩ => ⟨S4x8x8192, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_3 : Ref sig .tc := ⟨.hbm, 45, rfl⟩
abbrev main_v37 : Ref sig .tc := ⟨.hbm, 46, rfl⟩
abbrev main_cst_4 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_5 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_cst_6 : Ref sig .tc := ⟨.hbm, 67, rfl⟩
abbrev main_v56 : Ref sig .tc := ⟨.hbm, 68, rfl⟩
abbrev main_v57 : Ref sig .tc := ⟨.hbm, 69, rfl⟩

abbrev nD : Nat := 1
abbrev τ : Topo := Topo.v7x

variable {F : FTy → Type} [FloatOps F]
-- ==== Output.lean ====
abbrev S4x8192x1024 : Shape := ⟨3, ![4, 8192, 1024]⟩
abbrev S4x8192x512 : Shape := ⟨3, ![4, 8192, 512]⟩
abbrev S4x8192x3584 : Shape := ⟨3, ![4, 8192, 3584]⟩
abbrev S4x512x8192 : Shape := ⟨3, ![4, 512, 8192]⟩
abbrev S4x3072 : Shape := ⟨2, ![4, 3072]⟩
abbrev S512 : Shape := ⟨1, ![512]⟩
abbrev S512x1024 : Shape := ⟨2, ![512, 1024]⟩
abbrev S1024 : Shape := ⟨1, ![1024]⟩
abbrev S1024x1024 : Shape := ⟨2, ![1024, 1024]⟩
abbrev S4x1x3072 : Shape := ⟨3, ![4, 1, 3072]⟩
abbrev S1x512 : Shape := ⟨2, ![1, 512]⟩
abbrev S1x1024 : Shape := ⟨2, ![1, 1024]⟩
abbrev S1x256x1024 : Shape := ⟨3, ![1, 256, 1024]⟩
abbrev S1x256x512 : Shape := ⟨3, ![1, 256, 512]⟩
abbrev S1x512x256 : Shape := ⟨3, ![1, 512, 256]⟩
abbrev S1x1x3072 : Shape := ⟨3, ![1, 1, 3072]⟩
abbrev S256x512 : Shape := ⟨2, ![256, 512]⟩
abbrev S256x1024 : Shape := ⟨2, ![256, 1024]⟩
abbrev S512x256 : Shape := ⟨2, ![512, 256]⟩
abbrev S1x1x1024 : Shape := ⟨3, ![1, 1, 1024]⟩
abbrev S256 : Shape := ⟨1, ![256]⟩
abbrev S256x1 : Shape := ⟨2, ![256, 1]⟩

abbrev nBuf : Space → Nat
  | .hbm => 21
  | .vmem => 27
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x3584, .f32⟩
  | .hbm, ⟨3, _⟩ => ⟨S4x512x8192, .f32⟩
  | .hbm, ⟨4, _⟩ => ⟨S4x3072, .f32⟩
  | .hbm, ⟨5, _⟩ => ⟨S512, .f32⟩
  | .hbm, ⟨6, _⟩ => ⟨S512x1024, .f32⟩
  | .hbm, ⟨7, _⟩ => ⟨S1024, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S1024, .f32⟩
  | .hbm, ⟨12, _⟩ => ⟨S4x1x3072, .f32⟩
  | .hbm, ⟨13, _⟩ => ⟨S512x1024, .bf16⟩
  | .hbm, ⟨14, _⟩ => ⟨S512x1024, .bf16⟩
  | .hbm, ⟨15, _⟩ => ⟨S512x1024, .bf16⟩
  | .hbm, ⟨16, _⟩ => ⟨S1024x1024, .bf16⟩
  | .hbm, ⟨17, _⟩ => ⟨S1x512, .f32⟩
  | .hbm, ⟨18, _⟩ => ⟨S1x1024, .f32⟩
  | .hbm, ⟨19, _⟩ => ⟨S1x1024, .f32⟩
  | .hbm, ⟨20, _⟩ => ⟨S4x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x512, .bf16⟩
  | .local _ .vmem, ⟨3, _⟩ => ⟨S1x256x512, .bf16⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x512x256, .f32⟩
  | .local _ .vmem, ⟨15, _⟩ => ⟨S1x512x256, .f32⟩
  | .local _ .vmem, ⟨16, _⟩ => ⟨S1x1x3072, .f32⟩
  | .local _ .vmem, ⟨17, _⟩ => ⟨S1x1x3072, .f32⟩
  | .local _ .vmem, ⟨18, _⟩ => ⟨S1x512, .f32⟩
  | .local _ .vmem, ⟨19, _⟩ => ⟨S512x1024, .bf16⟩
  | .local _ .vmem, ⟨20, _⟩ => ⟨S1x1024, .f32⟩
  | .local _ .vmem, ⟨21, _⟩ => ⟨S512x1024, .bf16⟩
  | .local _ .vmem, ⟨22, _⟩ => ⟨S512x1024, .bf16⟩
  | .local _ .vmem, ⟨23, _⟩ => ⟨S1024x1024, .bf16⟩
  | .local _ .vmem, ⟨24, _⟩ => ⟨S1x1024, .f32⟩
  | .local _ .vmem, ⟨25, _⟩ => ⟨S1x256x1024, .f32⟩
  | .local _ .vmem, ⟨26, _⟩ => ⟨S1x256x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg16_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_3 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_4 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x3072 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== OutputReferenceIdeal.lean ====
abbrev S4x8192x1024 : Shape := ⟨3, ![4, 8192, 1024]⟩
abbrev S4x8192x512 : Shape := ⟨3, ![4, 8192, 512]⟩
abbrev S4x8192x3584 : Shape := ⟨3, ![4, 8192, 3584]⟩
abbrev S4x512x8192 : Shape := ⟨3, ![4, 512, 8192]⟩
abbrev S4x3072 : Shape := ⟨2, ![4, 3072]⟩
abbrev S512 : Shape := ⟨1, ![512]⟩
abbrev S512x1024 : Shape := ⟨2, ![512, 1024]⟩
abbrev S1024 : Shape := ⟨1, ![1024]⟩
abbrev S1024x1024 : Shape := ⟨2, ![1024, 1024]⟩
abbrev S4x1024 : Shape := ⟨2, ![4, 1024]⟩
abbrev S1x1x512 : Shape := ⟨3, ![1, 1, 512]⟩
abbrev S_ : Shape := ⟨0, ![]⟩
abbrev S1x1x1024 : Shape := ⟨3, ![1, 1, 1024]⟩
abbrev S4x1x1024 : Shape := ⟨3, ![4, 1, 1024]⟩
abbrev S4x8192 : Shape := ⟨2, ![4, 8192]⟩
abbrev S4x8192x1 : Shape := ⟨3, ![4, 8192, 1]⟩

abbrev nBuf : Space → Nat
  | .hbm => 120
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x3584, .f32⟩
  | .hbm, ⟨3, _⟩ => ⟨S4x512x8192, .f32⟩
  | .hbm, ⟨4, _⟩ => ⟨S4x3072, .f32⟩
  | .hbm, ⟨5, _⟩ => ⟨S512, .f32⟩
  | .hbm, ⟨6, _⟩ => ⟨S512x1024, .f32⟩
  | .hbm, ⟨7, _⟩ => ⟨S1024, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S1024, .f32⟩
  | .hbm, ⟨12, _⟩ => ⟨S4x8192x1024, .f32⟩
  | .hbm, ⟨13, _⟩ => ⟨S4x8192x1024, .f32⟩
  | .hbm, ⟨14, _⟩ => ⟨S4x8192x512, .f32⟩
  | .hbm, ⟨15, _⟩ => ⟨S4x8192x512, .f32⟩
  | .hbm, ⟨16, _⟩ => ⟨S4x8192x512, .f32⟩
  | .hbm, ⟨17, _⟩ => ⟨S4x1024, .f32⟩
  | .hbm, ⟨18, _⟩ => ⟨S4x1024, .f32⟩
  | .hbm, ⟨19, _⟩ => ⟨S4x1024, .f32⟩
  | .hbm, ⟨20, _⟩ => ⟨S4x8192x512, .f32⟩
  | .hbm, ⟨21, _⟩ => ⟨S1x1x512, .f32⟩
  | .hbm, ⟨22, _⟩ => ⟨S4x8192x512, .f32⟩
  | .hbm, ⟨23, _⟩ => ⟨S4x8192x512, .f32⟩
  | .hbm, ⟨24, _⟩ => ⟨S4x8192x512, .f32⟩
  | .hbm, ⟨25, _⟩ => ⟨S4x8192x512, .f32⟩
  | .hbm, ⟨26, _⟩ => ⟨S4x8192x512, .f32⟩
  | .hbm, ⟨27, _⟩ => ⟨S_, .f32⟩
  | .hbm, ⟨28, _⟩ => ⟨S4x8192x512, .f32⟩
  | .hbm, ⟨29, _⟩ => ⟨S4x8192x512, .f32⟩
  | .hbm, ⟨30, _⟩ => ⟨S4x8192x512, .f32⟩
  | .hbm, ⟨31, _⟩ => ⟨S_, .f32⟩
  | .hbm, ⟨32, _⟩ => ⟨S4x8192x512, .f32⟩
  | .hbm, ⟨33, _⟩ => ⟨S4x8192x512, .f32⟩
  | .hbm, ⟨34, _⟩ => ⟨S4x8192x512, .f32⟩
  | .hbm, ⟨35, _⟩ => ⟨S_, .f32⟩
  | .hbm, ⟨36, _⟩ => ⟨S4x8192x512, .f32⟩
  | .hbm, ⟨37, _⟩ => ⟨S4x8192x512, .f32⟩
  | .hbm, ⟨38, _⟩ => ⟨S_, .f32⟩
  | .hbm, ⟨39, _⟩ => ⟨S4x8192x512, .f32⟩
  | .hbm, ⟨40, _⟩ => ⟨S4x8192x512, .f32⟩
  | .hbm, ⟨41, _⟩ => ⟨S4x8192x512, .f32⟩
  | .hbm, ⟨42, _⟩ => ⟨S4x8192x1024, .f32⟩
  | .hbm, ⟨43, _⟩ => ⟨S1x1x1024, .f32⟩
  | .hbm, ⟨44, _⟩ => ⟨S4x8192x1024, .f32⟩
  | .hbm, ⟨45, _⟩ => ⟨S4x8192x1024, .f32⟩
  | .hbm, ⟨46, _⟩ => ⟨S4x8192x512, .f32⟩
  | .hbm, ⟨47, _⟩ => ⟨S4x8192x512, .f32⟩
  | .hbm, ⟨48, _⟩ => ⟨S4x8192x512, .f32⟩
  | .hbm, ⟨49, _⟩ => ⟨S4x8192x512, .f32⟩
  | .hbm, ⟨50, _⟩ => ⟨S_, .f32⟩
  | .hbm, ⟨51, _⟩ => ⟨S4x8192x512, .f32⟩
  | .hbm, ⟨52, _⟩ => ⟨S4x8192x512, .f32⟩
  | .hbm, ⟨53, _⟩ => ⟨S_, .f32⟩
  | .hbm, ⟨54, _⟩ => ⟨S4x8192x512, .f32⟩
  | .hbm, ⟨55, _⟩ => ⟨S4x8192x512, .f32⟩
  | .hbm, ⟨56, _⟩ => ⟨S4x8192x512, .f32⟩
  | .hbm, ⟨57, _⟩ => ⟨S4x8192x512, .f32⟩
  | .hbm, ⟨58, _⟩ => ⟨S4x8192x512, .f32⟩
  | .hbm, ⟨59, _⟩ => ⟨S_, .f32⟩
  | .hbm, ⟨60, _⟩ => ⟨S4x8192x512, .f32⟩
  | .hbm, ⟨61, _⟩ => ⟨S4x8192x512, .f32⟩
  | .hbm, ⟨62, _⟩ => ⟨S_, .f32⟩
  | .hbm, ⟨63, _⟩ => ⟨S4x8192x512, .f32⟩
  | .hbm, ⟨64, _⟩ => ⟨S4x8192x512, .f32⟩
  | .hbm, ⟨65, _⟩ => ⟨S4x8192x512, .f32⟩
  | .hbm, ⟨66, _⟩ => ⟨S4x8192x512, .f32⟩
  | .hbm, ⟨67, _⟩ => ⟨S4x8192x1024, .f32⟩
  | .hbm, ⟨68, _⟩ => ⟨S4x8192x512, .f32⟩
  | .hbm, ⟨69, _⟩ => ⟨S4x8192x512, .f32⟩
  | .hbm, ⟨70, _⟩ => ⟨S4x8192x512, .f32⟩
  | .hbm, ⟨71, _⟩ => ⟨S_, .f32⟩
  | .hbm, ⟨72, _⟩ => ⟨S4x8192x512, .f32⟩
  | .hbm, ⟨73, _⟩ => ⟨S4x8192x512, .f32⟩
  | .hbm, ⟨74, _⟩ => ⟨S_, .f32⟩
  | .hbm, ⟨75, _⟩ => ⟨S4x8192x512, .f32⟩
  | .hbm, ⟨76, _⟩ => ⟨S4x8192x512, .f32⟩
  | .hbm, ⟨77, _⟩ => ⟨S4x8192x512, .f32⟩
  | .hbm, ⟨78, _⟩ => ⟨S4x8192x512, .f32⟩
  | .hbm, ⟨79, _⟩ => ⟨S4x8192x1024, .f32⟩
  | .hbm, ⟨80, _⟩ => ⟨S4x8192x1024, .f32⟩
  | .hbm, ⟨81, _⟩ => ⟨S4x8192x1024, .f32⟩
  | .hbm, ⟨82, _⟩ => ⟨S_, .f32⟩
  | .hbm, ⟨83, _⟩ => ⟨S4x8192x1024, .f32⟩
  | .hbm, ⟨84, _⟩ => ⟨S4x8192x1024, .f32⟩
  | .hbm, ⟨85, _⟩ => ⟨S_, .f32⟩
  | .hbm, ⟨86, _⟩ => ⟨S4x8192x1024, .f32⟩
  | .hbm, ⟨87, _⟩ => ⟨S4x8192x1024, .f32⟩
  | .hbm, ⟨88, _⟩ => ⟨S4x8192x1024, .f32⟩
  | .hbm, ⟨89, _⟩ => ⟨S4x8192x1024, .f32⟩
  | .hbm, ⟨90, _⟩ => ⟨S4x8192x1024, .f32⟩
  | .hbm, ⟨91, _⟩ => ⟨S_, .f32⟩
  | .hbm, ⟨92, _⟩ => ⟨S4x8192x1024, .f32⟩
  | .hbm, ⟨93, _⟩ => ⟨S4x8192x1024, .f32⟩
  | .hbm, ⟨94, _⟩ => ⟨S_, .f32⟩
  | .hbm, ⟨95, _⟩ => ⟨S4x8192x1024, .f32⟩
  | .hbm, ⟨96, _⟩ => ⟨S4x8192x1024, .f32⟩
  | .hbm, ⟨97, _⟩ => ⟨S4x8192x1024, .f32⟩
  | .hbm, ⟨98, _⟩ => ⟨S4x8192x1024, .f32⟩
  | .hbm, ⟨99, _⟩ => ⟨S4x1x1024, .f32⟩
  | .hbm, ⟨100, _⟩ => ⟨S4x8192x1024, .f32⟩
  | .hbm, ⟨101, _⟩ => ⟨S4x8192x1024, .f32⟩
  | .hbm, ⟨102, _⟩ => ⟨S4x8192x1024, .f32⟩
  | .hbm, ⟨103, _⟩ => ⟨S4x8192x1024, .f32⟩
  | .hbm, ⟨104, _⟩ => ⟨S4x8192x1024, .f32⟩
  | .hbm, ⟨105, _⟩ => ⟨S_, .f32⟩
  | .hbm, ⟨106, _⟩ => ⟨S4x8192, .f32⟩
  | .hbm, ⟨107, _⟩ => ⟨S4x8192x1, .f32⟩
  | .hbm, ⟨108, _⟩ => ⟨S_, .f32⟩
  | .hbm, ⟨109, _⟩ => ⟨S4x8192x1, .f32⟩
  | .hbm, ⟨110, _⟩ => ⟨S4x8192x1, .f32⟩
  | .hbm, ⟨111, _⟩ => ⟨S_, .f32⟩
  | .hbm, ⟨112, _⟩ => ⟨S4x8192x1, .f32⟩
  | .hbm, ⟨113, _⟩ => ⟨S4x8192x1, .f32⟩
  | .hbm, ⟨114, _⟩ => ⟨S4x8192x1, .f32⟩
  | .hbm, ⟨115, _⟩ => ⟨S4x8192x1024, .f32⟩
  | .hbm, ⟨116, _⟩ => ⟨S4x8192x1024, .f32⟩
  | .hbm, ⟨117, _⟩ => ⟨S1x1x1024, .f32⟩
  | .hbm, ⟨118, _⟩ => ⟨S4x8192x1024, .f32⟩
  | .hbm, ⟨119, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_3 : Ref sig .tc := ⟨.hbm, 50, rfl⟩
abbrev main_v34 : Ref sig .tc := ⟨.hbm, 51, rfl⟩
abbrev main_v35 : Ref sig .tc := ⟨.hbm, 52, rfl⟩
abbrev main_cst_4 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_call0_v5 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_call1_v0 : Ref sig .tc := ⟨.hbm, 69, rfl⟩
abbrev main_call1_v1 : Ref sig .tc := ⟨.hbm, 70, rfl⟩
abbrev main_call1_cst : Ref sig .tc := ⟨.hbm, 71, rfl⟩
abbrev main_call1_v2 : Ref sig .tc := ⟨.hbm, 72, rfl⟩
abbrev main_call1_v3 : Ref sig .tc := ⟨.hbm, 73, rfl⟩
abbrev main_call1_cst_0 : Ref sig .tc := ⟨.hbm, 74, rfl⟩
abbrev main_call1_v4 : Ref sig .tc := ⟨.hbm, 75, rfl⟩
abbrev main_call1_v5 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_cst_5 : Ref sig .tc := ⟨.hbm, 82, rfl⟩
abbrev main_v48 : Ref sig .tc := ⟨.hbm, 83, rfl⟩
abbrev main_v49 : Ref sig .tc := ⟨.hbm, 84, rfl⟩
abbrev main_cst_6 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_cst_7 : Ref sig .tc := ⟨.hbm, 91, rfl⟩
abbrev main_v55 : Ref sig .tc := ⟨.hbm, 92, rfl⟩
abbrev main_v56 : Ref sig .tc := ⟨.hbm, 93, rfl⟩
abbrev main_cst_8 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_9 : Ref sig .tc := ⟨.hbm, 105, rfl⟩
abbrev main_v67 : Ref sig .tc := ⟨.hbm, 106, rfl⟩
abbrev main_v68 : Ref sig .tc := ⟨.hbm, 107, rfl⟩
abbrev main_cst_10 : Ref sig .tc := ⟨.hbm, 108, rfl⟩
abbrev main_v69 : Ref sig .tc := ⟨.hbm, 109, rfl⟩
abbrev main_v70 : Ref sig .tc := ⟨.hbm, 110, rfl⟩
abbrev main_cst_11 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩

abbrev nD : Nat := 1
abbrev τ : Topo := Topo.v7x

variable {F : FTy → Type} [FloatOps F]
-- ==== First.lean ====
abbrev S4x8192x1024 : Shape := ⟨3, ![4, 8192, 1024]⟩
abbrev S4x8192x512 : Shape := ⟨3, ![4, 8192, 512]⟩
abbrev S4x8192x3584 : Shape := ⟨3, ![4, 8192, 3584]⟩
abbrev S4x512x8192 : Shape := ⟨3, ![4, 512, 8192]⟩
abbrev S4x3072 : Shape := ⟨2, ![4, 3072]⟩
abbrev S512 : Shape := ⟨1, ![512]⟩
abbrev S512x1024 : Shape := ⟨2, ![512, 1024]⟩
abbrev S1024 : Shape := ⟨1, ![1024]⟩
abbrev S1024x1024 : Shape := ⟨2, ![1024, 1024]⟩
abbrev S4x1x3072 : Shape := ⟨3, ![4, 1, 3072]⟩
abbrev S1x512 : Shape := ⟨2, ![1, 512]⟩
abbrev S1x1024 : Shape := ⟨2, ![1, 1024]⟩
abbrev S1x256x1024 : Shape := ⟨3, ![1, 256, 1024]⟩
abbrev S1x256x512 : Shape := ⟨3, ![1, 256, 512]⟩
abbrev S1x512x256 : Shape := ⟨3, ![1, 512, 256]⟩
abbrev S1x1x3072 : Shape := ⟨3, ![1, 1, 3072]⟩
abbrev S256x512 : Shape := ⟨2, ![256, 512]⟩
abbrev S256x1024 : Shape := ⟨2, ![256, 1024]⟩
abbrev S512x256 : Shape := ⟨2, ![512, 256]⟩
abbrev S1x1x1024 : Shape := ⟨3, ![1, 1, 1024]⟩

abbrev nBuf : Space → Nat
  | .hbm => 21
  | .vmem => 27
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x3584, .f32⟩
  | .hbm, ⟨3, _⟩ => ⟨S4x512x8192, .f32⟩
  | .hbm, ⟨4, _⟩ => ⟨S4x3072, .f32⟩
  | .hbm, ⟨5, _⟩ => ⟨S512, .f32⟩
  | .hbm, ⟨6, _⟩ => ⟨S512x1024, .f32⟩
  | .hbm, ⟨7, _⟩ => ⟨S1024, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S1024, .f32⟩
  | .hbm, ⟨12, _⟩ => ⟨S4x1x3072, .f32⟩
  | .hbm, ⟨13, _⟩ => ⟨S512x1024, .bf16⟩
  | .hbm, ⟨14, _⟩ => ⟨S512x1024, .bf16⟩
  | .hbm, ⟨15, _⟩ => ⟨S512x1024, .bf16⟩
  | .hbm, ⟨16, _⟩ => ⟨S1024x1024, .bf16⟩
  | .hbm, ⟨17, _⟩ => ⟨S1x512, .f32⟩
  | .hbm, ⟨18, _⟩ => ⟨S1x1024, .f32⟩
  | .hbm, ⟨19, _⟩ => ⟨S1x1024, .f32⟩
  | .hbm, ⟨20, _⟩ => ⟨S4x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x512, .bf16⟩
  | .local _ .vmem, ⟨3, _⟩ => ⟨S1x256x512, .bf16⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x512x256, .f32⟩
  | .local _ .vmem, ⟨15, _⟩ => ⟨S1x512x256, .f32⟩
  | .local _ .vmem, ⟨16, _⟩ => ⟨S1x1x3072, .f32⟩
  | .local _ .vmem, ⟨17, _⟩ => ⟨S1x1x3072, .f32⟩
  | .local _ .vmem, ⟨18, _⟩ => ⟨S1x512, .f32⟩
  | .local _ .vmem, ⟨19, _⟩ => ⟨S512x1024, .bf16⟩
  | .local _ .vmem, ⟨20, _⟩ => ⟨S1x1024, .f32⟩
  | .local _ .vmem, ⟨21, _⟩ => ⟨S512x1024, .bf16⟩
  | .local _ .vmem, ⟨22, _⟩ => ⟨S512x1024, .bf16⟩
  | .local _ .vmem, ⟨23, _⟩ => ⟨S1024x1024, .bf16⟩
  | .local _ .vmem, ⟨24, _⟩ => ⟨S1x1024, .f32⟩
  | .local _ .vmem, ⟨25, _⟩ => ⟨S1x256x1024, .f32⟩
  | .local _ .vmem, ⟨26, _⟩ => ⟨S1x256x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg16_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_3 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_4 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x3072 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== FirstReferenceIdeal.lean ====
abbrev S4x8192x1024 : Shape := ⟨3, ![4, 8192, 1024]⟩
abbrev S4x8192x512 : Shape := ⟨3, ![4, 8192, 512]⟩
abbrev S4x8192x3584 : Shape := ⟨3, ![4, 8192, 3584]⟩
abbrev S4x512x8192 : Shape := ⟨3, ![4, 512, 8192]⟩
abbrev S4x3072 : Shape := ⟨2, ![4, 3072]⟩
abbrev S512 : Shape := ⟨1, ![512]⟩
abbrev S512x1024 : Shape := ⟨2, ![512, 1024]⟩
abbrev S1024 : Shape := ⟨1, ![1024]⟩
abbrev S1024x1024 : Shape := ⟨2, ![1024, 1024]⟩
abbrev S4x1024 : Shape := ⟨2, ![4, 1024]⟩
abbrev S1x1x512 : Shape := ⟨3, ![1, 1, 512]⟩
abbrev S_ : Shape := ⟨0, ![]⟩
abbrev S1x1x1024 : Shape := ⟨3, ![1, 1, 1024]⟩
abbrev S4x1x1024 : Shape := ⟨3, ![4, 1, 1024]⟩

abbrev nBuf : Space → Nat
  | .hbm => 104
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x3584, .f32⟩
  | .hbm, ⟨3, _⟩ => ⟨S4x512x8192, .f32⟩
  | .hbm, ⟨4, _⟩ => ⟨S4x3072, .f32⟩
  | .hbm, ⟨5, _⟩ => ⟨S512, .f32⟩
  | .hbm, ⟨6, _⟩ => ⟨S512x1024, .f32⟩
  | .hbm, ⟨7, _⟩ => ⟨S1024, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S1024, .f32⟩
  | .hbm, ⟨12, _⟩ => ⟨S4x8192x1024, .f32⟩
  | .hbm, ⟨13, _⟩ => ⟨S4x8192x1024, .f32⟩
  | .hbm, ⟨14, _⟩ => ⟨S4x8192x512, .f32⟩
  | .hbm, ⟨15, _⟩ => ⟨S4x8192x512, .f32⟩
  | .hbm, ⟨16, _⟩ => ⟨S4x8192x512, .f32⟩
  | .hbm, ⟨17, _⟩ => ⟨S4x1024, .f32⟩
  | .hbm, ⟨18, _⟩ => ⟨S4x1024, .f32⟩
  | .hbm, ⟨19, _⟩ => ⟨S4x1024, .f32⟩
  | .hbm, ⟨20, _⟩ => ⟨S4x8192x512, .f32⟩
  | .hbm, ⟨21, _⟩ => ⟨S1x1x512, .f32⟩
  | .hbm, ⟨22, _⟩ => ⟨S4x8192x512, .f32⟩
  | .hbm, ⟨23, _⟩ => ⟨S4x8192x512, .f32⟩
  | .hbm, ⟨24, _⟩ => ⟨S4x8192x512, .f32⟩
  | .hbm, ⟨25, _⟩ => ⟨S4x8192x512, .f32⟩
  | .hbm, ⟨26, _⟩ => ⟨S4x8192x512, .f32⟩
  | .hbm, ⟨27, _⟩ => ⟨S_, .f32⟩
  | .hbm, ⟨28, _⟩ => ⟨S4x8192x512, .f32⟩
  | .hbm, ⟨29, _⟩ => ⟨S4x8192x512, .f32⟩
  | .hbm, ⟨30, _⟩ => ⟨S4x8192x512, .f32⟩
  | .hbm, ⟨31, _⟩ => ⟨S_, .f32⟩
  | .hbm, ⟨32, _⟩ => ⟨S4x8192x512, .f32⟩
  | .hbm, ⟨33, _⟩ => ⟨S4x8192x512, .f32⟩
  | .hbm, ⟨34, _⟩ => ⟨S4x8192x512, .f32⟩
  | .hbm, ⟨35, _⟩ => ⟨S_, .f32⟩
  | .hbm, ⟨36, _⟩ => ⟨S4x8192x512, .f32⟩
  | .hbm, ⟨37, _⟩ => ⟨S4x8192x512, .f32⟩
  | .hbm, ⟨38, _⟩ => ⟨S_, .f32⟩
  | .hbm, ⟨39, _⟩ => ⟨S4x8192x512, .f32⟩
  | .hbm, ⟨40, _⟩ => ⟨S4x8192x512, .f32⟩
  | .hbm, ⟨41, _⟩ => ⟨S4x8192x512, .f32⟩
  | .hbm, ⟨42, _⟩ => ⟨S4x8192x1024, .f32⟩
  | .hbm, ⟨43, _⟩ => ⟨S1x1x1024, .f32⟩
  | .hbm, ⟨44, _⟩ => ⟨S4x8192x1024, .f32⟩
  | .hbm, ⟨45, _⟩ => ⟨S4x8192x1024, .f32⟩
  | .hbm, ⟨46, _⟩ => ⟨S4x8192x512, .f32⟩
  | .hbm, ⟨47, _⟩ => ⟨S4x8192x512, .f32⟩
  | .hbm, ⟨48, _⟩ => ⟨S4x8192x512, .f32⟩
  | .hbm, ⟨49, _⟩ => ⟨S4x8192x512, .f32⟩
  | .hbm, ⟨50, _⟩ => ⟨S_, .f32⟩
  | .hbm, ⟨51, _⟩ => ⟨S4x8192x512, .f32⟩
  | .hbm, ⟨52, _⟩ => ⟨S4x8192x512, .f32⟩
  | .hbm, ⟨53, _⟩ => ⟨S_, .f32⟩
  | .hbm, ⟨54, _⟩ => ⟨S4x8192x512, .f32⟩
  | .hbm, ⟨55, _⟩ => ⟨S4x8192x512, .f32⟩
  | .hbm, ⟨56, _⟩ => ⟨S4x8192x512, .f32⟩
  | .hbm, ⟨57, _⟩ => ⟨S4x8192x512, .f32⟩
  | .hbm, ⟨58, _⟩ => ⟨S4x8192x512, .f32⟩
  | .hbm, ⟨59, _⟩ => ⟨S_, .f32⟩
  | .hbm, ⟨60, _⟩ => ⟨S4x8192x512, .f32⟩
  | .hbm, ⟨61, _⟩ => ⟨S4x8192x512, .f32⟩
  | .hbm, ⟨62, _⟩ => ⟨S_, .f32⟩
  | .hbm, ⟨63, _⟩ => ⟨S4x8192x512, .f32⟩
  | .hbm, ⟨64, _⟩ => ⟨S4x8192x512, .f32⟩
  | .hbm, ⟨65, _⟩ => ⟨S4x8192x512, .f32⟩
  | .hbm, ⟨66, _⟩ => ⟨S4x8192x512, .f32⟩
  | .hbm, ⟨67, _⟩ => ⟨S4x8192x1024, .f32⟩
  | .hbm, ⟨68, _⟩ => ⟨S4x8192x512, .f32⟩
  | .hbm, ⟨69, _⟩ => ⟨S4x8192x512, .f32⟩
  | .hbm, ⟨70, _⟩ => ⟨S4x8192x512, .f32⟩
  | .hbm, ⟨71, _⟩ => ⟨S_, .f32⟩
  | .hbm, ⟨72, _⟩ => ⟨S4x8192x512, .f32⟩
  | .hbm, ⟨73, _⟩ => ⟨S4x8192x512, .f32⟩
  | .hbm, ⟨74, _⟩ => ⟨S_, .f32⟩
  | .hbm, ⟨75, _⟩ => ⟨S4x8192x512, .f32⟩
  | .hbm, ⟨76, _⟩ => ⟨S4x8192x512, .f32⟩
  | .hbm, ⟨77, _⟩ => ⟨S4x8192x512, .f32⟩
  | .hbm, ⟨78, _⟩ => ⟨S4x8192x512, .f32⟩
  | .hbm, ⟨79, _⟩ => ⟨S4x8192x1024, .f32⟩
  | .hbm, ⟨80, _⟩ => ⟨S4x8192x1024, .f32⟩
  | .hbm, ⟨81, _⟩ => ⟨S4x8192x1024, .f32⟩
  | .hbm, ⟨82, _⟩ => ⟨S_, .f32⟩
  | .hbm, ⟨83, _⟩ => ⟨S4x8192x1024, .f32⟩
  | .hbm, ⟨84, _⟩ => ⟨S4x8192x1024, .f32⟩
  | .hbm, ⟨85, _⟩ => ⟨S_, .f32⟩
  | .hbm, ⟨86, _⟩ => ⟨S4x8192x1024, .f32⟩
  | .hbm, ⟨87, _⟩ => ⟨S4x8192x1024, .f32⟩
  | .hbm, ⟨88, _⟩ => ⟨S4x8192x1024, .f32⟩
  | .hbm, ⟨89, _⟩ => ⟨S4x8192x1024, .f32⟩
  | .hbm, ⟨90, _⟩ => ⟨S4x8192x1024, .f32⟩
  | .hbm, ⟨91, _⟩ => ⟨S_, .f32⟩
  | .hbm, ⟨92, _⟩ => ⟨S4x8192x1024, .f32⟩
  | .hbm, ⟨93, _⟩ => ⟨S4x8192x1024, .f32⟩
  | .hbm, ⟨94, _⟩ => ⟨S_, .f32⟩
  | .hbm, ⟨95, _⟩ => ⟨S4x8192x1024, .f32⟩
  | .hbm, ⟨96, _⟩ => ⟨S4x8192x1024, .f32⟩
  | .hbm, ⟨97, _⟩ => ⟨S4x8192x1024, .f32⟩
  | .hbm, ⟨98, _⟩ => ⟨S4x8192x1024, .f32⟩
  | .hbm, ⟨99, _⟩ => ⟨S4x1x1024, .f32⟩
  | .hbm, ⟨100, _⟩ => ⟨S4x8192x1024, .f32⟩
  | .hbm, ⟨101, _⟩ => ⟨S4x8192x1024, .f32⟩
  | .hbm, ⟨102, _⟩ => ⟨S4x8192x1024, .f32⟩
  | .hbm, ⟨103, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_3 : Ref sig .tc := ⟨.hbm, 50, rfl⟩
abbrev main_v34 : Ref sig .tc := ⟨.hbm, 51, rfl⟩
abbrev main_v35 : Ref sig .tc := ⟨.hbm, 52, rfl⟩
abbrev main_cst_4 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_call0_v5 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_call1_v0 : Ref sig .tc := ⟨.hbm, 69, rfl⟩
abbrev main_call1_v1 : Ref sig .tc := ⟨.hbm, 70, rfl⟩
abbrev main_call1_cst : Ref sig .tc := ⟨.hbm, 71, rfl⟩
abbrev main_call1_v2 : Ref sig .tc := ⟨.hbm, 72, rfl⟩
abbrev main_call1_v3 : Ref sig .tc := ⟨.hbm, 73, rfl⟩
abbrev main_call1_cst_0 : Ref sig .tc := ⟨.hbm, 74, rfl⟩
abbrev main_call1_v4 : Ref sig .tc := ⟨.hbm, 75, rfl⟩
abbrev main_call1_v5 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_cst_5 : Ref sig .tc := ⟨.hbm, 82, rfl⟩
abbrev main_v48 : Ref sig .tc := ⟨.hbm, 83, rfl⟩
abbrev main_v49 : Ref sig .tc := ⟨.hbm, 84, rfl⟩
abbrev main_cst_6 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_cst_7 : Ref sig .tc := ⟨.hbm, 91, rfl⟩
abbrev main_v55 : Ref sig .tc := ⟨.hbm, 92, rfl⟩
abbrev main_v56 : Ref sig .tc := ⟨.hbm, 93, rfl⟩
abbrev main_cst_8 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩

abbrev nD : Nat := 1
abbrev τ : Topo := Topo.v7x

variable {F : FTy → Type} [FloatOps F]
-- ==== Modulation.lean ====
abbrev S4x1024 : Shape := ⟨2, ![4, 1024]⟩
abbrev S2x1024x3072 : Shape := ⟨3, ![2, 1024, 3072]⟩
abbrev S2x3072 : Shape := ⟨2, ![2, 3072]⟩
abbrev S2x1x3072 : Shape := ⟨3, ![2, 1, 3072]⟩
abbrev S2x4x3072 : Shape := ⟨3, ![2, 4, 3072]⟩
abbrev S1x1024x1024 : Shape := ⟨3, ![1, 1024, 1024]⟩
abbrev S1x1x1024 : Shape := ⟨3, ![1, 1, 1024]⟩
abbrev S1x4x1024 : Shape := ⟨3, ![1, 4, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S2x1024x3072, .f32⟩
  | .hbm, ⟨2, _⟩ => ⟨S2x3072, .f32⟩
  | .hbm, ⟨3, _⟩ => ⟨S2x1x3072, .f32⟩
  | .hbm, ⟨4, _⟩ => ⟨S2x4x3072, .f32⟩
  | .local _ .vmem, ⟨0, _⟩ => ⟨S4x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x4x1024, .f32⟩
  | .local _ .vmem, ⟨6, _⟩ => ⟨S1x4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModulationReferenceIdeal.lean ====
abbrev S4x1024 : Shape := ⟨2, ![4, 1024]⟩
abbrev S2x1024x3072 : Shape := ⟨3, ![2, 1024, 3072]⟩
abbrev S2x3072 : Shape := ⟨2, ![2, 3072]⟩
abbrev S_ : Shape := ⟨0, ![]⟩
abbrev S1x1024x3072 : Shape := ⟨3, ![1, 1024, 3072]⟩
abbrev S1024x3072 : Shape := ⟨2, ![1024, 3072]⟩
abbrev S4x3072 : Shape := ⟨2, ![4, 3072]⟩
abbrev S1x3072 : Shape := ⟨2, ![1, 3072]⟩
abbrev S3072 : Shape := ⟨1, ![3072]⟩
abbrev S1x4x3072 : Shape := ⟨3, ![1, 4, 3072]⟩
abbrev S2x4x3072 : Shape := ⟨3, ![2, 4, 3072]⟩

abbrev nBuf : Space → Nat
  | .hbm => 40
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S2x1024x3072, .f32⟩
  | .hbm, ⟨2, _⟩ => ⟨S2x3072, .f32⟩
  | .hbm, ⟨3, _⟩ => ⟨S4x1024, .f32⟩
  | .hbm, ⟨4, _⟩ => ⟨S4x1024, .f32⟩
  | .hbm, ⟨5, _⟩ => ⟨S_, .f32⟩
  | .hbm, ⟨6, _⟩ => ⟨S4x1024, .f32⟩
  | .hbm, ⟨7, _⟩ => ⟨S4x1024, .f32⟩
  | .hbm, ⟨8, _⟩ => ⟨S_, .f32⟩
  | .hbm, ⟨9, _⟩ => ⟨S4x1024, .f32⟩
  | .hbm, ⟨10, _⟩ => ⟨S4x1024, .f32⟩
  | .hbm, ⟨11, _⟩ => ⟨S4x1024, .f32⟩
  | .hbm, ⟨12, _⟩ => ⟨S1x1024x3072, .f32⟩
  | .hbm, ⟨13, _⟩ => ⟨S1024x3072, .f32⟩
  | .hbm, ⟨14, _⟩ => ⟨S4x3072, .f32⟩
  | .hbm, ⟨15, _⟩ => ⟨S1x3072, .f32⟩
  | .hbm, ⟨16, _⟩ => ⟨S3072, .f32⟩
  | .hbm, ⟨17, _⟩ => ⟨S1x3072, .f32⟩
  | .hbm, ⟨18, _⟩ => ⟨S4x3072, .f32⟩
  | .hbm, ⟨19, _⟩ => ⟨S4x3072, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S_, .f32⟩
  | .hbm, ⟨26, _⟩ => ⟨S4x1024, .f32⟩
  | .hbm, ⟨27, _⟩ => ⟨S4x1024, .f32⟩
  | .hbm, ⟨28, _⟩ => ⟨S4x1024, .f32⟩
  | .hbm, ⟨29, _⟩ => ⟨S1x1024x3072, .f32⟩
  | .hbm, ⟨30, _⟩ => ⟨S1024x3072, .f32⟩
  | .hbm, ⟨31, _⟩ => ⟨S4x3072, .f32⟩
  | .hbm, ⟨32, _⟩ => ⟨S1x3072, .f32⟩
  | .hbm, ⟨33, _⟩ => ⟨S3072, .f32⟩
  | .hbm, ⟨34, _⟩ => ⟨S1x3072, .f32⟩
  | .hbm, ⟨35, _⟩ => ⟨S4x3072, .f32⟩
  | .hbm, ⟨36, _⟩ => ⟨S4x3072, .f32⟩
  | .hbm, ⟨37, _⟩ => ⟨S1x4x3072, .f32⟩
  | .hbm, ⟨38, _⟩ => ⟨S1x4x3072, .f32⟩
  | .hbm, ⟨39, _⟩ => ⟨S2x4x3072, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== Attention.lean ====
abbrev S4x32x64x2048 : Shape := ⟨4, ![4, 32, 64, 2048]⟩
abbrev S4x8x8192 : Shape := ⟨3, ![4, 8, 8192]⟩
abbrev S4x8192x64 : Shape := ⟨3, ![4, 8192, 64]⟩
abbrev S4x8192x128 : Shape := ⟨3, ![4, 8192, 128]⟩
abbrev S4x64x8192 : Shape := ⟨3, ![4, 64, 8192]⟩
abbrev S_ : Shape := ⟨0, ![]⟩
abbrev S4x16x8192 : Shape := ⟨3, ![4, 16, 8192]⟩
abbrev S4x80x8192 : Shape := ⟨3, ![4, 80, 8192]⟩
abbrev S4x80x32x256 : Shape := ⟨4, ![4, 80, 32, 256]⟩
abbrev S4x32x80x256 : Shape := ⟨4, ![4, 32, 80, 256]⟩
abbrev S4x512x8192 : Shape := ⟨3, ![4, 512, 8192]⟩
abbrev S1x1x64x2048 : Shape := ⟨4, ![1, 1, 64, 2048]⟩
abbrev S1x8x256 : Shape := ⟨3, ![1, 8, 256]⟩
abbrev S1x8192x64 : Shape := ⟨3, ![1, 8192, 64]⟩
abbrev S1x8192x128 : Shape := ⟨3, ![1, 8192, 128]⟩
abbrev S1x32x80x256 : Shape := ⟨4, ![1, 32, 80, 256]⟩
abbrev S1x512x256 : Shape := ⟨3, ![1, 512, 256]⟩
abbrev S8192x256 : Shape := ⟨2, ![8192, 256]⟩
abbrev S1x128 : Shape := ⟨2, ![1, 128]⟩
abbrev S128x2048 : Shape := ⟨2, ![128, 2048]⟩
abbrev S1x2048 : Shape := ⟨2, ![1, 2048]⟩
abbrev S80x2048 : Shape := ⟨2, ![80, 2048]⟩
abbrev S1x256 : Shape := ⟨2, ![1, 256]⟩
abbrev S256x256 : Shape := ⟨2, ![256, 256]⟩
abbrev S1x256x64 : Shape := ⟨3, ![1, 256, 64]⟩
abbrev S256x64 : Shape := ⟨2, ![256, 64]⟩
abbrev S64x2048 : Shape := ⟨2, ![64, 2048]⟩
abbrev S256x2048 : Shape := ⟨2, ![256, 2048]⟩
abbrev S1x1x256 : Shape := ⟨3, ![1, 1, 256]⟩
abbrev S16x256 : Shape := ⟨2, ![16, 256]⟩
abbrev S256 : Shape := ⟨1, ![256]⟩
abbrev S8x256 : Shape := ⟨2, ![8, 256]⟩
abbrev S1 : Shape := ⟨1, ![1]⟩
abbrev S1x1x1 : Shape := ⟨3, ![1, 1, 1]⟩
abbrev S1x1 : Shape := ⟨2, ![1, 1]⟩
abbrev S1x256x128 : Shape := ⟨3, ![1, 256, 128]⟩
abbrev S256x128 : Shape := ⟨2, ![256, 128]⟩
abbrev S256x1 : Shape := ⟨2, ![256, 1]⟩
abbrev S2048 : Shape := ⟨1, ![2048]⟩
abbrev S1x1x80x256 : Shape := ⟨4, ![1, 1, 80, 256]⟩
abbrev S80x256 : Shape := ⟨2, ![80, 256]⟩
abbrev S1x1x2048 : Shape := ⟨3, ![1, 1, 2048]⟩
abbrev S64x256 : Shape := ⟨2, ![64, 256]⟩
abbrev S1x64x256 : Shape := ⟨3, ![1, 64, 256]⟩

abbrev nBuf : Space → Nat
  | .hbm => 12
  | .vmem => 21
  | .smem => 0
  | _ => 0

abbrev bufTy : (tb : Table) → Fin (tcTables nBuf tb) → BufTy
  | .hbm, ⟨0, _⟩ => ⟨S4x32x64x2048, .bf16⟩
  | .hbm, ⟨1, _⟩ => ⟨S4x8x8192, .f32⟩
  | .hbm, ⟨2, _⟩ => ⟨S4x8192x64, .bf16⟩
  | .hbm, ⟨3, _⟩ => ⟨S4x32x64x2048, .bf16⟩
  | .hbm, ⟨4, _⟩ => ⟨S4x8192x128, .bf16⟩
  | .hbm, ⟨5, _⟩ => ⟨S4x64x8192, .bf16⟩
  | .hbm, ⟨6, _⟩ => ⟨S_, .bf16⟩
  | .hbm, ⟨7, _⟩ => ⟨S4x16x8192, .bf16⟩
  | .hbm, ⟨8, _⟩ => ⟨S4x80x8192, .bf16⟩
  | .hbm, ⟨9, _⟩ => ⟨S4x80x32x256, .bf16⟩
  | .hbm, ⟨10, _⟩ => ⟨S4x32x80x256, .bf16⟩
  | .hbm, ⟨11, _⟩ => ⟨S4x512x8192, .f32⟩
  | .local _ .vmem, ⟨0, _⟩ => ⟨S1x1x64x2048, .bf16⟩
  | .local _ .vmem, ⟨1, _⟩ => ⟨S1x1x64x2048, .bf16⟩
  | .local _ .vmem, ⟨2, _⟩ => ⟨S1x8x256, .f32⟩
  | .local _ .vmem, ⟨3, _⟩ => ⟨S1x8x256, .f32⟩
  | .local _ .vmem, ⟨4, _⟩ => ⟨S1x8192x64, .bf16⟩
  | .local _ .vmem, ⟨5, _⟩ => ⟨S1x8192x64, .bf16⟩
  | .local _ .vmem, ⟨6, _⟩ => ⟨S1x1x64x2048, .bf16⟩
  | .local _ .vmem, ⟨7, _⟩ => ⟨S1x1x64x2048, .bf16⟩
  | .local _ .vmem, ⟨8, _⟩ => ⟨S1x8192x128, .bf16⟩
  | .local _ .vmem, ⟨9, _⟩ => ⟨S1x8192x128, .bf16⟩
  | .local _ .vmem, ⟨10, _⟩ => ⟨S1x32x80x256, .bf16⟩
  | .local _ .vmem, ⟨11, _⟩ => ⟨S1x32x80x256, .bf16⟩
  | .local _ .vmem, ⟨12, _⟩ => ⟨S1x512x256, .f32⟩
  | .local _ .vmem, ⟨13, _⟩ => ⟨S1x512x256, .f32⟩
  | .local _ .vmem, ⟨14, _⟩ => ⟨S8192x256, .f32⟩
  | .local _ .vmem, ⟨15, _⟩ => ⟨S8192x256, .i16⟩
  | .local _ .vmem, ⟨16, _⟩ => ⟨S8192x256, .i16⟩
  | .local _ .vmem, ⟨17, _⟩ => ⟨S1x128, .f32⟩
  | .local _ .vmem, ⟨18, _⟩ => ⟨S128x2048, .bf16⟩
  | .local _ .vmem, ⟨19, _⟩ => ⟨S1x2048, .f32⟩
  | .local _ .vmem, ⟨20, _⟩ => ⟨S80x2048, .f32⟩
  | _, _ => ⟨S4x32x64x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [BitOps F]

abbrev grid0 : Pipeline.Grid := ⟨2, ![4, 32], ![false, false]⟩

@[reducible] def k0_t1_loop (i : grid0.Coords) : Scf.Loop 32 :=
  let c0_i32_0 : BitVec 32 := 0#32
  let arg1 : BitVec 32 := BitVec.ofNat 32 (i 1).val
  let c1_i32 : BitVec 32 := 1#32
  let v0 : BitVec 32 := Scalar.addi arg1 c1_i32
  let v6 : BitVec 32 := Scalar.subi v0 c0_i32_0
  let c1_i32_1 : BitVec 32 := 1#32
  let v8 : BitVec 32 := Scalar.divsi v6 c1_i32_1
  let v9 : BitVec 32 := Scalar.muli v8 c1_i32_1
  let v10 : BitVec 32 := Scalar.addi c0_i32_0 v9
  let c1_i32_2 : BitVec 32 := 1#32
  ⟨c0_i32_0, v10, c1_i32_2⟩
def k0_mult1 (i : grid0.Coords) (k0_t1 : Fin (k0_t1_loop i).trips) : BitVec 32 :=
  let c0_i32_0 : BitVec 32 := 0#32
  let c1_i32_2 : BitVec 32 := 1#32
  let arg16 : BitVec 32 := Scf.iv c0_i32_0 c1_i32_2 k0_t1
  let c256_i32_137 : BitVec 32 := 256#32
  let v215 : BitVec 32 := Scalar.muli arg16 c256_i32_137
  v215
def k0_off1 (i : grid0.Coords) (k0_t1 : Fin (k0_t1_loop i).trips) : Fin 3 → Nat :=
  let c0_138 : Index := 0#32
  let c0_i32_0 : BitVec 32 := 0#32
  let c1_i32_2 : BitVec 32 := 1#32
  let arg16 : BitVec 32 := Scf.iv c0_i32_0 c1_i32_2 k0_t1
  let c256_i32_137 : BitVec 32 := 256#32
  let v215 : BitVec 32 := Scalar.muli arg16 c256_i32_137
  let v216 : BitVec 32 := v215
  let v217 : Index := Scalar.indexCast v216
  let c0_139 : Index := 0#32
  ![0, v217.toNat, 0]
def k0_off2 (i : grid0.Coords) (k0_t1 : Fin (k0_t1_loop i).trips) : Fin 2 → Nat :=
  let c0_i32_0 : BitVec 32 := 0#32
  let c1_i32_2 : BitVec 32 := 1#32
  let arg16 : BitVec 32 := Scf.iv c0_i32_0 c1_i32_2 k0_t1
  let c256_i32_137 : BitVec 32 := 256#32
  let v215 : BitVec 32 := Scalar.muli arg16 c256_i32_137
  let v216 : BitVec 32 := v215
  let v292 : Index := Scalar.indexCast v216
  let c0_171 : Index := 0#32
  ![v292.toNat, 0]
@[reducible] def k0_t2_loop (i : grid0.Coords) : Scf.Loop 32 :=
  let c0_i32_0 : BitVec 32 := 0#32
  let arg1 : BitVec 32 := BitVec.ofNat 32 (i 1).val
  let c1_i32 : BitVec 32 := 1#32
  let v0 : BitVec 32 := Scalar.addi arg1 c1_i32
  let v6 : BitVec 32 := Scalar.subi v0 c0_i32_0
  let c1_i32_1 : BitVec 32 := 1#32
  let v8 : BitVec 32 := Scalar.divsi v6 c1_i32_1
  let v9 : BitVec 32 := Scalar.muli v8 c1_i32_1
  let v10 : BitVec 32 := Scalar.addi c0_i32_0 v9
  let v7 : BitVec 32 := Scalar.addi c0_i32_0 v6
  let c1_i32_3 : BitVec 32 := 1#32
  ⟨v10, v7, c1_i32_3⟩
def k0_mult2 (i : grid0.Coords) (k0_t2 : Fin (k0_t2_loop i).trips) : BitVec 32 :=
  let c0_i32_0 : BitVec 32 := 0#32
  let arg1 : BitVec 32 := BitVec.ofNat 32 (i 1).val
  let c1_i32 : BitVec 32 := 1#32
  let v0 : BitVec 32 := Scalar.addi arg1 c1_i32
  let v6 : BitVec 32 := Scalar.subi v0 c0_i32_0
  let c1_i32_1 : BitVec 32 := 1#32
  let v8 : BitVec 32 := Scalar.divsi v6 c1_i32_1
  let v9 : BitVec 32 := Scalar.muli v8 c1_i32_1
  let v10 : BitVec 32 := Scalar.addi c0_i32_0 v9
  let c1_i32_3 : BitVec 32 := 1#32
  let arg16 : BitVec 32 := Scf.iv v10 c1_i32_3 k0_t2
  let c256_i32_137 : BitVec 32 := 256#32
  let v215 : BitVec 32 := Scalar.muli arg16 c256_i32_137
  v215
def k0_off3 (i : grid0.Coords) (k0_t2 : Fin (k0_t2_loop i).trips) : Fin 3 → Nat :=
  let c0_138 : Index := 0#32
  let c0_i32_0 : BitVec 32 := 0#32
  let arg1 : BitVec 32 := BitVec.ofNat 32 (i 1).val
  let c1_i32 : BitVec 32 := 1#32
  let v0 : BitVec 32 := Scalar.addi arg1 c1_i32
  let v6 : BitVec 32 := Scalar.subi v0 c0_i32_0
  let c1_i32_1 : BitVec 32 := 1#32
  let v8 : BitVec 32 := Scalar.divsi v6 c1_i32_1
  let v9 : BitVec 32 := Scalar.muli v8 c1_i32_1
  let v10 : BitVec 32 := Scalar.addi c0_i32_0 v9
  let c1_i32_3 : BitVec 32 := 1#32
  let arg16 : BitVec 32 := Scf.iv v10 c1_i32_3 k0_t2
  let c256_i32_137 : BitVec 32 := 256#32
  let v215 : BitVec 32 := Scalar.muli arg16 c256_i32_137
  let v216 : BitVec 32 := v215
  let v217 : Index := Scalar.indexCast v216
  let c0_139 : Index := 0#32
  ![0, v217.toNat, 0]
def k0_off4 (i : grid0.Coords) (k0_t2 : Fin (k0_t2_loop i).trips) : Fin 2 → Nat :=
  let c0_i32_0 : BitVec 32 := 0#32
  let arg1 : BitVec 32 := BitVec.ofNat 32 (i 1).val
  let c1_i32 : BitVec 32 := 1#32
  let v0 : BitVec 32 := Scalar.addi arg1 c1_i32
  let v6 : BitVec 32 := Scalar.subi v0 c0_i32_0
  let c1_i32_1 : BitVec 32 := 1#32
  let v8 : BitVec 32 := Scalar.divsi v6 c1_i32_1
  let v9 : BitVec 32 := Scalar.muli v8 c1_i32_1
  let v10 : BitVec 32 := Scalar.addi c0_i32_0 v9
  let c1_i32_3 : BitVec 32 := 1#32
  let arg16 : BitVec 32 := Scf.iv v10 c1_i32_3 k0_t2
  let c256_i32_137 : BitVec 32 := 256#32
  let v215 : BitVec 32 := Scalar.muli arg16 c256_i32_137
  let v216 : BitVec 32 := v215
  let v292 : Index := Scalar.indexCast v216
  let c0_171 : Index := 0#32
  ![v292.toNat, 0]
@[reducible] def k0_t3_loop (i : grid0.Coords) : Scf.Loop 32 :=
  let c0_i32_4 : BitVec 32 := 0#32
  let arg1 : BitVec 32 := BitVec.ofNat 32 (i 1).val
  let c1_i32 : BitVec 32 := 1#32
  let v0 : BitVec 32 := Scalar.addi arg1 c1_i32
  let v12 : BitVec 32 := Scalar.subi v0 c0_i32_4
  let c1_i32_5 : BitVec 32 := 1#32
  let v14 : BitVec 32 := Scalar.divsi v12 c1_i32_5
  let v15 : BitVec 32 := Scalar.muli v14 c1_i32_5
  let v16 : BitVec 32 := Scalar.addi c0_i32_4 v15
  let c1_i32_6 : BitVec 32 := 1#32
  ⟨c0_i32_4, v16, c1_i32_6⟩
def k0_mult3 (i : grid0.Coords) (k0_t3 : Fin (k0_t3_loop i).trips) : BitVec 32 :=
  let c0_i32_4 : BitVec 32 := 0#32
  let c1_i32_6 : BitVec 32 := 1#32
  let arg16 : BitVec 32 := Scf.iv c0_i32_4 c1_i32_6 k0_t3
  let c256_i32_137 : BitVec 32 := 256#32
  let v215 : BitVec 32 := Scalar.muli arg16 c256_i32_137
  v215
def k0_off5 (i : grid0.Coords) (k0_t3 : Fin (k0_t3_loop i).trips) : Fin 2 → Nat :=
  let c0_i32_4 : BitVec 32 := 0#32
  let c1_i32_6 : BitVec 32 := 1#32
  let arg16 : BitVec 32 := Scf.iv c0_i32_4 c1_i32_6 k0_t3
  let c256_i32_137 : BitVec 32 := 256#32
  let v215 : BitVec 32 := Scalar.muli arg16 c256_i32_137
  let v216 : BitVec 32 := v215
  let v217 : Index := Scalar.indexCast v216
  let c0_138 : Index := 0#32
  ![v217.toNat, 0]
@[reducible] def k0_t4_loop (i : grid0.Coords) : Scf.Loop 32 :=
  let c0_i32_4 : BitVec 32 := 0#32
  let arg1 : BitVec 32 := BitVec.ofNat 32 (i 1).val
  let c1_i32 : BitVec 32 := 1#32
  let v0 : BitVec 32 := Scalar.addi arg1 c1_i32
  let v12 : BitVec 32 := Scalar.subi v0 c0_i32_4
  let c1_i32_5 : BitVec 32 := 1#32
  let v14 : BitVec 32 := Scalar.divsi v12 c1_i32_5
  let v15 : BitVec 32 := Scalar.muli v14 c1_i32_5
  let v16 : BitVec 32 := Scalar.addi c0_i32_4 v15
  let v13 : BitVec 32 := Scalar.addi c0_i32_4 v12
  let c1_i32_7 : BitVec 32 := 1#32
  ⟨v16, v13, c1_i32_7⟩
def k0_mult4 (i : grid0.Coords) (k0_t4 : Fin (k0_t4_loop i).trips) : BitVec 32 :=
  let c0_i32_4 : BitVec 32 := 0#32
  let arg1 : BitVec 32 := BitVec.ofNat 32 (i 1).val
  let c1_i32 : BitVec 32 := 1#32
  let v0 : BitVec 32 := Scalar.addi arg1 c1_i32
  let v12 : BitVec 32 := Scalar.subi v0 c0_i32_4
  let c1_i32_5 : BitVec 32 := 1#32
  let v14 : BitVec 32 := Scalar.divsi v12 c1_i32_5
  let v15 : BitVec 32 := Scalar.muli v14 c1_i32_5
  let v16 : BitVec 32 := Scalar.addi c0_i32_4 v15
  let c1_i32_7 : BitVec 32 := 1#32
  let arg16 : BitVec 32 := Scf.iv v16 c1_i32_7 k0_t4
  let c256_i32_137 : BitVec 32 := 256#32
  let v215 : BitVec 32 := Scalar.muli arg16 c256_i32_137
  v215
def k0_off6 (i : grid0.Coords) (k0_t4 : Fin (k0_t4_loop i).trips) : Fin 2 → Nat :=
  let c0_i32_4 : BitVec 32 := 0#32
  let arg1 : BitVec 32 := BitVec.ofNat 32 (i 1).val
  let c1_i32 : BitVec 32 := 1#32
  let v0 : BitVec 32 := Scalar.addi arg1 c1_i32
  let v12 : BitVec 32 := Scalar.subi v0 c0_i32_4
  let c1_i32_5 : BitVec 32 := 1#32
  let v14 : BitVec 32 := Scalar.divsi v12 c1_i32_5
  let v15 : BitVec 32 := Scalar.muli v14 c1_i32_5
  let v16 : BitVec 32 := Scalar.addi c0_i32_4 v15
  let c1_i32_7 : BitVec 32 := 1#32
  let arg16 : BitVec 32 := Scf.iv v16 c1_i32_7 k0_t4
  let c256_i32_137 : BitVec 32 := 256#32
  let v215 : BitVec 32 := Scalar.muli arg16 c256_i32_137
  let v216 : BitVec 32 := v215
  let v217 : Index := Scalar.indexCast v216
  let c0_138 : Index := 0#32
  ![v217.toNat, 0]
@[reducible] def k0_t5_loop : Scf.Loop 32 :=
  let c0_i32_11 : BitVec 32 := 0#32
  let c15_i32 : BitVec 32 := 15#32
  let v26 : BitVec 32 := Scalar.addi c0_i32_11 c15_i32
  let c1_i32_12 : BitVec 32 := 1#32
  ⟨c0_i32_11, v26, c1_i32_12⟩
@[reducible] def k0_t6_loop (i : grid0.Coords) : Scf.Loop 32 :=
  let c0_i32_141 : BitVec 32 := 0#32
  let arg1 : BitVec 32 := BitVec.ofNat 32 (i 1).val
  let c1_i32 : BitVec 32 := 1#32
  let v0 : BitVec 32 := Scalar.addi arg1 c1_i32
  let v221 : BitVec 32 := Scalar.subi v0 c0_i32_141
  let c1_i32_142 : BitVec 32 := 1#32
  let v223 : BitVec 32 := Scalar.divsi v221 c1_i32_142
  let v224 : BitVec 32 := Scalar.muli v223 c1_i32_142
  let v225 : BitVec 32 := Scalar.addi c0_i32_141 v224
  let c1_i32_143 : BitVec 32 := 1#32
  ⟨c0_i32_141, v225, c1_i32_143⟩
def k0_mult5 (i : grid0.Coords) (k0_t6 : Fin (k0_t6_loop i).trips) : BitVec 32 :=
  let c0_i32_141 : BitVec 32 := 0#32
  let c1_i32_143 : BitVec 32 := 1#32
  let arg18 : BitVec 32 := Scf.iv c0_i32_141 c1_i32_143 k0_t6
  let c256_i32_147 : BitVec 32 := 256#32
  let v233 : BitVec 32 := Scalar.muli arg18 c256_i32_147
  v233
def k0_off7 (i : grid0.Coords) (k0_t6 : Fin (k0_t6_loop i).trips) : Fin 2 → Nat :=
  let c0_i32_141 : BitVec 32 := 0#32
  let c1_i32_143 : BitVec 32 := 1#32
  let arg18 : BitVec 32 := Scf.iv c0_i32_141 c1_i32_143 k0_t6
  let c256_i32_147 : BitVec 32 := 256#32
  let v233 : BitVec 32 := Scalar.muli arg18 c256_i32_147
  let v234 : BitVec 32 := v233
  let v235 : Index := Scalar.indexCast v234
  let c0_148 : Index := 0#32
  ![v235.toNat, 0]
@[reducible] def k0_t7_loop (i : grid0.Coords) : Scf.Loop 32 :=
  let c0_i32_141 : BitVec 32 := 0#32
  let arg1 : BitVec 32 := BitVec.ofNat 32 (i 1).val
  let c1_i32 : BitVec 32 := 1#32
  let v0 : BitVec 32 := Scalar.addi arg1 c1_i32
  let v221 : BitVec 32 := Scalar.subi v0 c0_i32_141
  let c1_i32_142 : BitVec 32 := 1#32
  let v223 : BitVec 32 := Scalar.divsi v221 c1_i32_142
  let v224 : BitVec 32 := Scalar.muli v223 c1_i32_142
  let v225 : BitVec 32 := Scalar.addi c0_i32_141 v224
  let v222 : BitVec 32 := Scalar.addi c0_i32_141 v221
  let c1_i32_144 : BitVec 32 := 1#32
  ⟨v225, v222, c1_i32_144⟩
def k0_mult6 (i : grid0.Coords) (k0_t7 : Fin (k0_t7_loop i).trips) : BitVec 32 :=
  let c0_i32_141 : BitVec 32 := 0#32
  let arg1 : BitVec 32 := BitVec.ofNat 32 (i 1).val
  let c1_i32 : BitVec 32 := 1#32
  let v0 : BitVec 32 := Scalar.addi arg1 c1_i32
  let v221 : BitVec 32 := Scalar.subi v0 c0_i32_141
  let c1_i32_142 : BitVec 32 := 1#32
  let v223 : BitVec 32 := Scalar.divsi v221 c1_i32_142
  let v224 : BitVec 32 := Scalar.muli v223 c1_i32_142
  let v225 : BitVec 32 := Scalar.addi c0_i32_141 v224
  let c1_i32_144 : BitVec 32 := 1#32
  let arg18 : BitVec 32 := Scf.iv v225 c1_i32_144 k0_t7
  let c256_i32_147 : BitVec 32 := 256#32
  let v233 : BitVec 32 := Scalar.muli arg18 c256_i32_147
  v233
def k0_off8 (i : grid0.Coords) (k0_t7 : Fin (k0_t7_loop i).trips) : Fin 2 → Nat :=
  let c0_i32_141 : BitVec 32 := 0#32
  let arg1 : BitVec 32 := BitVec.ofNat 32 (i 1).val
  let c1_i32 : BitVec 32 := 1#32
  let v0 : BitVec 32 := Scalar.addi arg1 c1_i32
  let v221 : BitVec 32 := Scalar.subi v0 c0_i32_141
  let c1_i32_142 : BitVec 32 := 1#32
  let v223 : BitVec 32 := Scalar.divsi v221 c1_i32_142
  let v224 : BitVec 32 := Scalar.muli v223 c1_i32_142
  let v225 : BitVec 32 := Scalar.addi c0_i32_141 v224
  let c1_i32_144 : BitVec 32 := 1#32
  let arg18 : BitVec 32 := Scf.iv v225 c1_i32_144 k0_t7
  let c256_i32_147 : BitVec 32 := 256#32
  let v233 : BitVec 32 := Scalar.muli arg18 c256_i32_147
  let v234 : BitVec 32 := v233
  let v235 : Index := Scalar.indexCast v234
  let c0_148 : Index := 0#32
  ![v235.toNat, 0]
@[reducible] def k0_t8_loop (i : grid0.Coords) : Scf.Loop 32 :=
  let c0_i32_17 : BitVec 32 := 0#32
  let arg1 : BitVec 32 := BitVec.ofNat 32 (i 1).val
  let c1_i32 : BitVec 32 := 1#32
  let v0 : BitVec 32 := Scalar.addi arg1 c1_i32
  let v30 : BitVec 32 := Scalar.subi v0 c0_i32_17
  let c1_i32_18 : BitVec 32 := 1#32
  let v32 : BitVec 32 := Scalar.divsi v30 c1_i32_18
  let v33 : BitVec 32 := Scalar.muli v32 c1_i32_18
  let v34 : BitVec 32 := Scalar.addi c0_i32_17 v33
  let c1_i32_19 : BitVec 32 := 1#32
  ⟨c0_i32_17, v34, c1_i32_19⟩
def k0_mult7 (i : grid0.Coords) (k0_t8 : Fin (k0_t8_loop i).trips) : BitVec 32 :=
  let c0_i32_17 : BitVec 32 := 0#32
  let c1_i32_19 : BitVec 32 := 1#32
  let arg16 : BitVec 32 := Scf.iv c0_i32_17 c1_i32_19 k0_t8
  let c256_i32_137 : BitVec 32 := 256#32
  let v215 : BitVec 32 := Scalar.muli arg16 c256_i32_137
  v215
def k0_off9 (i : grid0.Coords) (k0_t8 : Fin (k0_t8_loop i).trips) : Fin 2 → Nat :=
  let c0_i32_17 : BitVec 32 := 0#32
  let c1_i32_19 : BitVec 32 := 1#32
  let arg16 : BitVec 32 := Scf.iv c0_i32_17 c1_i32_19 k0_t8
  let c256_i32_137 : BitVec 32 := 256#32
  let v215 : BitVec 32 := Scalar.muli arg16 c256_i32_137
  let v216 : BitVec 32 := v215
  let v217 : Index := Scalar.indexCast v216
  let c0_138 : Index := 0#32
  ![v217.toNat, 0]
@[reducible] def k0_t9_loop (i : grid0.Coords) : Scf.Loop 32 :=
  let c0_i32_17 : BitVec 32 := 0#32
  let arg1 : BitVec 32 := BitVec.ofNat 32 (i 1).val
  let c1_i32 : BitVec 32 := 1#32
  let v0 : BitVec 32 := Scalar.addi arg1 c1_i32
  let v30 : BitVec 32 := Scalar.subi v0 c0_i32_17
  let c1_i32_18 : BitVec 32 := 1#32
  let v32 : BitVec 32 := Scalar.divsi v30 c1_i32_18
  let v33 : BitVec 32 := Scalar.muli v32 c1_i32_18
  let v34 : BitVec 32 := Scalar.addi c0_i32_17 v33
  let v31 : BitVec 32 := Scalar.addi c0_i32_17 v30
  let c1_i32_20 : BitVec 32 := 1#32
  ⟨v34, v31, c1_i32_20⟩
def k0_mult8 (i : grid0.Coords) (k0_t9 : Fin (k0_t9_loop i).trips) : BitVec 32 :=
  let c0_i32_17 : BitVec 32 := 0#32
  let arg1 : BitVec 32 := BitVec.ofNat 32 (i 1).val
  let c1_i32 : BitVec 32 := 1#32
  let v0 : BitVec 32 := Scalar.addi arg1 c1_i32
  let v30 : BitVec 32 := Scalar.subi v0 c0_i32_17
  let c1_i32_18 : BitVec 32 := 1#32
  let v32 : BitVec 32 := Scalar.divsi v30 c1_i32_18
  let v33 : BitVec 32 := Scalar.muli v32 c1_i32_18
  let v34 : BitVec 32 := Scalar.addi c0_i32_17 v33
  let c1_i32_20 : BitVec 32 := 1#32
  let arg16 : BitVec 32 := Scf.iv v34 c1_i32_20 k0_t9
  let c256_i32_137 : BitVec 32 := 256#32
  let v215 : BitVec 32 := Scalar.muli arg16 c256_i32_137
  v215
def k0_off10 (i : grid0.Coords) (k0_t9 : Fin (k0_t9_loop i).trips) : Fin 2 → Nat :=
  let c0_i32_17 : BitVec 32 := 0#32
  let arg1 : BitVec 32 := BitVec.ofNat 32 (i 1).val
  let c1_i32 : BitVec 32 := 1#32
  let v0 : BitVec 32 := Scalar.addi arg1 c1_i32
  let v30 : BitVec 32 := Scalar.subi v0 c0_i32_17
  let c1_i32_18 : BitVec 32 := 1#32
  let v32 : BitVec 32 := Scalar.divsi v30 c1_i32_18
  let v33 : BitVec 32 := Scalar.muli v32 c1_i32_18
  let v34 : BitVec 32 := Scalar.addi c0_i32_17 v33
  let c1_i32_20 : BitVec 32 := 1#32
  let arg16 : BitVec 32 := Scf.iv v34 c1_i32_20 k0_t9
  let c256_i32_137 : BitVec 32 := 256#32
  let v215 : BitVec 32 := Scalar.muli arg16 c256_i32_137
  let v216 : BitVec 32 := v215
  let v217 : Index := Scalar.indexCast v216
  let c0_138 : Index := 0#32
  ![v217.toNat, 0]
@[reducible] def k0_t10_loop (i : grid0.Coords) : Scf.Loop 32 :=
  let c0_i32_23 : BitVec 32 := 0#32
  let arg1 : BitVec 32 := BitVec.ofNat 32 (i 1).val
  let c1_i32 : BitVec 32 := 1#32
  let v0 : BitVec 32 := Scalar.addi arg1 c1_i32
  let v39 : BitVec 32 := Scalar.subi v0 c0_i32_23
  let c1_i32_24 : BitVec 32 := 1#32
  let v41 : BitVec 32 := Scalar.divsi v39 c1_i32_24
  let v42 : BitVec 32 := Scalar.muli v41 c1_i32_24
  let v43 : BitVec 32 := Scalar.addi c0_i32_23 v42
  let c1_i32_25 : BitVec 32 := 1#32
  ⟨c0_i32_23, v43, c1_i32_25⟩
def k0_mult9 (i : grid0.Coords) (k0_t10 : Fin (k0_t10_loop i).trips) : BitVec 32 :=
  let c0_i32_23 : BitVec 32 := 0#32
  let c1_i32_25 : BitVec 32 := 1#32
  let arg16 : BitVec 32 := Scf.iv c0_i32_23 c1_i32_25 k0_t10
  let c256_i32_137 : BitVec 32 := 256#32
  let v215 : BitVec 32 := Scalar.muli arg16 c256_i32_137
  v215
def k0_off11 (i : grid0.Coords) (k0_t10 : Fin (k0_t10_loop i).trips) : Fin 2 → Nat :=
  let c0_i32_23 : BitVec 32 := 0#32
  let c1_i32_25 : BitVec 32 := 1#32
  let arg16 : BitVec 32 := Scf.iv c0_i32_23 c1_i32_25 k0_t10
  let c256_i32_137 : BitVec 32 := 256#32
  let v215 : BitVec 32 := Scalar.muli arg16 c256_i32_137
  let v216 : BitVec 32 := v215
  let v217 : Index := Scalar.indexCast v216
  let c0_138 : Index := 0#32
  ![v217.toNat, 0]
@[reducible] def k0_t11_loop (i : grid0.Coords) : Scf.Loop 32 :=
  let c0_i32_23 : BitVec 32 := 0#32
  let arg1 : BitVec 32 := BitVec.ofNat 32 (i 1).val
  let c1_i32 : BitVec 32 := 1#32
  let v0 : BitVec 32 := Scalar.addi arg1 c1_i32
  let v39 : BitVec 32 := Scalar.subi v0 c0_i32_23
  let c1_i32_24 : BitVec 32 := 1#32
  let v41 : BitVec 32 := Scalar.divsi v39 c1_i32_24
  let v42 : BitVec 32 := Scalar.muli v41 c1_i32_24
  let v43 : BitVec 32 := Scalar.addi c0_i32_23 v42
  let v40 : BitVec 32 := Scalar.addi c0_i32_23 v39
  let c1_i32_26 : BitVec 32 := 1#32
  ⟨v43, v40, c1_i32_26⟩
def k0_mult10 (i : grid0.Coords) (k0_t11 : Fin (k0_t11_loop i).trips) : BitVec 32 :=
  let c0_i32_23 : BitVec 32 := 0#32
  let arg1 : BitVec 32 := BitVec.ofNat 32 (i 1).val
  let c1_i32 : BitVec 32 := 1#32
  let v0 : BitVec 32 := Scalar.addi arg1 c1_i32
  let v39 : BitVec 32 := Scalar.subi v0 c0_i32_23
  let c1_i32_24 : BitVec 32 := 1#32
  let v41 : BitVec 32 := Scalar.divsi v39 c1_i32_24
  let v42 : BitVec 32 := Scalar.muli v41 c1_i32_24
  let v43 : BitVec 32 := Scalar.addi c0_i32_23 v42
  let c1_i32_26 : BitVec 32 := 1#32
  let arg16 : BitVec 32 := Scf.iv v43 c1_i32_26 k0_t11
  let c256_i32_137 : BitVec 32 := 256#32
  let v215 : BitVec 32 := Scalar.muli arg16 c256_i32_137
  v215
def k0_off12 (i : grid0.Coords) (k0_t11 : Fin (k0_t11_loop i).trips) : Fin 2 → Nat :=
  let c0_i32_23 : BitVec 32 := 0#32
  let arg1 : BitVec 32 := BitVec.ofNat 32 (i 1).val
  let c1_i32 : BitVec 32 := 1#32
  let v0 : BitVec 32 := Scalar.addi arg1 c1_i32
  let v39 : BitVec 32 := Scalar.subi v0 c0_i32_23
  let c1_i32_24 : BitVec 32 := 1#32
  let v41 : BitVec 32 := Scalar.divsi v39 c1_i32_24
  let v42 : BitVec 32 := Scalar.muli v41 c1_i32_24
  let v43 : BitVec 32 := Scalar.addi c0_i32_23 v42
  let c1_i32_26 : BitVec 32 := 1#32
  let arg16 : BitVec 32 := Scf.iv v43 c1_i32_26 k0_t11
  let c256_i32_137 : BitVec 32 := 256#32
  let v215 : BitVec 32 := Scalar.muli arg16 c256_i32_137
  let v216 : BitVec 32 := v215
  let v217 : Index := Scalar.indexCast v216
  let c0_138 : Index := 0#32
  ![v217.toNat, 0]
@[reducible] def k0_t12_loop (i : grid0.Coords) : Scf.Loop 32 :=
  let c0_i32_31 : BitVec 32 := 0#32
  let arg1 : BitVec 32 := BitVec.ofNat 32 (i 1).val
  let c1_i32 : BitVec 32 := 1#32
  let v0 : BitVec 32 := Scalar.addi arg1 c1_i32
  let v47 : BitVec 32 := Scalar.subi v0 c0_i32_31
  let c1_i32_32 : BitVec 32 := 1#32
  let v49 : BitVec 32 := Scalar.divsi v47 c1_i32_32
  let v50 : BitVec 32 := Scalar.muli v49 c1_i32_32
  let v51 : BitVec 32 := Scalar.addi c0_i32_31 v50
  let c1_i32_33 : BitVec 32 := 1#32
  ⟨c0_i32_31, v51, c1_i32_33⟩
def k0_mult11 (i : grid0.Coords) (k0_t12 : Fin (k0_t12_loop i).trips) : BitVec 32 :=
  let c0_i32_31 : BitVec 32 := 0#32
  let c1_i32_33 : BitVec 32 := 1#32
  let arg16 : BitVec 32 := Scf.iv c0_i32_31 c1_i32_33 k0_t12
  let c256_i32_137 : BitVec 32 := 256#32
  let v215 : BitVec 32 := Scalar.muli arg16 c256_i32_137
  v215
def k0_off13 (i : grid0.Coords) (k0_t12 : Fin (k0_t12_loop i).trips) : Fin 2 → Nat :=
  let c0_i32_31 : BitVec 32 := 0#32
  let c1_i32_33 : BitVec 32 := 1#32
  let arg16 : BitVec 32 := Scf.iv c0_i32_31 c1_i32_33 k0_t12
  let c256_i32_137 : BitVec 32 := 256#32
  let v215 : BitVec 32 := Scalar.muli arg16 c256_i32_137
  let v216 : BitVec 32 := v215
  let v217 : Index := Scalar.indexCast v216
  let c0_138 : Index := 0#32
  ![v217.toNat, 0]
@[reducible] def k0_t13_loop (i : grid0.Coords) : Scf.Loop 32 :=
  let c0_i32_31 : BitVec 32 := 0#32
  let arg1 : BitVec 32 := BitVec.ofNat 32 (i 1).val
  let c1_i32 : BitVec 32 := 1#32
  let v0 : BitVec 32 := Scalar.addi arg1 c1_i32
  let v47 : BitVec 32 := Scalar.subi v0 c0_i32_31
  let c1_i32_32 : BitVec 32 := 1#32
  let v49 : BitVec 32 := Scalar.divsi v47 c1_i32_32
  let v50 : BitVec 32 := Scalar.muli v49 c1_i32_32
  let v51 : BitVec 32 := Scalar.addi c0_i32_31 v50
  let v48 : BitVec 32 := Scalar.addi c0_i32_31 v47
  let c1_i32_34 : BitVec 32 := 1#32
  ⟨v51, v48, c1_i32_34⟩
def k0_mult12 (i : grid0.Coords) (k0_t13 : Fin (k0_t13_loop i).trips) : BitVec 32 :=
  let c0_i32_31 : BitVec 32 := 0#32
  let arg1 : BitVec 32 := BitVec.ofNat 32 (i 1).val
  let c1_i32 : BitVec 32 := 1#32
  let v0 : BitVec 32 := Scalar.addi arg1 c1_i32
  let v47 : BitVec 32 := Scalar.subi v0 c0_i32_31
  let c1_i32_32 : BitVec 32 := 1#32
  let v49 : BitVec 32 := Scalar.divsi v47 c1_i32_32
  let v50 : BitVec 32 := Scalar.muli v49 c1_i32_32
  let v51 : BitVec 32 := Scalar.addi c0_i32_31 v50
  let c1_i32_34 : BitVec 32 := 1#32
  let arg16 : BitVec 32 := Scf.iv v51 c1_i32_34 k0_t13
  let c256_i32_137 : BitVec 32 := 256#32
  let v215 : BitVec 32 := Scalar.muli arg16 c256_i32_137
  v215
def k0_off14 (i : grid0.Coords) (k0_t13 : Fin (k0_t13_loop i).trips) : Fin 2 → Nat :=
  let c0_i32_31 : BitVec 32 := 0#32
  let arg1 : BitVec 32 := BitVec.ofNat 32 (i 1).val
  let c1_i32 : BitVec 32 := 1#32
  let v0 : BitVec 32 := Scalar.addi arg1 c1_i32
  let v47 : BitVec 32 := Scalar.subi v0 c0_i32_31
  let c1_i32_32 : BitVec 32 := 1#32
  let v49 : BitVec 32 := Scalar.divsi v47 c1_i32_32
  let v50 : BitVec 32 := Scalar.muli v49 c1_i32_32
  let v51 : BitVec 32 := Scalar.addi c0_i32_31 v50
  let c1_i32_34 : BitVec 32 := 1#32
  let arg16 : BitVec 32 := Scf.iv v51 c1_i32_34 k0_t13
  let c256_i32_137 : BitVec 32 := 256#32
  let v215 : BitVec 32 := Scalar.muli arg16 c256_i32_137
  let v216 : BitVec 32 := v215
  let v217 : Index := Scalar.indexCast v216
  let c0_138 : Index := 0#32
  ![v217.toNat, 0]
@[reducible] def k0_t14_loop : Scf.Loop 32 :=
  let c0_i32_38 : BitVec 32 := 0#32
  let c15_i32_39 : BitVec 32 := 15#32
  let v60 : BitVec 32 := Scalar.addi c0_i32_38 c15_i32_39
  let c1_i32_40 : BitVec 32 := 1#32
  ⟨c0_i32_38, v60, c1_i32_40⟩
@[reducible] def k0_t15_loop (i : grid0.Coords) : Scf.Loop 32 :=
  let c0_i32_141 : BitVec 32 := 0#32
  let arg1 : BitVec 32 := BitVec.ofNat 32 (i 1).val
  let c1_i32 : BitVec 32 := 1#32
  let v0 : BitVec 32 := Scalar.addi arg1 c1_i32
  let v221 : BitVec 32 := Scalar.subi v0 c0_i32_141
  let c1_i32_142 : BitVec 32 := 1#32
  let v223 : BitVec 32 := Scalar.divsi v221 c1_i32_142
  let v224 : BitVec 32 := Scalar.muli v223 c1_i32_142
  let v225 : BitVec 32 := Scalar.addi c0_i32_141 v224
  let c1_i32_143 : BitVec 32 := 1#32
  ⟨c0_i32_141, v225, c1_i32_143⟩
def k0_mult13 (i : grid0.Coords) (k0_t15 : Fin (k0_t15_loop i).trips) : BitVec 32 :=
  let c0_i32_141 : BitVec 32 := 0#32
  let c1_i32_143 : BitVec 32 := 1#32
  let arg18 : BitVec 32 := Scf.iv c0_i32_141 c1_i32_143 k0_t15
  let c256_i32_146 : BitVec 32 := 256#32
  let v232 : BitVec 32 := Scalar.muli arg18 c256_i32_146
  v232
def k0_off15 (i : grid0.Coords) (k0_t15 : Fin (k0_t15_loop i).trips) : Fin 2 → Nat :=
  let c0_i32_141 : BitVec 32 := 0#32
  let c1_i32_143 : BitVec 32 := 1#32
  let arg18 : BitVec 32 := Scf.iv c0_i32_141 c1_i32_143 k0_t15
  let c256_i32_146 : BitVec 32 := 256#32
  let v232 : BitVec 32 := Scalar.muli arg18 c256_i32_146
  let v233 : BitVec 32 := v232
  let v234 : Index := Scalar.indexCast v233
  let c0_147 : Index := 0#32
  ![v234.toNat, 0]
@[reducible] def k0_t16_loop (i : grid0.Coords) : Scf.Loop 32 :=
  let c0_i32_141 : BitVec 32 := 0#32
  let arg1 : BitVec 32 := BitVec.ofNat 32 (i 1).val
  let c1_i32 : BitVec 32 := 1#32
  let v0 : BitVec 32 := Scalar.addi arg1 c1_i32
  let v221 : BitVec 32 := Scalar.subi v0 c0_i32_141
  let c1_i32_142 : BitVec 32 := 1#32
  let v223 : BitVec 32 := Scalar.divsi v221 c1_i32_142
  let v224 : BitVec 32 := Scalar.muli v223 c1_i32_142
  let v225 : BitVec 32 := Scalar.addi c0_i32_141 v224
  let v222 : BitVec 32 := Scalar.addi c0_i32_141 v221
  let c1_i32_144 : BitVec 32 := 1#32
  ⟨v225, v222, c1_i32_144⟩
def k0_mult14 (i : grid0.Coords) (k0_t16 : Fin (k0_t16_loop i).trips) : BitVec 32 :=
  let c0_i32_141 : BitVec 32 := 0#32
  let arg1 : BitVec 32 := BitVec.ofNat 32 (i 1).val
  let c1_i32 : BitVec 32 := 1#32
  let v0 : BitVec 32 := Scalar.addi arg1 c1_i32
  let v221 : BitVec 32 := Scalar.subi v0 c0_i32_141
  let c1_i32_142 : BitVec 32 := 1#32
  let v223 : BitVec 32 := Scalar.divsi v221 c1_i32_142
  let v224 : BitVec 32 := Scalar.muli v223 c1_i32_142
  let v225 : BitVec 32 := Scalar.addi c0_i32_141 v224
  let c1_i32_144 : BitVec 32 := 1#32
  let arg18 : BitVec 32 := Scf.iv v225 c1_i32_144 k0_t16
  let c256_i32_146 : BitVec 32 := 256#32
  let v232 : BitVec 32 := Scalar.muli arg18 c256_i32_146
  v232
def k0_off16 (i : grid0.Coords) (k0_t16 : Fin (k0_t16_loop i).trips) : Fin 2 → Nat :=
  let c0_i32_141 : BitVec 32 := 0#32
  let arg1 : BitVec 32 := BitVec.ofNat 32 (i 1).val
  let c1_i32 : BitVec 32 := 1#32
  let v0 : BitVec 32 := Scalar.addi arg1 c1_i32
  let v221 : BitVec 32 := Scalar.subi v0 c0_i32_141
  let c1_i32_142 : BitVec 32 := 1#32
  let v223 : BitVec 32 := Scalar.divsi v221 c1_i32_142
  let v224 : BitVec 32 := Scalar.muli v223 c1_i32_142
  let v225 : BitVec 32 := Scalar.addi c0_i32_141 v224
  let c1_i32_144 : BitVec 32 := 1#32
  let arg18 : BitVec 32 := Scf.iv v225 c1_i32_144 k0_t16
  let c256_i32_146 : BitVec 32 := 256#32
  let v232 : BitVec 32 := Scalar.muli arg18 c256_i32_146
  let v233 : BitVec 32 := v232
  let v234 : Index := Scalar.indexCast v233
  let c0_147 : Index := 0#32
  ![v234.toNat, 0]
@[reducible] def k0_t17_loop (i : grid0.Coords) : Scf.Loop 32 :=
  let c0_i32_43 : BitVec 32 := 0#32
  let arg1 : BitVec 32 := BitVec.ofNat 32 (i 1).val
  let c1_i32 : BitVec 32 := 1#32
  let v0 : BitVec 32 := Scalar.addi arg1 c1_i32
  let v74 : BitVec 32 := Scalar.subi v0 c0_i32_43
  let c1_i32_44 : BitVec 32 := 1#32
  let v76 : BitVec 32 := Scalar.divsi v74 c1_i32_44
  let v77 : BitVec 32 := Scalar.muli v76 c1_i32_44
  let v78 : BitVec 32 := Scalar.addi c0_i32_43 v77
  let c1_i32_45 : BitVec 32 := 1#32
  ⟨c0_i32_43, v78, c1_i32_45⟩
def k0_mult15 (i : grid0.Coords) (k0_t17 : Fin (k0_t17_loop i).trips) : BitVec 32 :=
  let c0_i32_43 : BitVec 32 := 0#32
  let c1_i32_45 : BitVec 32 := 1#32
  let arg16 : BitVec 32 := Scf.iv c0_i32_43 c1_i32_45 k0_t17
  let c256_i32_137 : BitVec 32 := 256#32
  let v215 : BitVec 32 := Scalar.muli arg16 c256_i32_137
  v215
def k0_off17 (i : grid0.Coords) (k0_t17 : Fin (k0_t17_loop i).trips) : Fin 2 → Nat :=
  let c0_i32_43 : BitVec 32 := 0#32
  let c1_i32_45 : BitVec 32 := 1#32
  let arg16 : BitVec 32 := Scf.iv c0_i32_43 c1_i32_45 k0_t17
  let c256_i32_137 : BitVec 32 := 256#32
  let v215 : BitVec 32 := Scalar.muli arg16 c256_i32_137
  let v216 : BitVec 32 := v215
  let v217 : Index := Scalar.indexCast v216
  let c0_138 : Index := 0#32
  ![v217.toNat, 0]
@[reducible] def k0_t18_loop (i : grid0.Coords) : Scf.Loop 32 :=
  let c0_i32_43 : BitVec 32 := 0#32
  let arg1 : BitVec 32 := BitVec.ofNat 32 (i 1).val
  let c1_i32 : BitVec 32 := 1#32
  let v0 : BitVec 32 := Scalar.addi arg1 c1_i32
  let v74 : BitVec 32 := Scalar.subi v0 c0_i32_43
  let c1_i32_44 : BitVec 32 := 1#32
  let v76 : BitVec 32 := Scalar.divsi v74 c1_i32_44
  let v77 : BitVec 32 := Scalar.muli v76 c1_i32_44
  let v78 : BitVec 32 := Scalar.addi c0_i32_43 v77
  let v75 : BitVec 32 := Scalar.addi c0_i32_43 v74
  let c1_i32_46 : BitVec 32 := 1#32
  ⟨v78, v75, c1_i32_46⟩
def k0_mult16 (i : grid0.Coords) (k0_t18 : Fin (k0_t18_loop i).trips) : BitVec 32 :=
  let c0_i32_43 : BitVec 32 := 0#32
  let arg1 : BitVec 32 := BitVec.ofNat 32 (i 1).val
  let c1_i32 : BitVec 32 := 1#32
  let v0 : BitVec 32 := Scalar.addi arg1 c1_i32
  let v74 : BitVec 32 := Scalar.subi v0 c0_i32_43
  let c1_i32_44 : BitVec 32 := 1#32
  let v76 : BitVec 32 := Scalar.divsi v74 c1_i32_44
  let v77 : BitVec 32 := Scalar.muli v76 c1_i32_44
  let v78 : BitVec 32 := Scalar.addi c0_i32_43 v77
  let c1_i32_46 : BitVec 32 := 1#32
  let arg16 : BitVec 32 := Scf.iv v78 c1_i32_46 k0_t18
  let c256_i32_137 : BitVec 32 := 256#32
  let v215 : BitVec 32 := Scalar.muli arg16 c256_i32_137
  v215
def k0_off18 (i : grid0.Coords) (k0_t18 : Fin (k0_t18_loop i).trips) : Fin 2 → Nat :=
  let c0_i32_43 : BitVec 32 := 0#32
  let arg1 : BitVec 32 := BitVec.ofNat 32 (i 1).val
  let c1_i32 : BitVec 32 := 1#32
  let v0 : BitVec 32 := Scalar.addi arg1 c1_i32
  let v74 : BitVec 32 := Scalar.subi v0 c0_i32_43
  let c1_i32_44 : BitVec 32 := 1#32
  let v76 : BitVec 32 := Scalar.divsi v74 c1_i32_44
  let v77 : BitVec 32 := Scalar.muli v76 c1_i32_44
  let v78 : BitVec 32 := Scalar.addi c0_i32_43 v77
  let c1_i32_46 : BitVec 32 := 1#32
  let arg16 : BitVec 32 := Scf.iv v78 c1_i32_46 k0_t18
  let c256_i32_137 : BitVec 32 := 256#32
  let v215 : BitVec 32 := Scalar.muli arg16 c256_i32_137
  let v216 : BitVec 32 := v215
  let v217 : Index := Scalar.indexCast v216
  let c0_138 : Index := 0#32
  ![v217.toNat, 0]
@[reducible] def k0_t19_loop (i : grid0.Coords) : Scf.Loop 32 :=
  let c0_i32_49 : BitVec 32 := 0#32
  let arg1 : BitVec 32 := BitVec.ofNat 32 (i 1).val
  let c1_i32 : BitVec 32 := 1#32
  let v0 : BitVec 32 := Scalar.addi arg1 c1_i32
  let v84 : BitVec 32 := Scalar.subi v0 c0_i32_49
  let c1_i32_50 : BitVec 32 := 1#32
  let v86 : BitVec 32 := Scalar.divsi v84 c1_i32_50
  let v87 : BitVec 32 := Scalar.muli v86 c1_i32_50
  let v88 : BitVec 32 := Scalar.addi c0_i32_49 v87
  let c1_i32_51 : BitVec 32 := 1#32
  ⟨c0_i32_49, v88, c1_i32_51⟩
def k0_mult17 (i : grid0.Coords) (k0_t19 : Fin (k0_t19_loop i).trips) : BitVec 32 :=
  let c0_i32_49 : BitVec 32 := 0#32
  let c1_i32_51 : BitVec 32 := 1#32
  let arg16 : BitVec 32 := Scf.iv c0_i32_49 c1_i32_51 k0_t19
  let c256_i32_137 : BitVec 32 := 256#32
  let v215 : BitVec 32 := Scalar.muli arg16 c256_i32_137
  v215
def k0_off19 (i : grid0.Coords) (k0_t19 : Fin (k0_t19_loop i).trips) : Fin 2 → Nat :=
  let c0_i32_49 : BitVec 32 := 0#32
  let c1_i32_51 : BitVec 32 := 1#32
  let arg16 : BitVec 32 := Scf.iv c0_i32_49 c1_i32_51 k0_t19
  let c256_i32_137 : BitVec 32 := 256#32
  let v215 : BitVec 32 := Scalar.muli arg16 c256_i32_137
  let v216 : BitVec 32 := v215
  let v217 : Index := Scalar.indexCast v216
  let c0_138 : Index := 0#32
  ![v217.toNat, 0]
@[reducible] def k0_t20_loop (i : grid0.Coords) : Scf.Loop 32 :=
  let c0_i32_49 : BitVec 32 := 0#32
  let arg1 : BitVec 32 := BitVec.ofNat 32 (i 1).val
  let c1_i32 : BitVec 32 := 1#32
  let v0 : BitVec 32 := Scalar.addi arg1 c1_i32
  let v84 : BitVec 32 := Scalar.subi v0 c0_i32_49
  let c1_i32_50 : BitVec 32 := 1#32
  let v86 : BitVec 32 := Scalar.divsi v84 c1_i32_50
  let v87 : BitVec 32 := Scalar.muli v86 c1_i32_50
  let v88 : BitVec 32 := Scalar.addi c0_i32_49 v87
  let v85 : BitVec 32 := Scalar.addi c0_i32_49 v84
  let c1_i32_52 : BitVec 32 := 1#32
  ⟨v88, v85, c1_i32_52⟩
def k0_mult18 (i : grid0.Coords) (k0_t20 : Fin (k0_t20_loop i).trips) : BitVec 32 :=
  let c0_i32_49 : BitVec 32 := 0#32
  let arg1 : BitVec 32 := BitVec.ofNat 32 (i 1).val
  let c1_i32 : BitVec 32 := 1#32
  let v0 : BitVec 32 := Scalar.addi arg1 c1_i32
  let v84 : BitVec 32 := Scalar.subi v0 c0_i32_49
  let c1_i32_50 : BitVec 32 := 1#32
  let v86 : BitVec 32 := Scalar.divsi v84 c1_i32_50
  let v87 : BitVec 32 := Scalar.muli v86 c1_i32_50
  let v88 : BitVec 32 := Scalar.addi c0_i32_49 v87
  let c1_i32_52 : BitVec 32 := 1#32
  let arg16 : BitVec 32 := Scf.iv v88 c1_i32_52 k0_t20
  let c256_i32_137 : BitVec 32 := 256#32
  let v215 : BitVec 32 := Scalar.muli arg16 c256_i32_137
  v215
def k0_off20 (i : grid0.Coords) (k0_t20 : Fin (k0_t20_loop i).trips) : Fin 2 → Nat :=
  let c0_i32_49 : BitVec 32 := 0#32
  let arg1 : BitVec 32 := BitVec.ofNat 32 (i 1).val
  let c1_i32 : BitVec 32 := 1#32
  let v0 : BitVec 32 := Scalar.addi arg1 c1_i32
  let v84 : BitVec 32 := Scalar.subi v0 c0_i32_49
  let c1_i32_50 : BitVec 32 := 1#32
  let v86 : BitVec 32 := Scalar.divsi v84 c1_i32_50
  let v87 : BitVec 32 := Scalar.muli v86 c1_i32_50
  let v88 : BitVec 32 := Scalar.addi c0_i32_49 v87
  let c1_i32_52 : BitVec 32 := 1#32
  let arg16 : BitVec 32 := Scf.iv v88 c1_i32_52 k0_t20
  let c256_i32_137 : BitVec 32 := 256#32
  let v215 : BitVec 32 := Scalar.muli arg16 c256_i32_137
  let v216 : BitVec 32 := v215
  let v217 : Index := Scalar.indexCast v216
  let c0_138 : Index := 0#32
  ![v217.toNat, 0]
@[reducible] def k0_t21_loop : Scf.Loop 32 :=
  let c0_i32_138 : BitVec 32 := 0#32
  let c14_i32 : BitVec 32 := 14#32
  let v216 : BitVec 32 := Scalar.addi c0_i32_138 c14_i32
  let c1_i32_139 : BitVec 32 := 1#32
  ⟨c0_i32_138, v216, c1_i32_139⟩
@[reducible] def k0_t22_loop (i : grid0.Coords) : Scf.Loop 32 :=
  let c0_i32_148 : BitVec 32 := 0#32
  let arg1 : BitVec 32 := BitVec.ofNat 32 (i 1).val
  let c1_i32 : BitVec 32 := 1#32
  let v0 : BitVec 32 := Scalar.addi arg1 c1_i32
  let v228 : BitVec 32 := Scalar.subi v0 c0_i32_148
  let c1_i32_149 : BitVec 32 := 1#32
  let v230 : BitVec 32 := Scalar.divsi v228 c1_i32_149
  let v231 : BitVec 32 := Scalar.muli v230 c1_i32_149
  let v232 : BitVec 32 := Scalar.addi c0_i32_148 v231
  let c1_i32_150 : BitVec 32 := 1#32
  ⟨c0_i32_148, v232, c1_i32_150⟩
def k0_mult19 (i : grid0.Coords) (k0_t22 : Fin (k0_t22_loop i).trips) : BitVec 32 :=
  let c0_i32_148 : BitVec 32 := 0#32
  let c1_i32_150 : BitVec 32 := 1#32
  let arg18 : BitVec 32 := Scf.iv c0_i32_148 c1_i32_150 k0_t22
  let c256_i32_153 : BitVec 32 := 256#32
  let v239 : BitVec 32 := Scalar.muli arg18 c256_i32_153
  v239
def k0_off21 (i : grid0.Coords) (k0_t22 : Fin (k0_t22_loop i).trips) : Fin 2 → Nat :=
  let c0_i32_148 : BitVec 32 := 0#32
  let c1_i32_150 : BitVec 32 := 1#32
  let arg18 : BitVec 32 := Scf.iv c0_i32_148 c1_i32_150 k0_t22
  let c256_i32_153 : BitVec 32 := 256#32
  let v239 : BitVec 32 := Scalar.muli arg18 c256_i32_153
  let v240 : BitVec 32 := v239
  let v241 : Index := Scalar.indexCast v240
  let c0_154 : Index := 0#32
  ![v241.toNat, 0]
@[reducible] def k0_t23_loop (i : grid0.Coords) : Scf.Loop 32 :=
  let c0_i32_148 : BitVec 32 := 0#32
  let arg1 : BitVec 32 := BitVec.ofNat 32 (i 1).val
  let c1_i32 : BitVec 32 := 1#32
  let v0 : BitVec 32 := Scalar.addi arg1 c1_i32
  let v228 : BitVec 32 := Scalar.subi v0 c0_i32_148
  let c1_i32_149 : BitVec 32 := 1#32
  let v230 : BitVec 32 := Scalar.divsi v228 c1_i32_149
  let v231 : BitVec 32 := Scalar.muli v230 c1_i32_149
  let v232 : BitVec 32 := Scalar.addi c0_i32_148 v231
  let v229 : BitVec 32 := Scalar.addi c0_i32_148 v228
  let c1_i32_151 : BitVec 32 := 1#32
  ⟨v232, v229, c1_i32_151⟩
def k0_mult20 (i : grid0.Coords) (k0_t23 : Fin (k0_t23_loop i).trips) : BitVec 32 :=
  let c0_i32_148 : BitVec 32 := 0#32
  let arg1 : BitVec 32 := BitVec.ofNat 32 (i 1).val
  let c1_i32 : BitVec 32 := 1#32
  let v0 : BitVec 32 := Scalar.addi arg1 c1_i32
  let v228 : BitVec 32 := Scalar.subi v0 c0_i32_148
  let c1_i32_149 : BitVec 32 := 1#32
  let v230 : BitVec 32 := Scalar.divsi v228 c1_i32_149
  let v231 : BitVec 32 := Scalar.muli v230 c1_i32_149
  let v232 : BitVec 32 := Scalar.addi c0_i32_148 v231
  let c1_i32_151 : BitVec 32 := 1#32
  let arg18 : BitVec 32 := Scf.iv v232 c1_i32_151 k0_t23
  let c256_i32_153 : BitVec 32 := 256#32
  let v239 : BitVec 32 := Scalar.muli arg18 c256_i32_153
  v239
def k0_off22 (i : grid0.Coords) (k0_t23 : Fin (k0_t23_loop i).trips) : Fin 2 → Nat :=
  let c0_i32_148 : BitVec 32 := 0#32
  let arg1 : BitVec 32 := BitVec.ofNat 32 (i 1).val
  let c1_i32 : BitVec 32 := 1#32
  let v0 : BitVec 32 := Scalar.addi arg1 c1_i32
  let v228 : BitVec 32 := Scalar.subi v0 c0_i32_148
  let c1_i32_149 : BitVec 32 := 1#32
  let v230 : BitVec 32 := Scalar.divsi v228 c1_i32_149
  let v231 : BitVec 32 := Scalar.muli v230 c1_i32_149
  let v232 : BitVec 32 := Scalar.addi c0_i32_148 v231
  let c1_i32_151 : BitVec 32 := 1#32
  let arg18 : BitVec 32 := Scf.iv v232 c1_i32_151 k0_t23
  let c256_i32_153 : BitVec 32 := 256#32
  let v239 : BitVec 32 := Scalar.muli arg18 c256_i32_153
  let v240 : BitVec 32 := v239
  let v241 : Index := Scalar.indexCast v240
  let c0_154 : Index := 0#32
  ![v241.toNat, 0]
@[reducible] def k0_t24_loop (i : grid0.Coords) : Scf.Loop 32 :=
  let c0_i32_142 : BitVec 32 := 0#32
  let arg1 : BitVec 32 := BitVec.ofNat 32 (i 1).val
  let c1_i32 : BitVec 32 := 1#32
  let v0 : BitVec 32 := Scalar.addi arg1 c1_i32
  let v218 : BitVec 32 := Scalar.subi v0 c0_i32_142
  let c1_i32_143 : BitVec 32 := 1#32
  let v220 : BitVec 32 := Scalar.divsi v218 c1_i32_143
  let v221 : BitVec 32 := Scalar.muli v220 c1_i32_143
  let v222 : BitVec 32 := Scalar.addi c0_i32_142 v221
  let c1_i32_144 : BitVec 32 := 1#32
  ⟨c0_i32_142, v222, c1_i32_144⟩
def k0_mult21 (i : grid0.Coords) (k0_t24 : Fin (k0_t24_loop i).trips) : BitVec 32 :=
  let c0_i32_142 : BitVec 32 := 0#32
  let c1_i32_144 : BitVec 32 := 1#32
  let arg16 : BitVec 32 := Scf.iv c0_i32_142 c1_i32_144 k0_t24
  let c256_i32_146 : BitVec 32 := 256#32
  let v223 : BitVec 32 := Scalar.muli arg16 c256_i32_146
  v223
def k0_off23 (i : grid0.Coords) (k0_t24 : Fin (k0_t24_loop i).trips) : Fin 2 → Nat :=
  let c0_i32_142 : BitVec 32 := 0#32
  let c1_i32_144 : BitVec 32 := 1#32
  let arg16 : BitVec 32 := Scf.iv c0_i32_142 c1_i32_144 k0_t24
  let c256_i32_146 : BitVec 32 := 256#32
  let v223 : BitVec 32 := Scalar.muli arg16 c256_i32_146
  let v224 : BitVec 32 := v223
  let v225 : Index := Scalar.indexCast v224
  let c0_147 : Index := 0#32
  ![v225.toNat, 0]
@[reducible] def k0_t25_loop (i : grid0.Coords) : Scf.Loop 32 :=
  let c0_i32_142 : BitVec 32 := 0#32
  let arg1 : BitVec 32 := BitVec.ofNat 32 (i 1).val
  let c1_i32 : BitVec 32 := 1#32
  let v0 : BitVec 32 := Scalar.addi arg1 c1_i32
  let v218 : BitVec 32 := Scalar.subi v0 c0_i32_142
  let c1_i32_143 : BitVec 32 := 1#32
  let v220 : BitVec 32 := Scalar.divsi v218 c1_i32_143
  let v221 : BitVec 32 := Scalar.muli v220 c1_i32_143
  let v222 : BitVec 32 := Scalar.addi c0_i32_142 v221
  let v219 : BitVec 32 := Scalar.addi c0_i32_142 v218
  let c1_i32_145 : BitVec 32 := 1#32
  ⟨v222, v219, c1_i32_145⟩
def k0_mult22 (i : grid0.Coords) (k0_t25 : Fin (k0_t25_loop i).trips) : BitVec 32 :=
  let c0_i32_142 : BitVec 32 := 0#32
  let arg1 : BitVec 32 := BitVec.ofNat 32 (i 1).val
  let c1_i32 : BitVec 32 := 1#32
  let v0 : BitVec 32 := Scalar.addi arg1 c1_i32
  let v218 : BitVec 32 := Scalar.subi v0 c0_i32_142
  let c1_i32_143 : BitVec 32 := 1#32
  let v220 : BitVec 32 := Scalar.divsi v218 c1_i32_143
  let v221 : BitVec 32 := Scalar.muli v220 c1_i32_143
  let v222 : BitVec 32 := Scalar.addi c0_i32_142 v221
  let c1_i32_145 : BitVec 32 := 1#32
  let arg16 : BitVec 32 := Scf.iv v222 c1_i32_145 k0_t25
  let c256_i32_146 : BitVec 32 := 256#32
  let v223 : BitVec 32 := Scalar.muli arg16 c256_i32_146
  v223
def k0_off24 (i : grid0.Coords) (k0_t25 : Fin (k0_t25_loop i).trips) : Fin 2 → Nat :=
  let c0_i32_142 : BitVec 32 := 0#32
  let arg1 : BitVec 32 := BitVec.ofNat 32 (i 1).val
  let c1_i32 : BitVec 32 := 1#32
  let v0 : BitVec 32 := Scalar.addi arg1 c1_i32
  let v218 : BitVec 32 := Scalar.subi v0 c0_i32_142
  let c1_i32_143 : BitVec 32 := 1#32
  let v220 : BitVec 32 := Scalar.divsi v218 c1_i32_143
  let v221 : BitVec 32 := Scalar.muli v220 c1_i32_143
  let v222 : BitVec 32 := Scalar.addi c0_i32_142 v221
  let c1_i32_145 : BitVec 32 := 1#32
  let arg16 : BitVec 32 := Scf.iv v222 c1_i32_145 k0_t25
  let c256_i32_146 : BitVec 32 := 256#32
  let v223 : BitVec 32 := Scalar.muli arg16 c256_i32_146
  let v224 : BitVec 32 := v223
  let v225 : Index := Scalar.indexCast v224
  let c0_147 : Index := 0#32
  ![v225.toNat, 0]
def k0_cond2 (i : grid0.Coords) : BitVec 1 :=
  let arg1 : BitVec 32 := BitVec.ofNat 32 (i 1).val
  let c0_i32_58 : BitVec 32 := 0#32
  let v103 : BitVec 1 := Scalar.cmpi .eq arg1 c0_i32_58
  let v104 : BitVec 32 := Scalar.extui v103
  let c0_i32_59 : BitVec 32 := 0#32
  let v105 : BitVec 1 := Scalar.cmpi .ne v104 c0_i32_59
  v105

@[reducible] def k0_t26_loop : Scf.Loop 32 :=
  let c0_i32_138 : BitVec 32 := 0#32
  let c32_i32 : BitVec 32 := 32#32
  let v216 : BitVec 32 := Scalar.addi c0_i32_138 c32_i32
  let c1_i32_139 : BitVec 32 := 1#32
  ⟨c0_i32_138, v216, c1_i32_139⟩
def k0_mult23 (k0_t26 : Fin k0_t26_loop.trips) : BitVec 32 :=
  let c0_i32_138 : BitVec 32 := 0#32
  let c1_i32_139 : BitVec 32 := 1#32
  let arg16 : BitVec 32 := Scf.iv c0_i32_138 c1_i32_139 k0_t26
  let c256_i32_143 : BitVec 32 := 256#32
  let v223 : BitVec 32 := Scalar.muli arg16 c256_i32_143
  v223
def k0_off25 (k0_t26 : Fin k0_t26_loop.trips) : Fin 3 → Nat :=
  let c0_144 : Index := 0#32
  let c0_i32_138 : BitVec 32 := 0#32
  let c1_i32_139 : BitVec 32 := 1#32
  let arg16 : BitVec 32 := Scf.iv c0_i32_138 c1_i32_139 k0_t26
  let c256_i32_143 : BitVec 32 := 256#32
  let v223 : BitVec 32 := Scalar.muli arg16 c256_i32_143
  let v224 : BitVec 32 := v223
  let v225 : Index := Scalar.indexCast v224
  let c0_145 : Index := 0#32
  ![0, v225.toNat, 0]
@[reducible] def k0_t27_loop (i : grid0.Coords) : Scf.Loop 32 :=
  let c0_i32_81 : BitVec 32 := 0#32
  let arg1 : BitVec 32 := BitVec.ofNat 32 (i 1).val
  let c1_i32 : BitVec 32 := 1#32
  let v0 : BitVec 32 := Scalar.addi arg1 c1_i32
  let v140 : BitVec 32 := Scalar.subi v0 c0_i32_81
  let c1_i32_82 : BitVec 32 := 1#32
  let v142 : BitVec 32 := Scalar.divsi v140 c1_i32_82
  let v143 : BitVec 32 := Scalar.muli v142 c1_i32_82
  let v144 : BitVec 32 := Scalar.addi c0_i32_81 v143
  let c1_i32_83 : BitVec 32 := 1#32
  ⟨c0_i32_81, v144, c1_i32_83⟩
def k0_mult24 (i : grid0.Coords) (k0_t27 : Fin (k0_t27_loop i).trips) : BitVec 32 :=
  let c0_i32_81 : BitVec 32 := 0#32
  let c1_i32_83 : BitVec 32 := 1#32
  let arg16 : BitVec 32 := Scf.iv c0_i32_81 c1_i32_83 k0_t27
  let c256_i32_137 : BitVec 32 := 256#32
  let v215 : BitVec 32 := Scalar.muli arg16 c256_i32_137
  v215
def k0_off26 (i : grid0.Coords) (k0_t27 : Fin (k0_t27_loop i).trips) : Fin 2 → Nat :=
  let c0_i32_81 : BitVec 32 := 0#32
  let c1_i32_83 : BitVec 32 := 1#32
  let arg16 : BitVec 32 := Scf.iv c0_i32_81 c1_i32_83 k0_t27
  let c256_i32_137 : BitVec 32 := 256#32
  let v215 : BitVec 32 := Scalar.muli arg16 c256_i32_137
  let v216 : BitVec 32 := v215
  let v217 : Index := Scalar.indexCast v216
  let c0_138 : Index := 0#32
  ![v217.toNat, 0]
def k0_off27 (i : grid0.Coords) (k0_t27 : Fin (k0_t27_loop i).trips) : Fin 3 → Nat :=
  let c0_139 : Index := 0#32
  let c0_i32_81 : BitVec 32 := 0#32
  let c1_i32_83 : BitVec 32 := 1#32
  let arg16 : BitVec 32 := Scf.iv c0_i32_81 c1_i32_83 k0_t27
  let c256_i32_137 : BitVec 32 := 256#32
  let v215 : BitVec 32 := Scalar.muli arg16 c256_i32_137
  let v216 : BitVec 32 := v215
  let v226 : Index := Scalar.indexCast v216
  let c0_140 : Index := 0#32
  ![0, v226.toNat, 0]
def k0_off28 (i : grid0.Coords) (k0_t27 : Fin (k0_t27_loop i).trips) : Fin 4 → Nat :=
  let c0_154 : Index := 0#32
  let c0_i32_81 : BitVec 32 := 0#32
  let c1_i32_83 : BitVec 32 := 1#32
  let arg16 : BitVec 32 := Scf.iv c0_i32_81 c1_i32_83 k0_t27
  let v273 : Index := Scalar.indexCast arg16
  let c0_155 : Index := 0#32
  let c0_156 : Index := 0#32
  ![0, v273.toNat, 0, 0]
@[reducible] def k0_t28_loop (i : grid0.Coords) : Scf.Loop 32 :=
  let c0_i32_81 : BitVec 32 := 0#32
  let arg1 : BitVec 32 := BitVec.ofNat 32 (i 1).val
  let c1_i32 : BitVec 32 := 1#32
  let v0 : BitVec 32 := Scalar.addi arg1 c1_i32
  let v140 : BitVec 32 := Scalar.subi v0 c0_i32_81
  let c1_i32_82 : BitVec 32 := 1#32
  let v142 : BitVec 32 := Scalar.divsi v140 c1_i32_82
  let v143 : BitVec 32 := Scalar.muli v142 c1_i32_82
  let v144 : BitVec 32 := Scalar.addi c0_i32_81 v143
  let v141 : BitVec 32 := Scalar.addi c0_i32_81 v140
  let c1_i32_84 : BitVec 32 := 1#32
  ⟨v144, v141, c1_i32_84⟩
def k0_mult25 (i : grid0.Coords) (k0_t28 : Fin (k0_t28_loop i).trips) : BitVec 32 :=
  let c0_i32_81 : BitVec 32 := 0#32
  let arg1 : BitVec 32 := BitVec.ofNat 32 (i 1).val
  let c1_i32 : BitVec 32 := 1#32
  let v0 : BitVec 32 := Scalar.addi arg1 c1_i32
  let v140 : BitVec 32 := Scalar.subi v0 c0_i32_81
  let c1_i32_82 : BitVec 32 := 1#32
  let v142 : BitVec 32 := Scalar.divsi v140 c1_i32_82
  let v143 : BitVec 32 := Scalar.muli v142 c1_i32_82
  let v144 : BitVec 32 := Scalar.addi c0_i32_81 v143
  let c1_i32_84 : BitVec 32 := 1#32
  let arg16 : BitVec 32 := Scf.iv v144 c1_i32_84 k0_t28
  let c256_i32_137 : BitVec 32 := 256#32
  let v215 : BitVec 32 := Scalar.muli arg16 c256_i32_137
  v215
def k0_off29 (i : grid0.Coords) (k0_t28 : Fin (k0_t28_loop i).trips) : Fin 2 → Nat :=
  let c0_i32_81 : BitVec 32 := 0#32
  let arg1 : BitVec 32 := BitVec.ofNat 32 (i 1).val
  let c1_i32 : BitVec 32 := 1#32
  let v0 : BitVec 32 := Scalar.addi arg1 c1_i32
  let v140 : BitVec 32 := Scalar.subi v0 c0_i32_81
  let c1_i32_82 : BitVec 32 := 1#32
  let v142 : BitVec 32 := Scalar.divsi v140 c1_i32_82
  let v143 : BitVec 32 := Scalar.muli v142 c1_i32_82
  let v144 : BitVec 32 := Scalar.addi c0_i32_81 v143
  let c1_i32_84 : BitVec 32 := 1#32
  let arg16 : BitVec 32 := Scf.iv v144 c1_i32_84 k0_t28
  let c256_i32_137 : BitVec 32 := 256#32
  let v215 : BitVec 32 := Scalar.muli arg16 c256_i32_137
  let v216 : BitVec 32 := v215
  let v217 : Index := Scalar.indexCast v216
  let c0_138 : Index := 0#32
  ![v217.toNat, 0]
def k0_off30 (i : grid0.Coords) (k0_t28 : Fin (k0_t28_loop i).trips) : Fin 3 → Nat :=
  let c0_139 : Index := 0#32
  let c0_i32_81 : BitVec 32 := 0#32
  let arg1 : BitVec 32 := BitVec.ofNat 32 (i 1).val
  let c1_i32 : BitVec 32 := 1#32
  let v0 : BitVec 32 := Scalar.addi arg1 c1_i32
  let v140 : BitVec 32 := Scalar.subi v0 c0_i32_81
  let c1_i32_82 : BitVec 32 := 1#32
  let v142 : BitVec 32 := Scalar.divsi v140 c1_i32_82
  let v143 : BitVec 32 := Scalar.muli v142 c1_i32_82
  let v144 : BitVec 32 := Scalar.addi c0_i32_81 v143
  let c1_i32_84 : BitVec 32 := 1#32
  let arg16 : BitVec 32 := Scf.iv v144 c1_i32_84 k0_t28
  let c256_i32_137 : BitVec 32 := 256#32
  let v215 : BitVec 32 := Scalar.muli arg16 c256_i32_137
  let v216 : BitVec 32 := v215
  let v226 : Index := Scalar.indexCast v216
  let c0_140 : Index := 0#32
  ![0, v226.toNat, 0]
def k0_off31 (i : grid0.Coords) (k0_t28 : Fin (k0_t28_loop i).trips) : Fin 4 → Nat :=
  let c0_154 : Index := 0#32
  let c0_i32_81 : BitVec 32 := 0#32
  let arg1 : BitVec 32 := BitVec.ofNat 32 (i 1).val
  let c1_i32 : BitVec 32 := 1#32
  let v0 : BitVec 32 := Scalar.addi arg1 c1_i32
  let v140 : BitVec 32 := Scalar.subi v0 c0_i32_81
  let c1_i32_82 : BitVec 32 := 1#32
  let v142 : BitVec 32 := Scalar.divsi v140 c1_i32_82
  let v143 : BitVec 32 := Scalar.muli v142 c1_i32_82
  let v144 : BitVec 32 := Scalar.addi c0_i32_81 v143
  let c1_i32_84 : BitVec 32 := 1#32
  let arg16 : BitVec 32 := Scf.iv v144 c1_i32_84 k0_t28
  let v273 : Index := Scalar.indexCast arg16
  let c0_155 : Index := 0#32
  let c0_156 : Index := 0#32
  ![0, v273.toNat, 0, 0]
@[reducible] def k0_t29_loop (i : grid0.Coords) : Scf.Loop 32 :=
  let c0_i32_147 : BitVec 32 := 0#32
  let arg1 : BitVec 32 := BitVec.ofNat 32 (i 1).val
  let c1_i32 : BitVec 32 := 1#32
  let v0 : BitVec 32 := Scalar.addi arg1 c1_i32
  let v227 : BitVec 32 := Scalar.subi v0 c0_i32_147
  let c1_i32_148 : BitVec 32 := 1#32
  let v229 : BitVec 32 := Scalar.divsi v227 c1_i32_148
  let v230 : BitVec 32 := Scalar.muli v229 c1_i32_148
  let v231 : BitVec 32 := Scalar.addi c0_i32_147 v230
  let c1_i32_149 : BitVec 32 := 1#32
  ⟨c0_i32_147, v231, c1_i32_149⟩
def k0_mult26 (i : grid0.Coords) (k0_t29 : Fin (k0_t29_loop i).trips) : BitVec 32 :=
  let c0_i32_147 : BitVec 32 := 0#32
  let c1_i32_149 : BitVec 32 := 1#32
  let arg16 : BitVec 32 := Scf.iv c0_i32_147 c1_i32_149 k0_t29
  let c256_i32_151 : BitVec 32 := 256#32
  let v232 : BitVec 32 := Scalar.muli arg16 c256_i32_151
  v232
def k0_off32 (i : grid0.Coords) (k0_t29 : Fin (k0_t29_loop i).trips) : Fin 2 → Nat :=
  let c0_i32_147 : BitVec 32 := 0#32
  let c1_i32_149 : BitVec 32 := 1#32
  let arg16 : BitVec 32 := Scf.iv c0_i32_147 c1_i32_149 k0_t29
  let c256_i32_151 : BitVec 32 := 256#32
  let v232 : BitVec 32 := Scalar.muli arg16 c256_i32_151
  let v233 : BitVec 32 := v232
  let v234 : Index := Scalar.indexCast v233
  let c0_152 : Index := 0#32
  ![v234.toNat, 0]
def k0_off33 (i : grid0.Coords) (k0_t29 : Fin (k0_t29_loop i).trips) : Fin 3 → Nat :=
  let c0_153 : Index := 0#32
  let c0_i32_147 : BitVec 32 := 0#32
  let c1_i32_149 : BitVec 32 := 1#32
  let arg16 : BitVec 32 := Scf.iv c0_i32_147 c1_i32_149 k0_t29
  let c256_i32_151 : BitVec 32 := 256#32
  let v232 : BitVec 32 := Scalar.muli arg16 c256_i32_151
  let v233 : BitVec 32 := v232
  let v243 : Index := Scalar.indexCast v233
  let c0_154 : Index := 0#32
  ![0, v243.toNat, 0]
def k0_off34 (i : grid0.Coords) (k0_t29 : Fin (k0_t29_loop i).trips) : Fin 4 → Nat :=
  let c0_180 : Index := 0#32
  let c0_i32_147 : BitVec 32 := 0#32
  let c1_i32_149 : BitVec 32 := 1#32
  let arg16 : BitVec 32 := Scf.iv c0_i32_147 c1_i32_149 k0_t29
  let v341 : Index := Scalar.indexCast arg16
  let c0_181 : Index := 0#32
  let c0_182 : Index := 0#32
  ![0, v341.toNat, 0, 0]
@[reducible] def k0_t30_loop (i : grid0.Coords) : Scf.Loop 32 :=
  let c0_i32_147 : BitVec 32 := 0#32
  let arg1 : BitVec 32 := BitVec.ofNat 32 (i 1).val
  let c1_i32 : BitVec 32 := 1#32
  let v0 : BitVec 32 := Scalar.addi arg1 c1_i32
  let v227 : BitVec 32 := Scalar.subi v0 c0_i32_147
  let c1_i32_148 : BitVec 32 := 1#32
  let v229 : BitVec 32 := Scalar.divsi v227 c1_i32_148
  let v230 : BitVec 32 := Scalar.muli v229 c1_i32_148
  let v231 : BitVec 32 := Scalar.addi c0_i32_147 v230
  let v228 : BitVec 32 := Scalar.addi c0_i32_147 v227
  let c1_i32_150 : BitVec 32 := 1#32
  ⟨v231, v228, c1_i32_150⟩
def k0_mult27 (i : grid0.Coords) (k0_t30 : Fin (k0_t30_loop i).trips) : BitVec 32 :=
  let c0_i32_147 : BitVec 32 := 0#32
  let arg1 : BitVec 32 := BitVec.ofNat 32 (i 1).val
  let c1_i32 : BitVec 32 := 1#32
  let v0 : BitVec 32 := Scalar.addi arg1 c1_i32
  let v227 : BitVec 32 := Scalar.subi v0 c0_i32_147
  let c1_i32_148 : BitVec 32 := 1#32
  let v229 : BitVec 32 := Scalar.divsi v227 c1_i32_148
  let v230 : BitVec 32 := Scalar.muli v229 c1_i32_148
  let v231 : BitVec 32 := Scalar.addi c0_i32_147 v230
  let c1_i32_150 : BitVec 32 := 1#32
  let arg16 : BitVec 32 := Scf.iv v231 c1_i32_150 k0_t30
  let c256_i32_151 : BitVec 32 := 256#32
  let v232 : BitVec 32 := Scalar.muli arg16 c256_i32_151
  v232
def k0_off35 (i : grid0.Coords) (k0_t30 : Fin (k0_t30_loop i).trips) : Fin 2 → Nat :=
  let c0_i32_147 : BitVec 32 := 0#32
  let arg1 : BitVec 32 := BitVec.ofNat 32 (i 1).val
  let c1_i32 : BitVec 32 := 1#32
  let v0 : BitVec 32 := Scalar.addi arg1 c1_i32
  let v227 : BitVec 32 := Scalar.subi v0 c0_i32_147
  let c1_i32_148 : BitVec 32 := 1#32
  let v229 : BitVec 32 := Scalar.divsi v227 c1_i32_148
  let v230 : BitVec 32 := Scalar.muli v229 c1_i32_148
  let v231 : BitVec 32 := Scalar.addi c0_i32_147 v230
  let c1_i32_150 : BitVec 32 := 1#32
  let arg16 : BitVec 32 := Scf.iv v231 c1_i32_150 k0_t30
  let c256_i32_151 : BitVec 32 := 256#32
  let v232 : BitVec 32 := Scalar.muli arg16 c256_i32_151
  let v233 : BitVec 32 := v232
  let v234 : Index := Scalar.indexCast v233
  let c0_152 : Index := 0#32
  ![v234.toNat, 0]
def k0_off36 (i : grid0.Coords) (k0_t30 : Fin (k0_t30_loop i).trips) : Fin 3 → Nat :=
  let c0_153 : Index := 0#32
  let c0_i32_147 : BitVec 32 := 0#32
  let arg1 : BitVec 32 := BitVec.ofNat 32 (i 1).val
  let c1_i32 : BitVec 32 := 1#32
  let v0 : BitVec 32 := Scalar.addi arg1 c1_i32
  let v227 : BitVec 32 := Scalar.subi v0 c0_i32_147
  let c1_i32_148 : BitVec 32 := 1#32
  let v229 : BitVec 32 := Scalar.divsi v227 c1_i32_148
  let v230 : BitVec 32 := Scalar.muli v229 c1_i32_148
  let v231 : BitVec 32 := Scalar.addi c0_i32_147 v230
  let c1_i32_150 : BitVec 32 := 1#32
  let arg16 : BitVec 32 := Scf.iv v231 c1_i32_150 k0_t30
  let c256_i32_151 : BitVec 32 := 256#32
  let v232 : BitVec 32 := Scalar.muli arg16 c256_i32_151
  let v233 : BitVec 32 := v232
  let v243 : Index := Scalar.indexCast v233
  let c0_154 : Index := 0#32
  ![0, v243.toNat, 0]
def k0_off37 (i : grid0.Coords) (k0_t30 : Fin (k0_t30_loop i).trips) : Fin 4 → Nat :=
  let c0_180 : Index := 0#32
  let c0_i32_147 : BitVec 32 := 0#32
  let arg1 : BitVec 32 := BitVec.ofNat 32 (i 1).val
  let c1_i32 : BitVec 32 := 1#32
  let v0 : BitVec 32 := Scalar.addi arg1 c1_i32
  let v227 : BitVec 32 := Scalar.subi v0 c0_i32_147
  let c1_i32_148 : BitVec 32 := 1#32
  let v229 : BitVec 32 := Scalar.divsi v227 c1_i32_148
  let v230 : BitVec 32 := Scalar.muli v229 c1_i32_148
  let v231 : BitVec 32 := Scalar.addi c0_i32_147 v230
  let c1_i32_150 : BitVec 32 := 1#32
  let arg16 : BitVec 32 := Scf.iv v231 c1_i32_150 k0_t30
  let v341 : Index := Scalar.indexCast arg16
  let c0_181 : Index := 0#32
  let c0_182 : Index := 0#32
  ![0, v341.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8192x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x32x80x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Proof.S5.Run.lean ====
module

public import proofs.«01_k».proof.Proof.Gen.KernelIdeal.Frame

/-!
# What a run of the mixer leaves in its result

The launch of the two regions and the host operations around them, with the result buffer read at the last
boundary valuation beside the unchanged arguments.
-/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- A run ends with the result buffer holding the last boundary valuation, the arguments unchanged. -/
theorem run : θ_run defs (onTc (τ := τ) (main (F := F))) ⟨m, fun _ => 0, ρ⟩ (fun r => (∀ c : Dev nD,
      r.2.mem ((c.tc : Thread nD τ).loc main_v37) = W7 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => (fun c =>
      ⟨h c _ (mem_uc main_v37 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩))

end Cert.KernelIdeal.Gen

end
-- ==== Proof.S5.Math.lean ====
module

public import Mathlib.Analysis.SpecialFunctions.Trigonometric.Basic
public import Mathlib.Algebra.BigOperators.Fin
public import Mathlib.Algebra.BigOperators.Intervals

/-!
# The mathematics of the state-space recurrence

A diagonal complex recurrence `h (t+1) = Λ h t + drive (t+1)`, its closed form, the doubling scan that
carries chunk states, and the identity between the chunked evaluation and the sequential one.
-/

@[expose] public section

noncomputable section

namespace Cert.S5

open Finset

/-- The power of `exp z` by its real part. -/
theorem pow_exp_re (z : ℂ) (k : ℕ) :
    (Complex.exp z ^ k).re = Real.exp (k * z.re) * Real.cos (k * z.im) := by
  rw [← Complex.exp_nat_mul, Complex.exp_re]; simp

/-- The power of `exp z` by its imaginary part. -/
theorem pow_exp_im (z : ℂ) (k : ℕ) :
    (Complex.exp z ^ k).im = Real.exp (k * z.re) * Real.sin (k * z.im) := by
  rw [← Complex.exp_nat_mul, Complex.exp_im]; simp

/-- The state before time `t` of the recurrence driven by `d`. -/
def state (L : ℂ) (d : ℕ → ℂ) (t : ℕ) : ℂ := ∑ s ∈ range t, L ^ (t - 1 - s) * d s

theorem state_zero (L : ℂ) (d : ℕ → ℂ) : state L d 0 = 0 := by simp [state]

theorem state_succ (L : ℂ) (d : ℕ → ℂ) (t : ℕ) : state L d (t + 1) = L * state L d t + d t := by
  unfold state
  rw [sum_range_succ, mul_sum]
  congr 1
  · refine sum_congr rfl fun s hs => ?_
    have hs' := mem_range.1 hs
    rw [← mul_assoc, ← pow_succ']
    congr 2; omega
  · simp

/-- `k` steps at once. -/
theorem state_add (L : ℂ) (d : ℕ → ℂ) (t k : ℕ) :
    state L d (t + k) = L ^ k * state L d t + ∑ s ∈ range k, L ^ (k - 1 - s) * d (t + s) := by
  induction k with
  | zero => simp
  | succ k ih =>
    rw [← add_assoc, state_succ, ih, sum_range_succ, mul_add, mul_sum, ← mul_assoc, ← pow_succ', add_assoc]
    congr 1
    congr 1
    · refine sum_congr rfl fun s hs => ?_
      have hs' := mem_range.1 hs
      rw [← mul_assoc, ← pow_succ']
      congr 2; omega
    · simp

/-- The chunk states are the states at the chunk starts. -/
theorem state_chunks (L : ℂ) (d : ℕ → ℂ) (c : ℕ) :
    state (L ^ 32) (fun j => ∑ s ∈ range 32, L ^ (31 - s) * d (32 * j + s)) c = state L d (32 * c) := by
  induction c with
  | zero => simp [state_zero]
  | succ c ih =>
    rw [state_succ, ih, show 32 * (c + 1) = 32 * c + 32 by ring, state_add]

/-- One level of the doubling scan: rows at or after 256 take the row `d` above times `a`. -/
def level (d : ℕ) (a : ℂ) (Z : ℕ → ℂ) (r : ℕ) : ℂ := if 256 ≤ r then Z r + Z (r - d) * a else Z r

/-- What `k` levels make of the rows: the sum of the last `2 ^ k` rows, each times its power. -/
def window (A : ℂ) (S : ℕ → ℂ) (k : ℕ) (r : ℕ) : ℂ :=
  if 256 ≤ r then ∑ i ∈ range (2 ^ k), A ^ i * S (r - i) else 0

theorem level_window (A : ℂ) (S : ℕ → ℂ) (hS : ∀ r, r < 256 → S r = 0) (k : ℕ) (hk : k < 8) :
    level (2 ^ k) (A ^ 2 ^ k) (window A S k) = window A S (k + 1) := by
  funext r
  have h128 : 2 ^ k ≤ 2 ^ 7 := Nat.pow_le_pow_right (by norm_num) (by omega)
  unfold level
  by_cases hr : 256 ≤ r
  · rw [if_pos hr]
    have e : window A S (k + 1) r = ∑ i ∈ range (2 ^ k), A ^ i * S (r - i)
        + ∑ i ∈ range (2 ^ k), A ^ (2 ^ k + i) * S (r - (2 ^ k + i)) := by
      rw [window, if_pos hr, pow_succ, mul_two, sum_range_add]
    rw [e]
    congr 1
    · rw [window, if_pos hr]
    · unfold window
      by_cases hr' : 256 ≤ r - 2 ^ k
      · rw [if_pos hr', sum_mul]
        refine sum_congr rfl fun i _ => ?_
        rw [pow_add, Nat.sub_add_eq]; ring
      · rw [if_neg hr', zero_mul]
        refine (sum_eq_zero fun i _ => ?_).symm
        rw [hS _ (by omega), mul_zero]
  · rw [if_neg hr, window, window, if_neg hr, if_neg hr]

theorem window_zero (A : ℂ) (S : ℕ → ℂ) (hS : ∀ r, r < 256 → S r = 0) : window A S 0 = S := by
  funext r
  unfold window
  by_cases hr : 256 ≤ r
  · simp [hr]
  · simp [hr, hS r (by omega)]

/-- After eight levels row `255 + c` holds the state before chunk `c`. -/
theorem window_eight (A : ℂ) (S : ℕ → ℂ) (hS : ∀ r, r < 256 → S r = 0) (c : ℕ) (hc : c < 256) :
    window A S 8 (255 + c) = state A (fun j => S (256 + j)) c := by
  unfold window state
  by_cases h0 : c = 0
  · subst h0; simp
  rw [if_pos (by omega)]
  have h1 : ∑ i ∈ range (2 ^ 8), A ^ i * S (255 + c - i) = ∑ i ∈ range c, A ^ i * S (255 + c - i) := by
    refine (sum_subset (fun i hi => ?_) fun i hi hi' => ?_).symm
    · rw [mem_range] at *; omega
    · rw [mem_range] at hi hi'
      rw [hS _ (by omega), mul_zero]
  rw [h1, ← sum_range_reflect]
  refine sum_congr rfl fun i hi => ?_
  rw [mem_range] at hi
  congr 2
  omega

/-- The input of one state at a time: the channels through the input map. -/
def drive (u : ℕ → Fin 16 → ℝ) (b : Fin 16 → ℂ) (t : ℕ) : ℂ := ∑ p, (u t p : ℂ) * b p

/-- The output of the sequential recurrence. -/
def seqOut (L : Fin 64 → ℂ) (B : Fin 64 → Fin 16 → ℂ) (C : Fin 64 → ℂ) (u : ℕ → Fin 16 → ℝ) (t : ℕ) : ℝ :=
  ∑ n, (C n * state (L n) (drive u (B n)) (t + 1)).re

/-- The within-chunk tap at lag `τ`. -/
def tap (L : Fin 64 → ℂ) (B : Fin 64 → Fin 16 → ℂ) (C : Fin 64 → ℂ) (τ : ℕ) (p : Fin 16) : ℝ :=
  ∑ n, (C n * L n ^ τ * B n p).re

/-- The chunk's own contribution to the state at its end. -/
def chunkIn (L : ℂ) (b : Fin 16 → ℂ) (u : ℕ → Fin 16 → ℝ) (c : ℕ) : ℂ :=
  ∑ s : Fin 32, ∑ p, (u (32 * c + s) p : ℂ) * (L ^ (31 - (s : ℕ)) * b p)

/-- The chunked evaluation is the sequential one. -/
theorem chunked (L : Fin 64 → ℂ) (B : Fin 64 → Fin 16 → ℂ) (C : Fin 64 → ℂ) (u : ℕ → Fin 16 → ℝ) (c : ℕ) (τ : Fin 32) :
    (∑ s : Fin 32, ∑ p, u (32 * c + s) p * (if s ≤ τ then tap L B C (τ - s) p else 0))
      + ∑ n, (C n * L n ^ ((τ : ℕ) + 1) * state (L n ^ 32) (chunkIn (L n) (B n) u) c).re
      = seqOut L B C u (32 * c + τ) := by
  have hchunk : ∀ n, state (L n ^ 32) (chunkIn (L n) (B n) u) c = state (L n) (drive u (B n)) (32 * c) := fun n => by
    rw [← state_chunks]
    congr 1
    funext j
    unfold chunkIn drive
    rw [Finset.sum_range]
    refine sum_congr rfl fun s _ => ?_
    rw [mul_sum]
    exact sum_congr rfl fun p _ => by ring
  have hin : ∑ s : Fin 32, ∑ p, u (32 * c + s) p * (if s ≤ τ then tap L B C (τ - s) p else 0)
      = ∑ n, (C n * ∑ s ∈ range ((τ : ℕ) + 1), L n ^ ((τ : ℕ) + 1 - 1 - s) * drive u (B n) (32 * c + s)).re := by
    have e1 : ∀ n, (C n * ∑ s ∈ range ((τ : ℕ) + 1), L n ^ ((τ : ℕ) + 1 - 1 - s) * drive u (B n) (32 * c + s)).re
        = ∑ s ∈ range 32, ∑ p, u (32 * c + s) p * (if s ≤ (τ : ℕ) then (C n * L n ^ ((τ : ℕ) - s) * B n p).re else 0) := fun n => by
      have e2 : ∑ s ∈ range 32, ∑ p, u (32 * c + s) p * (if s ≤ (τ : ℕ) then (C n * L n ^ ((τ : ℕ) - s) * B n p).re else 0)
          = ∑ s ∈ range ((τ : ℕ) + 1), ∑ p, u (32 * c + s) p * (if s ≤ (τ : ℕ) then (C n * L n ^ ((τ : ℕ) - s) * B n p).re else 0) := by
        refine (sum_subset (fun i hi => ?_) fun i hi hi' => ?_).symm
        · rw [mem_range] at *; have := τ.2; omega
        · rw [mem_range] at hi hi'
          refine sum_eq_zero fun p _ => ?_
          rw [if_neg (by omega), mul_zero]
      rw [e2, mul_sum, Complex.re_sum]
      refine sum_congr rfl fun s hs => ?_
      rw [mem_range] at hs
      unfold drive
      rw [mul_sum, mul_sum, Complex.re_sum]
      refine sum_congr rfl fun p _ => ?_
      rw [if_pos (by omega), ← Complex.re_ofReal_mul]
      congr 1
      rw [Nat.add_sub_cancel]; ring
    symm
    rw [sum_congr rfl fun n _ => e1 n, sum_comm, Finset.sum_range]
    refine sum_congr rfl fun s _ => ?_
    rw [sum_comm]
    refine sum_congr rfl fun p _ => ?_
    rw [← mul_sum]
    congr 1
    by_cases h : s ≤ τ
    · have h' : (s : ℕ) ≤ (τ : ℕ) := h
      simp only [h, h', if_true, tap]
    · have h' : ¬ (s : ℕ) ≤ (τ : ℕ) := h
      simp only [h, h', if_false, sum_const_zero]
  rw [hin, ← sum_add_distrib]
  unfold seqOut
  refine sum_congr rfl fun n _ => ?_
  rw [hchunk, ← Complex.add_re, add_assoc (32 * c), state_add (L n) _ (32 * c) ((τ : ℕ) + 1)]
  congr 1
  ring

/-- A complex number's coordinate by lane: the real part in the first half, the imaginary in the second. -/
def lane (z : Fin 64 → ℂ) (l : Fin 128) : ℝ :=
  if h : l.val < 64 then (z ⟨l.val, h⟩).re else (z ⟨l.val - 64, by omega⟩).im

/-- A sum over the lanes of an output map `[Re w, -Im w]` against a laid-out vector is the real part of the products' sum. -/
theorem sum_lane (f : Fin 128 → ℝ) (w z : Fin 64 → ℂ)
    (h0 : ∀ n : Fin 64, f ⟨n, by omega⟩ = (w n).re * (z n).re)
    (h1 : ∀ n : Fin 64, f ⟨64 + n, by omega⟩ = -(w n).im * (z n).im) :
    ∑ l, f l = ∑ n, (w n * z n).re := by
  have : ∑ l : Fin (64 + 64), f l = ∑ n, (w n * z n).re := by
    rw [Fin.sum_univ_add, ← sum_add_distrib]
    refine sum_congr rfl fun n _ => ?_
    rw [Complex.mul_re]
    have a := h0 n
    have b := h1 n
    have ha : f (Fin.castAdd 64 n) = (w n).re * (z n).re := a
    have hb : f (Fin.natAdd 64 n) = -(w n).im * (z n).im := b
    rw [ha, hb]; ring
  exact this

/-- A sum over the 512 flattened positions is one over steps and channels. -/
theorem sum_flat {M : Type*} [AddCommMonoid M] (f : Fin 512 → M) :
    ∑ k, f k = ∑ s : Fin 32, ∑ p : Fin 16, f ⟨16 * s + p, by omega⟩ := by
  have h := (finProdFinEquiv (m := 32) (n := 16)).sum_comp (fun k : Fin (32 * 16) => f k)
  rw [Fintype.sum_prod_type] at h
  rw [show (∑ k, f k) = ∑ k : Fin (32 * 16), f k from rfl, ← h]
  refine sum_congr rfl fun s _ => sum_congr rfl fun p _ => ?_
  congr 1
  ext
  show (p : ℕ) + 16 * s = 16 * s + p
  omega

end Cert.S5

end
-- ==== Proof.S5.Coef.lean ====
module

public import proofs.«01_k».proof.Proof.S5.Math

/-!
# One group's coefficients

The recurrence's poles and its input and output maps, from the parameters of one group.
-/

@[expose] public section

noncomputable section

namespace Cert.S5

/-- One group's real parameters, none of its eigenvalues zero. -/
structure Coef where
  ar : Fin 64 → ℝ
  ai : Fin 64 → ℝ
  ld : ℝ
  br : Fin 64 → Fin 16 → ℝ
  bi : Fin 64 → Fin 16 → ℝ
  cr : Fin 16 → Fin 64 → ℝ
  ci : Fin 16 → Fin 64 → ℝ
  ne : ∀ n, ar n * ar n + ai n * ai n ≠ 0

namespace Coef

variable (K : Coef)

/-- The pole's exponent. -/
def expo (n : Fin 64) : ℂ := ⟨K.ar n * Real.exp K.ld, K.ai n * Real.exp K.ld⟩
/-- The pole. -/
def pole (n : Fin 64) : ℂ := Complex.exp (K.expo n)
/-- The factor of the input map. -/
def fac (n : Fin 64) : ℂ :=
  ⟨(((K.pole n).re - 1) * K.ar n + (K.pole n).im * K.ai n) / (K.ar n * K.ar n + K.ai n * K.ai n),
   ((K.pole n).im * K.ar n - ((K.pole n).re - 1) * K.ai n) / (K.ar n * K.ar n + K.ai n * K.ai n)⟩
/-- The input map. -/
def inB (n : Fin 64) (p : Fin 16) : ℂ :=
  ⟨(K.fac n).re * K.br n p - (K.fac n).im * K.bi n p, (K.fac n).re * K.bi n p + (K.fac n).im * K.br n p⟩
/-- The output map. -/
def outC (q : Fin 16) (n : Fin 64) : ℂ := ⟨K.cr q n, K.ci q n⟩

theorem pole_re (n : Fin 64) : (K.pole n).re = Real.exp (K.expo n).re * Real.cos (K.expo n).im := Complex.exp_re _
theorem pole_im (n : Fin 64) : (K.pole n).im = Real.exp (K.expo n).re * Real.sin (K.expo n).im := Complex.exp_im _

end Coef

end Cert.S5

end
-- ==== Proof.S5.Step.lean ====
module

public import proofs.«01_k».proof.Proof.Gen.KernelIdeal.Frame
public import proofs.«01_k».proof.Proof.S5.Math
public import Idealize.ShloMosaic.Lib.Pointwise
public import Idealize.ShloMosaic.Lib.Pipeline.ValueKit.Geometry

/-!
# One store of the doubling scan

The scan buffer holds, per batch, 256 rows of zeros and 256 rows of states, a state's real parts in the first 64
lanes and its imaginary parts in the last 64. A store of one level adds to the rows of one batch the rows `d`
above, times the level's power.
-/

@[expose] public section

noncomputable section

namespace Cert.KernelIdeal.Gen

open Idealize.ShloMosaic Cert.KernelIdeal Cert.S5

theorem ofBits_two : Ideal.ofBits .f32 0x40000000#32 = ((2 : ℝ) : EReal) := by
  simp [Ideal.ofBits, Ideal.ieee, -EReal.coe_mul]; norm_num

theorem ofBits_negOne : Ideal.ofBits .f32 0xBF800000#32 = ((-1 : ℝ) : EReal) := by
  simp [Ideal.ofBits, Ideal.ieee, -EReal.coe_mul, -EReal.coe_neg]; norm_num

section Payload
variable {F : FTy → Type} [FloatOps F]

/-- What one store of a level writes: the rows, plus the earlier rows times the level's power. -/
def updP (ar ai : FVec F S1x128 .f32) (cur prev : Vec F S1x256x128 .f32) : FVec F S1x256x128 .f32 :=
  shapeCast S1x256x128
    (addf (addf (shapeCast S256x128 cur shapeCasts_S1x256x128_S256x128)
        (mulf (shapeCast S256x128 prev shapeCasts_S1x256x128_S256x128) (broadcastTo S256x128 ar broadcasts_S1x128_S256x128)))
      (mulf (dynamicRotate 1 64#32 none (shapeCast S256x128 prev shapeCasts_S1x256x128_S256x128 : FVec F S256x128 .f32) rotates_S256x128_d1)
        (broadcastTo S256x128 (mulf ai (k1_pay4 (F := F))) broadcasts_S1x128_S256x128)))
    shapeCasts_S256x128_S1x256x128

/-- A level's power, in lanes: the square of the level before. -/
def powP (x4 : Vec F S1x1x128 .f32) (x5 : Vec F S1x1x128 .f32) : ℕ → FVec F S1x128 .f32 × FVec F S1x128 .f32
  | 0 => (k1_pay14 x4, k1_pay15 x5)
  | k + 1 => (k1_pay21 (powP x4 x5 k).1 (powP x4 x5 k).2, k1_pay22 (powP x4 x5 k).1 (powP x4 x5 k).2)

end Payload

/-- The sign of a lane. -/
theorem sign_apply (l : Fin 128) :
    k1_pay4 (F := Ideal) (ix2 0 l) = (((if l.val < 64 then -1 else 1 : ℝ)) : EReal) := by
  have h : ∀ l : Fin 128, IntOp.cmpi .slt (BitVec.ofNat 32 l.val) 64#32 = if l.val < 64 then 1#1 else 0#1 := by decide +kernel
  have e : k1_pay4 (F := Ideal) (ix2 0 l)
      = Scalar.select (IntOp.cmpi .slt (BitVec.ofNat 32 l.val) 64#32) (Ideal.ofBits .f32 0xBF800000#32) (Ideal.ofBits .f32 0x3F800000#32) := by
    show Scalar.select (IntOp.cmpi .slt (iota .tc S1x128 32 [(1 : Fin S1x128.rank)] iota_S1x128_d1_w32 (ix2 0 l)) 64#32) _ _ = _
    rw [show iota .tc S1x128 32 [(1 : Fin S1x128.rank)] iota_S1x128_d1_w32 (ix2 0 l) = BitVec.ofNat 32 l.val from by simp [iota]]
    rfl
  rw [e, h]
  by_cases hl : l.val < 64
  · rw [if_pos hl, if_pos hl, ofBits_negOne]; rfl
  · rw [if_neg hl, if_neg hl, Ideal.ofBits_one_f32]; rfl

/-- The store's payload at an index. -/
theorem updP_apply (ar ai : FVec Ideal S1x128 .f32) (cur prev : Vec Ideal S1x256x128 .f32) (c : Fin 256) (l : Fin 128) :
    updP ar ai cur prev (ix3 0 c l)
      = cur (ix3 0 c l) + prev (ix3 0 c l) * ar (ix2 0 l)
        + prev (ix3 0 c ⟨(l.val + 64) % 128, Nat.mod_lt _ (by norm_num)⟩) * (ai (ix2 0 l) * k1_pay4 (F := Ideal) (ix2 0 l)) := by
  unfold updP
  pointwise
  have : (l.val + 128 - 64) % 128 = (l.val + 64) % 128 := by omega
  simp only [this]

/-- The buffer holds the rows `Z`, laid out in lanes. -/
def Holds (L : List (View.Piece (Elt Ideal) S4x512x128 .f32)) (Z : Fin 4 → Fin 64 → ℕ → ℂ) : Prop :=
  ∀ (b : Fin 4) (r : Fin 512) (l : Fin 128), View.canon L (ix3 b r l) = ((lane (fun n => Z b n r) l : ℝ) : EReal)

/-- A rectangle of one batch's rows, read at an index. -/
theorem rows_emb (b o : ℕ) (inb : ∀ a, ![b, o, 0] a + S1x256x128.size a ≤ S4x512x128.size a) (hb : b < 4) (ho : o ≤ 256)
    (c : Fin 256) (l : Fin 128) :
    (Rect.unit (s := S4x512x128) ![b, o, 0] S1x256x128.size inb).emb (ix3 (n0 := 1) 0 c l)
      = ix3 (n0 := 4) (n1 := 512) ⟨b, hb⟩ ⟨o + c, by omega⟩ l := by
  funext a
  refine Fin.ext ((ValueKit.rect_emb_unit_val _ _ _ _ _).trans ?_)
  fin_cases a <;> simp

theorem readCov_rows {κ sp} (v : View sig κ sp S4x512x128 .f32) (L : List (View.Piece (Elt Ideal) S4x512x128 .f32))
    (b o : ℕ) (inb : ∀ a, ![b, o, 0] a + S1x256x128.size a ≤ S4x512x128.size a) (hb : b < 4) (ho : o ≤ 256)
    (c : Fin 256) (l : Fin 128) :
    v.readCov L (Rect.unit (s := S4x512x128) ![b, o, 0] S1x256x128.size inb).toLoadRect (ix3 (n0 := 1) 0 c l)
      = View.canon L (ix3 (n0 := 4) (n1 := 512) ⟨b, hb⟩ ⟨o + c, by omega⟩ l) := by
  rw [View.readCov_eq_canon']
  exact congrArg (View.canon L) (rows_emb b o inb hb ho c l)

theorem canon_cons_rows_of_not_mem {R : Rect S4x512x128} (w : R.shape.Idx → Elt Ideal .f32) (L : List (View.Piece (Elt Ideal) S4x512x128 .f32))
    {y : S4x512x128.Idx} (h : y ∉ R.set) :
    View.canon ((⟨R, w⟩ : View.Piece (Elt Ideal) S4x512x128 .f32) :: L) y = View.canon L y :=
  View.canon_cons_of_not_mem ⟨R, w⟩ L h

/-- One store of a level: the rows of batch `b` move to the level's next value, the others stay. -/
theorem holds_step (L : List (View.Piece (Elt Ideal) S4x512x128 .f32)) (Z : Fin 4 → Fin 64 → ℕ → ℂ) (hL : Holds L Z)
    {κ sp} (v : View sig κ sp S4x512x128 .f32) (b o d : ℕ) (hb : b < 4) (ho : o + d = 256)
    (inb1 : ∀ a, ![b, 256, 0] a + S1x256x128.size a ≤ S4x512x128.size a)
    (inb2 : ∀ a, ![b, o, 0] a + S1x256x128.size a ≤ S4x512x128.size a)
    (A : Fin 64 → ℂ) (ar ai : FVec Ideal S1x128 .f32)
    (har : ∀ l : Fin 128, ar (ix2 0 l) = (((A ⟨l.val % 64, Nat.mod_lt _ (by norm_num)⟩).re : ℝ) : EReal))
    (hai : ∀ l : Fin 128, ai (ix2 0 l) = (((A ⟨l.val % 64, Nat.mod_lt _ (by norm_num)⟩).im : ℝ) : EReal)) :
    Holds ((⟨Rect.unit (s := S4x512x128) ![b, 256, 0] S1x256x128.size inb1,
        updP ar ai (v.readCov L (Rect.unit (s := S4x512x128) ![b, 256, 0] S1x256x128.size inb1).toLoadRect)
          (v.readCov L (Rect.unit (s := S4x512x128) ![b, o, 0] S1x256x128.size inb2).toLoadRect)⟩ : View.Piece (Elt Ideal) S4x512x128 .f32) :: L)
      (fun b' n => if b'.val = b then level d (A n) (Z b' n) else Z b' n) := by
  intro b' r l
  by_cases hin : b'.val = b ∧ 256 ≤ r.val
  · obtain ⟨hbb, hr⟩ := hin
    have e : ix3 b' r l = (Rect.unit (s := S4x512x128) ![b, 256, 0] S1x256x128.size inb1).emb
        (ix3 (n0 := 1) 0 (⟨r.val - 256, by omega⟩ : Fin 256) l) := by
      rw [rows_emb b 256 inb1 hb le_rfl]
      congr 1
      · exact Fin.ext hbb
      · exact Fin.ext (by show r.val = 256 + (r.val - 256); omega)
    rw [e, View.canon_cons_emb, updP_apply, readCov_rows v L b 256 inb1 hb le_rfl, readCov_rows v L b o inb2 hb (by omega),
      readCov_rows v L b o inb2 hb (by omega), hL, hL, hL, har, hai, sign_apply]
    have hb' : b' = ⟨b, hb⟩ := Fin.ext hbb
    subst hb'
    simp only [if_true, level, if_pos hr]
    have e1 : 256 + (r.val - 256) = r.val := by omega
    have e2 : o + (r.val - 256) = r.val - d := by omega
    simp only [e1, e2]
    simp only [← EReal.coe_mul, ← EReal.coe_add]
    refine congrArg Real.toEReal ?_
    unfold lane
    by_cases hl : l.val < 64
    · have h1 : ¬ (l.val + 64) % 128 < 64 := by omega
      have h2 : (l.val + 64) % 128 - 64 = l.val := by omega
      have h3 : l.val % 64 = l.val := by omega
      simp only [dif_pos hl, if_pos hl, dif_neg h1, h2, h3, Complex.add_re, Complex.mul_re]
      ring
    · have h1 : (l.val + 64) % 128 < 64 := by omega
      have h2 : (l.val + 64) % 128 = l.val - 64 := by omega
      have h3 : l.val % 64 = l.val - 64 := by omega
      have h4 : l.val - 64 < 64 := by omega
      simp only [dif_neg hl, if_neg hl, h2, dif_pos h4, h3, Complex.add_im, Complex.mul_im]
      ring
  · have hnot : ix3 b' r l ∉ (Rect.unit (s := S4x512x128) ![b, 256, 0] S1x256x128.size inb1).set := by
      intro hmem
      have hall := Rect.mem_set_unit.mp hmem
      have h0 : b ≤ b'.val ∧ b'.val < b + 1 := hall (0 : Fin 3)
      have h1 : 256 ≤ r.val ∧ r.val < 256 + 256 := hall (1 : Fin 3)
      apply hin
      constructor <;> omega
    generalize updP ar ai _ _ = w
    rw [canon_cons_rows_of_not_mem w L hnot]
    rw [hL]
    congr 2
    funext n
    show Z b' n r.val = (if b'.val = b then level d (A n) (Z b' n) else Z b' n) r.val
    by_cases hbb : b'.val = b
    · rw [if_pos hbb, level, if_neg (by omega)]
    · rw [if_neg hbb]

/-- The powers, in lanes. -/
theorem powP_apply (x4 x5 : Vec Ideal S1x1x128 .f32) (A : Fin 64 → ℂ)
    (h4 : ∀ l : Fin 128, x4 (ix3 0 0 l) = (((A ⟨l.val % 64, Nat.mod_lt _ (by norm_num)⟩).re : ℝ) : EReal))
    (h5 : ∀ l : Fin 128, x5 (ix3 0 0 l) = (((A ⟨l.val % 64, Nat.mod_lt _ (by norm_num)⟩).im : ℝ) : EReal)) (k : ℕ) (l : Fin 128) :
    (powP x4 x5 k).1 (ix2 0 l) = (((A ⟨l.val % 64, Nat.mod_lt _ (by norm_num)⟩ ^ 2 ^ k).re : ℝ) : EReal)
    ∧ (powP x4 x5 k).2 (ix2 0 l) = (((A ⟨l.val % 64, Nat.mod_lt _ (by norm_num)⟩ ^ 2 ^ k).im : ℝ) : EReal) := by
  induction k with
  | zero =>
    rw [pow_zero, pow_one]
    constructor
    · rw [← h4]; show k1_pay14 x4 _ = _; pointwise [k1_pay14]
    · rw [← h5]; show k1_pay15 x5 _ = _; pointwise [k1_pay15]
  | succ k ih =>
    obtain ⟨i1, i2⟩ := ih
    rw [pow_succ 2 k, pow_mul, pow_two (_ ^ 2 ^ k)]
    constructor
    · show k1_pay21 _ _ _ = _
      pointwise [k1_pay21]
      rw [i1, i2, Complex.mul_re]
      norm_cast
    · show k1_pay22 _ _ _ = _
      pointwise [k1_pay22]
      rw [i1, i2, Complex.mul_im, ofBits_two]
      norm_cast
      ring

end Cert.KernelIdeal.Gen

end
-- ==== Proof.S5.Scan.lean ====
module

public import proofs.«01_k».proof.Proof.S5.Step
public import Idealize.ShloMosaic.Lib.WholeRead

/-!
# The doubling scan of one group

The scan's 32 stores, eight levels of four batches, each a step of `holds_step`; and the group's result.
-/

@[expose] public section

noncomputable section

namespace Cert.KernelIdeal.Gen

open Idealize.ShloMosaic Cert.KernelIdeal Cert.S5 kernelRun1_A.sl

/-- The rows after `j` stores. -/
def stored (A : Fin 64 → ℂ) (S : Fin 4 → Fin 64 → ℕ → ℂ) : ℕ → Fin 4 → Fin 64 → ℕ → ℂ
  | 0 => S
  | j + 1 => fun b n => if b.val = j % 4 then level (2 ^ (j / 4)) (A n ^ 2 ^ (j / 4)) (stored A S j b n) else stored A S j b n

/-- A power in lanes. -/
def InLanes (re im : FVec Ideal S1x128 .f32) (A : Fin 64 → ℂ) : Prop :=
  (∀ l : Fin 128, re (ix2 0 l) = (((A ⟨l.val % 64, Nat.mod_lt _ (by norm_num)⟩).re : ℝ) : EReal))
  ∧ (∀ l : Fin 128, im (ix2 0 l) = (((A ⟨l.val % 64, Nat.mod_lt _ (by norm_num)⟩).im : ℝ) : EReal))

theorem inLanes_sq (re im : FVec Ideal S1x128 .f32) (A : Fin 64 → ℂ) (k : ℕ) (h : InLanes re im (fun n => A n ^ 2 ^ k)) :
    InLanes (k1_pay21 re im) (k1_pay22 re im) (fun n => A n ^ 2 ^ (k + 1)) := by
  obtain ⟨i1, i2⟩ := h
  dsimp only at i1 i2
  refine ⟨fun l => ?_, fun l => ?_⟩
  · dsimp only
    rw [show (A ⟨l.val % 64, Nat.mod_lt _ (by norm_num)⟩ ^ 2 ^ (k + 1)) = A _ ^ 2 ^ k * A _ ^ 2 ^ k from by rw [pow_succ 2 k, pow_mul, pow_two (_ ^ 2 ^ k)]]
    pointwise [k1_pay21]
    rw [i1, i2, Complex.mul_re]
    norm_cast
  · dsimp only
    rw [show (A ⟨l.val % 64, Nat.mod_lt _ (by norm_num)⟩ ^ 2 ^ (k + 1)) = A _ ^ 2 ^ k * A _ ^ 2 ^ k from by rw [pow_succ 2 k, pow_mul, pow_two (_ ^ 2 ^ k)]]
    pointwise [k1_pay22]
    rw [i1, i2, Complex.mul_im, ofBits_two]
    norm_cast
    ring

section Group

variable (c : Dev nD) (arg1 : Memref sig .tc .vmem S1x1024x512 .bf16) (harg1 : arg1.IsWhole)
  (arg3 : Memref sig .tc .vmem S1x512x128 .bf16) (harg3 : arg3.IsWhole)
  (arg5 : Memref sig .tc .vmem S1x2x128 .f32) (harg5 : arg5.IsWhole)
  (arg7 : Memref sig .tc .vmem S4x512x128 .f32)
  (x0 : Vec Ideal S1x1024x512 .bf16) (x2 : Vec Ideal S1x512x128 .bf16) (x4 : Vec Ideal S1x2x128 .f32)
  (A : Fin 64 → ℂ) (S : Fin 4 → Fin 64 → ℕ → ℂ)

/-- The group's operands: the powers' row and the chunks' inputs, in lanes. -/
structure Operands : Prop where
  re : ∀ l : Fin 128, x4 (ix3 (n0 := 1) (n1 := 2) 0 0 l) = (((A ⟨l.val % 64, Nat.mod_lt _ (by norm_num)⟩).re : ℝ) : EReal)
  im : ∀ l : Fin 128, x4 (ix3 (n0 := 1) (n1 := 2) 0 1 l) = (((A ⟨l.val % 64, Nat.mod_lt _ (by norm_num)⟩).im : ℝ) : EReal)
  rows : ∀ (b : Fin 4) (k : Fin 256) (l : Fin 128), k1_pay3 (F := Ideal) x0 x2 (ix2 (n0 := 1024) ⟨256 * b + k, by omega⟩ l)
    = ((lane (fun n => S b n (256 + k)) l : ℝ) : EReal)
  zero : ∀ (b : Fin 4) (n : Fin 64) (r : ℕ), r < 256 → S b n r = 0

variable (H : Operands x0 x2 x4 A S)
include H

theorem pow_0 : InLanes (r_2 c arg5 harg5 x4) (r_3 c arg5 harg5 x4) (fun n => A n ^ 2 ^ 0) := by
  simp only [pow_zero, pow_one]
  refine ⟨fun l => ?_, fun l => ?_⟩
  · rw [← H.re]
    unfold r_2
    pointwise [k1_pay14]
    rw [Memref.IsWhole.readAt_unread]
    congr 1
    funext a
    refine Fin.ext ((ValueKit.rect_emb_unit_val _ _ _ _ _).trans ?_)
    fin_cases a <;> simp
  · rw [← H.im]
    unfold r_3
    pointwise [k1_pay15]
    rw [Memref.IsWhole.readAt_unread]
    congr 1
    funext a
    refine Fin.ext ((ValueKit.rect_emb_unit_val _ _ _ _ _).trans ?_)
    fin_cases a <;> simp

theorem pow_1 : InLanes (r_5 c arg5 harg5 x4) (r_6 c arg5 harg5 x4) (fun n => A n ^ 2 ^ 1) :=
  inLanes_sq (r_2 c arg5 harg5 x4) (r_3 c arg5 harg5 x4) A 0 (pow_0 c arg5 harg5 x0 x2 x4 A S H)

theorem pow_2 : InLanes (r_10 c arg5 harg5 x4) (r_11 c arg5 harg5 x4) (fun n => A n ^ 2 ^ 2) :=
  inLanes_sq (r_5 c arg5 harg5 x4) (r_6 c arg5 harg5 x4) A 1 (pow_1 c arg5 harg5 x0 x2 x4 A S H)

theorem pow_3 : InLanes (r_16 c arg5 harg5 x4) (r_17 c arg5 harg5 x4) (fun n => A n ^ 2 ^ 3) :=
  inLanes_sq (r_10 c arg5 harg5 x4) (r_11 c arg5 harg5 x4) A 2 (pow_2 c arg5 harg5 x0 x2 x4 A S H)

theorem pow_4 : InLanes (r_19 c arg5 harg5 x4) (r_20 c arg5 harg5 x4) (fun n => A n ^ 2 ^ 4) :=
  inLanes_sq (r_16 c arg5 harg5 x4) (r_17 c arg5 harg5 x4) A 3 (pow_3 c arg5 harg5 x0 x2 x4 A S H)

theorem pow_5 : InLanes (r_21 c arg5 harg5 x4) (r_22 c arg5 harg5 x4) (fun n => A n ^ 2 ^ 5) :=
  inLanes_sq (r_19 c arg5 harg5 x4) (r_20 c arg5 harg5 x4) A 4 (pow_4 c arg5 harg5 x0 x2 x4 A S H)

theorem pow_6 : InLanes (r_26 c arg5 harg5 x4) (r_27 c arg5 harg5 x4) (fun n => A n ^ 2 ^ 6) :=
  inLanes_sq (r_21 c arg5 harg5 x4) (r_22 c arg5 harg5 x4) A 5 (pow_5 c arg5 harg5 x0 x2 x4 A S H)

theorem pow_7 : InLanes (r_31 c arg5 harg5 x4) (r_32 c arg5 harg5 x4) (fun n => A n ^ 2 ^ 7) :=
  inLanes_sq (r_26 c arg5 harg5 x4) (r_27 c arg5 harg5 x4) A 6 (pow_6 c arg5 harg5 x0 x2 x4 A S H)

theorem r_1_eq : r_1 c arg1 harg1 arg3 harg3 x0 x2 = k1_pay3 x0 x2 := by
  unfold r_1
  have e1 : (View.readAt (Elt Ideal) arg1.view (Rect.unit ![0, 0, 0] S1x1024x512.size inb_S1x1024x512_S1x1024x512_0_0_0).toLoadRect
      (harg1.unread x0)) = x0 := by
    funext x
    rw [Memref.IsWhole.readAt_unread]
    congr 1
    funext a
    refine Fin.ext ((ValueKit.rect_emb_unit_val _ _ _ _ _).trans ?_)
    fin_cases a <;> simp
  have e2 : (View.readAt (Elt Ideal) arg3.view (Rect.unit ![0, 0, 0] S1x512x128.size inb_S1x512x128_S1x512x128_0_0_0).toLoadRect
      (harg3.unread x2)) = x2 := by
    funext x
    rw [Memref.IsWhole.readAt_unread]
    congr 1
    funext a
    refine Fin.ext ((ValueKit.rect_emb_unit_val _ _ _ _ _).trans ?_)
    fin_cases a <;> simp
  exact congrArg₂ k1_pay3 e1 e2

omit H in
/-- What the buffer's first stores write at a batch's upper rows. -/
def rowsP (s : FVec Ideal S1024x128 .f32) (o : ℕ) (h : S1024x128.Slices ![o, 0] S256x128) : FVec Ideal S1x256x128 .f32 :=
  shapeCast S1x256x128 (extractStridedSlice S256x128 ![o, 0] s h) shapeCasts_S256x128_S1x256x128

omit H in
/-- A list that holds all rows below a point and the two batch pieces on top of it. -/
theorem canon_batch (L : List (View.Piece (Elt Ideal) S4x512x128 .f32)) (b : ℕ) (hb : b < 4)
    (inb1 : ∀ a, ![b, 256, 0] a + S1x256x128.size a ≤ S4x512x128.size a)
    (inb2 : ∀ a, ![b, 0, 0] a + S1x256x128.size a ≤ S4x512x128.size a)
    (w1 w2 : FVec Ideal S1x256x128 .f32) (Z : Fin 4 → Fin 64 → ℕ → ℂ)
    (h1 : ∀ (k : Fin 256) (l : Fin 128), w1 (ix3 (n0 := 1) 0 k l) = ((lane (fun n => Z ⟨b, hb⟩ n (256 + k)) l : ℝ) : EReal))
    (h2 : ∀ (k : Fin 256) (l : Fin 128), w2 (ix3 (n0 := 1) 0 k l) = ((lane (fun n => Z ⟨b, hb⟩ n k) l : ℝ) : EReal))
    (hL : ∀ (b' : Fin 4) (r : Fin 512) (l : Fin 128), b'.val < b → View.canon L (ix3 b' r l) = ((lane (fun n => Z b' n r) l : ℝ) : EReal)) :
    ∀ (b' : Fin 4) (r : Fin 512) (l : Fin 128), b'.val < b + 1 →
      View.canon ((⟨Rect.unit (s := S4x512x128) ![b, 256, 0] S1x256x128.size inb1, w1⟩ : View.Piece (Elt Ideal) S4x512x128 .f32)
        :: (⟨Rect.unit (s := S4x512x128) ![b, 0, 0] S1x256x128.size inb2, w2⟩ : View.Piece (Elt Ideal) S4x512x128 .f32) :: L) (ix3 b' r l)
        = ((lane (fun n => Z b' n r) l : ℝ) : EReal) := by
  intro b' r l hb'
  by_cases hbb : b'.val = b
  · have hbe : b' = ⟨b, hb⟩ := Fin.ext hbb
    subst hbe
    by_cases hr : 256 ≤ r.val
    · have e : ix3 (n0 := 4) ⟨b, hb⟩ r l = (Rect.unit (s := S4x512x128) ![b, 256, 0] S1x256x128.size inb1).emb
          (ix3 (n0 := 1) 0 (⟨r.val - 256, by omega⟩ : Fin 256) l) := by
        rw [rows_emb b 256 inb1 hb le_rfl]
        congr 1
        exact Fin.ext (by show r.val = 256 + (r.val - 256); omega)
      rw [e, View.canon_cons_emb, h1]
      have e1 : 256 + (r.val - 256) = r.val := by omega
      simp only [e1]
    · have hnot : ix3 (n0 := 4) ⟨b, hb⟩ r l ∉ (Rect.unit (s := S4x512x128) ![b, 256, 0] S1x256x128.size inb1).set := by
        intro hmem
        have h1 : 256 ≤ r.val ∧ r.val < 256 + 256 := (Rect.mem_set_unit.mp hmem) (1 : Fin 3)
        omega
      rw [canon_cons_rows_of_not_mem w1 _ hnot]
      have e : ix3 (n0 := 4) ⟨b, hb⟩ r l = (Rect.unit (s := S4x512x128) ![b, 0, 0] S1x256x128.size inb2).emb
          (ix3 (n0 := 1) 0 (⟨r.val, by omega⟩ : Fin 256) l) := by
        rw [rows_emb b 0 inb2 hb (by omega)]
        congr 1
        exact Fin.ext (by show r.val = 0 + r.val; omega)
      rw [e, View.canon_cons_emb, h2]
  · have hnot : ∀ (o : ℕ) (inb : ∀ a, ![b, o, 0] a + S1x256x128.size a ≤ S4x512x128.size a),
        ix3 (n0 := 4) b' r l ∉ (Rect.unit (s := S4x512x128) ![b, o, 0] S1x256x128.size inb).set := by
      intro o inb hmem
      have h0 : b ≤ b'.val ∧ b'.val < b + 1 := (Rect.mem_set_unit.mp hmem) (0 : Fin 3)
      omega
    rw [canon_cons_rows_of_not_mem w1 _ (hnot 256 inb1), canon_cons_rows_of_not_mem w2 _ (hnot 0 inb2)]
    exact hL b' r l (by omega)

theorem rowsP_apply (b : Fin 4) (h : S1024x128.Slices ![256 * b.val, 0] S256x128) (k : Fin 256) (l : Fin 128) :
    rowsP (k1_pay3 x0 x2) (256 * b.val) h (ix3 (n0 := 1) 0 k l) = ((lane (fun n => S b n (256 + k)) l : ℝ) : EReal) := by
  rw [← H.rows]
  unfold rowsP
  pointwise

omit H in
theorem zeroP_apply (k : Fin 256) (l : Fin 128) : k1_pay5 (F := Ideal) (ix3 (n0 := 1) 0 k l) = ((0 : ℝ) : EReal) := by
  pointwise [k1_pay5]
  simp

omit H in
theorem lane_zero (l : Fin 128) : lane (fun _ => 0) l = 0 := by
  unfold lane; split_ifs <;> simp

theorem holds_0 : Holds (HS0_8 c arg1 harg1 arg3 harg3 x0 x2) (stored A S 0) := by
  have hz : ∀ (b : Fin 4) (k : Fin 256) (l : Fin 128), ((0 : ℝ) : EReal) = ((lane (fun n => S b n k) l : ℝ) : EReal) := by
    intro b k l
    have : (fun n => S b n k) = fun _ => 0 := funext fun n => H.zero b n k k.isLt
    rw [this, lane_zero]
  intro b r l
  have h := fun b' r l => canon_batch [] 0 (by norm_num) inb_S4x512x128_S1x256x128_0_256_0 inb_S4x512x128_S1x256x128_0_0_0
    (rowsP (k1_pay3 x0 x2) (256 * (0 : Fin 4).val) slices_S1024x128_o0_0_S256x128) (k1_pay5 (F := Ideal)) S
    (rowsP_apply x0 x2 x4 A S H 0 _) (fun k l => (zeroP_apply k l).trans (hz 0 k l)) (fun _ _ _ h => absurd h (Nat.not_lt_zero _)) b' r l
  replace h := fun b' r l => canon_batch _ 1 (by norm_num) inb_S4x512x128_S1x256x128_1_256_0 inb_S4x512x128_S1x256x128_1_0_0
    (rowsP (k1_pay3 x0 x2) (256 * (1 : Fin 4).val) slices_S1024x128_o256_0_S256x128) (k1_pay5 (F := Ideal)) S
    (rowsP_apply x0 x2 x4 A S H 1 _) (fun k l => (zeroP_apply k l).trans (hz 1 k l)) h b' r l
  replace h := fun b' r l => canon_batch _ 2 (by norm_num) inb_S4x512x128_S1x256x128_2_256_0 inb_S4x512x128_S1x256x128_2_0_0
    (rowsP (k1_pay3 x0 x2) (256 * (2 : Fin 4).val) slices_S1024x128_o512_0_S256x128) (k1_pay5 (F := Ideal)) S
    (rowsP_apply x0 x2 x4 A S H 2 _) (fun k l => (zeroP_apply k l).trans (hz 2 k l)) h b' r l
  replace h := fun b' r l => canon_batch _ 3 (by norm_num) inb_S4x512x128_S1x256x128_3_256_0 inb_S4x512x128_S1x256x128_3_0_0
    (rowsP (k1_pay3 x0 x2) (256 * (3 : Fin 4).val) slices_S1024x128_o768_0_S256x128) (k1_pay5 (F := Ideal)) S
    (rowsP_apply x0 x2 x4 A S H 3 _) (fun k l => (zeroP_apply k l).trans (hz 3 k l)) h b' r l
  refine Eq.trans ?_ (h b r l b.isLt)
  unfold HS0_8
  rw [r_1_eq c arg1 harg1 arg3 harg3 x0 x2 x4 A S H]
  have e1 := r_1_eq c arg1 harg1 arg3 harg3 x0 x2 x4 A S H
  unfold r_1 at e1
  have e2 : k1_pay8 (F := Ideal) (View.readAt (Elt Ideal) arg1.view (Rect.unit ![0, 0, 0] S1x1024x512.size inb_S1x1024x512_S1x1024x512_0_0_0).toLoadRect
      (harg1.unread x0)) (View.readAt (Elt Ideal) arg3.view (Rect.unit ![0, 0, 0] S1x512x128.size inb_S1x512x128_S1x512x128_0_0_0).toLoadRect
      (harg3.unread x2)) = rowsP (k1_pay3 x0 x2) 256 slices_S1024x128_o256_0_S256x128 :=
    congrArg (fun s => rowsP s 256 slices_S1024x128_o256_0_S256x128) e1
  have e3 : k1_pay6 (F := Ideal) (View.readAt (Elt Ideal) arg1.view (Rect.unit ![0, 0, 0] S1x1024x512.size inb_S1x1024x512_S1x1024x512_0_0_0).toLoadRect
      (harg1.unread x0)) (View.readAt (Elt Ideal) arg3.view (Rect.unit ![0, 0, 0] S1x512x128.size inb_S1x512x128_S1x512x128_0_0_0).toLoadRect
      (harg3.unread x2)) = rowsP (k1_pay3 x0 x2) 0 slices_S1024x128_o0_0_S256x128 :=
    congrArg (fun s => rowsP s 0 slices_S1024x128_o0_0_S256x128) e1
  rw [e2, e3]
  rfl

theorem holds_1 : Holds (HS0_9 c arg1 harg1 arg3 harg3 arg5 harg5 arg7 x0 x2 x4) (stored A S 1) :=
  holds_step (HS0_8 c arg1 harg1 arg3 harg3 x0 x2) (stored A S 0) (holds_0 c arg1 harg1 arg3 harg3 x0 x2 x4 A S H) arg7.view 0 255 1
    (by norm_num) (by norm_num) inb_S4x512x128_S1x256x128_0_256_0 inb_S4x512x128_S1x256x128_0_255_0
    (fun n => A n ^ 2 ^ 0) (r_2 c arg5 harg5 x4) (r_3 c arg5 harg5 x4) (pow_0 c arg5 harg5 x0 x2 x4 A S H).1 (pow_0 c arg5 harg5 x0 x2 x4 A S H).2

theorem holds_2 : Holds (HS0_10 c arg1 harg1 arg3 harg3 arg5 harg5 arg7 x0 x2 x4) (stored A S 2) :=
  holds_step (HS0_9 c arg1 harg1 arg3 harg3 arg5 harg5 arg7 x0 x2 x4) (stored A S 1) (holds_1 c arg1 harg1 arg3 harg3 arg5 harg5 arg7 x0 x2 x4 A S H) arg7.view 1 255 1
    (by norm_num) (by norm_num) inb_S4x512x128_S1x256x128_1_256_0 inb_S4x512x128_S1x256x128_1_255_0
    (fun n => A n ^ 2 ^ 0) (r_2 c arg5 harg5 x4) (r_3 c arg5 harg5 x4) (pow_0 c arg5 harg5 x0 x2 x4 A S H).1 (pow_0 c arg5 harg5 x0 x2 x4 A S H).2

theorem holds_3 : Holds (HS0_11 c arg1 harg1 arg3 harg3 arg5 harg5 arg7 x0 x2 x4) (stored A S 3) :=
  holds_step (HS0_10 c arg1 harg1 arg3 harg3 arg5 harg5 arg7 x0 x2 x4) (stored A S 2) (holds_2 c arg1 harg1 arg3 harg3 arg5 harg5 arg7 x0 x2 x4 A S H) arg7.view 2 255 1
    (by norm_num) (by norm_num) inb_S4x512x128_S1x256x128_2_256_0 inb_S4x512x128_S1x256x128_2_255_0
    (fun n => A n ^ 2 ^ 0) (r_2 c arg5 harg5 x4) (r_3 c arg5 harg5 x4) (pow_0 c arg5 harg5 x0 x2 x4 A S H).1 (pow_0 c arg5 harg5 x0 x2 x4 A S H).2

theorem holds_4 : Holds (HS0_12 c arg1 harg1 arg3 harg3 arg5 harg5 arg7 x0 x2 x4) (stored A S 4) :=
  holds_step (HS0_11 c arg1 harg1 arg3 harg3 arg5 harg5 arg7 x0 x2 x4) (stored A S 3) (holds_3 c arg1 harg1 arg3 harg3 arg5 harg5 arg7 x0 x2 x4 A S H) arg7.view 3 255 1
    (by norm_num) (by norm_num) inb_S4x512x128_S1x256x128_3_256_0 inb_S4x512x128_S1x256x128_3_255_0
    (fun n => A n ^ 2 ^ 0) (r_2 c arg5 harg5 x4) (r_3 c arg5 harg5 x4) (pow_0 c arg5 harg5 x0 x2 x4 A S H).1 (pow_0 c arg5 harg5 x0 x2 x4 A S H).2

theorem holds_5 : Holds (HS0_13 c arg1 harg1 arg3 harg3 arg5 harg5 arg7 x0 x2 x4) (stored A S 5) :=
  holds_step (HS0_12 c arg1 harg1 arg3 harg3 arg5 harg5 arg7 x0 x2 x4) (stored A S 4) (holds_4 c arg1 harg1 arg3 harg3 arg5 harg5 arg7 x0 x2 x4 A S H) arg7.view 0 254 2
    (by norm_num) (by norm_num) inb_S4x512x128_S1x256x128_0_256_0 inb_S4x512x128_S1x256x128_0_254_0
    (fun n => A n ^ 2 ^ 1) (r_5 c arg5 harg5 x4) (r_6 c arg5 harg5 x4) (pow_1 c arg5 harg5 x0 x2 x4 A S H).1 (pow_1 c arg5 harg5 x0 x2 x4 A S H).2

theorem holds_6 : Holds (HS0_14 c arg1 harg1 arg3 harg3 arg5 harg5 arg7 x0 x2 x4) (stored A S 6) :=
  holds_step (HS0_13 c arg1 harg1 arg3 harg3 arg5 harg5 arg7 x0 x2 x4) (stored A S 5) (holds_5 c arg1 harg1 arg3 harg3 arg5 harg5 arg7 x0 x2 x4 A S H) arg7.view 1 254 2
    (by norm_num) (by norm_num) inb_S4x512x128_S1x256x128_1_256_0 inb_S4x512x128_S1x256x128_1_254_0
    (fun n => A n ^ 2 ^ 1) (r_5 c arg5 harg5 x4) (r_6 c arg5 harg5 x4) (pow_1 c arg5 harg5 x0 x2 x4 A S H).1 (pow_1 c arg5 harg5 x0 x2 x4 A S H).2

theorem holds_7 : Holds (HS0_15 c arg1 harg1 arg3 harg3 arg5 harg5 arg7 x0 x2 x4) (stored A S 7) :=
  holds_step (HS0_14 c arg1 harg1 arg3 harg3 arg5 harg5 arg7 x0 x2 x4) (stored A S 6) (holds_6 c arg1 harg1 arg3 harg3 arg5 harg5 arg7 x0 x2 x4 A S H) arg7.view 2 254 2
    (by norm_num) (by norm_num) inb_S4x512x128_S1x256x128_2_256_0 inb_S4x512x128_S1x256x128_2_254_0
    (fun n => A n ^ 2 ^ 1) (r_5 c arg5 harg5 x4) (r_6 c arg5 harg5 x4) (pow_1 c arg5 harg5 x0 x2 x4 A S H).1 (pow_1 c arg5 harg5 x0 x2 x4 A S H).2

theorem holds_8 : Holds (HS0_16 c arg1 harg1 arg3 harg3 arg5 harg5 arg7 x0 x2 x4) (stored A S 8) :=
  holds_step (HS0_15 c arg1 harg1 arg3 harg3 arg5 harg5 arg7 x0 x2 x4) (stored A S 7) (holds_7 c arg1 harg1 arg3 harg3 arg5 harg5 arg7 x0 x2 x4 A S H) arg7.view 3 254 2
    (by norm_num) (by norm_num) inb_S4x512x128_S1x256x128_3_256_0 inb_S4x512x128_S1x256x128_3_254_0
    (fun n => A n ^ 2 ^ 1) (r_5 c arg5 harg5 x4) (r_6 c arg5 harg5 x4) (pow_1 c arg5 harg5 x0 x2 x4 A S H).1 (pow_1 c arg5 harg5 x0 x2 x4 A S H).2

theorem holds_9 : Holds (HS0_17 c arg1 harg1 arg3 harg3 arg5 harg5 arg7 x0 x2 x4) (stored A S 9) :=
  holds_step (HS0_16 c arg1 harg1 arg3 harg3 arg5 harg5 arg7 x0 x2 x4) (stored A S 8) (holds_8 c arg1 harg1 arg3 harg3 arg5 harg5 arg7 x0 x2 x4 A S H) arg7.view 0 252 4
    (by norm_num) (by norm_num) inb_S4x512x128_S1x256x128_0_256_0 inb_S4x512x128_S1x256x128_0_252_0
    (fun n => A n ^ 2 ^ 2) (r_10 c arg5 harg5 x4) (r_11 c arg5 harg5 x4) (pow_2 c arg5 harg5 x0 x2 x4 A S H).1 (pow_2 c arg5 harg5 x0 x2 x4 A S H).2

theorem holds_10 : Holds (HS0_18 c arg1 harg1 arg3 harg3 arg5 harg5 arg7 x0 x2 x4) (stored A S 10) :=
  holds_step (HS0_17 c arg1 harg1 arg3 harg3 arg5 harg5 arg7 x0 x2 x4) (stored A S 9) (holds_9 c arg1 harg1 arg3 harg3 arg5 harg5 arg7 x0 x2 x4 A S H) arg7.view 1 252 4
    (by norm_num) (by norm_num) inb_S4x512x128_S1x256x128_1_256_0 inb_S4x512x128_S1x256x128_1_252_0
    (fun n => A n ^ 2 ^ 2) (r_10 c arg5 harg5 x4) (r_11 c arg5 harg5 x4) (pow_2 c arg5 harg5 x0 x2 x4 A S H).1 (pow_2 c arg5 harg5 x0 x2 x4 A S H).2

theorem holds_11 : Holds (HS0_19 c arg1 harg1 arg3 harg3 arg5 harg5 arg7 x0 x2 x4) (stored A S 11) :=
  holds_step (HS0_18 c arg1 harg1 arg3 harg3 arg5 harg5 arg7 x0 x2 x4) (stored A S 10) (holds_10 c arg1 harg1 arg3 harg3 arg5 harg5 arg7 x0 x2 x4 A S H) arg7.view 2 252 4
    (by norm_num) (by norm_num) inb_S4x512x128_S1x256x128_2_256_0 inb_S4x512x128_S1x256x128_2_252_0
    (fun n => A n ^ 2 ^ 2) (r_10 c arg5 harg5 x4) (r_11 c arg5 harg5 x4) (pow_2 c arg5 harg5 x0 x2 x4 A S H).1 (pow_2 c arg5 harg5 x0 x2 x4 A S H).2

theorem holds_12 : Holds (HS0_20 c arg1 harg1 arg3 harg3 arg5 harg5 arg7 x0 x2 x4) (stored A S 12) :=
  holds_step (HS0_19 c arg1 harg1 arg3 harg3 arg5 harg5 arg7 x0 x2 x4) (stored A S 11) (holds_11 c arg1 harg1 arg3 harg3 arg5 harg5 arg7 x0 x2 x4 A S H) arg7.view 3 252 4
    (by norm_num) (by norm_num) inb_S4x512x128_S1x256x128_3_256_0 inb_S4x512x128_S1x256x128_3_252_0
    (fun n => A n ^ 2 ^ 2) (r_10 c arg5 harg5 x4) (r_11 c arg5 harg5 x4) (pow_2 c arg5 harg5 x0 x2 x4 A S H).1 (pow_2 c arg5 harg5 x0 x2 x4 A S H).2

theorem holds_13 : Holds (HS0_21 c arg1 harg1 arg3 harg3 arg5 harg5 arg7 x0 x2 x4) (stored A S 13) :=
  holds_step (HS0_20 c arg1 harg1 arg3 harg3 arg5 harg5 arg7 x0 x2 x4) (stored A S 12) (holds_12 c arg1 harg1 arg3 harg3 arg5 harg5 arg7 x0 x2 x4 A S H) arg7.view 0 248 8
    (by norm_num) (by norm_num) inb_S4x512x128_S1x256x128_0_256_0 inb_S4x512x128_S1x256x128_0_248_0
    (fun n => A n ^ 2 ^ 3) (r_16 c arg5 harg5 x4) (r_17 c arg5 harg5 x4) (pow_3 c arg5 harg5 x0 x2 x4 A S H).1 (pow_3 c arg5 harg5 x0 x2 x4 A S H).2

theorem holds_14 : Holds (HS0_22 c arg1 harg1 arg3 harg3 arg5 harg5 arg7 x0 x2 x4) (stored A S 14) :=
  holds_step (HS0_21 c arg1 harg1 arg3 harg3 arg5 harg5 arg7 x0 x2 x4) (stored A S 13) (holds_13 c arg1 harg1 arg3 harg3 arg5 harg5 arg7 x0 x2 x4 A S H) arg7.view 1 248 8
    (by norm_num) (by norm_num) inb_S4x512x128_S1x256x128_1_256_0 inb_S4x512x128_S1x256x128_1_248_0
    (fun n => A n ^ 2 ^ 3) (r_16 c arg5 harg5 x4) (r_17 c arg5 harg5 x4) (pow_3 c arg5 harg5 x0 x2 x4 A S H).1 (pow_3 c arg5 harg5 x0 x2 x4 A S H).2

theorem holds_15 : Holds (HS0_23 c arg1 harg1 arg3 harg3 arg5 harg5 arg7 x0 x2 x4) (stored A S 15) :=
  holds_step (HS0_22 c arg1 harg1 arg3 harg3 arg5 harg5 arg7 x0 x2 x4) (stored A S 14) (holds_14 c arg1 harg1 arg3 harg3 arg5 harg5 arg7 x0 x2 x4 A S H) arg7.view 2 248 8
    (by norm_num) (by norm_num) inb_S4x512x128_S1x256x128_2_256_0 inb_S4x512x128_S1x256x128_2_248_0
    (fun n => A n ^ 2 ^ 3) (r_16 c arg5 harg5 x4) (r_17 c arg5 harg5 x4) (pow_3 c arg5 harg5 x0 x2 x4 A S H).1 (pow_3 c arg5 harg5 x0 x2 x4 A S H).2

theorem holds_16 : Holds (HS0_24 c arg1 harg1 arg3 harg3 arg5 harg5 arg7 x0 x2 x4) (stored A S 16) :=
  holds_step (HS0_23 c arg1 harg1 arg3 harg3 arg5 harg5 arg7 x0 x2 x4) (stored A S 15) (holds_15 c arg1 harg1 arg3 harg3 arg5 harg5 arg7 x0 x2 x4 A S H) arg7.view 3 248 8
    (by norm_num) (by norm_num) inb_S4x512x128_S1x256x128_3_256_0 inb_S4x512x128_S1x256x128_3_248_0
    (fun n => A n ^ 2 ^ 3) (r_16 c arg5 harg5 x4) (r_17 c arg5 harg5 x4) (pow_3 c arg5 harg5 x0 x2 x4 A S H).1 (pow_3 c arg5 harg5 x0 x2 x4 A S H).2

theorem holds_17 : Holds (HS0_25 c arg1 harg1 arg3 harg3 arg5 harg5 arg7 x0 x2 x4) (stored A S 17) :=
  holds_step (HS0_24 c arg1 harg1 arg3 harg3 arg5 harg5 arg7 x0 x2 x4) (stored A S 16) (holds_16 c arg1 harg1 arg3 harg3 arg5 harg5 arg7 x0 x2 x4 A S H) arg7.view 0 240 16
    (by norm_num) (by norm_num) inb_S4x512x128_S1x256x128_0_256_0 inb_S4x512x128_S1x256x128_0_240_0
    (fun n => A n ^ 2 ^ 4) (r_19 c arg5 harg5 x4) (r_20 c arg5 harg5 x4) (pow_4 c arg5 harg5 x0 x2 x4 A S H).1 (pow_4 c arg5 harg5 x0 x2 x4 A S H).2

theorem holds_18 : Holds (HS0_26 c arg1 harg1 arg3 harg3 arg5 harg5 arg7 x0 x2 x4) (stored A S 18) :=
  holds_step (HS0_25 c arg1 harg1 arg3 harg3 arg5 harg5 arg7 x0 x2 x4) (stored A S 17) (holds_17 c arg1 harg1 arg3 harg3 arg5 harg5 arg7 x0 x2 x4 A S H) arg7.view 1 240 16
    (by norm_num) (by norm_num) inb_S4x512x128_S1x256x128_1_256_0 inb_S4x512x128_S1x256x128_1_240_0
    (fun n => A n ^ 2 ^ 4) (r_19 c arg5 harg5 x4) (r_20 c arg5 harg5 x4) (pow_4 c arg5 harg5 x0 x2 x4 A S H).1 (pow_4 c arg5 harg5 x0 x2 x4 A S H).2

theorem holds_19 : Holds (HS0_27 c arg1 harg1 arg3 harg3 arg5 harg5 arg7 x0 x2 x4) (stored A S 19) :=
  holds_step (HS0_26 c arg1 harg1 arg3 harg3 arg5 harg5 arg7 x0 x2 x4) (stored A S 18) (holds_18 c arg1 harg1 arg3 harg3 arg5 harg5 arg7 x0 x2 x4 A S H) arg7.view 2 240 16
    (by norm_num) (by norm_num) inb_S4x512x128_S1x256x128_2_256_0 inb_S4x512x128_S1x256x128_2_240_0
    (fun n => A n ^ 2 ^ 4) (r_19 c arg5 harg5 x4) (r_20 c arg5 harg5 x4) (pow_4 c arg5 harg5 x0 x2 x4 A S H).1 (pow_4 c arg5 harg5 x0 x2 x4 A S H).2

theorem holds_20 : Holds (HS0_28 c arg1 harg1 arg3 harg3 arg5 harg5 arg7 x0 x2 x4) (stored A S 20) :=
  holds_step (HS0_27 c arg1 harg1 arg3 harg3 arg5 harg5 arg7 x0 x2 x4) (stored A S 19) (holds_19 c arg1 harg1 arg3 harg3 arg5 harg5 arg7 x0 x2 x4 A S H) arg7.view 3 240 16
    (by norm_num) (by norm_num) inb_S4x512x128_S1x256x128_3_256_0 inb_S4x512x128_S1x256x128_3_240_0
    (fun n => A n ^ 2 ^ 4) (r_19 c arg5 harg5 x4) (r_20 c arg5 harg5 x4) (pow_4 c arg5 harg5 x0 x2 x4 A S H).1 (pow_4 c arg5 harg5 x0 x2 x4 A S H).2

theorem holds_21 : Holds (HS0_29 c arg1 harg1 arg3 harg3 arg5 harg5 arg7 x0 x2 x4) (stored A S 21) :=
  holds_step (HS0_28 c arg1 harg1 arg3 harg3 arg5 harg5 arg7 x0 x2 x4) (stored A S 20) (holds_20 c arg1 harg1 arg3 harg3 arg5 harg5 arg7 x0 x2 x4 A S H) arg7.view 0 224 32
    (by norm_num) (by norm_num) inb_S4x512x128_S1x256x128_0_256_0 inb_S4x512x128_S1x256x128_0_224_0
    (fun n => A n ^ 2 ^ 5) (r_21 c arg5 harg5 x4) (r_22 c arg5 harg5 x4) (pow_5 c arg5 harg5 x0 x2 x4 A S H).1 (pow_5 c arg5 harg5 x0 x2 x4 A S H).2

theorem holds_22 : Holds (HS0_30 c arg1 harg1 arg3 harg3 arg5 harg5 arg7 x0 x2 x4) (stored A S 22) :=
  holds_step (HS0_29 c arg1 harg1 arg3 harg3 arg5 harg5 arg7 x0 x2 x4) (stored A S 21) (holds_21 c arg1 harg1 arg3 harg3 arg5 harg5 arg7 x0 x2 x4 A S H) arg7.view 1 224 32
    (by norm_num) (by norm_num) inb_S4x512x128_S1x256x128_1_256_0 inb_S4x512x128_S1x256x128_1_224_0
    (fun n => A n ^ 2 ^ 5) (r_21 c arg5 harg5 x4) (r_22 c arg5 harg5 x4) (pow_5 c arg5 harg5 x0 x2 x4 A S H).1 (pow_5 c arg5 harg5 x0 x2 x4 A S H).2

theorem holds_23 : Holds (HS0_31 c arg1 harg1 arg3 harg3 arg5 harg5 arg7 x0 x2 x4) (stored A S 23) :=
  holds_step (HS0_30 c arg1 harg1 arg3 harg3 arg5 harg5 arg7 x0 x2 x4) (stored A S 22) (holds_22 c arg1 harg1 arg3 harg3 arg5 harg5 arg7 x0 x2 x4 A S H) arg7.view 2 224 32
    (by norm_num) (by norm_num) inb_S4x512x128_S1x256x128_2_256_0 inb_S4x512x128_S1x256x128_2_224_0
    (fun n => A n ^ 2 ^ 5) (r_21 c arg5 harg5 x4) (r_22 c arg5 harg5 x4) (pow_5 c arg5 harg5 x0 x2 x4 A S H).1 (pow_5 c arg5 harg5 x0 x2 x4 A S H).2

theorem holds_24 : Holds (HS0_32 c arg1 harg1 arg3 harg3 arg5 harg5 arg7 x0 x2 x4) (stored A S 24) :=
  holds_step (HS0_31 c arg1 harg1 arg3 harg3 arg5 harg5 arg7 x0 x2 x4) (stored A S 23) (holds_23 c arg1 harg1 arg3 harg3 arg5 harg5 arg7 x0 x2 x4 A S H) arg7.view 3 224 32
    (by norm_num) (by norm_num) inb_S4x512x128_S1x256x128_3_256_0 inb_S4x512x128_S1x256x128_3_224_0
    (fun n => A n ^ 2 ^ 5) (r_21 c arg5 harg5 x4) (r_22 c arg5 harg5 x4) (pow_5 c arg5 harg5 x0 x2 x4 A S H).1 (pow_5 c arg5 harg5 x0 x2 x4 A S H).2

theorem holds_25 : Holds (HS0_33 c arg1 harg1 arg3 harg3 arg5 harg5 arg7 x0 x2 x4) (stored A S 25) :=
  holds_step (HS0_32 c arg1 harg1 arg3 harg3 arg5 harg5 arg7 x0 x2 x4) (stored A S 24) (holds_24 c arg1 harg1 arg3 harg3 arg5 harg5 arg7 x0 x2 x4 A S H) arg7.view 0 192 64
    (by norm_num) (by norm_num) inb_S4x512x128_S1x256x128_0_256_0 inb_S4x512x128_S1x256x128_0_192_0
    (fun n => A n ^ 2 ^ 6) (r_26 c arg5 harg5 x4) (r_27 c arg5 harg5 x4) (pow_6 c arg5 harg5 x0 x2 x4 A S H).1 (pow_6 c arg5 harg5 x0 x2 x4 A S H).2

theorem holds_26 : Holds (HS0_34 c arg1 harg1 arg3 harg3 arg5 harg5 arg7 x0 x2 x4) (stored A S 26) :=
  holds_step (HS0_33 c arg1 harg1 arg3 harg3 arg5 harg5 arg7 x0 x2 x4) (stored A S 25) (holds_25 c arg1 harg1 arg3 harg3 arg5 harg5 arg7 x0 x2 x4 A S H) arg7.view 1 192 64
    (by norm_num) (by norm_num) inb_S4x512x128_S1x256x128_1_256_0 inb_S4x512x128_S1x256x128_1_192_0
    (fun n => A n ^ 2 ^ 6) (r_26 c arg5 harg5 x4) (r_27 c arg5 harg5 x4) (pow_6 c arg5 harg5 x0 x2 x4 A S H).1 (pow_6 c arg5 harg5 x0 x2 x4 A S H).2

theorem holds_27 : Holds (HS0_35 c arg1 harg1 arg3 harg3 arg5 harg5 arg7 x0 x2 x4) (stored A S 27) :=
  holds_step (HS0_34 c arg1 harg1 arg3 harg3 arg5 harg5 arg7 x0 x2 x4) (stored A S 26) (holds_26 c arg1 harg1 arg3 harg3 arg5 harg5 arg7 x0 x2 x4 A S H) arg7.view 2 192 64
    (by norm_num) (by norm_num) inb_S4x512x128_S1x256x128_2_256_0 inb_S4x512x128_S1x256x128_2_192_0
    (fun n => A n ^ 2 ^ 6) (r_26 c arg5 harg5 x4) (r_27 c arg5 harg5 x4) (pow_6 c arg5 harg5 x0 x2 x4 A S H).1 (pow_6 c arg5 harg5 x0 x2 x4 A S H).2

theorem holds_28 : Holds (HS0_36 c arg1 harg1 arg3 harg3 arg5 harg5 arg7 x0 x2 x4) (stored A S 28) :=
  holds_step (HS0_35 c arg1 harg1 arg3 harg3 arg5 harg5 arg7 x0 x2 x4) (stored A S 27) (holds_27 c arg1 harg1 arg3 harg3 arg5 harg5 arg7 x0 x2 x4 A S H) arg7.view 3 192 64
    (by norm_num) (by norm_num) inb_S4x512x128_S1x256x128_3_256_0 inb_S4x512x128_S1x256x128_3_192_0
    (fun n => A n ^ 2 ^ 6) (r_26 c arg5 harg5 x4) (r_27 c arg5 harg5 x4) (pow_6 c arg5 harg5 x0 x2 x4 A S H).1 (pow_6 c arg5 harg5 x0 x2 x4 A S H).2

theorem holds_29 : Holds (HS0_37 c arg1 harg1 arg3 harg3 arg5 harg5 arg7 x0 x2 x4) (stored A S 29) :=
  holds_step (HS0_36 c arg1 harg1 arg3 harg3 arg5 harg5 arg7 x0 x2 x4) (stored A S 28) (holds_28 c arg1 harg1 arg3 harg3 arg5 harg5 arg7 x0 x2 x4 A S H) arg7.view 0 128 128
    (by norm_num) (by norm_num) inb_S4x512x128_S1x256x128_0_256_0 inb_S4x512x128_S1x256x128_0_128_0
    (fun n => A n ^ 2 ^ 7) (r_31 c arg5 harg5 x4) (r_32 c arg5 harg5 x4) (pow_7 c arg5 harg5 x0 x2 x4 A S H).1 (pow_7 c arg5 harg5 x0 x2 x4 A S H).2

theorem holds_30 : Holds (HS0_38 c arg1 harg1 arg3 harg3 arg5 harg5 arg7 x0 x2 x4) (stored A S 30) :=
  holds_step (HS0_37 c arg1 harg1 arg3 harg3 arg5 harg5 arg7 x0 x2 x4) (stored A S 29) (holds_29 c arg1 harg1 arg3 harg3 arg5 harg5 arg7 x0 x2 x4 A S H) arg7.view 1 128 128
    (by norm_num) (by norm_num) inb_S4x512x128_S1x256x128_1_256_0 inb_S4x512x128_S1x256x128_1_128_0
    (fun n => A n ^ 2 ^ 7) (r_31 c arg5 harg5 x4) (r_32 c arg5 harg5 x4) (pow_7 c arg5 harg5 x0 x2 x4 A S H).1 (pow_7 c arg5 harg5 x0 x2 x4 A S H).2

theorem holds_31 : Holds (HS0_39 c arg1 harg1 arg3 harg3 arg5 harg5 arg7 x0 x2 x4) (stored A S 31) :=
  holds_step (HS0_38 c arg1 harg1 arg3 harg3 arg5 harg5 arg7 x0 x2 x4) (stored A S 30) (holds_30 c arg1 harg1 arg3 harg3 arg5 harg5 arg7 x0 x2 x4 A S H) arg7.view 2 128 128
    (by norm_num) (by norm_num) inb_S4x512x128_S1x256x128_2_256_0 inb_S4x512x128_S1x256x128_2_128_0
    (fun n => A n ^ 2 ^ 7) (r_31 c arg5 harg5 x4) (r_32 c arg5 harg5 x4) (pow_7 c arg5 harg5 x0 x2 x4 A S H).1 (pow_7 c arg5 harg5 x0 x2 x4 A S H).2

theorem holds_32 : Holds (HS0_40 c arg1 harg1 arg3 harg3 arg5 harg5 arg7 x0 x2 x4) (stored A S 32) :=
  holds_step (HS0_39 c arg1 harg1 arg3 harg3 arg5 harg5 arg7 x0 x2 x4) (stored A S 31) (holds_31 c arg1 harg1 arg3 harg3 arg5 harg5 arg7 x0 x2 x4 A S H) arg7.view 3 128 128
    (by norm_num) (by norm_num) inb_S4x512x128_S1x256x128_3_256_0 inb_S4x512x128_S1x256x128_3_128_0
    (fun n => A n ^ 2 ^ 7) (r_31 c arg5 harg5 x4) (r_32 c arg5 harg5 x4) (pow_7 c arg5 harg5 x0 x2 x4 A S H).1 (pow_7 c arg5 harg5 x0 x2 x4 A S H).2

/-- Two batches' stores of a level leave the others' rows, so four stores are one level everywhere. -/
theorem stored_level (k : ℕ) : stored A S (4 * (k + 1)) = fun b n => level (2 ^ k) (A n ^ 2 ^ k) (stored A S (4 * k) b n) := by
  have h0 : (4 * k) % 4 = 0 ∧ (4 * k) / 4 = k := by omega
  have h1 : (4 * k + 1) % 4 = 1 ∧ (4 * k + 1) / 4 = k := by omega
  have h2 : (4 * k + 2) % 4 = 2 ∧ (4 * k + 2) / 4 = k := by omega
  have h3 : (4 * k + 3) % 4 = 3 ∧ (4 * k + 3) / 4 = k := by omega
  show stored A S (4 * k + 3 + 1) = _
  funext b n
  simp only [stored, h0.1, h0.2, h1.1, h1.2, h2.1, h2.2, h3.1, h3.2]
  fin_cases b <;> simp

theorem stored_window (k : ℕ) (hk : k ≤ 8) : stored A S (4 * k) = fun b n => window (A n) (S b n) k := by
  induction k with
  | zero => funext b n; exact (window_zero (A n) (S b n) (H.zero b n)).symm
  | succ k ih =>
    rw [stored_level x0 x2 x4 A S H, ih (by omega)]
    funext b n
    exact level_window (A n) (S b n) (H.zero b n) k (by omega)

/-- The chunk states entering the chunks, in the scan's rows. -/
theorem scan_apply (b : Fin 4) (k : Fin 256) (l : Fin 128) :
    View.canon (HS0_40 c arg1 harg1 arg3 harg3 arg5 harg5 arg7 x0 x2 x4) (ix3 (n0 := 4) (n1 := 512) b ⟨255 + k, by omega⟩ l)
      = ((lane (fun n => state (A n) (fun j => S b n (256 + j)) k) l : ℝ) : EReal) := by
  rw [holds_32 c arg1 harg1 arg3 harg3 arg5 harg5 arg7 x0 x2 x4 A S H, stored_window x0 x2 x4 A S H 8 le_rfl]
  refine congrArg (fun z => ((lane z l : ℝ) : EReal)) ?_
  funext n
  exact window_eight (A n) (S b n) (H.zero b n) k k.isLt

end Group

end Cert.KernelIdeal.Gen

end
-- ==== Proof.S5.Group.lean ====
module

public import proofs.«01_k».proof.Proof.S5.Scan

/-!
# One group's result

The second region's block: the chunk's own taps times the inputs, plus the output map times the states entering
the chunks. At real inputs it is the recurrence's output.
-/

@[expose] public section

noncomputable section

namespace Cert.S5

/-- A finite sum of reals, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of products of reals. -/
theorem coe_sum_mul {ι : Type*} [Fintype ι] (f g : ι → ℝ) : (∑ i, (f i : EReal) * (g i : EReal)) = ((∑ i, f i * g i : ℝ) : EReal) := by
  rw [coe_sum]; simp only [EReal.coe_mul]

end Cert.S5

namespace Cert.KernelIdeal.Gen

open Idealize.ShloMosaic Cert.KernelIdeal Cert.S5 kernelRun1_A.sl

/-- The states' rows of four batches, stacked. -/
theorem stack_apply (w : Fin 4 → Vec Ideal S1x256x128 .f32) (h) (b : Fin 4) (k : Fin 256) (l : Fin 128) :
    concatenate S1024x128 0 [⟨S256x128, shapeCast S256x128 (w 0) shapeCasts_S1x256x128_S256x128⟩,
      ⟨S256x128, shapeCast S256x128 (w 1) shapeCasts_S1x256x128_S256x128⟩,
      ⟨S256x128, shapeCast S256x128 (w 2) shapeCasts_S1x256x128_S256x128⟩,
      ⟨S256x128, shapeCast S256x128 (w 3) shapeCasts_S1x256x128_S256x128⟩] h (ix2 (n0 := 1024) ⟨256 * b + k, by omega⟩ l)
      = w b (ix3 (n0 := 1) 0 k l) := by
  refine (concatenate_ofFn_apply (t := S1024x128) (s₁ := S256x128) (0 : Fin 2) (N := 4)
    (fun n => shapeCast S256x128 (w n) shapeCasts_S1x256x128_S256x128) h rfl 256 rfl _ b ?_ (ix2 k l) ?_ ?_).trans ?_
  · show (256 * b.val + k.val) / 256 = b.val
    omega
  · show k.val = (256 * b.val + k.val) % 256
    omega
  · intro a ha
    fin_cases a
    · exact absurd rfl ha
    · rfl
  · pointwise

theorem k1_pay79_apply (x : FVec Ideal S1024x512 .bf16) (w : Fin 4 → Vec Ideal S1x256x128 .f32) (m : Vec Ideal S1x512x512 .bf16)
    (q : Vec Ideal S1x512x128 .bf16) (b : Fin 4) (k : Fin 256) (j : Fin 512) :
    k1_pay79 x (w 0) (w 1) (w 2) (w 3) m q (ix2 (n0 := 1024) ⟨256 * b + k, by omega⟩ j)
      = (∑ i : Fin 512, x (ix2 (n0 := 1024) ⟨256 * b + k, by omega⟩ i) * m (ix3 (n0 := 1) 0 i j))
        + ∑ l : Fin 128, w b (ix3 (n0 := 1) 0 k l) * q (ix3 (n0 := 1) 0 j l) := by
  have key : ∀ s : FVec Ideal S1024x128 .f32, (∀ l, s (ix2 (n0 := 1024) ⟨256 * b + k, by omega⟩ l) = w b (ix3 (n0 := 1) 0 k l)) →
      truncf FTy.bf16
        (addf
          (matmul (φ₂ := .bf16) dot_S1024x512_S512x512_S1024x512_1_0_0_1_n_n none x
            (shapeCast S512x512 m shapeCasts_S1x512x512_S512x512) (constant S1024x512 FTy.f32 0#32))
          (matmul (φ₂ := .bf16) dot_S1024x128_S512x128_S1024x512_1_1_0_0_n_n none (truncf FTy.bf16 s bitsLt_bf16_f32)
            (shapeCast S512x128 q shapeCasts_S1x512x128_S512x128) (constant S1024x512 FTy.f32 0#32)))
        bitsLt_bf16_f32 (ix2 (n0 := 1024) ⟨256 * b + k, by omega⟩ j)
      = (∑ i : Fin 512, x (ix2 (n0 := 1024) ⟨256 * b + k, by omega⟩ i) * m (ix3 (n0 := 1) 0 i j))
        + ∑ l : Fin 128, w b (ix3 (n0 := 1) 0 k l) * q (ix3 (n0 := 1) 0 j l) := by
    intro s hc
    pointwise
    simp only [hc]
  exact key _ (fun l => stack_apply w _ b k l)

variable (c : Dev nD) (i : grid1.Coords) (arg1 : Memref sig .tc .vmem S1x1024x512 .bf16) (harg1 : arg1.IsWhole)
  (arg2 : Memref sig .tc .vmem S1x512x512 .bf16) (harg2 : arg2.IsWhole)
  (arg3 : Memref sig .tc .vmem S1x512x128 .bf16) (harg3 : arg3.IsWhole)
  (arg4 : Memref sig .tc .vmem S1x512x128 .bf16) (harg4 : arg4.IsWhole)
  (arg5 : Memref sig .tc .vmem S1x2x128 .f32) (harg5 : arg5.IsWhole)
  (arg6 : Memref sig .tc .vmem S1x1024x512 .bf16) (harg6 : arg6.IsWhole)
  (arg7 : Memref sig .tc .vmem S4x512x128 .f32) (harg7 : arg7.IsWhole)
  (x0 : Vec Ideal S1x1024x512 .bf16) (x1 : Vec Ideal S1x512x512 .bf16) (x2 x3 : Vec Ideal S1x512x128 .bf16)
  (x4 : Vec Ideal S1x2x128 .f32)

/-- The block the region writes, in its payload. -/
theorem out_eq (b : Fin 4) (k : Fin 256) (j : Fin 512) :
    out1_A_5 c i arg1 harg1 arg2 harg2 arg3 harg3 arg4 harg4 arg5 harg5 arg6 harg6 arg7 harg7 x0 x1 x2 x3 x4
        (ix3 (n0 := 1) (n1 := 1024) 0 ⟨256 * b + k, by omega⟩ j)
      = (∑ i : Fin 512, x0 (ix3 (n0 := 1) (n1 := 1024) 0 ⟨256 * b + k, by omega⟩ i) * x1 (ix3 (n0 := 1) 0 i j))
        + ∑ l : Fin 128, View.canon (HS0_40 c arg1 harg1 arg3 harg3 arg5 harg5 arg7 x0 x2 x4)
            (ix3 (n0 := 4) (n1 := 512) b ⟨255 + k, by omega⟩ l) * x3 (ix3 (n0 := 1) 0 j l) := by
  unfold out1_A_5 kernelRun1_A
  dsimp only
  rw [View.read_writes_junk_eq_canon]
  have hz : (![0, 0, 0] : Fin 3 → ℕ) = fun _ => 0 := by funext a; fin_cases a <;> rfl
  refine (congrFun (View.canon_unit_zero (S := S1x1024x512) hz inb_S1x1024x512_S1x1024x512_0_0_0 _) _).trans ?_
  have e1 : k1_pay1 (F := Ideal) (r_35 c arg1 harg1 arg2 harg2 arg3 harg3 arg4 harg4 arg5 harg5 arg7 x0 x1 x2 x3 x4)
      (ix3 (n0 := 1) (n1 := 1024) 0 ⟨256 * b + k, by omega⟩ j)
      = r_35 c arg1 harg1 arg2 harg2 arg3 harg3 arg4 harg4 arg5 harg5 arg7 x0 x1 x2 x3 x4 (ix2 (n0 := 1024) ⟨256 * b + k, by omega⟩ j) := by
    pointwise [k1_pay1]
  refine e1.trans ?_
  unfold r_35
  refine (k1_pay79_apply _ ![v569 c arg1 harg1 arg3 harg3 arg5 harg5 arg7 x0 x2 x4, v571 c arg1 harg1 arg3 harg3 arg5 harg5 arg7 x0 x2 x4,
    v573 c arg1 harg1 arg3 harg3 arg5 harg5 arg7 x0 x2 x4, v575 c arg1 harg1 arg3 harg3 arg5 harg5 arg7 x0 x2 x4] _ _ b k j).trans ?_
  refine congrArg₂ (· + ·) (Finset.sum_congr rfl fun a _ => congrArg₂ (· * ·) ?_ ?_)
    (Finset.sum_congr rfl fun l _ => congrArg₂ (· * ·) ?_ ?_)
  · unfold kernelRun1_A.sl.r
    pointwise [k1_pay2]
    rw [Memref.IsWhole.readAt_unread]
    congr 1
    funext a
    refine Fin.ext ((ValueKit.rect_emb_unit_val _ _ _ _ _).trans ?_)
    fin_cases a <;> simp
  · rw [Memref.IsWhole.readAt_unread]
    congr 1
    funext a
    refine Fin.ext ((ValueKit.rect_emb_unit_val _ _ _ _ _).trans ?_)
    fin_cases a <;> simp
  · have hr := fun (b : ℕ) (hb : b < 4) (inb) => readCov_rows arg7.view (HS0_40 c arg1 harg1 arg3 harg3 arg5 harg5 arg7 x0 x2 x4) b 255
      inb hb (by norm_num) k l
    fin_cases b
    · exact hr 0 (by norm_num) inb_S4x512x128_S1x256x128_0_255_0
    · exact hr 1 (by norm_num) inb_S4x512x128_S1x256x128_1_255_0
    · exact hr 2 (by norm_num) inb_S4x512x128_S1x256x128_2_255_0
    · exact hr 3 (by norm_num) inb_S4x512x128_S1x256x128_3_255_0
  · rw [Memref.IsWhole.readAt_unread]
    congr 1
    funext a
    refine Fin.ext ((ValueKit.rect_emb_unit_val _ _ _ _ _).trans ?_)
    fin_cases a <;> simp

/-- One group's operands: real inputs `u` per batch, time and channel, poles `L`, input map `B`, output map `C`. -/
structure GroupOperands (u : Fin 4 → ℕ → Fin 16 → ℝ) (L : Fin 64 → ℂ) (B : Fin 64 → Fin 16 → ℂ) (C : Fin 16 → Fin 64 → ℂ) : Prop where
  h0 : ∀ (b : Fin 4) (k : Fin 256) (s : Fin 32) (p : Fin 16),
    x0 (ix3 (n0 := 1) (n1 := 1024) (n2 := 512) 0 ⟨256 * b + k, by omega⟩ ⟨16 * s + p, by omega⟩) = ((u b (32 * k + s) p : ℝ) : EReal)
  h1 : ∀ (s : Fin 32) (p : Fin 16) (t : Fin 32) (q : Fin 16),
    x1 (ix3 (n0 := 1) (n1 := 512) (n2 := 512) 0 ⟨16 * s + p, by omega⟩ ⟨16 * t + q, by omega⟩)
      = (((if s ≤ t then tap L B (C q) (t - s) p else 0 : ℝ)) : EReal)
  h2 : ∀ (s : Fin 32) (p : Fin 16) (l : Fin 128),
    x2 (ix3 (n0 := 1) (n1 := 512) 0 ⟨16 * s + p, by omega⟩ l) = ((lane (fun n => L n ^ (31 - (s : ℕ)) * B n p) l : ℝ) : EReal)
  h3 : ∀ (t : Fin 32) (q : Fin 16) (l : Fin 128),
    x3 (ix3 (n0 := 1) (n1 := 512) 0 ⟨16 * t + q, by omega⟩ l)
      = ((lane (fun n => (starRingEnd ℂ) (C q n * L n ^ ((t : ℕ) + 1))) l : ℝ) : EReal)
  re : ∀ l : Fin 128, x4 (ix3 (n0 := 1) (n1 := 2) 0 0 l) = (((L ⟨l.val % 64, Nat.mod_lt _ (by norm_num)⟩ ^ 32).re : ℝ) : EReal)
  im : ∀ l : Fin 128, x4 (ix3 (n0 := 1) (n1 := 2) 0 1 l) = (((L ⟨l.val % 64, Nat.mod_lt _ (by norm_num)⟩ ^ 32).im : ℝ) : EReal)

variable {x0 x1 x2 x3 x4}

/-- The group's rows: zero above, the chunks' inputs below. -/
def groupRows (u : Fin 4 → ℕ → Fin 16 → ℝ) (L : Fin 64 → ℂ) (B : Fin 64 → Fin 16 → ℂ) (b : Fin 4) (n : Fin 64) (r : ℕ) : ℂ :=
  if r < 256 then 0 else chunkIn (L n) (B n) (u b) (r - 256)

theorem lane_sum {ι : Type*} (s : Finset ι) (f : ι → ℝ) (g : ι → Fin 64 → ℂ) (l : Fin 128) :
    lane (fun n => ∑ i ∈ s, (f i : ℂ) * g i n) l = ∑ i ∈ s, f i * lane (g i) l := by
  unfold lane
  split_ifs
  · simp [Complex.re_sum]
  · simp [Complex.im_sum]

theorem operands_of {u : Fin 4 → ℕ → Fin 16 → ℝ} {L : Fin 64 → ℂ} {B : Fin 64 → Fin 16 → ℂ} {C : Fin 16 → Fin 64 → ℂ}
    (H : GroupOperands x0 x1 x2 x3 x4 u L B C) : Operands x0 x2 x4 (fun n => L n ^ 32) (groupRows u L B) where
  re := H.re
  im := H.im
  zero := fun b n r hr => if_pos hr
  rows := fun b k l => by
    have e : k1_pay3 (F := Ideal) x0 x2 (ix2 (n0 := 1024) ⟨256 * b + k, by omega⟩ l)
        = ∑ i : Fin 512, x0 (ix3 (n0 := 1) (n1 := 1024) 0 ⟨256 * b + k, by omega⟩ i) * x2 (ix3 (n0 := 1) 0 i l) := by
      pointwise [k1_pay3, k1_pay2]
    rw [e, sum_flat]
    have e2 : (fun n => groupRows u L B b n (256 + k)) = fun n => ∑ s : Fin 32, ∑ p : Fin 16,
        ((u b (32 * k + s) p : ℝ) : ℂ) * (L n ^ (31 - (s : ℕ)) * B n p) := by
      funext n
      unfold groupRows chunkIn
      rw [if_neg (by omega), show 256 + k.val - 256 = k.val by omega]
    rw [e2]
    simp only [H.h0, H.h2, ← EReal.coe_mul, ← coe_sum]
    refine congrArg Real.toEReal ?_
    simp only [← lane_sum]
    have e3 : ∀ f : Fin 32 → Fin 64 → ℂ, lane (fun n => ∑ s, f s n) l = ∑ s, lane (f s) l := by
      intro f
      have := lane_sum Finset.univ (fun _ => 1) f l
      simpa using this
    rw [e3]

theorem out_apply {u : Fin 4 → ℕ → Fin 16 → ℝ} {L : Fin 64 → ℂ} {B : Fin 64 → Fin 16 → ℂ} {C : Fin 16 → Fin 64 → ℂ}
    (H : GroupOperands x0 x1 x2 x3 x4 u L B C) (b : Fin 4) (k : Fin 256) (t : Fin 32) (q : Fin 16) :
    out1_A_5 c i arg1 harg1 arg2 harg2 arg3 harg3 arg4 harg4 arg5 harg5 arg6 harg6 arg7 harg7 x0 x1 x2 x3 x4
        (ix3 (n0 := 1) (n1 := 1024) (n2 := 512) 0 ⟨256 * b + k, by omega⟩ ⟨16 * t + q, by omega⟩)
      = ((seqOut L B (C q) (u b) (32 * k + t) : ℝ) : EReal) := by
  rw [out_eq, sum_flat, ← chunked]
  simp only [H.h0, H.h1, H.h3, scan_apply c arg1 harg1 arg3 harg3 arg5 harg5 arg7 x0 x2 x4 _ _ (operands_of H),
    ← EReal.coe_mul, ← coe_sum, ← EReal.coe_add]
  refine congrArg Real.toEReal (congrArg₂ (· + ·) rfl ?_)
  have e : ∀ n : Fin 64, (fun j => groupRows u L B b n (256 + j)) = chunkIn (L n) (B n) (u b) := by
    intro n; funext j
    unfold groupRows
    rw [if_neg (by omega), Nat.add_sub_cancel_left]
  simp only [e]
  refine sum_lane _ (fun n => C q n * L n ^ ((t : ℕ) + 1)) _ (fun n => ?_) (fun n => ?_)
  · have h : n.val < 64 := n.isLt
    simp only [lane, dif_pos h, Complex.conj_re]
    ring
  · have h : ¬ (64 + n.val < 64) := by omega
    have h2 : 64 + n.val - 64 = n.val := by omega
    simp only [lane, dif_neg h, h2, Complex.conj_im]
    ring

end Cert.KernelIdeal.Gen

end
-- ==== Proof.S5.Params.lean ====
module

public import proofs.«01_k».proof.Proof.S5.Coef
public import proofs.«01_k».proof.Proof.S5.Group

/-!
# The first region: one group's operators

At real parameters the four blocks are the taps, the output map, the input map and the chunk's power.
-/

@[expose] public section

noncomputable section

namespace Cert.KernelIdeal.Gen

open Idealize.ShloMosaic Cert.KernelIdeal Cert.S5

theorem ofBits_31 : Ideal.ofBits .f32 0x41F80000#32 = ((31 : ℝ) : EReal) := by
  simp [Ideal.ofBits, Ideal.ieee, -EReal.coe_mul]; norm_num

theorem ofBits_32 : Ideal.ofBits .f32 0x42000000#32 = ((32 : ℝ) : EReal) := by
  simp [Ideal.ofBits, Ideal.ieee, -EReal.coe_mul]; norm_num

theorem div_real (x y : ℝ) (h : y ≠ 0) : Ideal.div (x : EReal) (y : EReal) = ((x / y : ℝ) : EReal) := by
  rw [Ideal.div_coe h, ← EReal.coe_mul, mul_one_div]

variable {v0 v2 : Vec Ideal S1x1x64 .f32} {v4 : Vec Ideal S1x1x1 .f32} {w3 w4 w5 w6 : Vec Ideal S1x16x64 .f32}

/-- The seven input blocks hold one group's parameters. -/
structure CoefBlocks (v0 v2 : Vec Ideal S1x1x64 .f32) (v4 : Vec Ideal S1x1x1 .f32) (w3 w4 w5 w6 : Vec Ideal S1x16x64 .f32) (K : Coef) : Prop where
  ar : ∀ n : Fin 64, v0 (ix3 (n0 := 1) (n1 := 1) 0 0 n) = ((K.ar n : ℝ) : EReal)
  ai : ∀ n : Fin 64, v2 (ix3 (n0 := 1) (n1 := 1) 0 0 n) = ((K.ai n : ℝ) : EReal)
  ld : v4 (ix3 (n0 := 1) (n1 := 1) (n2 := 1) 0 0 0) = ((K.ld : ℝ) : EReal)
  br : ∀ (p : Fin 16) (n : Fin 64), w3 (ix3 (n0 := 1) 0 p n) = ((K.br n p : ℝ) : EReal)
  bi : ∀ (p : Fin 16) (n : Fin 64), w4 (ix3 (n0 := 1) 0 p n) = ((K.bi n p : ℝ) : EReal)
  cr : ∀ (p : Fin 16) (n : Fin 64), w5 (ix3 (n0 := 1) 0 p n) = ((K.cr p n : ℝ) : EReal)
  ci : ∀ (p : Fin 16) (n : Fin 64), w6 (ix3 (n0 := 1) 0 p n) = ((K.ci p n : ℝ) : EReal)

variable {K : Coef} (H : CoefBlocks v0 v2 v4 w3 w4 w5 w6 K)
include H

theorem pay3_apply (n : Fin 64) : k0_pay3 (F := Ideal) v0 (ix2 (n0 := 1) 0 n) = ((K.ar n : ℝ) : EReal) := by
  rw [← H.ar]; pointwise [k0_pay3]

theorem pay4_apply (n : Fin 64) : k0_pay4 (F := Ideal) v2 (ix2 (n0 := 1) 0 n) = ((K.ai n : ℝ) : EReal) := by
  rw [← H.ai]; pointwise [k0_pay4]

theorem pay5_apply : k0_pay5 (F := Ideal) v4 (ix2 (n0 := 1) (n1 := 1) 0 0) = ((Real.exp K.ld : ℝ) : EReal) := by
  rw [← Ideal.exp_coe, ← H.ld]; pointwise [k0_pay5]

theorem pay6_apply (n : Fin 64) : k0_pay6 (F := Ideal) v0 v4 (ix2 (n0 := 1) 0 n) = (((K.expo n).re : ℝ) : EReal) := by
  pointwise [k0_pay6]
  rw [pay3_apply H, pay5_apply H, ← EReal.coe_mul]
  rfl

theorem pay7_apply (n : Fin 64) : k0_pay7 (F := Ideal) v2 v4 (ix2 (n0 := 1) 0 n) = (((K.expo n).im : ℝ) : EReal) := by
  pointwise [k0_pay7]
  rw [pay4_apply H, pay5_apply H, ← EReal.coe_mul]
  rfl

theorem pay9_apply (n : Fin 64) : k0_pay9 (F := Ideal) v0 v4 (ix2 (n0 := 1) 0 n) = ((Real.exp (K.expo n).re : ℝ) : EReal) := by
  pointwise [k0_pay9, k0_pay8]
  rw [pay6_apply H, Ideal.exp_coe]

theorem pay10_apply (n : Fin 64) : k0_pay10 (F := Ideal) v2 v4 (ix2 (n0 := 1) 0 n) = (((K.expo n).im : ℝ) : EReal) := by
  pointwise [k0_pay10, k0_pay8]
  rw [pay7_apply H]

theorem pay11_apply (n : Fin 64) : k0_pay11 (F := Ideal) v0 v2 v4 (ix2 (n0 := 1) 0 n) = (((K.pole n).im : ℝ) : EReal) := by
  pointwise [k0_pay11]
  rw [pay9_apply H, pay10_apply H, Ideal.sin_coe, ← EReal.coe_mul, K.pole_im]

theorem pay13_apply (n : Fin 64) : k0_pay13 (F := Ideal) v0 v2 v4 (ix2 (n0 := 1) 0 n) = (((K.pole n).re - 1 : ℝ) : EReal) := by
  pointwise [k0_pay13]
  rw [pay9_apply H, pay10_apply H, Ideal.cos_coe, ← EReal.coe_mul, ← K.pole_re]
  norm_cast

theorem pay12_apply (n : Fin 64) : k0_pay12 (F := Ideal) v0 v2 (ix2 (n0 := 1) 0 n) = ((K.ar n * K.ar n + K.ai n * K.ai n : ℝ) : EReal) := by
  pointwise [k0_pay12]
  rw [pay3_apply H, pay4_apply H]
  norm_cast

theorem pay14_apply (n : Fin 64) : k0_pay14 (F := Ideal) v0 v2 v4 (ix2 (n0 := 1) 0 n) = (((K.fac n).re : ℝ) : EReal) := by
  pointwise [k0_pay14]
  rw [pay13_apply H, pay11_apply H, pay3_apply H, pay4_apply H, pay12_apply H, ← EReal.coe_mul, ← EReal.coe_mul, ← EReal.coe_add,
    div_real _ _ (K.ne n)]
  rfl

theorem pay15_apply (n : Fin 64) : k0_pay15 (F := Ideal) v0 v2 v4 (ix2 (n0 := 1) 0 n) = (((K.fac n).im : ℝ) : EReal) := by
  pointwise [k0_pay15]
  rw [pay13_apply H, pay11_apply H, pay3_apply H, pay4_apply H, pay12_apply H, ← EReal.coe_mul, ← EReal.coe_mul, ← EReal.coe_sub,
    div_real _ _ (K.ne n)]
  rfl

theorem pay20_apply (p : Fin 16) (n : Fin 64) :
    k0_pay20 (F := Ideal) (k0_pay18 v0 v2 v4 w3) (k0_pay19 v0 v2 v4 w4) (ix2 p n) = (((K.inB n p).re : ℝ) : EReal) := by
  pointwise [k0_pay20, k0_pay18, k0_pay19, k0_pay16, k0_pay17]
  rw [pay14_apply H, pay15_apply H, H.br, H.bi, ← EReal.coe_mul, ← EReal.coe_mul, ← EReal.coe_sub]
  rfl

theorem pay21_apply (p : Fin 16) (n : Fin 64) :
    k0_pay21 (F := Ideal) (k0_pay14 v0 v2 v4) (k0_pay15 v0 v2 v4) (k0_pay16 w3) (k0_pay17 w4) (ix2 p n) = (((K.inB n p).im : ℝ) : EReal) := by
  pointwise [k0_pay21, k0_pay16, k0_pay17]
  rw [pay14_apply H, pay15_apply H, H.br, H.bi, ← EReal.coe_mul, ← EReal.coe_mul, ← EReal.coe_add]
  rfl

omit H in
/-- 32 copies of a block of 16 rows, stacked. -/
theorem copies_apply (x : FVec Ideal S16x64 .f32)
    (h : Shape.Concatenates ((List.replicate 32 (⟨S16x64, x⟩ : (s : Shape) × (s.Idx → Ideal .f32))).map (·.1)) S512x64 0)
    (s : Fin 32) (p : Fin 16) (n : Fin 64) :
    concatenate S512x64 0 (List.replicate 32 (⟨S16x64, x⟩ : (s : Shape) × (s.Idx → Ideal .f32))) h
      (ix2 (n0 := 512) ⟨16 * s + p, by omega⟩ n) = x (ix2 p n) := by
  refine concatenate_replicate_apply (t := S512x64) (s₁ := S16x64) (0 : Fin 2) 32 x h rfl _ (ix2 p n) ?_ ?_
  · show p.val = (16 * s.val + p.val) % 16
    omega
  · intro a ha
    fin_cases a
    · exact absurd rfl ha
    · rfl

theorem pay22_apply (s : Fin 32) (p : Fin 16) (n : Fin 64) :
    k0_pay22 (F := Ideal) (k0_pay18 v0 v2 v4 w3) (k0_pay19 v0 v2 v4 w4) (ix2 (n0 := 512) ⟨16 * s + p, by omega⟩ n)
      = (((K.inB n p).re : ℝ) : EReal) := by
  refine Eq.trans ?_ (pay20_apply H p n)
  exact copies_apply _ concatenates_S16x64_S16x64_S16x64_S16x64_S16x64_S16x64_S16x64_S16x64_S16x64_S16x64_S16x64_S16x64_S16x64_S16x64_S16x64_S16x64_S16x64_S16x64_S16x64_S16x64_S16x64_S16x64_S16x64_S16x64_S16x64_S16x64_S16x64_S16x64_S16x64_S16x64_S16x64_S16x64_S512x64_d0 s p n

theorem pay23_apply (s : Fin 32) (p : Fin 16) (n : Fin 64) :
    k0_pay23 (F := Ideal) (k0_pay14 v0 v2 v4) (k0_pay15 v0 v2 v4) (k0_pay16 w3) (k0_pay17 w4) (ix2 (n0 := 512) ⟨16 * s + p, by omega⟩ n)
      = (((K.inB n p).im : ℝ) : EReal) := by
  refine Eq.trans ?_ (pay21_apply H p n)
  exact copies_apply _ concatenates_S16x64_S16x64_S16x64_S16x64_S16x64_S16x64_S16x64_S16x64_S16x64_S16x64_S16x64_S16x64_S16x64_S16x64_S16x64_S16x64_S16x64_S16x64_S16x64_S16x64_S16x64_S16x64_S16x64_S16x64_S16x64_S16x64_S16x64_S16x64_S16x64_S16x64_S16x64_S16x64_S512x64_d0 s p n

theorem pay24_apply (s : Fin 32) (p : Fin 16) (n : Fin 64) :
    k0_pay24 (F := Ideal) w5 (ix2 (n0 := 512) ⟨16 * s + p, by omega⟩ n) = ((K.cr p n : ℝ) : EReal) := by
  refine Eq.trans (copies_apply (shapeCast S16x64 w5 shapeCasts_S1x16x64_S16x64) concatenates_S16x64_S16x64_S16x64_S16x64_S16x64_S16x64_S16x64_S16x64_S16x64_S16x64_S16x64_S16x64_S16x64_S16x64_S16x64_S16x64_S16x64_S16x64_S16x64_S16x64_S16x64_S16x64_S16x64_S16x64_S16x64_S16x64_S16x64_S16x64_S16x64_S16x64_S16x64_S16x64_S512x64_d0 s p n) ?_
  rw [← H.cr]
  pointwise

theorem pay25_apply (s : Fin 32) (p : Fin 16) (n : Fin 64) :
    k0_pay25 (F := Ideal) w6 (ix2 (n0 := 512) ⟨16 * s + p, by omega⟩ n) = ((K.ci p n : ℝ) : EReal) := by
  refine Eq.trans (copies_apply (shapeCast S16x64 w6 shapeCasts_S1x16x64_S16x64) concatenates_S16x64_S16x64_S16x64_S16x64_S16x64_S16x64_S16x64_S16x64_S16x64_S16x64_S16x64_S16x64_S16x64_S16x64_S16x64_S16x64_S16x64_S16x64_S16x64_S16x64_S16x64_S16x64_S16x64_S16x64_S16x64_S16x64_S16x64_S16x64_S16x64_S16x64_S16x64_S16x64_S512x64_d0 s p n) ?_
  rw [← H.ci]
  pointwise

omit H in
/-- The chunk position of a row. -/
theorem pay26_apply (s : Fin 32) (p : Fin 16) :
    k0_pay26 (F := Ideal) (ix2 (n0 := 512) (n1 := 1) ⟨16 * s + p, by omega⟩ 0) = (((s : ℕ) : ℝ) : EReal) := by
  pointwise [k0_pay26]
  have hd : ∀ r : Fin 512, Scalar.select
        (IntOp.andi
          (IntOp.cmpi CmpIPredicate.ne
            (IntOp.subi (BitVec.setWidth 32 (IntOp.cmpi CmpIPredicate.sgt (BitVec.ofNat 32 r.val) 0#32))
              (BitVec.setWidth 32 (IntOp.cmpi CmpIPredicate.slt (BitVec.ofNat 32 r.val) 0#32)))
            (Scalar.subi (Scalar.extui (Scalar.cmpi CmpIPredicate.sgt 16#32 0#32))
              (Scalar.extui (Scalar.cmpi CmpIPredicate.slt 16#32 0#32))))
          (IntOp.cmpi CmpIPredicate.ne (IntOp.remsi ArithUnit.vector (BitVec.ofNat 32 r.val) 16#32) 0#32))
        (IntOp.subi (IntOp.divsi ArithUnit.vector (BitVec.ofNat 32 r.val) 16#32) 1#32)
        (IntOp.divsi ArithUnit.vector (BitVec.ofNat 32 r.val) 16#32) = BitVec.ofNat 32 (r.val / 16)
      ∧ (BitVec.ofNat 32 (r.val / 16)).toInt = ((r.val / 16 : ℕ) : ℤ) := by decide +kernel
  have h := hd ⟨16 * s + p, by omega⟩
  have e : (16 * s.val + p.val) / 16 = s.val := by omega
  dsimp only at h
  rw [e] at h
  rw [h.1]
  show (((BitVec.ofNat 32 s.val).toInt : ℝ) : EReal) = _
  rw [h.2]
  norm_cast

/-- Powers at a row: the magnitude and the two parts. -/
theorem pow_re (n : Fin 64) (k : ℕ) (x : EReal) (hx : x = ((k : ℝ) : EReal)) :
    Ideal.exp (x * k0_pay6 (F := Ideal) v0 v4 (ix2 (n0 := 1) 0 n)) * Ideal.cos (x * k0_pay7 (F := Ideal) v2 v4 (ix2 (n0 := 1) 0 n))
      = (((K.pole n ^ k).re : ℝ) : EReal) := by
  rw [hx, pay6_apply H, pay7_apply H, ← EReal.coe_mul, ← EReal.coe_mul, Ideal.exp_coe, Ideal.cos_coe, ← EReal.coe_mul]
  exact congrArg _ (pow_exp_re (K.expo n) k).symm

theorem pow_im (n : Fin 64) (k : ℕ) (x : EReal) (hx : x = ((k : ℝ) : EReal)) :
    Ideal.exp (x * k0_pay6 (F := Ideal) v0 v4 (ix2 (n0 := 1) 0 n)) * Ideal.sin (x * k0_pay7 (F := Ideal) v2 v4 (ix2 (n0 := 1) 0 n))
      = (((K.pole n ^ k).im : ℝ) : EReal) := by
  rw [hx, pay6_apply H, pay7_apply H, ← EReal.coe_mul, ← EReal.coe_mul, Ideal.exp_coe, Ideal.sin_coe, ← EReal.coe_mul]
  exact congrArg _ (pow_exp_im (K.expo n) k).symm

omit H in
/-- The output map's two halves from an output row and a power. -/
def outMap (c_r c_i pr pi : FVec Ideal S512x64 .f32) : FVec Ideal S512x128 .f32 :=
  concatenate S512x128 1 [⟨S512x64, subf (mulf c_r pr) (mulf c_i pi)⟩,
    ⟨S512x64, subf (broadcast S512x64 (Scalar.ofBits .f32 0x00000000#32)) (addf (mulf c_r pi) (mulf c_i pr))⟩]
    concatenates_S512x64_S512x64_S512x128_d1

omit H in
theorem outMap_apply (c_r c_i pr pi : FVec Ideal S512x64 .f32) (r : Fin 512) (C P : Fin 64 → ℂ)
    (h1 : ∀ n, c_r (ix2 r n) = (((C n).re : ℝ) : EReal)) (h2 : ∀ n, c_i (ix2 r n) = (((C n).im : ℝ) : EReal))
    (h3 : ∀ n, pr (ix2 r n) = (((P n).re : ℝ) : EReal)) (h4 : ∀ n, pi (ix2 r n) = (((P n).im : ℝ) : EReal)) (l : Fin 128) :
    outMap c_r c_i pr pi (ix2 r l) = ((lane (fun n => (starRingEnd ℂ) (C n * P n)) l : ℝ) : EReal) := by
  unfold lane
  pointwise [outMap]
  by_cases h : l.val < 64
  · simp only [dif_pos h, h1, h2, h3, h4, Complex.conj_re, Complex.mul_re]
    norm_cast
  · simp only [dif_neg h, h1, h2, h3, h4, Complex.conj_im, Complex.mul_im]
    rw [← EReal.coe_mul, ← EReal.coe_mul, ← EReal.coe_add]
    norm_cast
    simp

theorem taps_apply (t : Fin 32) (q p : Fin 16) :
    k0_pay29 (F := Ideal) (k0_pay20 (k0_pay18 v0 v2 v4 w3) (k0_pay19 v0 v2 v4 w4))
        (k0_pay21 (k0_pay14 v0 v2 v4) (k0_pay15 v0 v2 v4) (k0_pay16 w3) (k0_pay17 w4)) (k0_pay24 w5) (k0_pay25 w6)
        (k0_pay27 (k0_pay6 v0 v4)) (k0_pay28 (k0_pay7 v2 v4)) (ix3 (n0 := 1) (n1 := 512) 0 ⟨16 * t + q, by omega⟩ p)
      = ((tap K.pole K.inB (K.outC q) t p : ℝ) : EReal) := by
  have ho := outMap_apply (k0_pay24 w5) (k0_pay25 w6) (mulf (k0_pay27 (k0_pay6 v0 v4)) (cos (k0_pay28 (k0_pay7 v2 v4))))
    (mulf (k0_pay27 (k0_pay6 v0 v4)) (sin (k0_pay28 (k0_pay7 v2 v4)))) ⟨16 * t + q, by omega⟩ (K.outC q) (fun n => K.pole n ^ (t : ℕ))
    (fun n => pay24_apply H t q n) (fun n => pay25_apply H t q n)
    (fun n => by pointwise [k0_pay27, k0_pay28]; exact pow_re H n t _ (pay26_apply t q))
    (fun n => by pointwise [k0_pay27, k0_pay28]; exact pow_im H n t _ (pay26_apply t q))
  have key : ∀ o : FVec Ideal S512x128 .f32, ∀ b : FVec Ideal S16x128 .f32,
      (∀ l, o (ix2 (n0 := 512) ⟨16 * t + q, by omega⟩ l) = ((lane (fun n => (starRingEnd ℂ) (K.outC q n * K.pole n ^ (t : ℕ))) l : ℝ) : EReal)) →
      (∀ l, b (ix2 p l) = ((lane (fun n => K.inB n p) l : ℝ) : EReal)) →
      shapeCast S1x512x16 (matmul dot_S512x128_S16x128_S512x16_1_1_0_0_n_n none o b (constant S512x16 .f32 0x00000000#32)) shapeCasts_S512x16_S1x512x16
        (ix3 (n0 := 1) (n1 := 512) 0 ⟨16 * t + q, by omega⟩ p) = ((tap K.pole K.inB (K.outC q) t p : ℝ) : EReal) := by
    intro o b h1 h2
    pointwise
    simp only [h1, h2]
    rw [coe_sum_mul]
    refine congrArg Real.toEReal ?_
    refine sum_lane _ (fun n => K.outC q n * K.pole n ^ (t : ℕ)) (fun n => K.inB n p) (fun n => ?_) (fun n => ?_)
    · have h : n.val < 64 := n.isLt
      simp only [lane, dif_pos h, Complex.conj_re]
    · have h : ¬ (64 + n.val < 64) := by omega
      have h2 : 64 + n.val - 64 = n.val := by omega
      simp only [lane, dif_neg h, h2, Complex.conj_im]
  refine key _ _ ho (fun l => ?_)
  unfold lane
  pointwise
  by_cases h : l.val < 64
  · simp only [dif_pos h]; exact pay20_apply H p _
  · simp only [dif_neg h]; exact pay21_apply H p _

theorem outRows_apply (t : Fin 32) (q : Fin 16) (l : Fin 128) :
    k0_pay30 (F := Ideal) (k0_pay6 v0 v4) (k0_pay7 v2 v4) (k0_pay24 w5) (k0_pay25 w6) k0_pay26
        (ix3 (n0 := 1) (n1 := 512) 0 ⟨16 * t + q, by omega⟩ l)
      = ((lane (fun n => (starRingEnd ℂ) (K.outC q n * K.pole n ^ ((t : ℕ) + 1))) l : ℝ) : EReal) := by
  have hx : k0_pay26 (F := Ideal) (ix2 (n0 := 512) (n1 := 1) ⟨16 * t + q, by omega⟩ 0) + 1 = ((((t : ℕ) + 1 : ℕ) : ℝ) : EReal) := by
    rw [pay26_apply]; norm_cast
  refine Eq.trans ?_ (outMap_apply (k0_pay24 w5) (k0_pay25 w6)
    (mulf (exp (mulf (broadcastTo S512x64 (addf (k0_pay26 (F := Ideal)) (broadcast S512x1 (Scalar.ofBits .f32 0x3F800000#32))) broadcasts_S512x1_S512x64)
        (broadcastTo S512x64 (k0_pay6 v0 v4) broadcasts_S1x64_S512x64)))
      (cos (mulf (broadcastTo S512x64 (addf (k0_pay26 (F := Ideal)) (broadcast S512x1 (Scalar.ofBits .f32 0x3F800000#32))) broadcasts_S512x1_S512x64)
        (broadcastTo S512x64 (k0_pay7 v2 v4) broadcasts_S1x64_S512x64))))
    (mulf (exp (mulf (broadcastTo S512x64 (addf (k0_pay26 (F := Ideal)) (broadcast S512x1 (Scalar.ofBits .f32 0x3F800000#32))) broadcasts_S512x1_S512x64)
        (broadcastTo S512x64 (k0_pay6 v0 v4) broadcasts_S1x64_S512x64)))
      (sin (mulf (broadcastTo S512x64 (addf (k0_pay26 (F := Ideal)) (broadcast S512x1 (Scalar.ofBits .f32 0x3F800000#32))) broadcasts_S512x1_S512x64)
        (broadcastTo S512x64 (k0_pay7 v2 v4) broadcasts_S1x64_S512x64))))
    ⟨16 * t + q, by omega⟩ (K.outC q) (fun n => K.pole n ^ ((t : ℕ) + 1))
    (fun n => pay24_apply H t q n) (fun n => pay25_apply H t q n)
    (fun n => by pointwise; exact pow_re H n (t + 1) _ hx)
    (fun n => by pointwise; exact pow_im H n (t + 1) _ hx) l)
  show shapeCast S1x512x128 (outMap _ _ _ _) shapeCasts_S512x128_S1x512x128 _ = _
  pointwise

theorem inRows_apply (s : Fin 32) (p : Fin 16) (l : Fin 128) :
    k0_pay1 (F := Ideal) (k0_pay7 v2 v4) (k0_pay22 (k0_pay18 v0 v2 v4 w3) (k0_pay19 v0 v2 v4 w4))
        (k0_pay23 (k0_pay14 v0 v2 v4) (k0_pay15 v0 v2 v4) (k0_pay16 w3) (k0_pay17 w4)) (k0_pay31 k0_pay26) (k0_pay32 k0_pay26)
        (k0_pay33 (k0_pay6 v0 v4)) (ix3 (n0 := 1) (n1 := 512) 0 ⟨16 * s + p, by omega⟩ l)
      = ((lane (fun n => K.pole n ^ (31 - (s : ℕ)) * K.inB n p) l : ℝ) : EReal) := by
  have hx : ((31 : ℝ) : EReal) - k0_pay26 (F := Ideal) (ix2 (n0 := 512) (n1 := 1) ⟨16 * s + p, by omega⟩ 0) = ((((31 - (s : ℕ) : ℕ)) : ℝ) : EReal) := by
    rw [pay26_apply, ← EReal.coe_sub, Nat.cast_sub (by omega)]
    norm_num
  have h1 := fun n => pow_re H n (31 - (s : ℕ)) _ hx
  have h2 := fun n => pow_im H n (31 - (s : ℕ)) _ hx
  have h3 := fun n => pay22_apply H s p n
  have h4 := fun n => pay23_apply H s p n
  unfold lane
  pointwise [k0_pay1, k0_pay31, k0_pay32, k0_pay33]
  simp only [ofBits_31, h1, h2, h3, h4]
  by_cases h : l.val < 64
  · simp only [dif_pos h, Complex.mul_re]
    norm_cast
  · simp only [dif_neg h, Complex.mul_im]
    norm_cast

theorem chunkPow_apply (l : Fin 128) :
    k0_pay2 (F := Ideal) (k0_pay6 v0 v4) (k0_pay7 v2 v4) k0_pay8 (ix3 (n0 := 1) (n1 := 2) 0 0 l)
      = (((K.pole ⟨l.val % 64, Nat.mod_lt _ (by norm_num)⟩ ^ 32).re : ℝ) : EReal)
    ∧ k0_pay2 (F := Ideal) (k0_pay6 v0 v4) (k0_pay7 v2 v4) k0_pay8 (ix3 (n0 := 1) (n1 := 2) 0 1 l)
      = (((K.pole ⟨l.val % 64, Nat.mod_lt _ (by norm_num)⟩ ^ 32).im : ℝ) : EReal) := by
  have h1 := fun n => pow_re H n 32 ((32 : ℝ) : EReal) (by norm_num)
  have h2 := fun n => pow_im H n 32 ((32 : ℝ) : EReal) (by norm_num)
  constructor
  · pointwise [k0_pay2, k0_pay8]
    simp only [ofBits_32, h1, h2]
    by_cases h : l.val < 64
    · have h3 : l.val % 64 = l.val := by omega
      simp [h, h3]
    · have h3 : l.val % 64 = l.val - 64 := by omega
      simp [h, h3]
  · pointwise [k0_pay2, k0_pay8]
    simp only [ofBits_32, h1, h2]
    by_cases h : l.val < 64
    · have h3 : l.val % 64 = l.val := by omega
      simp [h, h3]
    · have h3 : l.val % 64 = l.val - 64 := by omega
      simp [h, h3]

end Cert.KernelIdeal.Gen

end
-- ==== Proof.S5.Entry.lean ====
module

public import proofs.«01_k».proof.Proof.S5.Run
public import proofs.«01_k».proof.Proof.S5.Params
public import Idealize.ShloMosaic.Lib.StableHlo.ReadAt
public import Idealize.ShloMosaic.Lib.Pipeline.ValueKit

/-!
# The first region's operands

The arguments as real arrays, and the blocks of the first region's operands at one group.
-/

@[expose] public section

set_option maxRecDepth 16384

noncomputable section

namespace Cert.KernelIdeal.Gen

open Idealize.ShloMosaic Idealize.ShloMosaic.TcCoe Idealize.ShloMosaic.Tactic Cert.KernelIdeal Cert.S5
open Idealize.SL.Sem
open Idealize.ShloMosaic.Pipeline (Dat Cfg Window)

/-- The arguments hold real numbers: the coefficients `K` of each group and the sequences `u`. -/
structure Args (m : (ℓ : Loc nD τ sig) → Buf (Elt Ideal) ℓ) (c : Dev nD) (K : Fin 32 → Coef) (u : Fin 32 → Fin 4 → ℕ → Fin 16 → ℝ) : Prop where
  seq : ∀ (b : Fin 4) (t : Fin 8192) (g : Fin 32) (p : Fin 16),
    (m ((c.tc : Thread nD τ).loc main_arg0) : FVec Ideal S4x8192x512 .bf16) (ix3 b t ⟨16 * g + p, by omega⟩) = ((u g b t p : ℝ) : EReal)
  ar : ∀ (g : Fin 32) (n : Fin 64), (m ((c.tc : Thread nD τ).loc main_arg1) : FVec Ideal S32x64 .f32) (ix2 g n) = (((K g).ar n : ℝ) : EReal)
  ai : ∀ (g : Fin 32) (n : Fin 64), (m ((c.tc : Thread nD τ).loc main_arg2) : FVec Ideal S32x64 .f32) (ix2 g n) = (((K g).ai n : ℝ) : EReal)
  ld : ∀ g : Fin 32, (m ((c.tc : Thread nD τ).loc main_arg3) : FVec Ideal S32 .f32) (ix1 g) = (((K g).ld : ℝ) : EReal)
  br : ∀ (g : Fin 32) (n : Fin 64) (p : Fin 16), (m ((c.tc : Thread nD τ).loc main_arg4) : FVec Ideal S32x64x16 .f32) (ix3 g n p) = (((K g).br n p : ℝ) : EReal)
  bi : ∀ (g : Fin 32) (n : Fin 64) (p : Fin 16), (m ((c.tc : Thread nD τ).loc main_arg5) : FVec Ideal S32x64x16 .f32) (ix3 g n p) = (((K g).bi n p : ℝ) : EReal)
  cr : ∀ (g : Fin 32) (q : Fin 16) (n : Fin 64), (m ((c.tc : Thread nD τ).loc main_arg6) : FVec Ideal S32x16x64 .f32) (ix3 g q n) = (((K g).cr q n : ℝ) : EReal)
  ci : ∀ (g : Fin 32) (q : Fin 16) (n : Fin 64), (m ((c.tc : Thread nD τ).loc main_arg7) : FVec Ideal S32x16x64 .f32) (ix3 g q n) = (((K g).ci q n : ℝ) : EReal)

variable (m : (ℓ : Loc nD τ sig) → Buf (Elt Ideal) ℓ) (ρ : Dev nD → PrngReg) (c : Dev nD)
variable {K : Fin 32 → Coef} {u : Fin 32 → Fin 4 → ℕ → Fin 16 → ℝ} (H : Args m c K u)

/-- The group of a grid point. -/
abbrev grp (t : Fin cfg0.N) : Fin 32 := ⟨t.val, lt_of_lt_of_eq t.isLt rfl⟩

theorem idx0 : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0]
    ∧ win0_7.index t = ![t.val, 0, 0] ∧ win0_8.index t = ![t.val, 0, 0] ∧ win0_9.index t = ![t.val, 0, 0] ∧ win0_10.index t = ![t.val, 0, 0] := by
  decide +kernel

theorem v0_at (g : Fin 32) (n : Fin 64) :
    (V1 m ρ c main_v0 : FVec Ideal S32x1x64 .f32) (ix3 (n1 := 1) g 0 n) = (m ((c.tc : Thread nD τ).loc main_arg1) : FVec Ideal S32x64 .f32) (ix2 g n) := by
  show StableHlo.after hostOps0 (W0 m ρ c) (Proc.devRef .tc main_v0) _ = _
  after_reads_at

theorem v1_at (g : Fin 32) (n : Fin 64) :
    (V1 m ρ c main_v1 : FVec Ideal S32x1x64 .f32) (ix3 (n1 := 1) g 0 n) = (m ((c.tc : Thread nD τ).loc main_arg2) : FVec Ideal S32x64 .f32) (ix2 g n) := by
  show StableHlo.after hostOps0 (W0 m ρ c) (Proc.devRef .tc main_v1) _ = _
  after_reads_at

theorem v2_at (g : Fin 32) :
    (V1 m ρ c main_v2 : FVec Ideal S32x1x1 .f32) (ix3 (n1 := 1) (n2 := 1) g 0 0) = (m ((c.tc : Thread nD τ).loc main_arg3) : FVec Ideal S32 .f32) (ix1 g) := by
  show StableHlo.after hostOps0 (W0 m ρ c) (Proc.devRef .tc main_v2) _ = _
  after_reads_at

theorem v3_at (g : Fin 32) (n : Fin 64) (p : Fin 16) :
    (V1 m ρ c main_v3 : FVec Ideal S32x16x64 .f32) (ix3 g p n) = (m ((c.tc : Thread nD τ).loc main_arg4) : FVec Ideal S32x64x16 .f32) (ix3 g n p) := by
  show StableHlo.after hostOps0 (W0 m ρ c) (Proc.devRef .tc main_v3) _ = _
  after_reads_at

theorem v4_at (g : Fin 32) (n : Fin 64) (p : Fin 16) :
    (V1 m ρ c main_v4 : FVec Ideal S32x16x64 .f32) (ix3 g p n) = (m ((c.tc : Thread nD τ).loc main_arg5) : FVec Ideal S32x64x16 .f32) (ix3 g n p) := by
  show StableHlo.after hostOps0 (W0 m ρ c) (Proc.devRef .tc main_v4) _ = _
  after_reads_at

include H in
/-- The seven input blocks at a group's point hold the group's coefficients. -/
theorem coefBlocks (t : Fin cfg0.N) : CoefBlocks (iblk0 (V1 m ρ) c 0 t) (iblk0 (V1 m ρ) c 1 t) (iblk0 (V1 m ρ) c 2 t) (iblk0 (V1 m ρ) c 3 t)
    (iblk0 (V1 m ρ) c 4 t) (iblk0 (V1 m ρ) c 5 t) (iblk0 (V1 m ρ) c 6 t) (K (grp t)) where
  ar := by
    intro n; blk_simp [iblk0]
    refine Eq.trans ?_ ((v0_at m ρ c (grp t) n).trans (H.ar (grp t) n))
    blk_ext [(idx0 t).1]
  ai := by
    intro n; blk_simp [iblk0]
    refine Eq.trans ?_ ((v1_at m ρ c (grp t) n).trans (H.ai (grp t) n))
    blk_ext [(idx0 t).2.1]
  ld := by
    blk_simp [iblk0]
    refine Eq.trans ?_ ((v2_at m ρ c (grp t)).trans (H.ld (grp t)))
    blk_ext [(idx0 t).2.2.1]
  br := by
    intro p n; blk_simp [iblk0]
    refine Eq.trans ?_ ((v3_at m ρ c (grp t) n p).trans (H.br (grp t) n p))
    blk_ext [(idx0 t).2.2.2.1]
  bi := by
    intro p n; blk_simp [iblk0]
    refine Eq.trans ?_ ((v4_at m ρ c (grp t) n p).trans (H.bi (grp t) n p))
    blk_ext [(idx0 t).2.2.2.2.1]
  cr := by
    intro p n; blk_simp [iblk0]
    refine Eq.trans ?_ ((congrFun (W1_args m ρ c main_arg6 (by decide)) (ix3 (grp t) p n)).trans (H.cr (grp t) p n))
    blk_ext [(idx0 t).2.2.2.2.2.1]
  ci := by
    intro p n; blk_simp [iblk0]
    refine Eq.trans ?_ ((congrFun (W1_args m ρ c main_arg7 (by decide)) (ix3 (grp t) p n)).trans (H.ci (grp t) p n))
    blk_ext [(idx0 t).2.2.2.2.2.2.1]

end Cert.KernelIdeal.Gen

end
-- ==== Proof.S5.Blocks.lean ====
module

public import proofs.«01_k».proof.Proof.S5.Entry

/-!
# The first region's results

What the first region leaves in its four arrays, group by group.
-/

@[expose] public section

set_option maxRecDepth 16384

noncomputable section

namespace Cert.KernelIdeal.Gen

open Idealize.ShloMosaic Idealize.ShloMosaic.TcCoe Idealize.ShloMosaic.Tactic Cert.KernelIdeal Cert.S5
open Idealize.SL.Sem
open Idealize.ShloMosaic.Pipeline (Dat Cfg Window)

theorem zero3 : (![0, 0, 0] : Fin 3 → ℕ) = fun _ => 0 := by
  funext a; fin_cases a <;> rfl

theorem ld_a (x : Vec Ideal S1x1x64 .f32) : View.ld x r0_0 = x := View.ld_unit_zero (S := S1x1x64) zero3 _ x
theorem ld_b (x : Vec Ideal S1x1x1 .f32) : View.ld x r0_1 = x := View.ld_unit_zero (S := S1x1x1) zero3 _ x
theorem ld_c (x : Vec Ideal S1x16x64 .f32) : View.ld x r0_2 = x := View.ld_unit_zero (S := S1x16x64) zero3 _ x

section Outs

variable {x0 x1 : Vec Ideal S1x1x64 .f32} {x2 : Vec Ideal S1x1x1 .f32} {x3 x4 x5 x6 : Vec Ideal S1x16x64 .f32} {K : Coef}
  (H : CoefBlocks x0 x1 x2 x3 x4 x5 x6 K)
include H

theorem out7_apply (t : Fin 32) (q p : Fin 16) :
    out0_7 x0 x1 x2 x3 x4 x5 x6 (ix3 (n0 := 1) (n1 := 512) 0 ⟨16 * t + q, by omega⟩ p) = ((tap K.pole K.inB (K.outC q) t p : ℝ) : EReal) := by
  unfold_out out0_7
  simp only [ld_a, ld_b, ld_c]
  refine (congrFun (View.canon_unit_zero (S := S1x512x16) zero3 _ _) _).trans ?_
  exact taps_apply H t q p

theorem out8_apply (t : Fin 32) (q : Fin 16) (l : Fin 128) :
    out0_8 x0 x1 x2 x3 x4 x5 x6 (ix3 (n0 := 1) (n1 := 512) 0 ⟨16 * t + q, by omega⟩ l)
      = ((lane (fun n => (starRingEnd ℂ) (K.outC q n * K.pole n ^ ((t : ℕ) + 1))) l : ℝ) : EReal) := by
  unfold_out out0_8
  simp only [ld_a, ld_b, ld_c]
  refine (congrFun (View.canon_unit_zero (S := S1x512x128) zero3 _ _) _).trans ?_
  exact outRows_apply H t q l

theorem out9_apply (s : Fin 32) (p : Fin 16) (l : Fin 128) :
    out0_9 x0 x1 x2 x3 x4 x5 x6 (ix3 (n0 := 1) (n1 := 512) 0 ⟨16 * s + p, by omega⟩ l)
      = ((lane (fun n => K.pole n ^ (31 - (s : ℕ)) * K.inB n p) l : ℝ) : EReal) := by
  unfold_out out0_9
  simp only [ld_a, ld_b, ld_c]
  refine (congrFun (View.canon_unit_zero (S := S1x512x128) zero3 _ _) _).trans ?_
  exact inRows_apply H s p l

theorem out10_apply (l : Fin 128) :
    out0_10 x0 x1 x2 x3 x4 x5 x6 (ix3 (n0 := 1) (n1 := 2) 0 0 l)
      = (((K.pole ⟨l.val % 64, Nat.mod_lt _ (by norm_num)⟩ ^ 32).re : ℝ) : EReal)
    ∧ out0_10 x0 x1 x2 x3 x4 x5 x6 (ix3 (n0 := 1) (n1 := 2) 0 1 l)
      = (((K.pole ⟨l.val % 64, Nat.mod_lt _ (by norm_num)⟩ ^ 32).im : ℝ) : EReal) := by
  unfold_out out0_10
  simp only [ld_a, ld_b, ld_c]
  rw [View.canon_unit_zero (S := S1x2x128) zero3]
  exact chunkPow_apply H l

end Outs

variable (m : (ℓ : Loc nD τ sig) → Buf (Elt Ideal) ℓ) (ρ : Dev nD → PrngReg) (c : Dev nD)
variable {K : Fin 32 → Coef} {u : Fin 32 → Fin 4 → ℕ → Fin 16 → ℝ} (H : Args m c K u)
include H

/-- The grid point of a group. -/
abbrev pt (g : Fin 32) : Fin cfg0.N := ⟨g.val, lt_of_lt_of_eq g.isLt rfl⟩

/-- The taps of every group. -/
theorem taps_arr (g : Fin 32) (t : Fin 32) (q p : Fin 16) :
    (W2 m ρ c (Proc.devRef .tc main_v5_0) : FVec Ideal S32x512x16 .f32) (ix3 (n1 := 512) g ⟨16 * t + q, by omega⟩ p)
      = ((tap (K g).pole (K g).inB ((K g).outC q) t p : ℝ) : EReal) := by
  refine (congrFun (W2_arr m ρ c 7) _).trans ?_
  refine Eq.trans (congrArg ((dat0 (V1 m ρ) c).arrAt 7 cfg0.N) ?_) (((dat0 (V1 m ρ) c).arrAt_emb_eq_flushed 7
    (Window.hdisj_of_index_inj win0_7 (by decide +kernel)) (pt g) (by revert g; decide +kernel) (ix3 (n0 := 1) (n1 := 512) 0 ⟨16 * t + q, by omega⟩ p)).trans ?_)
  · blk_ext [(idx0 (pt g)).2.2.2.2.2.2.2.1]
  · exact (congrFun (after0_7 (V1 m ρ) c (pt g)) _).trans (out7_apply (coefBlocks m ρ c H (pt g)) t q p)

/-- The output rows of every group. -/
theorem outRows_arr (g : Fin 32) (t : Fin 32) (q : Fin 16) (l : Fin 128) :
    (W2 m ρ c (Proc.devRef .tc main_v5_1) : FVec Ideal S32x512x128 .f32) (ix3 (n1 := 512) g ⟨16 * t + q, by omega⟩ l)
      = ((lane (fun n => (starRingEnd ℂ) ((K g).outC q n * (K g).pole n ^ ((t : ℕ) + 1))) l : ℝ) : EReal) := by
  refine (congrFun (W2_arr m ρ c 8) _).trans ?_
  refine Eq.trans (congrArg ((dat0 (V1 m ρ) c).arrAt 8 cfg0.N) ?_) (((dat0 (V1 m ρ) c).arrAt_emb_eq_flushed 8
    (Window.hdisj_of_index_inj win0_8 (by decide +kernel)) (pt g) (by revert g; decide +kernel) (ix3 (n0 := 1) (n1 := 512) 0 ⟨16 * t + q, by omega⟩ l)).trans ?_)
  · blk_ext [(idx0 (pt g)).2.2.2.2.2.2.2.2.1]
  · exact (congrFun (after0_8 (V1 m ρ) c (pt g)) _).trans (out8_apply (coefBlocks m ρ c H (pt g)) t q l)

/-- The input rows of every group. -/
theorem inRows_arr (g : Fin 32) (s : Fin 32) (p : Fin 16) (l : Fin 128) :
    (W2 m ρ c (Proc.devRef .tc main_v5_2) : FVec Ideal S32x512x128 .f32) (ix3 (n1 := 512) g ⟨16 * s + p, by omega⟩ l)
      = ((lane (fun n => (K g).pole n ^ (31 - (s : ℕ)) * (K g).inB n p) l : ℝ) : EReal) := by
  refine (congrFun (W2_arr m ρ c 9) _).trans ?_
  refine Eq.trans (congrArg ((dat0 (V1 m ρ) c).arrAt 9 cfg0.N) ?_) (((dat0 (V1 m ρ) c).arrAt_emb_eq_flushed 9
    (Window.hdisj_of_index_inj win0_9 (by decide +kernel)) (pt g) (by revert g; decide +kernel) (ix3 (n0 := 1) (n1 := 512) 0 ⟨16 * s + p, by omega⟩ l)).trans ?_)
  · blk_ext [(idx0 (pt g)).2.2.2.2.2.2.2.2.2.1]
  · exact (congrFun (after0_9 (V1 m ρ) c (pt g)) _).trans (out9_apply (coefBlocks m ρ c H (pt g)) s p l)

/-- A pole across one chunk. -/
theorem chunkPow_re (g : Fin 32) (l : Fin 128) :
    (W2 m ρ c (Proc.devRef .tc main_v5_3) : FVec Ideal S32x2x128 .f32) (ix3 (n1 := 2) g 0 l)
      = ((((K g).pole ⟨l.val % 64, Nat.mod_lt _ (by norm_num)⟩ ^ 32).re : ℝ) : EReal) := by
  refine (congrFun (W2_arr m ρ c 10) _).trans ?_
  refine Eq.trans (congrArg ((dat0 (V1 m ρ) c).arrAt 10 cfg0.N) ?_) (((dat0 (V1 m ρ) c).arrAt_emb_eq_flushed 10
    (Window.hdisj_of_index_inj win0_10 (by decide +kernel)) (pt g) (by revert g; decide +kernel) (ix3 (n0 := 1) (n1 := 2) 0 0 l)).trans ?_)
  · blk_ext [(idx0 (pt g)).2.2.2.2.2.2.2.2.2.2]
  · exact (congrFun (after0_10 (V1 m ρ) c (pt g)) _).trans ((out10_apply (coefBlocks m ρ c H (pt g)) l).1)

/-- A pole across one chunk. -/
theorem chunkPow_im (g : Fin 32) (l : Fin 128) :
    (W2 m ρ c (Proc.devRef .tc main_v5_3) : FVec Ideal S32x2x128 .f32) (ix3 (n1 := 2) g 1 l)
      = ((((K g).pole ⟨l.val % 64, Nat.mod_lt _ (by norm_num)⟩ ^ 32).im : ℝ) : EReal) := by
  refine (congrFun (W2_arr m ρ c 10) _).trans ?_
  refine Eq.trans (congrArg ((dat0 (V1 m ρ) c).arrAt 10 cfg0.N) ?_) (((dat0 (V1 m ρ) c).arrAt_emb_eq_flushed 10
    (Window.hdisj_of_index_inj win0_10 (by decide +kernel)) (pt g) (by revert g; decide +kernel) (ix3 (n0 := 1) (n1 := 2) 0 1 l)).trans ?_)
  · blk_ext [(idx0 (pt g)).2.2.2.2.2.2.2.2.2.2]
  · exact (congrFun (after0_10 (V1 m ρ) c (pt g)) _).trans ((out10_apply (coefBlocks m ρ c H (pt g)) l).2)

end Cert.KernelIdeal.Gen

end
-- ==== Proof.S5.Host.lean ====
module

public import proofs.«01_k».proof.Proof.S5.Blocks

/-!
# Between the two regions

The lines between the regions: the taps spread over the pairs of positions of a chunk, and the sequence cut into chunks.
-/

@[expose] public section

set_option maxRecDepth 16384

noncomputable section

namespace Cert.KernelIdeal.Gen

open Idealize.ShloMosaic Idealize.ShloMosaic.TcCoe Idealize.ShloMosaic.Tactic Cert.KernelIdeal Cert.S5
open Idealize.SL.Sem
open Idealize.ShloMosaic.Pipeline (Dat Cfg Window)

section Reads

variable (V : Valuation τ sig (Elt Ideal))

/-- The lag of a pair of positions, cut off below at zero. -/
theorem v23_at (s t : Fin 32) :
    (StableHlo.after hostOps1 V (Proc.devRef .tc main_v23) : IVec S32x32x1 32) (ix3 (n2 := 1) s t 0) = BitVec.ofNat 32 ((t : ℕ) - s) := by
  after_reads_at
  revert s t
  decide +kernel

theorem v15_at (s t : Fin 32) :
    (StableHlo.after hostOps1 V (Proc.devRef .tc main_v15) : IVec S1x32x32x1x1 1) (ix5 (n0 := 1) (n3 := 1) (n4 := 1) 0 s t 0 0)
      = if s ≤ t then 1#1 else 0#1 := by
  after_reads_at
  revert s t
  decide +kernel

theorem v6_at (g d : Fin 32) (q p : Fin 16) :
    (StableHlo.after hostOps1 V (Proc.devRef .tc main_v6) : FVec Ideal S32x32x16x16 .f32) (ix4 g d q p)
      = (V (Proc.devRef .tc main_v5_0) : FVec Ideal S32x512x16 .f32) (ix3 (n1 := 512) g ⟨16 * d + q, by omega⟩ p) := by
  after_reads_at
  congr 3; omega

theorem v24_eq : (StableHlo.after hostOps1 V (Proc.devRef .tc main_v24) : FVec Ideal S32x32x32x16x16 .f32)
    = Host.gather gather_S32x32x16x16_S32x32x1_S32x32x32x16x16_034_1_n_n_1_2_3211616
      (StableHlo.after hostOps1 V (Proc.devRef .tc main_v6) : FVec Ideal S32x32x16x16 .f32)
      (StableHlo.after hostOps1 V (Proc.devRef .tc main_v23) : IVec S32x32x1 32) := by
  after_reads_simp

/-- The gather of the taps: one row of lag for each pair of times. -/
abbrev G5 := gather_S32x32x16x16_S32x32x1_S32x32x32x16x16_034_1_n_n_1_2_3211616

theorem gather_kept : GatherDims.sKept G5 = [0, 2, 3] := by decide +kernel

theorem gather_start (j : S32x32x32x16x16.Idx) (idx : IVec S32x32x1 32) (a : Fin 4) (h : a ≠ 1) : GatherDims.start G5 j idx a = 0 := by
  unfold GatherDims.start
  exact dif_neg (fun e => h (List.mem_singleton.mp e))

theorem gather_off (j : S32x32x32x16x16.Idx) (a : Fin 4) (b : Fin 5) (hk : a ∈ GatherDims.sKept G5)
    (h : ∀ hl, (GatherDims.offsetDims G5)[(GatherDims.sKept G5).idxOf a]'hl = b) : GatherDims.offCoord G5 j a = (j b : ℕ) := by
  unfold GatherDims.offCoord
  rw [dif_pos hk]
  exact congrArg (fun b : Fin 5 => (j b : ℕ)) (h _)

theorem gather_at (x : FVec Ideal S32x32x16x16 .f32) (idx : IVec S32x32x1 32) (g s t : Fin 32) (q p : Fin 16) :
    Host.gather G5 x idx (ix5 g s t q p) = x (ix4 g ⟨min (idx (ix3 (n2 := 1) s t 0)).toInt.toNat 31, by omega⟩ q p) := by
  unfold Host.gather
  congr 1
  funext a
  refine Fin.ext ?_
  show GatherDims.start G5 _ idx a + GatherDims.batchCoord G5 _ a + GatherDims.offCoord G5 _ a = _
  rw [GatherDims.batchCoord_eq_zero _ _ _ List.not_mem_nil]
  match a with
  | ⟨0, _⟩ =>
    show GatherDims.start G5 _ idx (0 : Fin 4) + 0 + GatherDims.offCoord G5 _ (0 : Fin 4) = _
    rw [gather_start _ _ _ (by decide), gather_off _ _ 0 (by rw [gather_kept]; decide) (by decide +kernel)]; exact Nat.zero_add _
  | ⟨1, _⟩ =>
    show GatherDims.start G5 _ idx (1 : Fin 4) + 0 + GatherDims.offCoord G5 _ (1 : Fin 4) = _
    rw [GatherDims.offCoord_eq_zero _ _ _ (by rw [gather_kept]; decide)]
    unfold GatherDims.start
    rw [dif_pos (show (1 : Fin 4) ∈ GatherDims.startIndexMap G5 from List.mem_singleton.mpr rfl)]
    have hsi : GatherDims.siIdx G5 (ix5 g s t q p) ⟨List.idxOf (1 : Fin 4) (GatherDims.startIndexMap G5),
        List.idxOf_lt_length_iff.2 (List.mem_singleton.mpr rfl)⟩ = ix3 (n2 := 1) s t 0 := by
      funext b; refine Fin.ext ?_
      match b with
      | ⟨0, _⟩ => rfl
      | ⟨1, _⟩ => rfl
      | ⟨2, _⟩ => rfl
    rw [hsi]
    rfl
  | ⟨2, _⟩ =>
    show GatherDims.start G5 _ idx (2 : Fin 4) + 0 + GatherDims.offCoord G5 _ (2 : Fin 4) = _
    rw [gather_start _ _ _ (by decide), gather_off _ _ 3 (by rw [gather_kept]; decide) (by decide +kernel)]; exact Nat.zero_add _
  | ⟨3, _⟩ =>
    show GatherDims.start G5 _ idx (3 : Fin 4) + 0 + GatherDims.offCoord G5 _ (3 : Fin 4) = _
    rw [gather_start _ _ _ (by decide), gather_off _ _ 4 (by rw [gather_kept]; decide) (by decide +kernel)]; exact Nat.zero_add _

theorem cst_at (i : S_.Idx) : (StableHlo.after hostOps1 V (Proc.devRef .tc main_cst) : FVec Ideal S_ .f32) i = (0 : EReal) := by
  after_reads_at

theorem v25_at (g s t : Fin 32) (q p : Fin 16) :
    (StableHlo.after hostOps1_1 V (Proc.devRef .tc main_v25) : FVec Ideal S32x32x32x16x16 .f32) (ix5 g s t q p)
      = if (V (Proc.devRef .tc main_v15) : IVec S1x32x32x1x1 1) (ix5 (n0 := 1) (n3 := 1) (n4 := 1) 0 s t 0 0) = 1#1
        then (V (Proc.devRef .tc main_v24) : FVec Ideal S32x32x32x16x16 .f32) (ix5 g s t q p)
        else (V (Proc.devRef .tc main_cst) : FVec Ideal S_ .f32) ix0 := by
  after_reads_at
  rfl

theorem v28_at (g s t : Fin 32) (q p : Fin 16) :
    (StableHlo.after hostOps1_2 V (Proc.devRef .tc main_v28) : FVec Ideal S32x512x512 .bf16)
        (ix3 (n1 := 512) (n2 := 512) g ⟨16 * s + p, by omega⟩ ⟨16 * t + q, by omega⟩)
      = (V (Proc.devRef .tc main_v25) : FVec Ideal S32x32x32x16x16 .f32) (ix5 g s t q p) := by
  after_reads_at
  congr 3 <;> omega

theorem v33_at (g : Fin 32) (b : Fin 4) (k : Fin 256) (s : Fin 32) (p : Fin 16) :
    (StableHlo.after hostOps1_2 V (Proc.devRef .tc main_v33) : FVec Ideal S32x1024x512 .bf16)
        (ix3 (n1 := 1024) (n2 := 512) g ⟨256 * b + k, by omega⟩ ⟨16 * s + p, by omega⟩)
      = (V (Proc.devRef .tc main_arg0) : FVec Ideal S4x8192x512 .bf16) (ix3 (n1 := 8192) (n2 := 512) b ⟨32 * k + s, by omega⟩ ⟨16 * g + p, by omega⟩) := by
  after_reads_at
  congr 3 <;> omega

theorem v29_at (i : S32x512x128.Idx) : (StableHlo.after hostOps1_2 V (Proc.devRef .tc main_v29) : FVec Ideal S32x512x128 .bf16) i
    = (V (Proc.devRef .tc main_v5_2) : FVec Ideal S32x512x128 .f32) i := by
  after_reads_at

theorem v30_at (i : S32x512x128.Idx) : (StableHlo.after hostOps1_2 V (Proc.devRef .tc main_v30) : FVec Ideal S32x512x128 .bf16) i
    = (V (Proc.devRef .tc main_v5_1) : FVec Ideal S32x512x128 .f32) i := by
  after_reads_at

theorem v37_at (b : Fin 4) (k : Fin 256) (t : Fin 32) (g : Fin 32) (q : Fin 16) :
    (StableHlo.after hostOps2 V (Proc.devRef .tc main_v37) : FVec Ideal S4x8192x512 .bf16)
        (ix3 (n1 := 8192) (n2 := 512) b ⟨32 * k + t, by omega⟩ ⟨16 * g + q, by omega⟩)
      = (V (Proc.devRef .tc main_v34) : FVec Ideal S32x1024x512 .bf16)
        (ix3 (n1 := 1024) (n2 := 512) g ⟨256 * b + k, by omega⟩ ⟨16 * t + q, by omega⟩) := by
  after_reads_at
  congr 3 <;> omega

end Reads

end Cert.KernelIdeal.Gen

end
-- ==== Proof.S5.Value.lean ====
module

public import proofs.«01_k».proof.Proof.S5.Host

/-!
# What the kernel leaves

The second region's operands, its array, and the result: at every position the output of the recurrence.
-/

@[expose] public section

set_option maxRecDepth 16384

noncomputable section

namespace Cert.KernelIdeal.Gen

open Idealize.ShloMosaic Idealize.ShloMosaic.TcCoe Idealize.ShloMosaic.Tactic Cert.KernelIdeal Cert.S5
open Idealize.SL.Sem
open Idealize.ShloMosaic.Pipeline (Dat Cfg Window)

variable (m : (ℓ : Loc nD τ sig) → Buf (Elt Ideal) ℓ) (ρ : Dev nD → PrngReg) (c : Dev nD)
variable {K : Fin 32 → Coef} {u : Fin 32 → Fin 4 → ℕ → Fin 16 → ℝ} (H : Args m c K u)

theorem lag_word : ∀ s t : Fin 32, s ≤ t → (min (BitVec.ofNat 32 ((t : ℕ) - s)).toInt.toNat 31 : ℕ) = (t : ℕ) - s := by decide +kernel

include H in
/-- The taps, spread over the pairs of positions. -/
theorem pair_at (g s t : Fin 32) (q p : Fin 16) :
    (W5 m ρ c (Proc.devRef .tc main_v28) : FVec Ideal S32x512x512 .bf16)
        (ix3 (n1 := 512) (n2 := 512) g ⟨16 * s + p, by omega⟩ ⟨16 * t + q, by omega⟩)
      = (((if s ≤ t then tap (K g).pole (K g).inB ((K g).outC q) (t - s) p else 0 : ℝ)) : EReal) := by
  refine (v28_at (W4 m ρ c) g s t q p).trans ((v25_at (W3 m ρ c) g s t q p).trans ?_)
  rw [show (W3 m ρ c (Proc.devRef .tc main_v15) : IVec S1x32x32x1x1 1) (ix5 (n0 := 1) (n3 := 1) (n4 := 1) 0 s t 0 0)
    = if s ≤ t then 1#1 else 0#1 from v15_at (W2 m ρ c) s t]
  by_cases h : s ≤ t
  · rw [if_pos h, if_pos rfl, if_pos h]
    refine (congrFun (v24_eq (W2 m ρ c)) _).trans ((gather_at _ _ g s t q p).trans ?_)
    have hd : (t : ℕ) - s < 32 := by omega
    have hi : (⟨min ((StableHlo.after hostOps1 (W2 m ρ c) (Proc.devRef .tc main_v23) : IVec S32x32x1 32) (ix3 (n2 := 1) s t 0)).toInt.toNat 31,
        by omega⟩ : Fin 32) = ⟨(t : ℕ) - s, hd⟩ :=
      Fin.ext ((congrArg (fun w : BitVec 32 => min w.toInt.toNat 31) (v23_at (W2 m ρ c) s t)).trans (lag_word s t h))
    exact (congrArg (fun d : Fin 32 => (StableHlo.after hostOps1 (W2 m ρ c) (Proc.devRef .tc main_v6) : FVec Ideal S32x32x16x16 .f32) (ix4 g d q p)) hi).trans
      ((v6_at (W2 m ρ c) g _ q p).trans (taps_arr m ρ c H g _ q p))
  · rw [if_neg h, if_neg (show ¬ (0#1 : BitVec 1) = 1#1 by decide), if_neg h]
    exact cst_at (W2 m ρ c) ix0

theorem idx1 : ∀ t : Fin cfg1.N, win1_0.index t = ![t.val, 0, 0] ∧ win1_1.index t = ![t.val, 0, 0] ∧ win1_2.index t = ![t.val, 0, 0]
    ∧ win1_3.index t = ![t.val, 0, 0] ∧ win1_4.index t = ![t.val, 0, 0] ∧ win1_5.index t = ![t.val, 0, 0] := by
  decide +kernel

/-- The second region's grid point of a group. -/
abbrev pt1 (g : Fin 32) : Fin cfg1.N := ⟨g.val, lt_of_lt_of_eq g.isLt rfl⟩

theorem W5_of_W2 (r : Ref sig .tc) (h2 : r ∉ hostOps1_2_W) (h1 : r ∉ hostOps1_1_W) (h0 : r ∉ hostOps1_W) :
    W5 m ρ c (Proc.devRef .tc r) = W2 m ρ c (Proc.devRef .tc r) :=
  (W5_of m ρ c r h2).trans ((W4_of m ρ c r h1).trans (W3_of m ρ c r h0))

theorem W4_of_W2 (r : Ref sig .tc) (h1 : r ∉ hostOps1_1_W) (h0 : r ∉ hostOps1_W) :
    W4 m ρ c (Proc.devRef .tc r) = W2 m ρ c (Proc.devRef .tc r) :=
  (W4_of m ρ c r h1).trans (W3_of m ρ c r h0)

include H in
theorem blk_h0 (g : Fin 32) (b : Fin 4) (k : Fin 256) (s : Fin 32) (p : Fin 16) : (iblk1 (V5 m ρ) c 0 (pt1 g) : FVec Ideal S1x1024x512 .bf16) (ix3 (n0 := 1) (n1 := 1024) (n2 := 512) 0 ⟨256 * b + k, by omega⟩ ⟨16 * s + p, by omega⟩) = ((u g b (32 * k + s) p : ℝ) : EReal) := by
  blk_simp [iblk1]
  refine Eq.trans ?_ ((v33_at (W4 m ρ c) g b k s p).trans ((congrFun (W4_args m ρ c main_arg0 (by decide)) _).trans
    (H.seq b ⟨32 * k + s, by omega⟩ g p)))
  blk_ext [(idx1 (pt1 g)).1]

include H in
theorem blk_h1 (g : Fin 32) (s : Fin 32) (p : Fin 16) (t : Fin 32) (q : Fin 16) : (iblk1 (V5 m ρ) c 1 (pt1 g) : FVec Ideal S1x512x512 .bf16) (ix3 (n0 := 1) (n1 := 512) (n2 := 512) 0 ⟨16 * s + p, by omega⟩ ⟨16 * t + q, by omega⟩) = ((if s ≤ t then tap (K g).pole (K g).inB ((K g).outC q) (t - s) p else 0 : ℝ) : EReal) := by
  blk_simp [iblk1]
  refine Eq.trans ?_ (pair_at m ρ c H g s t q p)
  blk_ext [(idx1 (pt1 g)).2.1]

include H in
theorem blk_h2 (g : Fin 32) (s : Fin 32) (p : Fin 16) (l : Fin 128) : (iblk1 (V5 m ρ) c 2 (pt1 g) : FVec Ideal S1x512x128 .bf16) (ix3 (n0 := 1) (n1 := 512) 0 ⟨16 * s + p, by omega⟩ l) = ((lane (fun n => (K g).pole n ^ (31 - (s : ℕ)) * (K g).inB n p) l : ℝ) : EReal) := by
  blk_simp [iblk1]
  refine Eq.trans ?_ ((v29_at (W4 m ρ c) _).trans ((congrFun (W4_of_W2 m ρ c main_v5_2 (by decide) (by decide)) _).trans (inRows_arr m ρ c H g s p l)))
  blk_ext [(idx1 (pt1 g)).2.2.1]

include H in
theorem blk_h3 (g : Fin 32) (t : Fin 32) (q : Fin 16) (l : Fin 128) : (iblk1 (V5 m ρ) c 3 (pt1 g) : FVec Ideal S1x512x128 .bf16) (ix3 (n0 := 1) (n1 := 512) 0 ⟨16 * t + q, by omega⟩ l) = ((lane (fun n => (starRingEnd ℂ) ((K g).outC q n * (K g).pole n ^ ((t : ℕ) + 1))) l : ℝ) : EReal) := by
  blk_simp [iblk1]
  refine Eq.trans ?_ ((v30_at (W4 m ρ c) _).trans ((congrFun (W4_of_W2 m ρ c main_v5_1 (by decide) (by decide)) _).trans (outRows_arr m ρ c H g t q l)))
  blk_ext [(idx1 (pt1 g)).2.2.2.1]

include H in
theorem blk_re (g : Fin 32) (l : Fin 128) : (iblk1 (V5 m ρ) c 4 (pt1 g) : FVec Ideal S1x2x128 .f32) (ix3 (n0 := 1) (n1 := 2) 0 0 l) = ((((K g).pole ⟨l.val % 64, Nat.mod_lt _ (by norm_num)⟩ ^ 32).re : ℝ) : EReal) := by
  blk_simp [iblk1]
  refine Eq.trans ?_ ((congrFun (W5_of_W2 m ρ c main_v5_3 (by decide) (by decide) (by decide)) _).trans (chunkPow_re m ρ c H g l))
  blk_ext [(idx1 (pt1 g)).2.2.2.2.1]

include H in
theorem blk_im (g : Fin 32) (l : Fin 128) : (iblk1 (V5 m ρ) c 4 (pt1 g) : FVec Ideal S1x2x128 .f32) (ix3 (n0 := 1) (n1 := 2) 0 1 l) = ((((K g).pole ⟨l.val % 64, Nat.mod_lt _ (by norm_num)⟩ ^ 32).im : ℝ) : EReal) := by
  blk_simp [iblk1]
  refine Eq.trans ?_ ((congrFun (W5_of_W2 m ρ c main_v5_3 (by decide) (by decide) (by decide)) _).trans (chunkPow_im m ρ c H g l))
  blk_ext [(idx1 (pt1 g)).2.2.2.2.1]

include H in
/-- The second region's blocks at a group. -/
theorem groupOperands (g : Fin 32) : GroupOperands (iblk1 (V5 m ρ) c 0 (pt1 g)) (iblk1 (V5 m ρ) c 1 (pt1 g)) (iblk1 (V5 m ρ) c 2 (pt1 g))
    (iblk1 (V5 m ρ) c 3 (pt1 g)) (iblk1 (V5 m ρ) c 4 (pt1 g)) (u g) (K g).pole (K g).inB (K g).outC where
  h0 := blk_h0 m ρ c H g
  h1 := blk_h1 m ρ c H g
  h2 := blk_h2 m ρ c H g
  h3 := blk_h3 m ρ c H g
  re := blk_re m ρ c H g
  im := blk_im m ρ c H g

include H in
/-- The second region's array. -/
theorem out_arr (g : Fin 32) (b : Fin 4) (k : Fin 256) (t : Fin 32) (q : Fin 16) :
    (W6 m ρ c (Proc.devRef .tc main_v34) : FVec Ideal S32x1024x512 .bf16)
        (ix3 (n1 := 1024) (n2 := 512) g ⟨256 * b + k, by omega⟩ ⟨16 * t + q, by omega⟩)
      = ((seqOut (K g).pole (K g).inB ((K g).outC q) (u g b) (32 * k + t) : ℝ) : EReal) := by
  refine (congrFun (W6_arr m ρ c 5) _).trans ?_
  refine Eq.trans (congrArg ((dat1 (V5 m ρ) c).arrAt 5 cfg1.N) ?_) (((dat1 (V5 m ρ) c).arrAt_emb_eq_flushed 5
    (Window.hdisj_of_index_inj win1_5 (by decide +kernel)) (pt1 g) (by revert g; decide +kernel)
    (ix3 (n0 := 1) (n1 := 1024) (n2 := 512) 0 ⟨256 * b + k, by omega⟩ ⟨16 * t + q, by omega⟩)).trans ?_)
  · blk_ext [(idx1 (pt1 g)).2.2.2.2.2]
  · exact (congrFun (after1_5 (V5 m ρ) c (pt1 g)) _).trans (out_apply c _ _ _ _ _ _ _ _ _ _ _ _ _ _ _ (groupOperands m ρ c H g) b k t q)

include H in
/-- The kernel's result: at every position the recurrence's output. -/
theorem result_at (b : Fin 4) (k : Fin 256) (t : Fin 32) (g : Fin 32) (q : Fin 16) :
    (W7 m ρ c (Proc.devRef .tc main_v37) : FVec Ideal S4x8192x512 .bf16)
        (ix3 (n1 := 8192) (n2 := 512) b ⟨32 * k + t, by omega⟩ ⟨16 * g + q, by omega⟩)
      = ((seqOut (K g).pole (K g).inB ((K g).outC q) (u g b) (32 * k + t) : ℝ) : EReal) :=
  (v37_at (W6 m ρ c) b k t g q).trans (out_arr m ρ c H g b k t q)

end Cert.KernelIdeal.Gen

end
-- ==== Proof.S5.RefEntry.lean ====
module

public import proofs.«01_k».proof.Proof.Gen.ReferenceIdeal.Run
public import proofs.«01_k».proof.Proof.S5.Params
public import Idealize.ShloMosaic.Lib.StableHlo.ReadAt
public import Idealize.ShloMosaic.Lib.Pointwise

/-!
# The reference before its recurrence

The poles and the drives that the reference's lines before the recurrence compute.
-/

@[expose] public section

set_option maxRecDepth 16384

noncomputable section

namespace Cert.ReferenceIdeal.Gen

open Idealize.ShloMosaic Idealize.ShloMosaic.TcCoe Idealize.ShloMosaic.Tactic Cert.ReferenceIdeal Cert.S5
open Cert.KernelIdeal.Gen (div_real)
open Idealize.SL.Sem

/-- The reference's arguments hold these reals. -/
structure RefArgs (V : Valuation τ sig (Elt Ideal)) (K : Fin 32 → Coef) (u : Fin 32 → Fin 4 → ℕ → Fin 16 → ℝ) : Prop where
  seq : ∀ (b : Fin 4) (t : Fin 8192) (g : Fin 32) (p : Fin 16),
    (V (Proc.devRef .tc main_arg0) : FVec Ideal S4x8192x512 .bf16) (ix3 b t ⟨16 * g + p, by omega⟩) = ((u g b t p : ℝ) : EReal)
  ar : ∀ (g : Fin 32) (n : Fin 64), (V (Proc.devRef .tc main_arg1) : FVec Ideal S32x64 .f32) (ix2 g n) = (((K g).ar n : ℝ) : EReal)
  ai : ∀ (g : Fin 32) (n : Fin 64), (V (Proc.devRef .tc main_arg2) : FVec Ideal S32x64 .f32) (ix2 g n) = (((K g).ai n : ℝ) : EReal)
  ld : ∀ g : Fin 32, (V (Proc.devRef .tc main_arg3) : FVec Ideal S32 .f32) (ix1 g) = (((K g).ld : ℝ) : EReal)
  br : ∀ (g : Fin 32) (n : Fin 64) (p : Fin 16), (V (Proc.devRef .tc main_arg4) : FVec Ideal S32x64x16 .f32) (ix3 g n p) = (((K g).br n p : ℝ) : EReal)
  bi : ∀ (g : Fin 32) (n : Fin 64) (p : Fin 16), (V (Proc.devRef .tc main_arg5) : FVec Ideal S32x64x16 .f32) (ix3 g n p) = (((K g).bi n p : ℝ) : EReal)
  cr : ∀ (g : Fin 32) (q : Fin 16) (n : Fin 64), (V (Proc.devRef .tc main_arg6) : FVec Ideal S32x16x64 .f32) (ix3 g q n) = (((K g).cr q n : ℝ) : EReal)
  ci : ∀ (g : Fin 32) (q : Fin 16) (n : Fin 64), (V (Proc.devRef .tc main_arg7) : FVec Ideal S32x16x64 .f32) (ix3 g q n) = (((K g).ci q n : ℝ) : EReal)

variable (V : Valuation τ sig (Elt Ideal)) {K : Fin 32 → Coef} {u : Fin 32 → Fin 4 → ℕ → Fin 16 → ℝ} (H : RefArgs V K u)

/-- A pole's real part less one. -/
abbrev lessOne (x : FVec Ideal S32x64 .f32) : FVec Ideal S32x64 .f32 :=
  subf x (broadcastInDim S32x64 ![] bcast_S_S32x64 (constant S_ .f32 0x3F800000#32))

/-- The factor's real part, of the pole's parts and the exponent's. -/
abbrev facRe (x y a b : FVec Ideal S32x64 .f32) : FVec Ideal S32x64 .f32 :=
  Host.divf (addf (mulf (lessOne x) a) (mulf y b)) (addf (mulf a a) (mulf b b))

/-- The factor's imaginary part. -/
abbrev facIm (x y a b : FVec Ideal S32x64 .f32) : FVec Ideal S32x64 .f32 :=
  Host.divf (subf (mulf y a) (mulf (lessOne x) b)) (addf (mulf a a) (mulf b b))

theorem v21_eq : (StableHlo.after hostOps0 V (Proc.devRef .tc main_v21) : FVec Ideal S32x64 .f32)
    = facRe (StableHlo.after hostOps0 V (Proc.devRef .tc main_v8) : FVec Ideal S32x64 .f32) (StableHlo.after hostOps0 V (Proc.devRef .tc main_v12) : FVec Ideal S32x64 .f32) (V (Proc.devRef .tc main_arg1) : FVec Ideal S32x64 .f32) (V (Proc.devRef .tc main_arg2) : FVec Ideal S32x64 .f32) := by
  after_reads_simp

theorem v25_eq : (StableHlo.after hostOps0 V (Proc.devRef .tc main_v25) : FVec Ideal S32x64 .f32)
    = facIm (StableHlo.after hostOps0 V (Proc.devRef .tc main_v8) : FVec Ideal S32x64 .f32) (StableHlo.after hostOps0 V (Proc.devRef .tc main_v12) : FVec Ideal S32x64 .f32) (V (Proc.devRef .tc main_arg1) : FVec Ideal S32x64 .f32) (V (Proc.devRef .tc main_arg2) : FVec Ideal S32x64 .f32) := by
  after_reads_simp

/-- A row of factors repeated along the input axis. -/
abbrev rep (x : FVec Ideal S32x64 .f32) : FVec Ideal S32x64x16 .f32 :=
  broadcastInDim S32x64x16 ![0, 1, 2] bcast_S32x64x1_S32x64x16_0_1_2 (broadcastInDim S32x64x1 ![0, 1] bcast_S32x64_S32x64x1_0_1 x)

theorem v32_eq : (StableHlo.after hostOps0 V (Proc.devRef .tc main_v32) : FVec Ideal S32x64x16 .f32)
    = subf (mulf (rep (StableHlo.after hostOps0 V (Proc.devRef .tc main_v21) : FVec Ideal S32x64 .f32)) (V (Proc.devRef .tc main_arg4) : FVec Ideal S32x64x16 .f32))
      (mulf (rep (StableHlo.after hostOps0 V (Proc.devRef .tc main_v25) : FVec Ideal S32x64 .f32)) (V (Proc.devRef .tc main_arg5) : FVec Ideal S32x64x16 .f32)) := by
  after_reads_simp

theorem v39_eq : (StableHlo.after hostOps0 V (Proc.devRef .tc main_v39) : FVec Ideal S32x64x16 .f32)
    = addf (mulf (rep (StableHlo.after hostOps0 V (Proc.devRef .tc main_v21) : FVec Ideal S32x64 .f32)) (V (Proc.devRef .tc main_arg5) : FVec Ideal S32x64x16 .f32))
      (mulf (rep (StableHlo.after hostOps0 V (Proc.devRef .tc main_v25) : FVec Ideal S32x64 .f32)) (V (Proc.devRef .tc main_arg4) : FVec Ideal S32x64x16 .f32)) := by
  after_reads_simp

/-- The inputs through an input map, one row a position. -/
abbrev driven (x : FVec Ideal S32x64x16 .f32) (y : FVec Ideal S4x8192x512 .bf16) : FVec Ideal S8192x4x32x64 .f32 :=
  transpose S8192x4x32x64 [3, 2, 0, 1] (Host.dotGeneral dot_S32x64x16_S4x8192x32x16_S32x64x4x8192_2_3_1_01_0_2 none x
    (shapeCast S4x8192x32x16 (extf .f32 y bitsLt_bf16_f32) shapeCasts_S4x8192x512_S4x8192x32x16)) transposes_S32x64x4x8192_S8192x4x32x64_3_2_0_1

theorem w0_eq : (StableHlo.after hostOps0 V (Proc.devRef .tc main_v49_0) : FVec Ideal S8192x4x32x64 .f32)
    = driven (StableHlo.after hostOps0 V (Proc.devRef .tc main_v32) : FVec Ideal S32x64x16 .f32) (V (Proc.devRef .tc main_arg0) : FVec Ideal S4x8192x512 .bf16) := by
  after_reads_simp
  rfl

theorem w1_eq : (StableHlo.after hostOps0 V (Proc.devRef .tc main_v49_1) : FVec Ideal S8192x4x32x64 .f32)
    = driven (StableHlo.after hostOps0 V (Proc.devRef .tc main_v39) : FVec Ideal S32x64x16 .f32) (V (Proc.devRef .tc main_arg0) : FVec Ideal S4x8192x512 .bf16) := by
  after_reads_simp
  rfl

theorem driven_at (x : FVec Ideal S32x64x16 .f32) (y : FVec Ideal S4x8192x512 .bf16) (t : Fin 8192) (b : Fin 4) (g : Fin 32) (n : Fin 64) :
    driven x y (ix4 t b g n) = ∑ p : Fin 16, x (ix3 g n p) * y (ix3 b t ⟨16 * g + p, by omega⟩) := by
  pointwise
  refine Finset.sum_congr rfl fun p _ => ?_
  congr 4; omega

include H

theorem v8_at (g : Fin 32) (n : Fin 64) : (StableHlo.after hostOps0 V (Proc.devRef .tc main_v8) : FVec Ideal S32x64 .f32) (ix2 g n) = ((((K g).pole n).re : ℝ) : EReal) := by
  after_reads_at
  rw [H.ar, H.ai, H.ld, Ideal.exp_coe, ← EReal.coe_mul, ← EReal.coe_mul, Ideal.exp_coe, Ideal.cos_coe, ← EReal.coe_mul, Coef.pole_re]
  rfl

theorem v12_at (g : Fin 32) (n : Fin 64) : (StableHlo.after hostOps0 V (Proc.devRef .tc main_v12) : FVec Ideal S32x64 .f32) (ix2 g n) = ((((K g).pole n).im : ℝ) : EReal) := by
  after_reads_at
  rw [H.ar, H.ai, H.ld, Ideal.exp_coe, ← EReal.coe_mul, ← EReal.coe_mul, Ideal.exp_coe, Ideal.sin_coe, ← EReal.coe_mul, Coef.pole_im]
  rfl

theorem v21_at (g : Fin 32) (n : Fin 64) : (StableHlo.after hostOps0 V (Proc.devRef .tc main_v21) : FVec Ideal S32x64 .f32) (ix2 g n) = ((((K g).fac n).re : ℝ) : EReal) := by
  rw [v21_eq]
  have h8 := v8_at V H g n
  have h12 := v12_at V H g n
  generalize (StableHlo.after hostOps0 V (Proc.devRef .tc main_v8) : FVec Ideal S32x64 .f32) = x at *
  generalize (StableHlo.after hostOps0 V (Proc.devRef .tc main_v12) : FVec Ideal S32x64 .f32) = y at *
  pointwise
  rw [h8, h12, H.ar, H.ai, ← EReal.coe_one, ← EReal.coe_sub]
  simp only [← EReal.coe_mul, ← EReal.coe_add]
  rw [div_real _ _ ((K g).ne n)]
  rfl

theorem v25_at (g : Fin 32) (n : Fin 64) : (StableHlo.after hostOps0 V (Proc.devRef .tc main_v25) : FVec Ideal S32x64 .f32) (ix2 g n) = ((((K g).fac n).im : ℝ) : EReal) := by
  rw [v25_eq]
  have h8 := v8_at V H g n
  have h12 := v12_at V H g n
  generalize (StableHlo.after hostOps0 V (Proc.devRef .tc main_v8) : FVec Ideal S32x64 .f32) = x at *
  generalize (StableHlo.after hostOps0 V (Proc.devRef .tc main_v12) : FVec Ideal S32x64 .f32) = y at *
  pointwise
  rw [h8, h12, H.ar, H.ai, ← EReal.coe_one, ← EReal.coe_sub]
  simp only [← EReal.coe_mul, ← EReal.coe_add, ← EReal.coe_sub]
  rw [div_real _ _ ((K g).ne n)]
  rfl

theorem v32_at (g : Fin 32) (n : Fin 64) (p : Fin 16) : (StableHlo.after hostOps0 V (Proc.devRef .tc main_v32) : FVec Ideal S32x64x16 .f32) (ix3 g n p) = ((((K g).inB n p).re : ℝ) : EReal) := by
  rw [v32_eq]
  have h1 := v21_at V H g n
  have h2 := v25_at V H g n
  generalize (StableHlo.after hostOps0 V (Proc.devRef .tc main_v21) : FVec Ideal S32x64 .f32) = x at *
  generalize (StableHlo.after hostOps0 V (Proc.devRef .tc main_v25) : FVec Ideal S32x64 .f32) = y at *
  pointwise
  rw [h1, h2, H.br, H.bi, ← EReal.coe_mul, ← EReal.coe_mul, ← EReal.coe_sub]
  rfl

theorem v39_at (g : Fin 32) (n : Fin 64) (p : Fin 16) : (StableHlo.after hostOps0 V (Proc.devRef .tc main_v39) : FVec Ideal S32x64x16 .f32) (ix3 g n p) = ((((K g).inB n p).im : ℝ) : EReal) := by
  rw [v39_eq]
  have h1 := v21_at V H g n
  have h2 := v25_at V H g n
  generalize (StableHlo.after hostOps0 V (Proc.devRef .tc main_v21) : FVec Ideal S32x64 .f32) = x at *
  generalize (StableHlo.after hostOps0 V (Proc.devRef .tc main_v25) : FVec Ideal S32x64 .f32) = y at *
  pointwise
  rw [h1, h2, H.br, H.bi, ← EReal.coe_mul, ← EReal.coe_mul, ← EReal.coe_add]
  rfl

theorem w0_at (t : Fin 8192) (b : Fin 4) (g : Fin 32) (n : Fin 64) :
    (StableHlo.after hostOps0 V (Proc.devRef .tc main_v49_0) : FVec Ideal S8192x4x32x64 .f32) (ix4 t b g n) = (((drive (u g b) ((K g).inB n) t).re : ℝ) : EReal) := by
  rw [w0_eq, driven_at]
  simp only [v32_at V H, H.seq, coe_sum_mul]
  refine congrArg Real.toEReal ?_
  simp only [drive, Complex.re_sum, Complex.re_ofReal_mul]
  exact Finset.sum_congr rfl fun p _ => mul_comm _ _

theorem w1_at (t : Fin 8192) (b : Fin 4) (g : Fin 32) (n : Fin 64) :
    (StableHlo.after hostOps0 V (Proc.devRef .tc main_v49_1) : FVec Ideal S8192x4x32x64 .f32) (ix4 t b g n) = (((drive (u g b) ((K g).inB n) t).im : ℝ) : EReal) := by
  rw [w1_eq, driven_at]
  simp only [v39_at V H, H.seq, coe_sum_mul]
  refine congrArg Real.toEReal ?_
  simp only [drive, Complex.im_sum, Complex.im_ofReal_mul]
  exact Finset.sum_congr rfl fun p _ => mul_comm _ _

theorem w2_at (g : Fin 32) (n : Fin 64) : (StableHlo.after hostOps0 V (Proc.devRef .tc main_v49_2) : FVec Ideal S32x64 .f32) (ix2 g n) = ((((K g).pole n).re : ℝ) : EReal) := by
  refine Eq.trans (congrFun ?_ _) (v8_at V H g n)
  after_reads_simp
  rfl

theorem w3_at (g : Fin 32) (n : Fin 64) : (StableHlo.after hostOps0 V (Proc.devRef .tc main_v49_3) : FVec Ideal S32x64 .f32) (ix2 g n) = ((((K g).pole n).im : ℝ) : EReal) := by
  refine Eq.trans (congrFun ?_ _) (v12_at V H g n)
  after_reads_simp
  rfl

omit H in
theorem w5_at (b : Fin 4) (g : Fin 32) (n : Fin 64) : (StableHlo.after hostOps0 V (Proc.devRef .tc main_v49_5) : FVec Ideal S4x32x64 .f32) (ix3 b g n) = (0 : EReal) := by
  after_reads_at
  rw [id_eq]
  pointwise

omit H in
theorem w6_at (b : Fin 4) (g : Fin 32) (n : Fin 64) : (StableHlo.after hostOps0 V (Proc.devRef .tc main_v49_6) : FVec Ideal S4x32x64 .f32) (ix3 b g n) = (0 : EReal) := by
  after_reads_at
  rw [id_eq]
  pointwise

end Cert.ReferenceIdeal.Gen

end
-- ==== Proof.S5.RefLoop.lean ====
module

public import proofs.«01_k».proof.Proof.S5.RefEntry
public import Idealize.ShloMosaic.Lib.DynamicIndex
public import Idealize.ShloMosaic.Lib.Pipeline.Value

/-!
# The reference's recurrence

Trip by trip: the state after `k` trips is the recurrence's, and the rows stacked so far hold the states.
-/

@[expose] public section

set_option maxRecDepth 16384

noncomputable section

namespace Cert.ReferenceIdeal.Gen

open Idealize.ShloMosaic Idealize.ShloMosaic.TcCoe Idealize.ShloMosaic.Tactic Cert.ReferenceIdeal Cert.S5
open Idealize.SL.Sem Cert.ReferenceIdeal.Value

/-- The start of row `k`. -/
abbrev starts (ct : IVec S_ 32) : Fin 4 → Int := fun a =>
  ((![ct, constantI S_ 32 0#32, constantI S_ 32 0#32, constantI S_ 32 0#32] : Fin 4 → IVec S_ 32) a (Shape.Idx.first h_S_)).toInt

theorem word_int (k : ℕ) (hk : k < 8192) : (BitVec.ofNat 32 k).toInt = (k : Int) := by
  have h : (BitVec.ofNat 32 k).toNat = k := by
    rw [BitVec.toNat_ofNat]
    omega
  rw [BitVec.toInt_eq_toNat_of_lt (by rw [h]; omega), h]

theorem starts_eq (ct : IVec S_ 32) (k : ℕ) (hk : k < 8192) (hct : ct = fun _ => BitVec.ofNat 32 k) (a : Fin 4) :
    starts ct a = ((![k, 0, 0, 0] : Fin 4 → ℕ) a : Int) := by
  subst hct
  match a with
  | 0 => exact word_int k hk
  | 1 => rfl
  | 2 => rfl
  | 3 => rfl

theorem row_fits (k : ℕ) (hk : k < 8192) : S8192x4x32x64.Slices (![k, 0, 0, 0] : Fin 4 → ℕ) S1x4x32x64 := by
  refine ⟨rfl, fun a => ?_⟩
  match a with
  | 0 => show k + 1 ≤ 8192; omega
  | 1 => exact show 0 + 4 ≤ 4 by decide
  | 2 => exact show 0 + 32 ≤ 32 by decide
  | 3 => exact show 0 + 64 ≤ 64 by decide

/-- Row `k` of a stack. -/
theorem row_at (X : FVec Ideal S8192x4x32x64 .f32) (ct : IVec S_ 32) (k : ℕ) (hk : k < 8192) (hct : ct = fun _ => BitVec.ofNat 32 k)
    (b : Fin 4) (g : Fin 32) (n : Fin 64) :
    shapeCast S4x32x64 (Host.dynamicSlice S1x4x32x64 X (starts ct) sliceFits_S8192x4x32x64_S1x4x32x64) shapeCasts_S1x4x32x64_S4x32x64 (ix3 b g n)
      = X (ix4 ⟨k, hk⟩ b g n) := by
  rw [Host.dynamicSlice_eq_extractStridedSlice S1x4x32x64 X (starts ct) ![k, 0, 0, 0] _ (row_fits k hk) (starts_eq ct k hk hct)]
  pointwise

/-- A stack with row `k` written. -/
theorem put_at (X : FVec Ideal S8192x4x32x64 .f32) (y : FVec Ideal S4x32x64 .f32) (ct : IVec S_ 32) (k : ℕ) (hk : k < 8192)
    (hct : ct = fun _ => BitVec.ofNat 32 k) (t : Fin 8192) (b : Fin 4) (g : Fin 32) (n : Fin 64) :
    Host.dynamicUpdateSlice X (broadcastInDim S1x4x32x64 ![1, 2, 3] bcast_S4x32x64_S1x4x32x64_1_2_3 y) (starts ct)
        updateFits_S8192x4x32x64_S1x4x32x64 (ix4 t b g n)
      = if (t : ℕ) = k then y (ix3 b g n) else X (ix4 t b g n) := by
  rw [Host.dynamicUpdateSlice_eq_updateSlice X _ (starts ct) _ ![k, 0, 0, 0] (fun a => by
    have := (row_fits k hk).2 a; rw [starts_eq ct k hk hct a]; omega) (row_fits k hk)]
  pointwise
  by_cases h : (t : ℕ) = k
  · rw [dif_pos ⟨by omega, by omega⟩, if_pos h]
  · rw [dif_neg (fun e => h (by omega)), if_neg h]

variable {K : Fin 32 → Coef} {u : Fin 32 → Fin 4 → ℕ → Fin 16 → ℝ}

/-- The drive of state `n` of a group. -/
abbrev kick (K : Fin 32 → Coef) (u : Fin 32 → Fin 4 → ℕ → Fin 16 → ℝ) (b : Fin 4) (g : Fin 32) (n : Fin 64) : ℕ → ℂ :=
  drive (u g b) ((K g).inB n)

/-- State `n` of a group before time `k`. -/
abbrev held (K : Fin 32 → Coef) (u : Fin 32 → Fin 4 → ℕ → Fin 16 → ℝ) (b : Fin 4) (g : Fin 32) (n : Fin 64) (k : ℕ) : ℂ :=
  state ((K g).pole n) (kick K u b g n) k

/-- The loop's buffers after `k` trips. -/
structure Inv (K : Fin 32 → Coef) (u : Fin 32 → Fin 4 → ℕ → Fin 16 → ℝ) (k : ℕ) (W : Valuation τ sig (Elt Ideal)) : Prop where
  d_re : ∀ (t : Fin 8192) (b : Fin 4) (g : Fin 32) (n : Fin 64),
    (W (Proc.devRef .tc main_v49_0) : FVec Ideal S8192x4x32x64 .f32) (ix4 t b g n) = ((kick K u b g n t).re : EReal)
  d_im : ∀ (t : Fin 8192) (b : Fin 4) (g : Fin 32) (n : Fin 64),
    (W (Proc.devRef .tc main_v49_1) : FVec Ideal S8192x4x32x64 .f32) (ix4 t b g n) = ((kick K u b g n t).im : EReal)
  l_re : ∀ (g : Fin 32) (n : Fin 64),
    (W (Proc.devRef .tc main_v49_2) : FVec Ideal S32x64 .f32) (ix2 g n) = (((K g).pole n).re : EReal)
  l_im : ∀ (g : Fin 32) (n : Fin 64),
    (W (Proc.devRef .tc main_v49_3) : FVec Ideal S32x64 .f32) (ix2 g n) = (((K g).pole n).im : EReal)
  ctr : (W (Proc.devRef .tc main_v49_4) : IVec S_ 32) = fun _ => BitVec.ofNat 32 k
  x_re : ∀ (b : Fin 4) (g : Fin 32) (n : Fin 64),
    (W (Proc.devRef .tc main_v49_5) : FVec Ideal S4x32x64 .f32) (ix3 b g n) = ((held K u b g n k).re : EReal)
  x_im : ∀ (b : Fin 4) (g : Fin 32) (n : Fin 64),
    (W (Proc.devRef .tc main_v49_6) : FVec Ideal S4x32x64 .f32) (ix3 b g n) = ((held K u b g n k).im : EReal)
  y_re : ∀ (t : Fin 8192) (b : Fin 4) (g : Fin 32) (n : Fin 64), (t : ℕ) < k →
    (W (Proc.devRef .tc main_v49_7) : FVec Ideal S8192x4x32x64 .f32) (ix4 t b g n) = ((held K u b g n (t + 1)).re : EReal)
  y_im : ∀ (t : Fin 8192) (b : Fin 4) (g : Fin 32) (n : Fin 64), (t : ℕ) < k →
    (W (Proc.devRef .tc main_v49_8) : FVec Ideal S8192x4x32x64 .f32) (ix4 t b g n) = ((held K u b g n (t + 1)).im : EReal)

/-- The new state's real part. -/
theorem next_re (W : Valuation τ sig (Elt Ideal)) (k : ℕ) (hk : k < 8192) (I : Inv K u k W) (b : Fin 4) (g : Fin 32) (n : Fin 64) :
    (res_main_while0b_v66 W : FVec Ideal S4x32x64 .f32) (ix3 b g n) = ((held K u b g n (k + 1)).re : EReal) := by
  have hrow := row_at (W (Proc.devRef .tc main_v49_0)) (W (Proc.devRef .tc main_v49_4)) k hk I.ctr b g n
  rw [I.d_re] at hrow
  show (addf (subf _ _) (shapeCast S4x32x64 (Host.dynamicSlice S1x4x32x64 (W (Proc.devRef .tc main_v49_0)) (starts (W (Proc.devRef .tc main_v49_4))) _) _) : FVec Ideal S4x32x64 .f32) (ix3 b g n) = _
  refine (congrArg₂ (· + ·) (?_ : _ = (((((K g).pole n).re * (held K u b g n k).re - ((K g).pole n).im * (held K u b g n k).im : ℝ)) : EReal)) hrow).trans ?_
  · pointwise
    rw [I.l_re, I.l_im, I.x_re, I.x_im]
    push_cast
    rfl
  · show _ = ((state ((K g).pole n) (kick K u b g n) (k + 1)).re : EReal)
    rw [← EReal.coe_add, state_succ, Complex.add_re, Complex.mul_re]

/-- The new state's imaginary part. -/
theorem next_im (W : Valuation τ sig (Elt Ideal)) (k : ℕ) (hk : k < 8192) (I : Inv K u k W) (b : Fin 4) (g : Fin 32) (n : Fin 64) :
    (res_main_while0b_v74 W : FVec Ideal S4x32x64 .f32) (ix3 b g n) = ((held K u b g n (k + 1)).im : EReal) := by
  have hrow := row_at (W (Proc.devRef .tc main_v49_1)) (W (Proc.devRef .tc main_v49_4)) k hk I.ctr b g n
  rw [I.d_im] at hrow
  show (addf (addf _ _) (shapeCast S4x32x64 (Host.dynamicSlice S1x4x32x64 (W (Proc.devRef .tc main_v49_1)) (starts (W (Proc.devRef .tc main_v49_4))) _) _) : FVec Ideal S4x32x64 .f32) (ix3 b g n) = _
  refine (congrArg₂ (· + ·) (?_ : _ = (((((K g).pole n).re * (held K u b g n k).im + ((K g).pole n).im * (held K u b g n k).re : ℝ)) : EReal)) hrow).trans ?_
  · pointwise
    rw [I.l_re, I.l_im, I.x_re, I.x_im]
    push_cast
    rfl
  · show _ = ((state ((K g).pole n) (kick K u b g n) (k + 1)).im : EReal)
    rw [← EReal.coe_add, state_succ, Complex.add_im, Complex.mul_im]

theorem inv_step (W : Valuation τ sig (Elt Ideal)) (k : ℕ) (hk : k < 8192) (I : Inv K u k W) : Inv K u (k + 1) (STEP W) where
  d_re t b g n := by rw [STEP_main_v49_0]; exact I.d_re t b g n
  d_im t b g n := by rw [STEP_main_v49_1]; exact I.d_im t b g n
  l_re g n := by rw [STEP_main_v49_2]; exact I.l_re g n
  l_im g n := by rw [STEP_main_v49_3]; exact I.l_im g n
  ctr := by
    rw [STEP_main_v49_4]
    funext i
    refine (congrArg (· + 1#32) (congrFun I.ctr i)).trans ?_
    exact (BitVec.ofNat_add ..).symm
  x_re b g n := by rw [STEP_main_v49_5]; exact next_re W k hk I b g n
  x_im b g n := by rw [STEP_main_v49_6]; exact next_im W k hk I b g n
  y_re t b g n ht := by
    rw [STEP_main_v49_7]
    refine (put_at (W (Proc.devRef .tc main_v49_7)) (res_main_while0b_v66 W) (W (Proc.devRef .tc main_v49_4)) k hk I.ctr t b g n).trans ?_
    split
    · next h => rw [next_re W k hk I, h]
    · next h => exact I.y_re t b g n (by omega)
  y_im t b g n ht := by
    rw [STEP_main_v49_8]
    refine (put_at (W (Proc.devRef .tc main_v49_8)) (res_main_while0b_v74 W) (W (Proc.devRef .tc main_v49_4)) k hk I.ctr t b g n).trans ?_
    split
    · next h => rw [next_im W k hk I, h]
    · next h => exact I.y_im t b g n (by omega)

theorem inv_zero (V : Valuation τ sig (Elt Ideal)) (H : RefArgs V K u)
    (hc : (StableHlo.after hostOps0 V (Proc.devRef .tc main_v49_4) : IVec S_ 32) = fun _ => 0#32) :
    Inv K u 0 (StableHlo.after hostOps0 V) where
  d_re t b g n := w0_at V H t b g n
  d_im t b g n := w1_at V H t b g n
  l_re g n := w2_at V H g n
  l_im g n := w3_at V H g n
  ctr := hc
  x_re b g n := (w5_at V b g n).trans (by rw [held, state_zero]; simp)
  x_im b g n := (w6_at V b g n).trans (by rw [held, state_zero]; simp)
  y_re t b g n ht := absurd ht (by omega)
  y_im t b g n ht := absurd ht (by omega)

theorem inv_all (V : Valuation τ sig (Elt Ideal)) (I : Inv K u 0 V) (k : ℕ) (hk : k ≤ 8192) : Inv K u k (STEP^[k] V) := by
  induction k with
  | zero => exact I
  | succ k ih =>
    rw [Function.iterate_succ_apply']
    exact inv_step _ k (by omega) (ih (by omega))

/-- The result's point, from the output weights and the stacked states. -/
abbrev readout (cr ci : FVec Ideal S32x16x64 .f32) (yr yi : FVec Ideal S8192x4x32x64 .f32) (b : Fin 4) (t : Fin 8192) (g : Fin 32) (q : Fin 16) : EReal :=
  (∑ n : Fin 64, (cr (ix3 g q n) : EReal) * yr (ix4 t b g n)) - ∑ n : Fin 64, (ci (ix3 g q n) : EReal) * yi (ix4 t b g n)

/-- The reference's result from the loop's last contents. -/
theorem out_at (W : Valuation τ sig (Elt Ideal)) (I : Inv K u 8192 W)
    (hr : ∀ (g : Fin 32) (q : Fin 16) (n : Fin 64),
      (W (Proc.devRef .tc main_arg6) : FVec Ideal S32x16x64 .f32) (ix3 g q n) = (((K g).cr q n : ℝ) : EReal))
    (hi : ∀ (g : Fin 32) (q : Fin 16) (n : Fin 64),
      (W (Proc.devRef .tc main_arg7) : FVec Ideal S32x16x64 .f32) (ix3 g q n) = (((K g).ci q n : ℝ) : EReal))
    (b : Fin 4) (t : Fin 8192) (g : Fin 32) (q : Fin 16) :
    (out_main_v56 W : FVec Ideal S4x8192x512 .bf16) (ix3 (n1 := 8192) (n2 := 512) b t ⟨16 * g + q, by omega⟩)
      = ((seqOut (K g).pole (K g).inB ((K g).outC q) (u g b) t : ℝ) : EReal) := by
  have e : (out_main_v56 W : FVec Ideal S4x8192x512 .bf16) (ix3 (n1 := 8192) (n2 := 512) b t ⟨16 * g + q, by omega⟩)
      = readout (W (Proc.devRef .tc main_arg6)) (W (Proc.devRef .tc main_arg7)) (W (Proc.devRef .tc main_v49_7)) (W (Proc.devRef .tc main_v49_8)) b t g q := by
    unfold out_main_v56
    pointwise
  rw [e]
  simp only [readout, hr, hi, I.y_re t b g _ t.2, I.y_im t b g _ t.2]
  rw [coe_sum_mul, coe_sum_mul, ← EReal.coe_sub, ← Finset.sum_sub_distrib]
  refine congrArg _ (Finset.sum_congr rfl fun n _ => ?_)
  rw [Complex.mul_re]
  rfl

end Cert.ReferenceIdeal.Gen

end
-- ==== Proof.S5.Pre.lean ====
module

public import proofs.«01_k».proof.Pre_finite_arguments
public import proofs.«01_k».proof.Proof.S5.Coef
public import Idealize.ShloMosaic.Lib.Pointwise

/-!
# The precondition, read

Finite arguments are real numbers; the groups' parameters and the sequences are read off them.
-/

@[expose] public section

noncomputable section

namespace Cert.S5

open Idealize.ShloMosaic Idealize.ShloMosaic.Tactic Cert.Pre_finite_arguments

/-- The relations the precondition's operations take. -/
theorem preFacts : Cert.Pre_finite_arguments.Facts where
  bitsLt_bf16_f32 := by decide
  bcast_S_S4x8192x512 := ⟨by decide, by decide⟩
  bcast_S_S32x64 := ⟨by decide, by decide⟩
  bcast_S_S32 := ⟨by decide, by decide⟩
  bcast_S_S32x64x16 := ⟨by decide, by decide⟩
  bcast_S_S32x16x64 := ⟨by decide, by decide⟩

theorem inf_bits : Ideal.ofBits .f32 0x7F800000#32 = ⊤ := by simp [Ideal.ofBits, Ideal.ieee]

theorem zero_bits : Ideal.ofBits .f32 0x00000000#32 = 0 := by simp [Ideal.ofBits, Ideal.ieee]

/-- An extended real whose absolute value is below `⊤` is a real number. -/
theorem real_of_abs (x : EReal) (h : Ideal.cmp .olt (max x (-x)) ⊤ = 1#1) : x = ((x.toReal : ℝ) : EReal) := by
  have h' := (Ideal.cmp_olt_eq_one ..).mp h
  refine (EReal.coe_toReal ?_ ?_).symm
  · rintro rfl
    simp at h'
  · rintro rfl
    simp at h'

theorem real_of_finite {s : Shape} (x : FVec Ideal s .f32) (hb : S_.BroadcastsInDim s (![] : Fin 0 → Fin s.rank))
    (h : cmpf .olt (Host.absf x) (broadcastInDim s ![] hb (constant S_ .f32 0x7F800000#32)) = fun _ => 1#1) (i : s.Idx) :
    (x i : EReal) = (((x i : EReal).toReal : ℝ) : EReal) := by
  refine real_of_abs _ ?_
  rw [← inf_bits]
  exact congrFun h i

/-- Arguments that are real numbers, none of the eigenvalues zero. -/
structure Fine (a0 : FVec Ideal S4x8192x512 .bf16) (a1 a2 : FVec Ideal S32x64 .f32) (a3 : FVec Ideal S32 .f32)
    (a4 a5 : FVec Ideal S32x64x16 .f32) (a6 a7 : FVec Ideal S32x16x64 .f32) : Prop where
  f0 : ∀ i, (a0 i : EReal) = (((a0 i : EReal).toReal : ℝ) : EReal)
  f1 : ∀ i, (a1 i : EReal) = (((a1 i : EReal).toReal : ℝ) : EReal)
  f2 : ∀ i, (a2 i : EReal) = (((a2 i : EReal).toReal : ℝ) : EReal)
  f3 : ∀ i, (a3 i : EReal) = (((a3 i : EReal).toReal : ℝ) : EReal)
  f4 : ∀ i, (a4 i : EReal) = (((a4 i : EReal).toReal : ℝ) : EReal)
  f5 : ∀ i, (a5 i : EReal) = (((a5 i : EReal).toReal : ℝ) : EReal)
  f6 : ∀ i, (a6 i : EReal) = (((a6 i : EReal).toReal : ℝ) : EReal)
  f7 : ∀ i, (a7 i : EReal) = (((a7 i : EReal).toReal : ℝ) : EReal)
  ne : ∀ i, (a1 i : EReal).toReal * (a1 i : EReal).toReal + (a2 i : EReal).toReal * (a2 i : EReal).toReal ≠ 0

variable {a0 : FVec Ideal S4x8192x512 .bf16} {a1 a2 : FVec Ideal S32x64 .f32} {a3 : FVec Ideal S32 .f32}
  {a4 a5 : FVec Ideal S32x64x16 .f32} {a6 a7 : FVec Ideal S32x16x64 .f32}

/-- The groups' parameters. -/
def Fine.coef (F : Fine a0 a1 a2 a3 a4 a5 a6 a7) (g : Fin 32) : Coef where
  ar n := (a1 (ix2 g n) : EReal).toReal
  ai n := (a2 (ix2 g n) : EReal).toReal
  ld := (a3 (ix1 g) : EReal).toReal
  br n p := (a4 (ix3 g n p) : EReal).toReal
  bi n p := (a5 (ix3 g n p) : EReal).toReal
  cr q n := (a6 (ix3 g q n) : EReal).toReal
  ci q n := (a7 (ix3 g q n) : EReal).toReal
  ne n := F.ne (ix2 g n)

/-- The sequences, a group's sixteen channels at a time. -/
def Fine.seqs (_ : Fine a0 a1 a2 a3 a4 a5 a6 a7) (g : Fin 32) (b : Fin 4) (t : ℕ) (p : Fin 16) : ℝ :=
  if h : t < 8192 then (a0 (ix3 (n1 := 8192) (n2 := 512) b ⟨t, h⟩ ⟨16 * g + p, by omega⟩) : EReal).toReal else 0

theorem Fine.seqs_at (F : Fine a0 a1 a2 a3 a4 a5 a6 a7) (b : Fin 4) (t : Fin 8192) (g : Fin 32) (p : Fin 16) :
    (a0 (ix3 (n1 := 8192) (n2 := 512) b t ⟨16 * g + p, by omega⟩) : EReal) = ((F.seqs g b t p : ℝ) : EReal) := by
  rw [Fine.seqs, dif_pos t.2]
  exact F.f0 _

theorem fine_of_ones [Cert.Pre_finite_arguments.Facts]
    (h0 : (fn a0 a1 a2 a3 a4 a5 a6 a7).1 = fun _ => 1#1)
    (h1 : (fn a0 a1 a2 a3 a4 a5 a6 a7).2.1 = fun _ => 1#1)
    (h2 : (fn a0 a1 a2 a3 a4 a5 a6 a7).2.2.1 = fun _ => 1#1)
    (h3 : (fn a0 a1 a2 a3 a4 a5 a6 a7).2.2.2.1 = fun _ => 1#1)
    (h4 : (fn a0 a1 a2 a3 a4 a5 a6 a7).2.2.2.2.1 = fun _ => 1#1)
    (h5 : (fn a0 a1 a2 a3 a4 a5 a6 a7).2.2.2.2.2.1 = fun _ => 1#1)
    (h6 : (fn a0 a1 a2 a3 a4 a5 a6 a7).2.2.2.2.2.2.1 = fun _ => 1#1)
    (h7 : (fn a0 a1 a2 a3 a4 a5 a6 a7).2.2.2.2.2.2.2.1 = fun _ => 1#1)
    (h8 : (fn a0 a1 a2 a3 a4 a5 a6 a7).2.2.2.2.2.2.2.2 = fun _ => 1#1) : Fine a0 a1 a2 a3 a4 a5 a6 a7 where
  f0 := real_of_finite (extf .f32 a0 Facts.bitsLt_bf16_f32) Facts.bcast_S_S4x8192x512 h0
  f1 := real_of_finite a1 Facts.bcast_S_S32x64 h1
  f2 := real_of_finite a2 Facts.bcast_S_S32x64 h2
  f3 := real_of_finite a3 Facts.bcast_S_S32 h3
  f4 := real_of_finite a4 Facts.bcast_S_S32x64x16 h4
  f5 := real_of_finite a5 Facts.bcast_S_S32x64x16 h5
  f6 := real_of_finite a6 Facts.bcast_S_S32x16x64 h6
  f7 := real_of_finite a7 Facts.bcast_S_S32x16x64 h7
  ne i := by
    have h : Ideal.cmp .une ((a1 i : EReal) * (a1 i : EReal) + (a2 i : EReal) * (a2 i : EReal)) (Ideal.ofBits .f32 0x00000000#32) = 1#1 := congrFun h8 i
    rw [zero_bits, Ideal.cmp_une, real_of_finite a1 Facts.bcast_S_S32x64 h1 i, real_of_finite a2 Facts.bcast_S_S32x64 h2 i] at h
    intro e
    rw [← EReal.coe_mul, ← EReal.coe_mul, ← EReal.coe_add, e] at h
    simp at h

end Cert.S5

end
-- ==== Proof.S5.Equal.lean ====
module

public import proofs.«01_k».proof.Proof.S5.Run
public import proofs.«01_k».proof.Proof.S5.Value
public import proofs.«01_k».proof.Proof.S5.RefLoop
public import proofs.«01_k».proof.Proof.S5.Pre

/-!
# The two results are equal

Both programs' results at every point are the recurrence's output.
-/

@[expose] public section

set_option maxRecDepth 16384

noncomputable section

namespace Cert.S5

open Idealize.ShloMosaic Idealize.ShloMosaic.TcCoe Idealize.ShloMosaic.StableHlo Idealize.SL.Sem

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (ρ : Dev Cert.KernelIdeal.nD → PrngReg) (c : Dev Cert.KernelIdeal.nD)

/-- The kernel's arguments, real. -/
abbrev FineAt : Prop := Fine
  (m ((c.tc : Thread Cert.KernelIdeal.nD Cert.KernelIdeal.τ).loc Cert.KernelIdeal.main_arg0))
  (m ((c.tc : Thread Cert.KernelIdeal.nD Cert.KernelIdeal.τ).loc Cert.KernelIdeal.main_arg1))
  (m ((c.tc : Thread Cert.KernelIdeal.nD Cert.KernelIdeal.τ).loc Cert.KernelIdeal.main_arg2))
  (m ((c.tc : Thread Cert.KernelIdeal.nD Cert.KernelIdeal.τ).loc Cert.KernelIdeal.main_arg3))
  (m ((c.tc : Thread Cert.KernelIdeal.nD Cert.KernelIdeal.τ).loc Cert.KernelIdeal.main_arg4))
  (m ((c.tc : Thread Cert.KernelIdeal.nD Cert.KernelIdeal.τ).loc Cert.KernelIdeal.main_arg5))
  (m ((c.tc : Thread Cert.KernelIdeal.nD Cert.KernelIdeal.τ).loc Cert.KernelIdeal.main_arg6))
  (m ((c.tc : Thread Cert.KernelIdeal.nD Cert.KernelIdeal.τ).loc Cert.KernelIdeal.main_arg7))

variable {m m' c}

theorem args_of_fine (F : FineAt m c) : Cert.KernelIdeal.Gen.Args m c F.coef F.seqs where
  seq b t g p := F.seqs_at b t g p
  ar g n := F.f1 (ix2 g n)
  ai g n := F.f2 (ix2 g n)
  ld g := F.f3 (ix1 g)
  br g n p := F.f4 (ix3 g n p)
  bi g n p := F.f5 (ix3 g n p)
  cr g q n := F.f6 (ix3 g q n)
  ci g q n := F.f7 (ix3 g q n)

/-- The two programs' arguments agree. -/
structure Agreed (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) : Prop where
  e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)

/-- What the reference's launch holds. -/
abbrev launchOf (m' : (ℓ : Loc Cert.ReferenceIdeal.nD Cert.ReferenceIdeal.τ Cert.ReferenceIdeal.sig) → Buf (Elt Ideal) ℓ)
    (c : Dev Cert.KernelIdeal.nD) : Valuation Cert.ReferenceIdeal.τ Cert.ReferenceIdeal.sig (Elt Ideal) :=
  fun b => m' ⟨c, b⟩

theorem refArgs_of_fine (F : FineAt m c) (E : Agreed m m' c) : Cert.ReferenceIdeal.Gen.RefArgs (launchOf m' c) F.coef F.seqs where
  seq b t g p := (congrFun E.e0 _).trans (F.seqs_at b t g p)
  ar g n := (congrFun E.e1 _).trans (F.f1 (ix2 g n))
  ai g n := (congrFun E.e2 _).trans (F.f2 (ix2 g n))
  ld g := (congrFun E.e3 _).trans (F.f3 (ix1 g))
  br g n p := (congrFun E.e4 _).trans (F.f4 (ix3 g n p))
  bi g n p := (congrFun E.e5 _).trans (F.f5 (ix3 g n p))
  cr g q n := (congrFun E.e6 _).trans (F.f6 (ix3 g q n))
  ci g q n := (congrFun E.e7 _).trans (F.f7 (ix3 g q n))

open Cert.ReferenceIdeal.Value in
theorem ref_result_at (F : FineAt m c) (E : Agreed m m' c) (b : Fin 4) (t : Fin 8192) (g : Fin 32) (q : Fin 16) :
    (out_main_v56 (STEP^[8192] (entryContents preI m' c)) : FVec Ideal Cert.ReferenceIdeal.S4x8192x512 .bf16)
        (ix3 (n1 := 8192) (n2 := 512) b t ⟨16 * g + q, by omega⟩)
      = ((seqOut (F.coef g).pole (F.coef g).inB ((F.coef g).outC q) (F.seqs g b) t : ℝ) : EReal) := by
  have e : entryContents preI m' c = StableHlo.after Cert.ReferenceIdeal.Gen.hostOps0 (launchOf m' c) := by
    simp only [entryContents, afterL_cons, afterL_nil]
  refine Cert.ReferenceIdeal.Gen.out_at _ (Cert.ReferenceIdeal.Gen.inv_all _ ?_ 8192 le_rfl) ?_ ?_ b t g q
  · have hc := ctr_entry m' c
    rw [e] at hc ⊢
    exact Cert.ReferenceIdeal.Gen.inv_zero _ (refArgs_of_fine F E) hc
  · intro g q n
    rw [iter_main_arg6]
    exact (congrFun E.e6 _).trans (F.f6 (ix3 g q n))
  · intro g q n
    rw [iter_main_arg7]
    exact (congrFun E.e7 _).trans (F.f7 (ix3 g q n))

/-- The reference's result is the kernel's. -/
theorem results_eq (F : FineAt m c) (E : Agreed m m' c) :
    (Cert.ReferenceIdeal.Value.out_main_v56 (Cert.ReferenceIdeal.Value.STEP^[8192] (entryContents Cert.ReferenceIdeal.Value.preI m' c)) : FVec Ideal Cert.ReferenceIdeal.S4x8192x512 .bf16)
      = (Cert.KernelIdeal.Gen.W7 m ρ c (Proc.devRef .tc Cert.KernelIdeal.main_v37) : FVec Ideal Cert.KernelIdeal.S4x8192x512 .bf16) := by
  funext i
  obtain ⟨b, t, w, rfl⟩ : ∃ (b : Fin 4) (t : Fin 8192) (w : Fin 512), i = ix3 b t w := ⟨i 0, i 1, i 2, by funext a; fin_cases a <;> rfl⟩
  obtain ⟨k, s, rfl⟩ : ∃ (k : Fin 256) (s : Fin 32), t = ⟨32 * k + s, by omega⟩ :=
    ⟨⟨t / 32, by omega⟩, ⟨t % 32, by omega⟩, Fin.ext (Nat.div_add_mod _ _).symm⟩
  obtain ⟨g, q, rfl⟩ : ∃ (g : Fin 32) (q : Fin 16), w = ⟨16 * g + q, by omega⟩ :=
    ⟨⟨w / 16, by omega⟩, ⟨w % 16, by omega⟩, Fin.ext (Nat.div_add_mod _ _).symm⟩
  exact (ref_result_at F E b _ g q).trans (Cert.KernelIdeal.Gen.result_at m ρ c (args_of_fine F) b k s g q).symm

end Cert.S5

end
-- ==== Proof.Post.Row.lean ====
module

public import Idealize.ShloMosaic.Lib.Pointwise

/-!
# One row of the output stage

The output stage works on each position of the sequence by itself. This module writes what it makes of one
position: the gated linear unit after the first mixer, the two projections, their gated sum, the last
projection with the residual, and the final normalisation.
-/

@[expose] public section

noncomputable section

namespace Cert.Post

open Idealize.ShloMosaic

/-- The smooth rectifier, in its form through the hyperbolic tangent. -/
def gelu (z : EReal) : EReal :=
  z * (Ideal.ofBits .f32 0x3F000000#32 * (1 + Ideal.tanh (Ideal.ofBits .f32 0x3F4C422A#32 * (z + Ideal.ofBits .f32 0x3D372713#32 * (z * (z * z))))))

/-- A number times its own logistic. -/
def silu (z : EReal) : EReal := z * Ideal.logistic z

/-- The gated linear unit: the first half of a projection times the logistic of its second half. -/
def glu (z : Fin 512 → EReal) (w : Fin 512 → Fin 1024 → EReal) (b : Fin 1024 → EReal) (j : Fin 512) : EReal :=
  (∑ x, gelu (z x) * w x ⟨j, by omega⟩ + b ⟨j, by omega⟩) * Ideal.logistic (∑ x, gelu (z x) * w x ⟨512 + j, by omega⟩ + b ⟨512 + j, by omega⟩)

/-- The two mixers' projections, each under its gate. -/
def merged (a za o zb : Fin 512 → EReal) (ga gb : Fin 1024 → EReal) (wa wb : Fin 512 → Fin 1024 → EReal) (j : Fin 1024) : EReal :=
  Ideal.logistic (ga j) * ∑ x, a x * silu (za x) * wa x j + Ideal.logistic (gb j) * ∑ x, o x * silu (zb x) * wb x j

/-- The residual plus the gated last projection. -/
def summed (x gate h : Fin 1024 → EReal) (w : Fin 1024 → Fin 1024 → EReal) (j : Fin 1024) : EReal :=
  x j + gate j * ∑ k, h k * w k j

/-- A row over its root mean square, times a weight. -/
def normed (x g : Fin 1024 → EReal) (j : Fin 1024) : EReal :=
  x j * Ideal.rsqrt (Ideal.div (∑ k, x k * x k) (Ideal.ofBits .f32 0x44800000#32) + Ideal.ofBits .f32 0x358637BD#32) * g j

/-- What the output stage makes of one position before the final normalisation. -/
def unnormed (x : Fin 1024 → EReal) (y : Fin 512 → EReal) (p : Fin 3584 → EReal) (o : Fin 512 → EReal) (gate : Fin 1024 → EReal)
    (d : Fin 512 → EReal) (wglu : Fin 512 → Fin 1024 → EReal) (bglu : Fin 1024 → EReal) (wa wb : Fin 512 → Fin 1024 → EReal)
    (wout : Fin 1024 → Fin 1024 → EReal) : Fin 1024 → EReal :=
  summed x gate (merged (glu (fun k => y k + d k * p ⟨2048 + k, by omega⟩) wglu bglu) (fun k => p ⟨2560 + k, by omega⟩) o
    (fun k => p ⟨3072 + k, by omega⟩) (fun k => p ⟨k, by omega⟩) (fun k => p ⟨1024 + k, by omega⟩) wa wb) wout

/-- What the output stage makes of one position. -/
def row (x : Fin 1024 → EReal) (y : Fin 512 → EReal) (p : Fin 3584 → EReal) (o : Fin 512 → EReal) (gate : Fin 1024 → EReal)
    (d : Fin 512 → EReal) (wglu : Fin 512 → Fin 1024 → EReal) (bglu : Fin 1024 → EReal) (wa wb : Fin 512 → Fin 1024 → EReal)
    (wout : Fin 1024 → Fin 1024 → EReal) (g : Fin 1024 → EReal) : Fin 1024 → EReal :=
  normed (unnormed x y p o gate d wglu bglu wa wb wout) g

end Cert.Post

end
-- ==== Proof.Post.Ref.lean ====
module

public import proofs.«01_k».proof.Proof.Gen.OutputReferenceIdeal.Run
public import proofs.«01_k».proof.Proof.Post.Row

/-!
# The reference of the output stage at a point
-/

@[expose] public section

set_option maxRecDepth 16384

noncomputable section

namespace Cert.OutputReferenceIdeal.Value

open Idealize.ShloMosaic Idealize.ShloMosaic.TcCoe Idealize.ShloMosaic.Tactic Cert.OutputReferenceIdeal Cert.Post

variable (m : (ℓ : Loc nD τ sig) → Buf (Elt Ideal) ℓ) (c : Dev nD)

theorem res_at (b : Fin 4) (r : Fin 8192) (j : Fin 1024) : (res_main_v78 m c : FVec Ideal S4x8192x1024 .f32) (ix3 b r j)
    = row (fun k => (m ((c.tc : Thread nD τ).loc main_arg0) : FVec Ideal S4x8192x1024 .f32) (ix3 b r k))
        (fun k => (m ((c.tc : Thread nD τ).loc main_arg1) : FVec Ideal S4x8192x512 .bf16) (ix3 b r k))
        (fun k => (m ((c.tc : Thread nD τ).loc main_arg2) : FVec Ideal S4x8192x3584 .f32) (ix3 b r k))
        (fun k => (m ((c.tc : Thread nD τ).loc main_arg3) : FVec Ideal S4x512x8192 .f32) (ix3 b k r))
        (fun k => (m ((c.tc : Thread nD τ).loc main_arg4) : FVec Ideal S4x3072 .f32) (ix2 b ⟨2048 + k, by omega⟩))
        (fun k => (m ((c.tc : Thread nD τ).loc main_arg5) : FVec Ideal S512 .f32) (ix1 k))
        (fun k l => (m ((c.tc : Thread nD τ).loc main_arg6) : FVec Ideal S512x1024 .f32) (ix2 k l))
        (fun k => (m ((c.tc : Thread nD τ).loc main_arg7) : FVec Ideal S1024 .f32) (ix1 k))
        (fun k l => (m ((c.tc : Thread nD τ).loc main_arg8) : FVec Ideal S512x1024 .f32) (ix2 k l))
        (fun k l => (m ((c.tc : Thread nD τ).loc main_arg9) : FVec Ideal S512x1024 .f32) (ix2 k l))
        (fun k l => (m ((c.tc : Thread nD τ).loc main_arg10) : FVec Ideal S1024x1024 .f32) (ix2 k l))
        (fun k => (m ((c.tc : Thread nD τ).loc main_arg11) : FVec Ideal S1024 .f32) (ix1 k)) j := by
  pointwise [res_main_v78, row, unnormed, normed, summed, merged, glu, silu, gelu, Ideal.logistic]
  simp only [mul_assoc]

end Cert.OutputReferenceIdeal.Value

end
-- ==== Proof.Post.Kernel.lean ====
module

public import proofs.«01_k».proof.Proof.Gen.OutputIdeal.Value
public import proofs.«01_k».proof.Proof.Post.Row
public import Idealize.ShloMosaic.Lib.Pipeline.ValueKit
public import Idealize.ShloMosaic.Lib.Pipeline.ValueKit.Geometry
public import Idealize.ShloMosaic.Lib.StableHlo.ReadAt

/-!
# The output stage's kernel at a point
-/

@[expose] public section

set_option maxRecDepth 16384

noncomputable section

namespace Cert.OutputIdeal.Gen

open Idealize.ShloMosaic Idealize.ShloMosaic.TcCoe Idealize.ShloMosaic.Tactic Cert.OutputIdeal Cert.Post
open Idealize.SL.Sem
open Idealize.ShloMosaic.Pipeline (Dat Cfg Window)

/-- What the body leaves in its block, row by row. -/
theorem out_apply (c : Dev nD) (t : Fin cfg0.N)
    (x0 : Vec Ideal S1x256x1024 .f32) (x1 : Vec Ideal S1x256x512 .bf16) (x2 x3 x4 : Vec Ideal S1x256x512 .f32) (x5 x6 : Vec Ideal S1x256x1024 .f32)
    (x7 : Vec Ideal S1x512x256 .f32) (x8 : Vec Ideal S1x1x3072 .f32) (x9 : Vec Ideal S1x512 .f32) (x10 : Vec Ideal S512x1024 .bf16)
    (x11 : Vec Ideal S1x1024 .f32) (x12 x13 : Vec Ideal S512x1024 .bf16) (x14 : Vec Ideal S1024x1024 .bf16) (x15 : Vec Ideal S1x1024 .f32)
    (r : Fin 256) (j : Fin 1024) :
    out0_A_16 c (grid0.coords t) (ms0_0 t) (hs0_0 t) (ms0_1 t) (hs0_1 t) (ms0_2 t) (hs0_2 t) (ms0_3 t) (hs0_3 t) (ms0_4 t) (hs0_4 t)
        (ms0_5 t) (hs0_5 t) (ms0_6 t) (hs0_6 t) (ms0_7 t) (hs0_7 t) (ms0_8 t) (hs0_8 t) (ms0_9 t) (hs0_9 t) (ms0_10 t) (hs0_10 t)
        (ms0_11 t) (hs0_11 t) (ms0_12 t) (hs0_12 t) (ms0_13 t) (hs0_13 t) (ms0_14 t) (hs0_14 t) (ms0_15 t) (hs0_15 t) (ms0_16 t) (hs0_16 t)
        x0 x1 x2 x3 x4 x5 x6 x7 x8 x9 x10 x11 x12 x13 x14 x15 (ix3 (n0 := 1) 0 r j)
      = normed (summed (fun k => x0 (ix3 (n0 := 1) 0 r k)) (fun k => x8 (ix3 (n0 := 1) (n1 := 1) 0 0 ⟨2048 + k, by omega⟩))
          (merged (glu (fun k => x1 (ix3 (n0 := 1) 0 r k) + x9 (ix2 (n0 := 1) 0 k) * x2 (ix3 (n0 := 1) 0 r k))
              (fun k l => x10 (ix2 k l)) (fun k => x11 (ix2 (n0 := 1) 0 k)))
            (fun k => x3 (ix3 (n0 := 1) 0 r k)) (fun k => x7 (ix3 (n0 := 1) 0 k r)) (fun k => x4 (ix3 (n0 := 1) 0 r k))
            (fun k => x5 (ix3 (n0 := 1) 0 r k)) (fun k => x6 (ix3 (n0 := 1) 0 r k)) (fun k l => x12 (ix2 k l)) (fun k l => x13 (ix2 k l)))
          (fun k l => x14 (ix2 k l))) (fun k => x15 (ix2 (n0 := 1) 0 k)) j := by
  unfold out0_A_16
  frame_out
  pointwise [k0_pay1, k0_pay2, k0_pay3, k0_pay4, k0_pay5, k0_pay6, k0_pay7, k0_pay8, normed, summed, merged, glu, silu, gelu]

variable (m : (ℓ : Loc nD τ sig) → Buf (Elt Ideal) ℓ) (c : Dev nD)

/-- The point of the grid that works on row tile `i` of sequence `b`. -/
abbrev pt (b : Fin 4) (i : Fin 32) : Fin cfg0.N := ⟨32 * b + i, lt_of_lt_of_eq (show 32 * b.val + i.val < 128 by omega) rfl⟩

theorem idx0 : ∀ b : Fin 4, ∀ i : Fin 32, win0_0.index (pt b i) = ![b.val, i.val, 0] ∧ win0_1.index (pt b i) = ![b.val, i.val, 0]
    ∧ win0_2.index (pt b i) = ![b.val, i.val, 4] ∧ win0_3.index (pt b i) = ![b.val, i.val, 5] ∧ win0_4.index (pt b i) = ![b.val, i.val, 6]
    ∧ win0_5.index (pt b i) = ![b.val, i.val, 0] ∧ win0_6.index (pt b i) = ![b.val, i.val, 1] ∧ win0_7.index (pt b i) = ![b.val, 0, i.val]
    ∧ win0_8.index (pt b i) = ![b.val, 0, 0] ∧ win0_16.index (pt b i) = ![b.val, i.val, 0] := by
  decide +kernel

theorem idxc : ∀ t : Fin cfg0.N, win0_9.index t = ![0, 0] ∧ win0_10.index t = ![0, 0] ∧ win0_11.index t = ![0, 0] ∧ win0_12.index t = ![0, 0]
    ∧ win0_13.index t = ![0, 0] ∧ win0_14.index t = ![0, 0] ∧ win0_15.index t = ![0, 0] := by
  decide +kernel

section Blocks

variable (b : Fin 4) (i : Fin 32) (r : Fin 256)

theorem blk0 (k : Fin 1024) : (iblk m c 0 (pt b i) : FVec Ideal S1x256x1024 .f32) (ix3 (n0 := 1) 0 r k)
    = (m ((c.tc : Thread nD τ).loc main_arg0) : FVec Ideal S4x8192x1024 .f32) (ix3 (n1 := 8192) b ⟨256 * i + r, by omega⟩ k) := by
  blk_simp [iblk]
  refine Eq.trans ?_ (congrFun (V_main_arg0 m c) _)
  blk_ext [(idx0 b i).1]

theorem blk1 (k : Fin 512) : (iblk m c 1 (pt b i) : FVec Ideal S1x256x512 .bf16) (ix3 (n0 := 1) 0 r k)
    = (m ((c.tc : Thread nD τ).loc main_arg1) : FVec Ideal S4x8192x512 .bf16) (ix3 (n1 := 8192) b ⟨256 * i + r, by omega⟩ k) := by
  blk_simp [iblk]
  refine Eq.trans ?_ (congrFun (V_main_arg1 m c) _)
  blk_ext [(idx0 b i).2.1]

theorem blk2 (k : Fin 512) : (iblk m c 2 (pt b i) : FVec Ideal S1x256x512 .f32) (ix3 (n0 := 1) 0 r k)
    = (m ((c.tc : Thread nD τ).loc main_arg2) : FVec Ideal S4x8192x3584 .f32) (ix3 (n1 := 8192) b ⟨256 * i + r, by omega⟩ ⟨2048 + k, by omega⟩) := by
  blk_simp [iblk]
  refine Eq.trans ?_ (congrFun (V_main_arg2 m c) _)
  blk_ext [(idx0 b i).2.2.1]

theorem blk3 (k : Fin 512) : (iblk m c 3 (pt b i) : FVec Ideal S1x256x512 .f32) (ix3 (n0 := 1) 0 r k)
    = (m ((c.tc : Thread nD τ).loc main_arg2) : FVec Ideal S4x8192x3584 .f32) (ix3 (n1 := 8192) b ⟨256 * i + r, by omega⟩ ⟨2560 + k, by omega⟩) := by
  blk_simp [iblk]
  refine Eq.trans ?_ (congrFun (V_main_arg2 m c) _)
  blk_ext [(idx0 b i).2.2.2.1]

theorem blk4 (k : Fin 512) : (iblk m c 4 (pt b i) : FVec Ideal S1x256x512 .f32) (ix3 (n0 := 1) 0 r k)
    = (m ((c.tc : Thread nD τ).loc main_arg2) : FVec Ideal S4x8192x3584 .f32) (ix3 (n1 := 8192) b ⟨256 * i + r, by omega⟩ ⟨3072 + k, by omega⟩) := by
  blk_simp [iblk]
  refine Eq.trans ?_ (congrFun (V_main_arg2 m c) _)
  blk_ext [(idx0 b i).2.2.2.2.1]

theorem blk5 (k : Fin 1024) : (X0_5 m c (pt b i) : FVec Ideal S1x256x1024 .f32) (ix3 (n0 := 1) 0 r k)
    = (m ((c.tc : Thread nD τ).loc main_arg2) : FVec Ideal S4x8192x3584 .f32) (ix3 (n1 := 8192) b ⟨256 * i + r, by omega⟩ ⟨k, by omega⟩) := by
  unfold X0_5 Pipeline.Window.fill
  rw [dif_pos (moved0_5 (pt b i) _)]
  blk_simp [iblk]
  refine Eq.trans ?_ (congrFun (V_main_arg2 m c) _)
  blk_ext [(idx0 b i).2.2.2.2.2.1]

theorem blk6 (k : Fin 1024) : (X0_6 m c (pt b i) : FVec Ideal S1x256x1024 .f32) (ix3 (n0 := 1) 0 r k)
    = (m ((c.tc : Thread nD τ).loc main_arg2) : FVec Ideal S4x8192x3584 .f32) (ix3 (n1 := 8192) b ⟨256 * i + r, by omega⟩ ⟨1024 + k, by omega⟩) := by
  unfold X0_6 Pipeline.Window.fill
  rw [dif_pos (moved0_6 (pt b i) _)]
  blk_simp [iblk]
  refine Eq.trans ?_ (congrFun (V_main_arg2 m c) _)
  blk_ext [(idx0 b i).2.2.2.2.2.2.1]

theorem blk7 (k : Fin 512) : (iblk m c 7 (pt b i) : FVec Ideal S1x512x256 .f32) (ix3 (n0 := 1) 0 k r)
    = (m ((c.tc : Thread nD τ).loc main_arg3) : FVec Ideal S4x512x8192 .f32) (ix3 (n2 := 8192) b k ⟨256 * i + r, by omega⟩) := by
  blk_simp [iblk]
  refine Eq.trans ?_ (congrFun (V_main_arg3 m c) _)
  blk_ext [(idx0 b i).2.2.2.2.2.2.2.1]

theorem blk8 (k : Fin 3072) : (iblk m c 8 (pt b i) : FVec Ideal S1x1x3072 .f32) (ix3 (n0 := 1) (n1 := 1) 0 0 k)
    = (m ((c.tc : Thread nD τ).loc main_arg4) : FVec Ideal S4x3072 .f32) (ix2 b k) := by
  blk_simp [iblk]
  refine Eq.trans ?_ (show (V m c main_v0 : FVec Ideal S4x1x3072 .f32) (ix3 (n1 := 1) b 0 k) = _ by after_reads_at)
  blk_ext [(idx0 b i).2.2.2.2.2.2.2.2.1]

theorem blk9 (k : Fin 512) : (iblk m c 9 (pt b i) : FVec Ideal S1x512 .f32) (ix2 (n0 := 1) 0 k)
    = (m ((c.tc : Thread nD τ).loc main_arg5) : FVec Ideal S512 .f32) (ix1 k) := by
  blk_simp [iblk]
  refine Eq.trans ?_ (show (V m c main_v5 : FVec Ideal S1x512 .f32) (ix2 (n0 := 1) 0 k) = _ by after_reads_at)
  blk_ext [(idxc (pt b i)).1]

theorem blk11 (k : Fin 1024) : (iblk m c 11 (pt b i) : FVec Ideal S1x1024 .f32) (ix2 (n0 := 1) 0 k)
    = (m ((c.tc : Thread nD τ).loc main_arg7) : FVec Ideal S1024 .f32) (ix1 k) := by
  blk_simp [iblk]
  refine Eq.trans ?_ (show (V m c main_v6 : FVec Ideal S1x1024 .f32) (ix2 (n0 := 1) 0 k) = _ by after_reads_at)
  blk_ext [(idxc (pt b i)).2.2.1]

theorem blk15 (k : Fin 1024) : (iblk m c 15 (pt b i) : FVec Ideal S1x1024 .f32) (ix2 (n0 := 1) 0 k)
    = (m ((c.tc : Thread nD τ).loc main_arg11) : FVec Ideal S1024 .f32) (ix1 k) := by
  blk_simp [iblk]
  refine Eq.trans ?_ (show (V m c main_v7 : FVec Ideal S1x1024 .f32) (ix2 (n0 := 1) 0 k) = _ by after_reads_at)
  blk_ext [(idxc (pt b i)).2.2.2.2.2.2]

theorem blk10 (k : Fin 512) (l : Fin 1024) : (iblk m c 10 (pt b i) : FVec Ideal S512x1024 .bf16) (ix2 k l)
    = (m ((c.tc : Thread nD τ).loc main_arg6) : FVec Ideal S512x1024 .f32) (ix2 k l) := by
  blk_simp [iblk]
  refine Eq.trans ?_ (show (V m c main_v1 : FVec Ideal S512x1024 .bf16) (ix2 k l) = _ by after_reads_at)
  blk_ext [(idxc (pt b i)).2.1]

theorem blk12 (k : Fin 512) (l : Fin 1024) : (iblk m c 12 (pt b i) : FVec Ideal S512x1024 .bf16) (ix2 k l)
    = (m ((c.tc : Thread nD τ).loc main_arg8) : FVec Ideal S512x1024 .f32) (ix2 k l) := by
  blk_simp [iblk]
  refine Eq.trans ?_ (show (V m c main_v2 : FVec Ideal S512x1024 .bf16) (ix2 k l) = _ by after_reads_at)
  blk_ext [(idxc (pt b i)).2.2.2.1]

theorem blk13 (k : Fin 512) (l : Fin 1024) : (iblk m c 13 (pt b i) : FVec Ideal S512x1024 .bf16) (ix2 k l)
    = (m ((c.tc : Thread nD τ).loc main_arg9) : FVec Ideal S512x1024 .f32) (ix2 k l) := by
  blk_simp [iblk]
  refine Eq.trans ?_ (show (V m c main_v3 : FVec Ideal S512x1024 .bf16) (ix2 k l) = _ by after_reads_at)
  blk_ext [(idxc (pt b i)).2.2.2.2.1]

theorem blk14 (k : Fin 1024) (l : Fin 1024) : (iblk m c 14 (pt b i) : FVec Ideal S1024x1024 .bf16) (ix2 k l)
    = (m ((c.tc : Thread nD τ).loc main_arg10) : FVec Ideal S1024x1024 .f32) (ix2 k l) := by
  blk_simp [iblk]
  refine Eq.trans ?_ (show (V m c main_v4 : FVec Ideal S1024x1024 .bf16) (ix2 k l) = _ by after_reads_at)
  blk_ext [(idxc (pt b i)).2.2.2.2.2.1]

end Blocks

/-- The output stage's result: every position is the row of its own arguments. -/
theorem result_at (b : Fin 4) (i : Fin 32) (r : Fin 256) (j : Fin 1024) :
    ((dats m 0 c).arrAt 16 cfg0.N : FVec Ideal S4x8192x1024 .f32) (ix3 (n1 := 8192) b ⟨256 * i + r, by omega⟩ j)
    = row (fun k => (m ((c.tc : Thread nD τ).loc main_arg0) : FVec Ideal S4x8192x1024 .f32) (ix3 (n1 := 8192) b ⟨256 * i + r, by omega⟩ k))
        (fun k => (m ((c.tc : Thread nD τ).loc main_arg1) : FVec Ideal S4x8192x512 .bf16) (ix3 (n1 := 8192) b ⟨256 * i + r, by omega⟩ k))
        (fun k => (m ((c.tc : Thread nD τ).loc main_arg2) : FVec Ideal S4x8192x3584 .f32) (ix3 (n1 := 8192) b ⟨256 * i + r, by omega⟩ k))
        (fun k => (m ((c.tc : Thread nD τ).loc main_arg3) : FVec Ideal S4x512x8192 .f32) (ix3 (n2 := 8192) b k ⟨256 * i + r, by omega⟩))
        (fun k => (m ((c.tc : Thread nD τ).loc main_arg4) : FVec Ideal S4x3072 .f32) (ix2 b ⟨2048 + k, by omega⟩))
        (fun k => (m ((c.tc : Thread nD τ).loc main_arg5) : FVec Ideal S512 .f32) (ix1 k))
        (fun k l => (m ((c.tc : Thread nD τ).loc main_arg6) : FVec Ideal S512x1024 .f32) (ix2 k l))
        (fun k => (m ((c.tc : Thread nD τ).loc main_arg7) : FVec Ideal S1024 .f32) (ix1 k))
        (fun k l => (m ((c.tc : Thread nD τ).loc main_arg8) : FVec Ideal S512x1024 .f32) (ix2 k l))
        (fun k l => (m ((c.tc : Thread nD τ).loc main_arg9) : FVec Ideal S512x1024 .f32) (ix2 k l))
        (fun k l => (m ((c.tc : Thread nD τ).loc main_arg10) : FVec Ideal S1024x1024 .f32) (ix2 k l))
        (fun k => (m ((c.tc : Thread nD τ).loc main_arg11) : FVec Ideal S1024 .f32) (ix1 k)) j := by
  refine Eq.trans (congrArg ((dats m 0 c).arrAt 16 cfg0.N) ?_) (((dats m 0 c).arrAt_emb_eq_flushed 16
    (Window.hdisj_of_index_inj win0_16 (by decide +kernel)) (pt b i) (by revert b i; decide +kernel) (ix3 (n0 := 1) 0 r j)).trans ?_)
  · blk_ext [(idx0 b i).2.2.2.2.2.2.2.2.2]
  · refine (congrFun (Value.flushed16_A m c (pt b i)) _).trans ((out_apply c (pt b i) _ _ _ _ _ _ _ _ _ _ _ _ _ _ _ _ r j).trans ?_)
    simp only [row, unnormed, blk0 m c b i, blk1 m c b i, blk2 m c b i, blk3 m c b i, blk4 m c b i, blk5 m c b i, blk6 m c b i, blk7 m c b i,
      blk8 m c b i, blk9 m c b i, blk10 m c b i, blk11 m c b i, blk12 m c b i, blk13 m c b i, blk14 m c b i, blk15 m c b i]

end Cert.OutputIdeal.Gen

end
-- ==== Proof.Post.Equal.lean ====
module

public import proofs.«01_k».proof.Proof.Post.Ref
public import proofs.«01_k».proof.Proof.Post.Kernel

/-!
# The output stage's two results are equal
-/

@[expose] public section

set_option maxRecDepth 16384

noncomputable section

namespace Cert.Post

open Idealize.ShloMosaic Idealize.ShloMosaic.TcCoe Idealize.SL.Sem

variable (m : (ℓ : Loc Cert.OutputIdeal.nD Cert.OutputIdeal.τ Cert.OutputIdeal.sig) → Buf (Elt Ideal) ℓ) (m' : (ℓ : Loc Cert.OutputReferenceIdeal.nD Cert.OutputReferenceIdeal.τ Cert.OutputReferenceIdeal.sig) → Buf (Elt Ideal) ℓ) (c : Dev Cert.OutputIdeal.nD)

/-- The two programs' arguments agree. -/
structure Agreed : Prop where
  e0 : m' ((c.tc : Thread Cert.OutputReferenceIdeal.nD Cert.OutputReferenceIdeal.τ).loc Cert.OutputReferenceIdeal.main_arg0) = m ((c.tc : Thread Cert.OutputIdeal.nD Cert.OutputIdeal.τ).loc Cert.OutputIdeal.main_arg0)
  e1 : m' ((c.tc : Thread Cert.OutputReferenceIdeal.nD Cert.OutputReferenceIdeal.τ).loc Cert.OutputReferenceIdeal.main_arg1) = m ((c.tc : Thread Cert.OutputIdeal.nD Cert.OutputIdeal.τ).loc Cert.OutputIdeal.main_arg1)
  e2 : m' ((c.tc : Thread Cert.OutputReferenceIdeal.nD Cert.OutputReferenceIdeal.τ).loc Cert.OutputReferenceIdeal.main_arg2) = m ((c.tc : Thread Cert.OutputIdeal.nD Cert.OutputIdeal.τ).loc Cert.OutputIdeal.main_arg2)
  e3 : m' ((c.tc : Thread Cert.OutputReferenceIdeal.nD Cert.OutputReferenceIdeal.τ).loc Cert.OutputReferenceIdeal.main_arg3) = m ((c.tc : Thread Cert.OutputIdeal.nD Cert.OutputIdeal.τ).loc Cert.OutputIdeal.main_arg3)
  e4 : m' ((c.tc : Thread Cert.OutputReferenceIdeal.nD Cert.OutputReferenceIdeal.τ).loc Cert.OutputReferenceIdeal.main_arg4) = m ((c.tc : Thread Cert.OutputIdeal.nD Cert.OutputIdeal.τ).loc Cert.OutputIdeal.main_arg4)
  e5 : m' ((c.tc : Thread Cert.OutputReferenceIdeal.nD Cert.OutputReferenceIdeal.τ).loc Cert.OutputReferenceIdeal.main_arg5) = m ((c.tc : Thread Cert.OutputIdeal.nD Cert.OutputIdeal.τ).loc Cert.OutputIdeal.main_arg5)
  e6 : m' ((c.tc : Thread Cert.OutputReferenceIdeal.nD Cert.OutputReferenceIdeal.τ).loc Cert.OutputReferenceIdeal.main_arg6) = m ((c.tc : Thread Cert.OutputIdeal.nD Cert.OutputIdeal.τ).loc Cert.OutputIdeal.main_arg6)
  e7 : m' ((c.tc : Thread Cert.OutputReferenceIdeal.nD Cert.OutputReferenceIdeal.τ).loc Cert.OutputReferenceIdeal.main_arg7) = m ((c.tc : Thread Cert.OutputIdeal.nD Cert.OutputIdeal.τ).loc Cert.OutputIdeal.main_arg7)
  e8 : m' ((c.tc : Thread Cert.OutputReferenceIdeal.nD Cert.OutputReferenceIdeal.τ).loc Cert.OutputReferenceIdeal.main_arg8) = m ((c.tc : Thread Cert.OutputIdeal.nD Cert.OutputIdeal.τ).loc Cert.OutputIdeal.main_arg8)
  e9 : m' ((c.tc : Thread Cert.OutputReferenceIdeal.nD Cert.OutputReferenceIdeal.τ).loc Cert.OutputReferenceIdeal.main_arg9) = m ((c.tc : Thread Cert.OutputIdeal.nD Cert.OutputIdeal.τ).loc Cert.OutputIdeal.main_arg9)
  e10 : m' ((c.tc : Thread Cert.OutputReferenceIdeal.nD Cert.OutputReferenceIdeal.τ).loc Cert.OutputReferenceIdeal.main_arg10) = m ((c.tc : Thread Cert.OutputIdeal.nD Cert.OutputIdeal.τ).loc Cert.OutputIdeal.main_arg10)
  e11 : m' ((c.tc : Thread Cert.OutputReferenceIdeal.nD Cert.OutputReferenceIdeal.τ).loc Cert.OutputReferenceIdeal.main_arg11) = m ((c.tc : Thread Cert.OutputIdeal.nD Cert.OutputIdeal.τ).loc Cert.OutputIdeal.main_arg11)

variable {m m' c} (E : Agreed m m' c)

include E

/-- The reference's result is the kernel's. -/
theorem results_eq : (Cert.OutputReferenceIdeal.Value.res_main_v78 m' c : FVec Ideal Cert.OutputReferenceIdeal.S4x8192x1024 .f32)
    = ((Cert.OutputIdeal.Gen.dats m 0 c).arrAt 16 Cert.OutputIdeal.cfg0.N : FVec Ideal Cert.OutputIdeal.S4x8192x1024 .f32) := by
  funext y
  obtain ⟨b, s, j, rfl⟩ : ∃ (b : Fin 4) (s : Fin 8192) (j : Fin 1024), y = ix3 b s j := ⟨y 0, y 1, y 2, by funext a; fin_cases a <;> rfl⟩
  obtain ⟨i, r, rfl⟩ : ∃ (i : Fin 32) (r : Fin 256), s = ⟨256 * i + r, by omega⟩ :=
    ⟨⟨s / 256, by omega⟩, ⟨s % 256, by omega⟩, Fin.ext (by simp only []; omega)⟩
  refine (Cert.OutputReferenceIdeal.Value.res_at m' c b _ j).trans (Eq.trans ?_ (Cert.OutputIdeal.Gen.result_at m c b i r j).symm)
  rw [E.e0, E.e1, E.e2, E.e3, E.e4, E.e5, E.e6, E.e7, E.e8, E.e9, E.e10, E.e11]

end Cert.Post

end
-- ==== Proof.InProj.Row.lean ====
module

public import Idealize.ShloMosaic.Lib.Pointwise

/-!
# One row of the input projection

The input projection normalises each position, modulates it, and multiplies it by one weight of 4808 columns.
This module writes that row of features, and which feature stands at which place of the eight results.
-/

@[expose] public section

noncomputable section

namespace Cert.InProj

open Idealize.ShloMosaic

/-- A position over its root mean square, times a weight, scaled and shifted. -/
def hid (x g shift scale : Fin 1024 → EReal) (k : Fin 1024) : EReal :=
  x k * Ideal.rsqrt (Ideal.div (∑ l, x l * x l) (Ideal.ofBits .f32 0x44800000#32) + Ideal.ofBits .f32 0x358637BD#32) * g k * (1 + scale k) + shift k

/-- The features of a position: one for each column of the weight. -/
def feat (x g shift scale : Fin 1024 → EReal) (w : Fin 1024 → Fin 4808 → EReal) (l : Fin 4808) : EReal :=
  ∑ k, hid x g shift scale k * w k l

/-- The column that stands at place `j` of the first result. -/
def gateCol (j : Fin 3584) : Fin 4808 :=
  if h : j.val < 2048 then ⟨2760 + j, by omega⟩ else if h' : j.val < 3072 then ⟨j - 2048, by omega⟩ else ⟨j - 1408, by omega⟩

theorem gateCol_mid (j : Fin 512) : gateCol ⟨2048 + j, by omega⟩ = ⟨j, by omega⟩ := by
  unfold gateCol
  rw [dif_neg (by simp only []; omega), dif_pos (by simp only []; omega)]
  exact Fin.ext (by simp only []; omega)

/-- Five spans of columns one after another are the columns of `gateCol`. -/
theorem spans_eq (f : Fin 4808 → EReal) (j : Fin 3584) :
    (if h : j.val < 1024 then f ⟨2760 + j, by omega⟩ else if h₁ : j.val - 1024 < 1024 then f ⟨3784 + (j - 1024), by omega⟩
      else if h₂ : j.val - 1024 - 1024 < 512 then f ⟨j - 1024 - 1024, by omega⟩
      else if h₃ : j.val - 1024 - 1024 - 512 < 512 then f ⟨512 + (j - 1024 - 1024 - 512), by omega⟩
      else f ⟨1664 + (j - 1024 - 1024 - 512 - 512), by omega⟩) = f (gateCol j) := by
  unfold gateCol
  split_ifs <;> first | omega | exact congrArg f (Fin.ext (by simp only [] <;> omega))

/-- Eight heads one after another along the lanes. -/
theorem heads_eq (f : Fin 512 → Fin 256 → EReal) (d : Fin 64) (l : Fin 2048) :
    (if h0 : l.val < 256 then f ⟨d, by omega⟩ ⟨l, by omega⟩
      else if h1 : l.val - 256 < 256 then f ⟨64 + d, by omega⟩ ⟨l - 256, by omega⟩
      else if h2 : l.val - 256 - 256 < 256 then f ⟨128 + d, by omega⟩ ⟨l - 256 - 256, by omega⟩
      else if h3 : l.val - 256 - 256 - 256 < 256 then f ⟨192 + d, by omega⟩ ⟨l - 256 - 256 - 256, by omega⟩
      else if h4 : l.val - 256 - 256 - 256 - 256 < 256 then f ⟨256 + d, by omega⟩ ⟨l - 256 - 256 - 256 - 256, by omega⟩
      else if h5 : l.val - 256 - 256 - 256 - 256 - 256 < 256 then f ⟨320 + d, by omega⟩ ⟨l - 256 - 256 - 256 - 256 - 256, by omega⟩
      else if h6 : l.val - 256 - 256 - 256 - 256 - 256 - 256 < 256 then f ⟨384 + d, by omega⟩ ⟨l - 256 - 256 - 256 - 256 - 256 - 256, by omega⟩
      else f ⟨448 + d, by omega⟩ ⟨l - 256 - 256 - 256 - 256 - 256 - 256 - 256, by omega⟩)
    = f ⟨l / 256 * 64 + d, by omega⟩ ⟨l % 256, by omega⟩ := by
  split_ifs <;> exact congrArg₂ f (Fin.ext (by simp only [] <;> omega)) (Fin.ext (by simp only [] <;> omega))

variable (f : Fin 4 → Fin 8192 → Fin 4808 → EReal)

/-- The keys, a one after them, and zeros. -/
def key (b : Fin 4) (s : Fin 8192) (j : Fin 128) : EReal :=
  if h : j.val < 64 then f b s ⟨1536 + j, by omega⟩ else if j.val = 64 then 1 else 0

/-- Eight heads of features from column `o` on, the heads of a tile of 256 positions one after another along the lanes. -/
def tiles (o : Fin 4000) (b : Fin 4) (i : Fin 32) (d : Fin 64) (l : Fin 2048) : EReal :=
  f b ⟨i * 256 + l % 256, by omega⟩ ⟨o + (l / 256 * 64 + d), by omega⟩

end Cert.InProj

end
-- ==== Proof.InProj.Ref.lean ====
module

public import proofs.«01_k».proof.Proof.Gen.ProjectionReferenceIdeal.Run
public import proofs.«01_k».proof.Proof.InProj.Row

/-!
# The reference of the input projection at a point
-/

@[expose] public section

set_option maxRecDepth 16384

noncomputable section

namespace Cert.ProjectionReferenceIdeal.Value

open Idealize.ShloMosaic Idealize.ShloMosaic.TcCoe Idealize.ShloMosaic.Tactic Cert.ProjectionReferenceIdeal Cert.InProj
open Idealize.SL.Sem

variable (m : (ℓ : Loc nD τ sig) → Buf (Elt Ideal) ℓ) (ρ : Dev nD → PrngReg) (c : Dev nD)

/-- The features of every position, from the reference's arguments. -/
def feats (b : Fin 4) (s : Fin 8192) : Fin 4808 → EReal :=
  feat (fun k => (m ((c.tc : Thread nD τ).loc main_arg0) : FVec Ideal S4x8192x1024 .f32) (ix3 b s k))
    (fun k => (m ((c.tc : Thread nD τ).loc main_arg1) : FVec Ideal S1024 .f32) (ix1 k))
    (fun k => (m ((c.tc : Thread nD τ).loc main_arg2) : FVec Ideal S4x3072 .f32) (ix2 b ⟨k, by omega⟩))
    (fun k => (m ((c.tc : Thread nD τ).loc main_arg2) : FVec Ideal S4x3072 .f32) (ix2 b ⟨1024 + k, by omega⟩))
    (fun k l => (m ((c.tc : Thread nD τ).loc main_arg3) : FVec Ideal S1024x4808 .f32) (ix2 k l))

/-- Every result of the reference at a point, and its arguments as they were. -/
theorem run_at : θ_run defs (onTc (τ := τ) (main (F := Ideal))) ⟨m, fun _ => 0, ρ⟩ fun r => ∀ c : Dev nD,
    (∀ b s j, (r.2.mem ((c.tc : Thread nD τ).loc main_v36) : FVec Ideal S4x8192x3584 .f32) (ix3 b s j) = feats m c b s (gateCol j))
    ∧ (∀ b s (j : Fin 512), (r.2.mem ((c.tc : Thread nD τ).loc main_v40) : FVec Ideal S4x8192x512 .bf16) (ix3 b s j) = feats m c b s ⟨j, by omega⟩)
    ∧ (∀ b s (j : Fin 64), (r.2.mem ((c.tc : Thread nD τ).loc main_v41) : FVec Ideal S4x8192x64 .bf16) (ix3 b s j) = feats m c b s ⟨2688 + j, by omega⟩)
    ∧ (∀ b s j, (r.2.mem ((c.tc : Thread nD τ).loc main_v42) : FVec Ideal S4x8192x128 .bf16) (ix3 b s j) = key (feats m c) b s j)
    ∧ (∀ b i d l, (r.2.mem ((c.tc : Thread nD τ).loc main_v46) : FVec Ideal S4x32x64x2048 .bf16) (ix4 b i d l) = tiles (feats m c) 2176 b i d l)
    ∧ (∀ b i d l, (r.2.mem ((c.tc : Thread nD τ).loc main_v52) : FVec Ideal S4x32x64x2048 .bf16) (ix4 b i d l)
        = tiles (feats m c) 1024 b i d l * Ideal.ofBits .f32 0x3E38AA3B#32)
    ∧ (∀ b (d : Fin 64) s, (r.2.mem ((c.tc : Thread nD τ).loc main_v54) : FVec Ideal S4x64x8192 .bf16) (ix3 b d s) = feats m c b s ⟨1600 + d, by omega⟩)
    ∧ (∀ b (h : Fin 8) s, (r.2.mem ((c.tc : Thread nD τ).loc main_v57) : FVec Ideal S4x8x8192 .f32) (ix3 b h s)
        = feats m c b s ⟨2752 + h, by omega⟩ * Ideal.ofBits .f32 0x3D3504F3#32)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  refine (θ_run defs _ _).mono (fun r h c => ⟨fun b s j => ?_, fun b s j => ?_, fun b s j => ?_, fun b s j => ?_, fun b i d l => ?_,
    fun b i d l => ?_, fun b d s => ?_, fun b e s => ?_, (h c).2.2.2.2.2.2.2.2⟩) (run m ρ)
  · rw [(h c).1]
    pointwise [res_main_v36, feats, feat, hid]
    exact spans_eq (feats m c b s) j
  · rw [(h c).2.1]
    pointwise [feats, feat, hid]
  · rw [(h c).2.2.1]
    pointwise [feats, feat, hid]
  · rw [(h c).2.2.2.1]
    pointwise [feats, feat, hid, key]
    split_ifs <;> first
      | rfl
      | omega
  · rw [(h c).2.2.2.2.1]
    pointwise [feats, feat, hid, tiles]
  · rw [(h c).2.2.2.2.2.1]
    pointwise [feats, feat, hid, tiles]
  · rw [(h c).2.2.2.2.2.2.1]
    pointwise [feats, feat, hid]
  · rw [(h c).2.2.2.2.2.2.2.1]
    pointwise [feats, feat, hid]

end Cert.ProjectionReferenceIdeal.Value

end
-- ==== Proof.InProj.Kernel.lean ====
module

public import proofs.«01_k».proof.Proof.Gen.ProjectionIdeal.Value
public import proofs.«01_k».proof.Proof.InProj.Row
public import Idealize.ShloMosaic.Lib.Pipeline.ValueKit
public import Idealize.ShloMosaic.Lib.Pipeline.ValueKit.Geometry
public import Idealize.ShloMosaic.Lib.StableHlo.ReadAt

/-!
# The input projection's kernel at a point
-/

@[expose] public section

set_option maxRecDepth 16384

noncomputable section

namespace Cert.ProjectionIdeal.Gen

open Idealize.ShloMosaic Idealize.ShloMosaic.TcCoe Idealize.ShloMosaic.Tactic Cert.ProjectionIdeal Cert.InProj
open Idealize.SL.Sem
open Idealize.ShloMosaic.Pipeline (Dat Cfg Window)

section Body

variable (x0 : Vec Ideal S1x256x1024 .f32) (x1 : Vec Ideal S1x1024 .f32) (x2 : Vec Ideal S1x1x3072 .f32) (x3 : Vec Ideal S1024x3584 .bf16)
  (x4 : Vec Ideal S1024x128 .bf16) (x5 : Vec Ideal S1104x1024 .bf16)

/-- A modulated position of the block. -/
def hidRow (r : Fin 256) (k : Fin 1024) : EReal :=
  hid (fun k => x0 (ix3 (n0 := 1) 0 r k)) (fun k => x1 (ix2 (n0 := 1) 0 k)) (fun k => x2 (ix3 (n0 := 1) (n1 := 1) 0 0 ⟨k, by omega⟩))
    (fun k => x2 (ix3 (n0 := 1) (n1 := 1) 0 0 ⟨1024 + k, by omega⟩)) k

theorem hid_apply (r : Fin 256) (k : Fin 1024) : k0_pay5 (View.ld x0 r0_0) (View.ld x1 r0_1) (View.ld x2 r0_2) (View.ld x2 r0_3) (ix2 r k) = hidRow x0 x1 x2 r k := by
  pointwise [k0_pay5, hidRow, hid]

theorem gates_apply (r : Fin 256) (j : Fin 3584) : k0_pay6 (View.ld x0 r0_0) (View.ld x1 r0_1) (View.ld x2 r0_2) (View.ld x2 r0_3) (View.ld x3 r0_4) (ix2 r j)
    = ∑ k, hidRow x0 x1 x2 r k * x3 (ix2 k j) := by
  pointwise [k0_pay6]
  exact Finset.sum_congr rfl fun k _ => congrArg (· * _) (hid_apply x0 x1 x2 r k)

variable (h : FVec Ideal S256x1024 .bf16) (w : FVec Ideal S1104x256 .f32)

theorem keys_apply (r : Fin 256) (j : Fin 128) : k0_pay10 h x4 (ix2 r j) = ∑ k, h (ix2 r k) * x4 (ix2 k j) := by
  pointwise [k0_pay10]

theorem cols_apply (r : Fin 256) (j : Fin 1104) : k0_pay13 h x5 (ix2 j r) = ∑ k, h (ix2 r k) * x5 (ix2 j k) := by
  pointwise [k0_pay13]
  exact Finset.sum_congr rfl fun k _ => mul_comm _ _

theorem lt_word : ∀ j : Fin 128, IntOp.cmpi CmpIPredicate.slt (BitVec.ofNat 32 j.val) 64#32 = if j.val < 64 then 1#1 else 0#1 := by
  decide +kernel

theorem eq_word : ∀ j : Fin 128, IntOp.cmpi CmpIPredicate.eq (BitVec.ofNat 32 j.val) 64#32 = if j.val = 64 then 1#1 else 0#1 := by
  decide +kernel

theorem key_apply (r : Fin 256) (j : Fin 128) : k0_pay12 h x4 (ix3 (n0 := 1) 0 r j) = if j.val < 64 then k0_pay10 h x4 (ix2 r j) else if j.val = 64 then 1 else 0 := by
  pointwise [k0_pay12]
  rw [lt_word, eq_word]
  split_ifs <;> first | rfl | omega

theorem head_apply (d : Fin 64) (l : Fin 2048) : k0_pay1 (k0_pay14 h x5) (ix4 (n0 := 1) (n1 := 1) 0 0 d l)
    = k0_pay13 h x5 (ix2 ⟨l / 256 * 64 + d, by omega⟩ ⟨l % 256, by omega⟩) := by
  pointwise [k0_pay1, k0_pay14]
  exact heads_eq (fun a b => k0_pay13 h x5 (ix2 ⟨a, by omega⟩ b)) d l

theorem scaled_apply (d : Fin 64) (l : Fin 2048) : k0_pay2 w (ix4 (n0 := 1) (n1 := 1) 0 0 d l)
    = w (ix2 ⟨512 + (l / 256 * 64 + d), by omega⟩ ⟨l % 256, by omega⟩) * Ideal.ofBits .f32 0x3E38AA3B#32 := by
  pointwise [k0_pay2]
  exact heads_eq (fun a b => w (ix2 ⟨512 + a, by omega⟩ b) * Ideal.ofBits .f32 0x3E38AA3B#32) d l

theorem whole4 (x4 : Vec Ideal S1024x128 .bf16) : View.ld x4 r0_7 = x4 :=
  View.ld_unit_zero (S := S1024x128) (by funext a; fin_cases a <;> rfl) _ x4

theorem whole5 (x5 : Vec Ideal S1104x1024 .bf16) : View.ld x5 r0_10 = x5 :=
  View.ld_unit_zero (S := S1104x1024) (by funext a; fin_cases a <;> rfl) _ x5

theorem mix_apply (r : Fin 256) (j : Fin 1104) : k0_pay16 x0 x1 x2 x3 x4 x5 (ix2 j r) = ∑ k, hidRow x0 x1 x2 r k * x5 (ix2 j k) := by
  unfold k0_pay16 k0_pay15
  rw [whole5, cols_apply]
  exact Finset.sum_congr rfl fun k _ => congrArg (· * _) (hid_apply x0 x1 x2 r k)

theorem pair_apply (r : Fin 256) (j : Fin 128) : k0_pay10 (k0_pay15 x0 x1 x2 x3 x4 x5) x4 (ix2 r j) = ∑ k, hidRow x0 x1 x2 r k * x4 (ix2 k j) := by
  unfold k0_pay15
  rw [keys_apply]
  exact Finset.sum_congr rfl fun k _ => congrArg (· * _) (hid_apply x0 x1 x2 r k)

theorem out6_apply (r : Fin 256) (j : Fin 3584) : out0_6 x0 x1 x2 x3 x4 x5 (ix3 (n0 := 1) 0 r j) = ∑ k, hidRow x0 x1 x2 r k * x3 (ix2 k j) := by
  refine (congrFun (View.canon_unit_zero (S := S1x256x3584) (by funext a; fin_cases a <;> rfl) _ _) _).trans (Eq.trans ?_ (gates_apply x0 x1 x2 x3 r j))
  pointwise [k0_pay7]

theorem out7_apply (r : Fin 256) (j : Fin 512) : out0_7 x0 x1 x2 x3 x4 x5 (ix3 (n0 := 1) 0 r j)
    = ∑ k, hidRow x0 x1 x2 r k * x3 (ix2 k ⟨2048 + j, by omega⟩) := by
  refine (congrFun (View.canon_unit_zero (S := S1x256x512) (by funext a; fin_cases a <;> rfl) _ _) _).trans (Eq.trans ?_ (gates_apply x0 x1 x2 x3 r _))
  pointwise [k0_pay9, k0_pay8]

theorem out8_apply (r : Fin 256) (j : Fin 64) : out0_8 x0 x1 x2 x3 x4 x5 (ix3 (n0 := 1) 0 r j)
    = ∑ k, hidRow x0 x1 x2 r k * x4 (ix2 k ⟨64 + j, by omega⟩) := by
  unfold out0_8
  rw [whole4]
  refine (congrFun (View.canon_unit_zero (S := S1x256x64) (by funext a; fin_cases a <;> rfl) _ _) _).trans (Eq.trans ?_ (pair_apply x0 x1 x2 x3 x4 x5 r _))
  pointwise [k0_pay11]

theorem out9_apply (r : Fin 256) (j : Fin 128) : out0_9 x0 x1 x2 x3 x4 x5 (ix3 (n0 := 1) 0 r j)
    = if j.val < 64 then ∑ k, hidRow x0 x1 x2 r k * x4 (ix2 k j) else if j.val = 64 then 1 else 0 := by
  unfold out0_9
  rw [whole4, ← pair_apply x0 x1 x2 x3 x4 x5]
  exact (congrFun (View.canon_unit_zero (S := S1x256x128) (by funext a; fin_cases a <;> rfl) _ _) _).trans (key_apply x4 _ r j)

theorem out10_apply (d : Fin 64) (l : Fin 2048) : out0_10 x0 x1 x2 x3 x4 x5 (ix4 (n0 := 1) (n1 := 1) 0 0 d l)
    = ∑ k, hidRow x0 x1 x2 ⟨l % 256, by omega⟩ k * x5 (ix2 ⟨l / 256 * 64 + d, by omega⟩ k) :=
  (congrFun (View.canon_unit_zero (S := S1x1x64x2048) (by funext a; fin_cases a <;> rfl) _ _) _).trans
    ((head_apply _ _ d l).trans (mix_apply x0 x1 x2 x3 x4 x5 _ _))

theorem out11_apply (d : Fin 64) (l : Fin 2048) : out0_11 x0 x1 x2 x3 x4 x5 (ix4 (n0 := 1) (n1 := 1) 0 0 d l)
    = (∑ k, hidRow x0 x1 x2 ⟨l % 256, by omega⟩ k * x5 (ix2 ⟨512 + (l / 256 * 64 + d), by omega⟩ k)) * Ideal.ofBits .f32 0x3E38AA3B#32 :=
  (congrFun (View.canon_unit_zero (S := S1x1x64x2048) (by funext a; fin_cases a <;> rfl) _ _) _).trans
    ((scaled_apply _ d l).trans (congrArg (· * _) (mix_apply x0 x1 x2 x3 x4 x5 _ _)))

theorem out12_apply (d : Fin 64) (r : Fin 256) : out0_12 x0 x1 x2 x3 x4 x5 (ix3 (n0 := 1) 0 d r)
    = ∑ k, hidRow x0 x1 x2 r k * x5 (ix2 ⟨1024 + d, by omega⟩ k) := by
  refine (congrFun (View.canon_unit_zero (S := S1x64x256) (by funext a; fin_cases a <;> rfl) _ _) _).trans (Eq.trans ?_ (mix_apply x0 x1 x2 x3 x4 x5 r _))
  pointwise [k0_pay3]

theorem out13_apply (e : Fin 8) (r : Fin 256) : out0_13 x0 x1 x2 x3 x4 x5 (ix3 (n0 := 1) 0 e r)
    = (∑ k, hidRow x0 x1 x2 r k * x5 (ix2 ⟨1088 + e, by omega⟩ k)) * Ideal.ofBits .f32 0x3D3504F3#32 := by
  refine (congrFun (View.canon_unit_zero (S := S1x8x256) (by funext a; fin_cases a <;> rfl) _ _) _).trans (Eq.trans ?_ (congrArg (· * _) (mix_apply x0 x1 x2 x3 x4 x5 r _)))
  pointwise [k0_pay4]

end Body

variable (m : (ℓ : Loc nD τ sig) → Buf (Elt Ideal) ℓ) (c : Dev nD)

/-- The point of the grid that works on row tile `i` of sequence `b`. -/
abbrev pt (b : Fin 4) (i : Fin 32) : Fin cfg0.N := ⟨32 * b + i, lt_of_lt_of_eq (show 32 * b.val + i.val < 128 by omega) rfl⟩

theorem idx0 : ∀ b : Fin 4, ∀ i : Fin 32, win0_0.index (pt b i) = ![b.val, i.val, 0] ∧ win0_2.index (pt b i) = ![b.val, 0, 0]
    ∧ win0_6.index (pt b i) = ![b.val, i.val, 0] ∧ win0_7.index (pt b i) = ![b.val, i.val, 0] ∧ win0_8.index (pt b i) = ![b.val, i.val, 0]
    ∧ win0_9.index (pt b i) = ![b.val, i.val, 0] ∧ win0_10.index (pt b i) = ![b.val, i.val, 0, 0] ∧ win0_11.index (pt b i) = ![b.val, i.val, 0, 0]
    ∧ win0_12.index (pt b i) = ![b.val, 0, i.val] ∧ win0_13.index (pt b i) = ![b.val, 0, i.val] := by
  decide +kernel

theorem idxc : ∀ t : Fin cfg0.N, win0_1.index t = ![0, 0] ∧ win0_3.index t = ![0, 0] ∧ win0_4.index t = ![0, 0] ∧ win0_5.index t = ![0, 0] := by
  decide +kernel

/-- The weight. -/
abbrev wt (k : Fin 1024) (l : Fin 4808) : EReal := (m ((c.tc : Thread nD τ).loc main_arg3) : FVec Ideal S1024x4808 .f32) (ix2 k l)

section Blocks

variable (b : Fin 4) (i : Fin 32) (r : Fin 256)

theorem blk0 (k : Fin 1024) : (iblk m c 0 (pt b i) : FVec Ideal S1x256x1024 .f32) (ix3 (n0 := 1) 0 r k)
    = (m ((c.tc : Thread nD τ).loc main_arg0) : FVec Ideal S4x8192x1024 .f32) (ix3 (n1 := 8192) b ⟨i * 256 + r, by omega⟩ k) := by
  blk_simp [iblk]
  refine Eq.trans ?_ (congrFun (V_main_arg0 m c) _)
  blk_ext [(idx0 b i).1]

theorem blk1 (k : Fin 1024) : (iblk m c 1 (pt b i) : FVec Ideal S1x1024 .f32) (ix2 (n0 := 1) 0 k)
    = (m ((c.tc : Thread nD τ).loc main_arg1) : FVec Ideal S1024 .f32) (ix1 k) := by
  blk_simp [iblk]
  refine Eq.trans ?_ (show (V m c main_v20 : FVec Ideal S1x1024 .f32) (ix2 (n0 := 1) 0 k) = _ by after_reads_at)
  blk_ext [(idxc (pt b i)).1]

theorem blk2 (k : Fin 3072) : (iblk m c 2 (pt b i) : FVec Ideal S1x1x3072 .f32) (ix3 (n0 := 1) (n1 := 1) 0 0 k)
    = (m ((c.tc : Thread nD τ).loc main_arg2) : FVec Ideal S4x3072 .f32) (ix2 b k) := by
  blk_simp [iblk]
  refine Eq.trans ?_ (show (V m c main_v19 : FVec Ideal S4x1x3072 .f32) (ix3 (n1 := 1) b 0 k) = _ by after_reads_at)
  blk_ext [(idx0 b i).2.1]

theorem host3 (k : Fin 1024) (j : Fin 3584) : (V m c main_v6 : FVec Ideal S1024x3584 .bf16) (ix2 k j) = wt m c k (gateCol j) := by
  refine Eq.trans ?_ (spans_eq (wt m c k) j)
  after_reads_at
  after_reads_at

theorem host4 (k : Fin 1024) (j : Fin 128) : (V m c main_v10 : FVec Ideal S1024x128 .bf16) (ix2 k j)
    = if h : j.val < 64 then wt m c k ⟨1536 + j, by omega⟩ else wt m c k ⟨2688 + (j - 64), by omega⟩ := by
  after_reads_at
  after_reads_at

theorem host5 (k : Fin 1024) (j : Fin 1096) : (V m c main_v18 : FVec Ideal S1104x1024 .bf16) (ix2 (n0 := 1104) ⟨j, by omega⟩ k)
    = if h : j.val < 512 then wt m c k ⟨2176 + j, by omega⟩ else if h : j.val - 512 < 512 then wt m c k ⟨1024 + (j - 512), by omega⟩
      else if h : j.val - 512 - 512 < 64 then wt m c k ⟨1600 + (j - 512 - 512), by omega⟩ else wt m c k ⟨2752 + (j - 512 - 512 - 64), by omega⟩ := by
  after_reads_at
  after_reads_at

theorem blk3 (k : Fin 1024) (j : Fin 3584) : (iblk m c 3 (pt b i) : FVec Ideal S1024x3584 .bf16) (ix2 k j) = wt m c k (gateCol j) := by
  blk_simp [iblk]
  refine Eq.trans ?_ (host3 m c k j)
  blk_ext [(idxc (pt b i)).2.1]

theorem blk4 (k : Fin 1024) (j : Fin 128) : (iblk m c 4 (pt b i) : FVec Ideal S1024x128 .bf16) (ix2 k j)
    = if h : j.val < 64 then wt m c k ⟨1536 + j, by omega⟩ else wt m c k ⟨2688 + (j - 64), by omega⟩ := by
  blk_simp [iblk]
  refine Eq.trans ?_ (host4 m c k j)
  blk_ext [(idxc (pt b i)).2.2.1]

theorem blk5 (k : Fin 1024) (j : Fin 1096) : (iblk m c 5 (pt b i) : FVec Ideal S1104x1024 .bf16) (ix2 (n0 := 1104) ⟨j, by omega⟩ k)
    = if h : j.val < 512 then wt m c k ⟨2176 + j, by omega⟩ else if h : j.val - 512 < 512 then wt m c k ⟨1024 + (j - 512), by omega⟩
      else if h : j.val - 512 - 512 < 64 then wt m c k ⟨1600 + (j - 512 - 512), by omega⟩ else wt m c k ⟨2752 + (j - 512 - 512 - 64), by omega⟩ := by
  blk_simp [iblk]
  refine Eq.trans ?_ (host5 m c k j)
  blk_ext [(idxc (pt b i)).2.2.2]

/-- The features of every position, from the kernel's arguments. -/
def feats (b : Fin 4) (s : Fin 8192) : Fin 4808 → EReal :=
  feat (fun k => (m ((c.tc : Thread nD τ).loc main_arg0) : FVec Ideal S4x8192x1024 .f32) (ix3 b s k))
    (fun k => (m ((c.tc : Thread nD τ).loc main_arg1) : FVec Ideal S1024 .f32) (ix1 k))
    (fun k => (m ((c.tc : Thread nD τ).loc main_arg2) : FVec Ideal S4x3072 .f32) (ix2 b ⟨k, by omega⟩))
    (fun k => (m ((c.tc : Thread nD τ).loc main_arg2) : FVec Ideal S4x3072 .f32) (ix2 b ⟨1024 + k, by omega⟩))
    (wt m c)

/-- A product of a modulated position of a block with a column of the weight is a feature. -/
theorem feats_of (v : Fin 1024 → EReal) (l : Fin 4808) (hv : ∀ k, v k = wt m c k l) :
    ∑ k, hidRow (iblk m c 0 (pt b i)) (iblk m c 1 (pt b i)) (iblk m c 2 (pt b i)) r k * v k = feats m c b ⟨i * 256 + r, by omega⟩ l := by
  simp only [hidRow, blk0 m c b i, blk1 m c b i, blk2 m c b i, hv, feats, feat]

end Blocks

variable (b : Fin 4) (i : Fin 32)

theorem result0_at (r : Fin 256) (j : Fin 3584) : ((dats m 0 c).arrAt 6 cfg0.N : FVec Ideal S4x8192x3584 .f32) (ix3 (n1 := 8192) b ⟨i * 256 + r, by omega⟩ j) = feats m c b ⟨i * 256 + r, by omega⟩ (gateCol j) := by
  refine Eq.trans (congrArg ((dats m 0 c).arrAt 6 cfg0.N) ?_) (((dats m 0 c).arrAt_emb_eq_flushed 6
    (Window.hdisj_of_index_inj win0_6 (by decide +kernel)) (pt b i) (by revert b i; decide +kernel) (ix3 (n0 := 1) 0 r j)).trans ?_)
  · blk_ext [(idx0 b i).2.2.1]
  · refine (congrFun (Value.flushed6 m c (pt b i)) _).trans ((out6_apply _ _ _ _ _ _ r j).trans ?_)
    exact feats_of m c b i r _ _ fun k => blk3 m c b i k j

theorem result1_at (r : Fin 256) (j : Fin 512) : ((dats m 0 c).arrAt 7 cfg0.N : FVec Ideal S4x8192x512 .bf16) (ix3 (n1 := 8192) b ⟨i * 256 + r, by omega⟩ j) = feats m c b ⟨i * 256 + r, by omega⟩ ⟨j, by omega⟩ := by
  refine Eq.trans (congrArg ((dats m 0 c).arrAt 7 cfg0.N) ?_) (((dats m 0 c).arrAt_emb_eq_flushed 7
    (Window.hdisj_of_index_inj win0_7 (by decide +kernel)) (pt b i) (by revert b i; decide +kernel) (ix3 (n0 := 1) 0 r j)).trans ?_)
  · blk_ext [(idx0 b i).2.2.2.1]
  · refine (congrFun (Value.flushed7 m c (pt b i)) _).trans ((out7_apply _ _ _ _ _ _ r j).trans ?_)
    exact feats_of m c b i r _ _ fun k => (blk3 m c b i k _).trans (congrArg (wt m c k) (gateCol_mid j))

theorem result2_at (r : Fin 256) (j : Fin 64) : ((dats m 0 c).arrAt 8 cfg0.N : FVec Ideal S4x8192x64 .bf16) (ix3 (n1 := 8192) b ⟨i * 256 + r, by omega⟩ j) = feats m c b ⟨i * 256 + r, by omega⟩ ⟨2688 + j, by omega⟩ := by
  refine Eq.trans (congrArg ((dats m 0 c).arrAt 8 cfg0.N) ?_) (((dats m 0 c).arrAt_emb_eq_flushed 8
    (Window.hdisj_of_index_inj win0_8 (by decide +kernel)) (pt b i) (by revert b i; decide +kernel) (ix3 (n0 := 1) 0 r j)).trans ?_)
  · blk_ext [(idx0 b i).2.2.2.2.1]
  · refine (congrFun (Value.flushed8 m c (pt b i)) _).trans ((out8_apply _ _ _ _ _ _ r j).trans ?_)
    exact feats_of m c b i r _ _ fun k => (blk4 m c b i k _).trans ((dif_neg (by simp only []; omega)).trans (congrArg (wt m c k) (Fin.ext (by simp only []; omega))))

theorem result3_at (r : Fin 256) (j : Fin 128) : ((dats m 0 c).arrAt 9 cfg0.N : FVec Ideal S4x8192x128 .bf16) (ix3 (n1 := 8192) b ⟨i * 256 + r, by omega⟩ j) = key (feats m c) b ⟨i * 256 + r, by omega⟩ j := by
  refine Eq.trans (congrArg ((dats m 0 c).arrAt 9 cfg0.N) ?_) (((dats m 0 c).arrAt_emb_eq_flushed 9
    (Window.hdisj_of_index_inj win0_9 (by decide +kernel)) (pt b i) (by revert b i; decide +kernel) (ix3 (n0 := 1) 0 r j)).trans ?_)
  · blk_ext [(idx0 b i).2.2.2.2.2.1]
  · refine (congrFun (Value.flushed9 m c (pt b i)) _).trans ((out9_apply _ _ _ _ _ _ r j).trans ?_)
    unfold key
    split_ifs with h h'
    · exact feats_of m c b i r _ _ fun k => (blk4 m c b i k j).trans (dif_pos h)
    · rfl
    · rfl

theorem result4_at (d : Fin 64) (l : Fin 2048) : ((dats m 0 c).arrAt 10 cfg0.N : FVec Ideal S4x32x64x2048 .bf16) (ix4 b i d l) = tiles (feats m c) 2176 b i d l := by
  refine Eq.trans (congrArg ((dats m 0 c).arrAt 10 cfg0.N) ?_) (((dats m 0 c).arrAt_emb_eq_flushed 10
    (Window.hdisj_of_index_inj win0_10 (by decide +kernel)) (pt b i) (by revert b i; decide +kernel) (ix4 (n0 := 1) (n1 := 1) 0 0 d l)).trans ?_)
  · blk_ext [(idx0 b i).2.2.2.2.2.2.1]
  · refine (congrFun (Value.flushed10 m c (pt b i)) _).trans ((out10_apply _ _ _ _ _ _ d l).trans ?_)
    exact feats_of m c b i ⟨l % 256, by omega⟩ _ _ fun k => (blk5 m c b i k ⟨l / 256 * 64 + d, by omega⟩).trans ((dif_pos (by simp only []; omega)).trans rfl)

theorem result5_at (d : Fin 64) (l : Fin 2048) : ((dats m 0 c).arrAt 11 cfg0.N : FVec Ideal S4x32x64x2048 .bf16) (ix4 b i d l) = tiles (feats m c) 1024 b i d l * Ideal.ofBits .f32 0x3E38AA3B#32 := by
  refine Eq.trans (congrArg ((dats m 0 c).arrAt 11 cfg0.N) ?_) (((dats m 0 c).arrAt_emb_eq_flushed 11
    (Window.hdisj_of_index_inj win0_11 (by decide +kernel)) (pt b i) (by revert b i; decide +kernel) (ix4 (n0 := 1) (n1 := 1) 0 0 d l)).trans ?_)
  · blk_ext [(idx0 b i).2.2.2.2.2.2.2.1]
  · refine (congrFun (Value.flushed11 m c (pt b i)) _).trans ((out11_apply _ _ _ _ _ _ d l).trans ?_)
    exact congrArg (· * _) (feats_of m c b i ⟨l % 256, by omega⟩ _ _ fun k => (blk5 m c b i k ⟨512 + (l / 256 * 64 + d), by omega⟩).trans ((dif_neg (by simp only []; omega)).trans ((dif_pos (by simp only []; omega)).trans (congrArg (wt m c k) (Fin.ext (by simp only []; omega))))))

theorem result6_at (d : Fin 64) (r : Fin 256) : ((dats m 0 c).arrAt 12 cfg0.N : FVec Ideal S4x64x8192 .bf16) (ix3 (n2 := 8192) b d ⟨i * 256 + r, by omega⟩) = feats m c b ⟨i * 256 + r, by omega⟩ ⟨1600 + d, by omega⟩ := by
  refine Eq.trans (congrArg ((dats m 0 c).arrAt 12 cfg0.N) ?_) (((dats m 0 c).arrAt_emb_eq_flushed 12
    (Window.hdisj_of_index_inj win0_12 (by decide +kernel)) (pt b i) (by revert b i; decide +kernel) (ix3 (n0 := 1) 0 d r)).trans ?_)
  · blk_ext [(idx0 b i).2.2.2.2.2.2.2.2.1]
  · refine (congrFun (Value.flushed12 m c (pt b i)) _).trans ((out12_apply _ _ _ _ _ _ d r).trans ?_)
    exact feats_of m c b i r _ _ fun k => (blk5 m c b i k ⟨1024 + d, by omega⟩).trans ((dif_neg (by simp only []; omega)).trans ((dif_neg (by simp only []; omega)).trans ((dif_pos (by simp only []; omega)).trans (congrArg (wt m c k) (Fin.ext (by simp only []; omega))))))

theorem result7_at (e : Fin 8) (r : Fin 256) : ((dats m 0 c).arrAt 13 cfg0.N : FVec Ideal S4x8x8192 .f32) (ix3 (n2 := 8192) b e ⟨i * 256 + r, by omega⟩) = feats m c b ⟨i * 256 + r, by omega⟩ ⟨2752 + e, by omega⟩ * Ideal.ofBits .f32 0x3D3504F3#32 := by
  refine Eq.trans (congrArg ((dats m 0 c).arrAt 13 cfg0.N) ?_) (((dats m 0 c).arrAt_emb_eq_flushed 13
    (Window.hdisj_of_index_inj win0_13 (by decide +kernel)) (pt b i) (by revert b i; decide +kernel) (ix3 (n0 := 1) 0 e r)).trans ?_)
  · blk_ext [(idx0 b i).2.2.2.2.2.2.2.2.2]
  · refine (congrFun (Value.flushed13 m c (pt b i)) _).trans ((out13_apply _ _ _ _ _ _ e r).trans ?_)
    exact congrArg (· * _) (feats_of m c b i r _ _ fun k => (blk5 m c b i k ⟨1088 + e, by omega⟩).trans ((dif_neg (by simp only []; omega)).trans ((dif_neg (by simp only []; omega)).trans ((dif_neg (by simp only []; omega)).trans (congrArg (wt m c k) (Fin.ext (by simp only []; omega)))))))

end Cert.ProjectionIdeal.Gen

end
-- ==== Proof.InProj.Equal.lean ====
module

public import proofs.«01_k».proof.Proof.InProj.Ref
public import proofs.«01_k».proof.Proof.InProj.Kernel

/-!
# The input projection's eight results are equal
-/

@[expose] public section

set_option maxRecDepth 16384

noncomputable section

namespace Cert.InProj

open Idealize.ShloMosaic Idealize.ShloMosaic.TcCoe Idealize.SL.Sem

variable (m : (ℓ : Loc Cert.ProjectionIdeal.nD Cert.ProjectionIdeal.τ Cert.ProjectionIdeal.sig) → Buf (Elt Ideal) ℓ) (m' : (ℓ : Loc Cert.ProjectionReferenceIdeal.nD Cert.ProjectionReferenceIdeal.τ Cert.ProjectionReferenceIdeal.sig) → Buf (Elt Ideal) ℓ) (c : Dev Cert.ProjectionIdeal.nD)

/-- The two programs' arguments agree. -/
structure Agreed : Prop where
  e0 : m' ((c.tc : Thread Cert.ProjectionReferenceIdeal.nD Cert.ProjectionReferenceIdeal.τ).loc Cert.ProjectionReferenceIdeal.main_arg0) = m ((c.tc : Thread Cert.ProjectionIdeal.nD Cert.ProjectionIdeal.τ).loc Cert.ProjectionIdeal.main_arg0)
  e1 : m' ((c.tc : Thread Cert.ProjectionReferenceIdeal.nD Cert.ProjectionReferenceIdeal.τ).loc Cert.ProjectionReferenceIdeal.main_arg1) = m ((c.tc : Thread Cert.ProjectionIdeal.nD Cert.ProjectionIdeal.τ).loc Cert.ProjectionIdeal.main_arg1)
  e2 : m' ((c.tc : Thread Cert.ProjectionReferenceIdeal.nD Cert.ProjectionReferenceIdeal.τ).loc Cert.ProjectionReferenceIdeal.main_arg2) = m ((c.tc : Thread Cert.ProjectionIdeal.nD Cert.ProjectionIdeal.τ).loc Cert.ProjectionIdeal.main_arg2)
  e3 : m' ((c.tc : Thread Cert.ProjectionReferenceIdeal.nD Cert.ProjectionReferenceIdeal.τ).loc Cert.ProjectionReferenceIdeal.main_arg3) = m ((c.tc : Thread Cert.ProjectionIdeal.nD Cert.ProjectionIdeal.τ).loc Cert.ProjectionIdeal.main_arg3)

variable {m m' c} (E : Agreed m m' c)

include E

/-- The features are the same on both sides. -/
theorem feats_eq : Cert.ProjectionReferenceIdeal.Value.feats m' c = Cert.ProjectionIdeal.Gen.feats m c := by
  unfold Cert.ProjectionReferenceIdeal.Value.feats Cert.ProjectionIdeal.Gen.feats Cert.ProjectionIdeal.Gen.wt
  rw [E.e0, E.e1, E.e2, E.e3]

theorem eq0 (R : FVec Ideal Cert.ProjectionReferenceIdeal.S4x8192x3584 .f32)
    (hR : ∀ (b : Fin 4) (s : Fin 8192) (j : Fin 3584), R (ix3 b s j) = Cert.ProjectionReferenceIdeal.Value.feats m' c b s (gateCol j)) :
    R = ((Cert.ProjectionIdeal.Gen.dats m 0 c).arrAt 6 Cert.ProjectionIdeal.cfg0.N : FVec Ideal Cert.ProjectionIdeal.S4x8192x3584 .f32) := by
  funext y
  obtain ⟨b, s, j, rfl⟩ : ∃ (b : Fin 4) (s : Fin 8192) (j : Fin 3584), y = ix3 b s j := ⟨y 0, y 1, y 2, by funext a; fin_cases a <;> rfl⟩
  obtain ⟨i, r, rfl⟩ : ∃ (i : Fin 32) (r : Fin 256), s = ⟨i * 256 + r, by omega⟩ :=
    ⟨⟨s / 256, by omega⟩, ⟨s % 256, by omega⟩, Fin.ext (by simp only []; omega)⟩
  rw [hR, feats_eq E]
  exact (Cert.ProjectionIdeal.Gen.result0_at m c b i r j).symm

theorem eq1 (R : FVec Ideal Cert.ProjectionReferenceIdeal.S4x8192x512 .bf16)
    (hR : ∀ (b : Fin 4) (s : Fin 8192) (j : Fin 512), R (ix3 b s j) = Cert.ProjectionReferenceIdeal.Value.feats m' c b s ⟨j, by omega⟩) :
    R = ((Cert.ProjectionIdeal.Gen.dats m 0 c).arrAt 7 Cert.ProjectionIdeal.cfg0.N : FVec Ideal Cert.ProjectionIdeal.S4x8192x512 .bf16) := by
  funext y
  obtain ⟨b, s, j, rfl⟩ : ∃ (b : Fin 4) (s : Fin 8192) (j : Fin 512), y = ix3 b s j := ⟨y 0, y 1, y 2, by funext a; fin_cases a <;> rfl⟩
  obtain ⟨i, r, rfl⟩ : ∃ (i : Fin 32) (r : Fin 256), s = ⟨i * 256 + r, by omega⟩ :=
    ⟨⟨s / 256, by omega⟩, ⟨s % 256, by omega⟩, Fin.ext (by simp only []; omega)⟩
  rw [hR, feats_eq E]
  exact (Cert.ProjectionIdeal.Gen.result1_at m c b i r j).symm

theorem eq2 (R : FVec Ideal Cert.ProjectionReferenceIdeal.S4x8192x64 .bf16)
    (hR : ∀ (b : Fin 4) (s : Fin 8192) (j : Fin 64), R (ix3 b s j) = Cert.ProjectionReferenceIdeal.Value.feats m' c b s ⟨2688 + j, by omega⟩) :
    R = ((Cert.ProjectionIdeal.Gen.dats m 0 c).arrAt 8 Cert.ProjectionIdeal.cfg0.N : FVec Ideal Cert.ProjectionIdeal.S4x8192x64 .bf16) := by
  funext y
  obtain ⟨b, s, j, rfl⟩ : ∃ (b : Fin 4) (s : Fin 8192) (j : Fin 64), y = ix3 b s j := ⟨y 0, y 1, y 2, by funext a; fin_cases a <;> rfl⟩
  obtain ⟨i, r, rfl⟩ : ∃ (i : Fin 32) (r : Fin 256), s = ⟨i * 256 + r, by omega⟩ :=
    ⟨⟨s / 256, by omega⟩, ⟨s % 256, by omega⟩, Fin.ext (by simp only []; omega)⟩
  rw [hR, feats_eq E]
  exact (Cert.ProjectionIdeal.Gen.result2_at m c b i r j).symm

theorem eq3 (R : FVec Ideal Cert.ProjectionReferenceIdeal.S4x8192x128 .bf16)
    (hR : ∀ (b : Fin 4) (s : Fin 8192) (j : Fin 128), R (ix3 b s j) = key (Cert.ProjectionReferenceIdeal.Value.feats m' c) b s j) :
    R = ((Cert.ProjectionIdeal.Gen.dats m 0 c).arrAt 9 Cert.ProjectionIdeal.cfg0.N : FVec Ideal Cert.ProjectionIdeal.S4x8192x128 .bf16) := by
  funext y
  obtain ⟨b, s, j, rfl⟩ : ∃ (b : Fin 4) (s : Fin 8192) (j : Fin 128), y = ix3 b s j := ⟨y 0, y 1, y 2, by funext a; fin_cases a <;> rfl⟩
  obtain ⟨i, r, rfl⟩ : ∃ (i : Fin 32) (r : Fin 256), s = ⟨i * 256 + r, by omega⟩ :=
    ⟨⟨s / 256, by omega⟩, ⟨s % 256, by omega⟩, Fin.ext (by simp only []; omega)⟩
  rw [hR, feats_eq E]
  exact (Cert.ProjectionIdeal.Gen.result3_at m c b i r j).symm

theorem eq4 (R : FVec Ideal Cert.ProjectionReferenceIdeal.S4x32x64x2048 .bf16)
    (hR : ∀ (b : Fin 4) (i : Fin 32) (d : Fin 64) (l : Fin 2048), R (ix4 b i d l) = tiles (Cert.ProjectionReferenceIdeal.Value.feats m' c) 2176 b i d l) :
    R = ((Cert.ProjectionIdeal.Gen.dats m 0 c).arrAt 10 Cert.ProjectionIdeal.cfg0.N : FVec Ideal Cert.ProjectionIdeal.S4x32x64x2048 .bf16) := by
  funext y
  obtain ⟨b, i, d, l, rfl⟩ : ∃ (b : Fin 4) (i : Fin 32) (d : Fin 64) (l : Fin 2048), y = ix4 b i d l := ⟨y 0, y 1, y 2, y 3, by funext a; fin_cases a <;> rfl⟩
  rw [hR, feats_eq E]
  exact (Cert.ProjectionIdeal.Gen.result4_at m c b i d l).symm

theorem eq5 (R : FVec Ideal Cert.ProjectionReferenceIdeal.S4x32x64x2048 .bf16)
    (hR : ∀ (b : Fin 4) (i : Fin 32) (d : Fin 64) (l : Fin 2048), R (ix4 b i d l) = tiles (Cert.ProjectionReferenceIdeal.Value.feats m' c) 1024 b i d l * Ideal.ofBits .f32 0x3E38AA3B#32) :
    R = ((Cert.ProjectionIdeal.Gen.dats m 0 c).arrAt 11 Cert.ProjectionIdeal.cfg0.N : FVec Ideal Cert.ProjectionIdeal.S4x32x64x2048 .bf16) := by
  funext y
  obtain ⟨b, i, d, l, rfl⟩ : ∃ (b : Fin 4) (i : Fin 32) (d : Fin 64) (l : Fin 2048), y = ix4 b i d l := ⟨y 0, y 1, y 2, y 3, by funext a; fin_cases a <;> rfl⟩
  rw [hR, feats_eq E]
  exact (Cert.ProjectionIdeal.Gen.result5_at m c b i d l).symm

theorem eq6 (R : FVec Ideal Cert.ProjectionReferenceIdeal.S4x64x8192 .bf16)
    (hR : ∀ (b : Fin 4) (d : Fin 64) (s : Fin 8192), R (ix3 b d s) = Cert.ProjectionReferenceIdeal.Value.feats m' c b s ⟨1600 + d, by omega⟩) :
    R = ((Cert.ProjectionIdeal.Gen.dats m 0 c).arrAt 12 Cert.ProjectionIdeal.cfg0.N : FVec Ideal Cert.ProjectionIdeal.S4x64x8192 .bf16) := by
  funext y
  obtain ⟨b, d, s, rfl⟩ : ∃ (b : Fin 4) (d : Fin 64) (s : Fin 8192), y = ix3 b d s := ⟨y 0, y 1, y 2, by funext a; fin_cases a <;> rfl⟩
  obtain ⟨i, r, rfl⟩ : ∃ (i : Fin 32) (r : Fin 256), s = ⟨i * 256 + r, by omega⟩ :=
    ⟨⟨s / 256, by omega⟩, ⟨s % 256, by omega⟩, Fin.ext (by simp only []; omega)⟩
  rw [hR, feats_eq E]
  exact (Cert.ProjectionIdeal.Gen.result6_at m c b i d r).symm

theorem eq7 (R : FVec Ideal Cert.ProjectionReferenceIdeal.S4x8x8192 .f32)
    (hR : ∀ (b : Fin 4) (d : Fin 8) (s : Fin 8192), R (ix3 b d s) = Cert.ProjectionReferenceIdeal.Value.feats m' c b s ⟨2752 + d, by omega⟩ * Ideal.ofBits .f32 0x3D3504F3#32) :
    R = ((Cert.ProjectionIdeal.Gen.dats m 0 c).arrAt 13 Cert.ProjectionIdeal.cfg0.N : FVec Ideal Cert.ProjectionIdeal.S4x8x8192 .f32) := by
  funext y
  obtain ⟨b, d, s, rfl⟩ : ∃ (b : Fin 4) (d : Fin 8) (s : Fin 8192), y = ix3 b d s := ⟨y 0, y 1, y 2, by funext a; fin_cases a <;> rfl⟩
  obtain ⟨i, r, rfl⟩ : ∃ (i : Fin 32) (r : Fin 256), s = ⟨i * 256 + r, by omega⟩ :=
    ⟨⟨s / 256, by omega⟩, ⟨s % 256, by omega⟩, Fin.ext (by simp only []; omega)⟩
  rw [hR, feats_eq E]
  exact (Cert.ProjectionIdeal.Gen.result7_at m c b i d r).symm

end Cert.InProj

end
-- ==== Proof.First.Ref.lean ====
module

public import proofs.«01_k».proof.Proof.Gen.FirstReferenceIdeal.Run
public import proofs.«01_k».proof.Proof.Post.Row

/-!
# The reference of the first layer's output stage at a point
-/

@[expose] public section

set_option maxRecDepth 16384

noncomputable section

namespace Cert.FirstReferenceIdeal.Value

open Idealize.ShloMosaic Idealize.ShloMosaic.TcCoe Idealize.ShloMosaic.Tactic Cert.FirstReferenceIdeal Cert.Post

variable (m : (ℓ : Loc nD τ sig) → Buf (Elt Ideal) ℓ) (c : Dev nD)

theorem res_at (b : Fin 4) (r : Fin 8192) (j : Fin 1024) : (res_main_v65 m c : FVec Ideal S4x8192x1024 .f32) (ix3 b r j)
    = unnormed (fun k => (m ((c.tc : Thread nD τ).loc main_arg0) : FVec Ideal S4x8192x1024 .f32) (ix3 b r k))
        (fun k => (m ((c.tc : Thread nD τ).loc main_arg1) : FVec Ideal S4x8192x512 .bf16) (ix3 b r k))
        (fun k => (m ((c.tc : Thread nD τ).loc main_arg2) : FVec Ideal S4x8192x3584 .f32) (ix3 b r k))
        (fun k => (m ((c.tc : Thread nD τ).loc main_arg3) : FVec Ideal S4x512x8192 .f32) (ix3 b k r))
        (fun k => (m ((c.tc : Thread nD τ).loc main_arg4) : FVec Ideal S4x3072 .f32) (ix2 b ⟨2048 + k, by omega⟩))
        (fun k => (m ((c.tc : Thread nD τ).loc main_arg5) : FVec Ideal S512 .f32) (ix1 k))
        (fun k l => (m ((c.tc : Thread nD τ).loc main_arg6) : FVec Ideal S512x1024 .f32) (ix2 k l))
        (fun k => (m ((c.tc : Thread nD τ).loc main_arg7) : FVec Ideal S1024 .f32) (ix1 k))
        (fun k l => (m ((c.tc : Thread nD τ).loc main_arg8) : FVec Ideal S512x1024 .f32) (ix2 k l))
        (fun k l => (m ((c.tc : Thread nD τ).loc main_arg9) : FVec Ideal S512x1024 .f32) (ix2 k l))
        (fun k l => (m ((c.tc : Thread nD τ).loc main_arg10) : FVec Ideal S1024x1024 .f32) (ix2 k l)) j := by
  pointwise [res_main_v65, unnormed, summed, merged, glu, silu, gelu, Ideal.logistic]
  simp only [mul_assoc]

end Cert.FirstReferenceIdeal.Value

end
-- ==== Proof.First.Kernel.lean ====
module

public import proofs.«01_k».proof.Proof.Gen.FirstIdeal.Value
public import proofs.«01_k».proof.Proof.Post.Row
public import Idealize.ShloMosaic.Lib.Pipeline.ValueKit
public import Idealize.ShloMosaic.Lib.Pipeline.ValueKit.Geometry
public import Idealize.ShloMosaic.Lib.StableHlo.ReadAt

/-!
# The first layer's output stage at a point

The call is that of the last layer without the final normalisation.
-/

@[expose] public section

set_option maxRecDepth 16384

noncomputable section

namespace Cert.FirstIdeal.Gen

open Idealize.ShloMosaic Idealize.ShloMosaic.TcCoe Idealize.ShloMosaic.Tactic Cert.FirstIdeal Cert.Post
open Idealize.SL.Sem
open Idealize.ShloMosaic.Pipeline (Dat Cfg Window)

/-- What the body leaves in its block, row by row. -/
theorem out_apply (c : Dev nD) (t : Fin cfg0.N)
    (x0 : Vec Ideal S1x256x1024 .f32) (x1 : Vec Ideal S1x256x512 .bf16) (x2 x3 x4 : Vec Ideal S1x256x512 .f32) (x5 x6 : Vec Ideal S1x256x1024 .f32)
    (x7 : Vec Ideal S1x512x256 .f32) (x8 : Vec Ideal S1x1x3072 .f32) (x9 : Vec Ideal S1x512 .f32) (x10 : Vec Ideal S512x1024 .bf16)
    (x11 : Vec Ideal S1x1024 .f32) (x12 x13 : Vec Ideal S512x1024 .bf16) (x14 : Vec Ideal S1024x1024 .bf16) (x15 : Vec Ideal S1x1024 .f32)
    (r : Fin 256) (j : Fin 1024) :
    out0_A_16 c (grid0.coords t) (ms0_0 t) (hs0_0 t) (ms0_1 t) (hs0_1 t) (ms0_2 t) (hs0_2 t) (ms0_3 t) (hs0_3 t) (ms0_4 t) (hs0_4 t)
        (ms0_5 t) (hs0_5 t) (ms0_6 t) (hs0_6 t) (ms0_7 t) (hs0_7 t) (ms0_8 t) (hs0_8 t) (ms0_9 t) (hs0_9 t) (ms0_10 t) (hs0_10 t)
        (ms0_11 t) (hs0_11 t) (ms0_12 t) (hs0_12 t) (ms0_13 t) (hs0_13 t) (ms0_14 t) (hs0_14 t) (ms0_15 t) (hs0_15 t) (ms0_16 t) (hs0_16 t)
        x0 x1 x2 x3 x4 x5 x6 x7 x8 x9 x10 x11 x12 x13 x14 x15 (ix3 (n0 := 1) 0 r j)
      = summed (fun k => x0 (ix3 (n0 := 1) 0 r k)) (fun k => x8 (ix3 (n0 := 1) (n1 := 1) 0 0 ⟨2048 + k, by omega⟩))
          (merged (glu (fun k => x1 (ix3 (n0 := 1) 0 r k) + x9 (ix2 (n0 := 1) 0 k) * x2 (ix3 (n0 := 1) 0 r k))
              (fun k l => x10 (ix2 k l)) (fun k => x11 (ix2 (n0 := 1) 0 k)))
            (fun k => x3 (ix3 (n0 := 1) 0 r k)) (fun k => x7 (ix3 (n0 := 1) 0 k r)) (fun k => x4 (ix3 (n0 := 1) 0 r k))
            (fun k => x5 (ix3 (n0 := 1) 0 r k)) (fun k => x6 (ix3 (n0 := 1) 0 r k)) (fun k l => x12 (ix2 k l)) (fun k l => x13 (ix2 k l)))
          (fun k l => x14 (ix2 k l)) j := by
  unfold out0_A_16
  frame_out
  pointwise [k0_pay1, k0_pay2, k0_pay3, k0_pay4, k0_pay5, k0_pay6, k0_pay7, k0_pay8, summed, merged, glu, silu, gelu]

variable (m : (ℓ : Loc nD τ sig) → Buf (Elt Ideal) ℓ) (c : Dev nD)

/-- The point of the grid that works on row tile `i` of sequence `b`. -/
abbrev pt (b : Fin 4) (i : Fin 32) : Fin cfg0.N := ⟨32 * b + i, lt_of_lt_of_eq (show 32 * b.val + i.val < 128 by omega) rfl⟩

theorem idx0 : ∀ b : Fin 4, ∀ i : Fin 32, win0_0.index (pt b i) = ![b.val, i.val, 0] ∧ win0_1.index (pt b i) = ![b.val, i.val, 0]
    ∧ win0_2.index (pt b i) = ![b.val, i.val, 4] ∧ win0_3.index (pt b i) = ![b.val, i.val, 5] ∧ win0_4.index (pt b i) = ![b.val, i.val, 6]
    ∧ win0_5.index (pt b i) = ![b.val, i.val, 0] ∧ win0_6.index (pt b i) = ![b.val, i.val, 1] ∧ win0_7.index (pt b i) = ![b.val, 0, i.val]
    ∧ win0_8.index (pt b i) = ![b.val, 0, 0] ∧ win0_16.index (pt b i) = ![b.val, i.val, 0] := by
  decide +kernel

theorem idxc : ∀ t : Fin cfg0.N, win0_9.index t = ![0, 0] ∧ win0_10.index t = ![0, 0] ∧ win0_11.index t = ![0, 0] ∧ win0_12.index t = ![0, 0]
    ∧ win0_13.index t = ![0, 0] ∧ win0_14.index t = ![0, 0] := by
  decide +kernel

section Blocks

variable (b : Fin 4) (i : Fin 32) (r : Fin 256)

theorem blk0 (k : Fin 1024) : (iblk m c 0 (pt b i) : FVec Ideal S1x256x1024 .f32) (ix3 (n0 := 1) 0 r k)
    = (m ((c.tc : Thread nD τ).loc main_arg0) : FVec Ideal S4x8192x1024 .f32) (ix3 (n1 := 8192) b ⟨256 * i + r, by omega⟩ k) := by
  blk_simp [iblk]
  refine Eq.trans ?_ (congrFun (V_main_arg0 m c) _)
  blk_ext [(idx0 b i).1]

theorem blk1 (k : Fin 512) : (iblk m c 1 (pt b i) : FVec Ideal S1x256x512 .bf16) (ix3 (n0 := 1) 0 r k)
    = (m ((c.tc : Thread nD τ).loc main_arg1) : FVec Ideal S4x8192x512 .bf16) (ix3 (n1 := 8192) b ⟨256 * i + r, by omega⟩ k) := by
  blk_simp [iblk]
  refine Eq.trans ?_ (congrFun (V_main_arg1 m c) _)
  blk_ext [(idx0 b i).2.1]

theorem blk2 (k : Fin 512) : (iblk m c 2 (pt b i) : FVec Ideal S1x256x512 .f32) (ix3 (n0 := 1) 0 r k)
    = (m ((c.tc : Thread nD τ).loc main_arg2) : FVec Ideal S4x8192x3584 .f32) (ix3 (n1 := 8192) b ⟨256 * i + r, by omega⟩ ⟨2048 + k, by omega⟩) := by
  blk_simp [iblk]
  refine Eq.trans ?_ (congrFun (V_main_arg2 m c) _)
  blk_ext [(idx0 b i).2.2.1]

theorem blk3 (k : Fin 512) : (iblk m c 3 (pt b i) : FVec Ideal S1x256x512 .f32) (ix3 (n0 := 1) 0 r k)
    = (m ((c.tc : Thread nD τ).loc main_arg2) : FVec Ideal S4x8192x3584 .f32) (ix3 (n1 := 8192) b ⟨256 * i + r, by omega⟩ ⟨2560 + k, by omega⟩) := by
  blk_simp [iblk]
  refine Eq.trans ?_ (congrFun (V_main_arg2 m c) _)
  blk_ext [(idx0 b i).2.2.2.1]

theorem blk4 (k : Fin 512) : (iblk m c 4 (pt b i) : FVec Ideal S1x256x512 .f32) (ix3 (n0 := 1) 0 r k)
    = (m ((c.tc : Thread nD τ).loc main_arg2) : FVec Ideal S4x8192x3584 .f32) (ix3 (n1 := 8192) b ⟨256 * i + r, by omega⟩ ⟨3072 + k, by omega⟩) := by
  blk_simp [iblk]
  refine Eq.trans ?_ (congrFun (V_main_arg2 m c) _)
  blk_ext [(idx0 b i).2.2.2.2.1]

theorem blk5 (k : Fin 1024) : (X0_5 m c (pt b i) : FVec Ideal S1x256x1024 .f32) (ix3 (n0 := 1) 0 r k)
    = (m ((c.tc : Thread nD τ).loc main_arg2) : FVec Ideal S4x8192x3584 .f32) (ix3 (n1 := 8192) b ⟨256 * i + r, by omega⟩ ⟨k, by omega⟩) := by
  unfold X0_5 Pipeline.Window.fill
  rw [dif_pos (moved0_5 (pt b i) _)]
  blk_simp [iblk]
  refine Eq.trans ?_ (congrFun (V_main_arg2 m c) _)
  blk_ext [(idx0 b i).2.2.2.2.2.1]

theorem blk6 (k : Fin 1024) : (X0_6 m c (pt b i) : FVec Ideal S1x256x1024 .f32) (ix3 (n0 := 1) 0 r k)
    = (m ((c.tc : Thread nD τ).loc main_arg2) : FVec Ideal S4x8192x3584 .f32) (ix3 (n1 := 8192) b ⟨256 * i + r, by omega⟩ ⟨1024 + k, by omega⟩) := by
  unfold X0_6 Pipeline.Window.fill
  rw [dif_pos (moved0_6 (pt b i) _)]
  blk_simp [iblk]
  refine Eq.trans ?_ (congrFun (V_main_arg2 m c) _)
  blk_ext [(idx0 b i).2.2.2.2.2.2.1]

theorem blk7 (k : Fin 512) : (iblk m c 7 (pt b i) : FVec Ideal S1x512x256 .f32) (ix3 (n0 := 1) 0 k r)
    = (m ((c.tc : Thread nD τ).loc main_arg3) : FVec Ideal S4x512x8192 .f32) (ix3 (n2 := 8192) b k ⟨256 * i + r, by omega⟩) := by
  blk_simp [iblk]
  refine Eq.trans ?_ (congrFun (V_main_arg3 m c) _)
  blk_ext [(idx0 b i).2.2.2.2.2.2.2.1]

theorem blk8 (k : Fin 3072) : (iblk m c 8 (pt b i) : FVec Ideal S1x1x3072 .f32) (ix3 (n0 := 1) (n1 := 1) 0 0 k)
    = (m ((c.tc : Thread nD τ).loc main_arg4) : FVec Ideal S4x3072 .f32) (ix2 b k) := by
  blk_simp [iblk]
  refine Eq.trans ?_ (show (V m c main_v0 : FVec Ideal S4x1x3072 .f32) (ix3 (n1 := 1) b 0 k) = _ by after_reads_at)
  blk_ext [(idx0 b i).2.2.2.2.2.2.2.2.1]

theorem blk9 (k : Fin 512) : (iblk m c 9 (pt b i) : FVec Ideal S1x512 .f32) (ix2 (n0 := 1) 0 k)
    = (m ((c.tc : Thread nD τ).loc main_arg5) : FVec Ideal S512 .f32) (ix1 k) := by
  blk_simp [iblk]
  refine Eq.trans ?_ (show (V m c main_v5 : FVec Ideal S1x512 .f32) (ix2 (n0 := 1) 0 k) = _ by after_reads_at)
  blk_ext [(idxc (pt b i)).1]

theorem blk11 (k : Fin 1024) : (iblk m c 11 (pt b i) : FVec Ideal S1x1024 .f32) (ix2 (n0 := 1) 0 k)
    = (m ((c.tc : Thread nD τ).loc main_arg7) : FVec Ideal S1024 .f32) (ix1 k) := by
  blk_simp [iblk]
  refine Eq.trans ?_ (show (V m c main_v6 : FVec Ideal S1x1024 .f32) (ix2 (n0 := 1) 0 k) = _ by after_reads_at)
  blk_ext [(idxc (pt b i)).2.2.1]

theorem blk10 (k : Fin 512) (l : Fin 1024) : (iblk m c 10 (pt b i) : FVec Ideal S512x1024 .bf16) (ix2 k l)
    = (m ((c.tc : Thread nD τ).loc main_arg6) : FVec Ideal S512x1024 .f32) (ix2 k l) := by
  blk_simp [iblk]
  refine Eq.trans ?_ (show (V m c main_v1 : FVec Ideal S512x1024 .bf16) (ix2 k l) = _ by after_reads_at)
  blk_ext [(idxc (pt b i)).2.1]

theorem blk12 (k : Fin 512) (l : Fin 1024) : (iblk m c 12 (pt b i) : FVec Ideal S512x1024 .bf16) (ix2 k l)
    = (m ((c.tc : Thread nD τ).loc main_arg8) : FVec Ideal S512x1024 .f32) (ix2 k l) := by
  blk_simp [iblk]
  refine Eq.trans ?_ (show (V m c main_v2 : FVec Ideal S512x1024 .bf16) (ix2 k l) = _ by after_reads_at)
  blk_ext [(idxc (pt b i)).2.2.2.1]

theorem blk13 (k : Fin 512) (l : Fin 1024) : (iblk m c 13 (pt b i) : FVec Ideal S512x1024 .bf16) (ix2 k l)
    = (m ((c.tc : Thread nD τ).loc main_arg9) : FVec Ideal S512x1024 .f32) (ix2 k l) := by
  blk_simp [iblk]
  refine Eq.trans ?_ (show (V m c main_v3 : FVec Ideal S512x1024 .bf16) (ix2 k l) = _ by after_reads_at)
  blk_ext [(idxc (pt b i)).2.2.2.2.1]

theorem blk14 (k : Fin 1024) (l : Fin 1024) : (iblk m c 14 (pt b i) : FVec Ideal S1024x1024 .bf16) (ix2 k l)
    = (m ((c.tc : Thread nD τ).loc main_arg10) : FVec Ideal S1024x1024 .f32) (ix2 k l) := by
  blk_simp [iblk]
  refine Eq.trans ?_ (show (V m c main_v4 : FVec Ideal S1024x1024 .bf16) (ix2 k l) = _ by after_reads_at)
  blk_ext [(idxc (pt b i)).2.2.2.2.2]

end Blocks

/-- The first layer's output: every position is the row of its own arguments. -/
theorem result_at (b : Fin 4) (i : Fin 32) (r : Fin 256) (j : Fin 1024) :
    ((dats m 0 c).arrAt 16 cfg0.N : FVec Ideal S4x8192x1024 .f32) (ix3 (n1 := 8192) b ⟨256 * i + r, by omega⟩ j)
    = unnormed (fun k => (m ((c.tc : Thread nD τ).loc main_arg0) : FVec Ideal S4x8192x1024 .f32) (ix3 (n1 := 8192) b ⟨256 * i + r, by omega⟩ k))
        (fun k => (m ((c.tc : Thread nD τ).loc main_arg1) : FVec Ideal S4x8192x512 .bf16) (ix3 (n1 := 8192) b ⟨256 * i + r, by omega⟩ k))
        (fun k => (m ((c.tc : Thread nD τ).loc main_arg2) : FVec Ideal S4x8192x3584 .f32) (ix3 (n1 := 8192) b ⟨256 * i + r, by omega⟩ k))
        (fun k => (m ((c.tc : Thread nD τ).loc main_arg3) : FVec Ideal S4x512x8192 .f32) (ix3 (n2 := 8192) b k ⟨256 * i + r, by omega⟩))
        (fun k => (m ((c.tc : Thread nD τ).loc main_arg4) : FVec Ideal S4x3072 .f32) (ix2 b ⟨2048 + k, by omega⟩))
        (fun k => (m ((c.tc : Thread nD τ).loc main_arg5) : FVec Ideal S512 .f32) (ix1 k))
        (fun k l => (m ((c.tc : Thread nD τ).loc main_arg6) : FVec Ideal S512x1024 .f32) (ix2 k l))
        (fun k => (m ((c.tc : Thread nD τ).loc main_arg7) : FVec Ideal S1024 .f32) (ix1 k))
        (fun k l => (m ((c.tc : Thread nD τ).loc main_arg8) : FVec Ideal S512x1024 .f32) (ix2 k l))
        (fun k l => (m ((c.tc : Thread nD τ).loc main_arg9) : FVec Ideal S512x1024 .f32) (ix2 k l))
        (fun k l => (m ((c.tc : Thread nD τ).loc main_arg10) : FVec Ideal S1024x1024 .f32) (ix2 k l)) j := by
  refine Eq.trans (congrArg ((dats m 0 c).arrAt 16 cfg0.N) ?_) (((dats m 0 c).arrAt_emb_eq_flushed 16
    (Window.hdisj_of_index_inj win0_16 (by decide +kernel)) (pt b i) (by revert b i; decide +kernel) (ix3 (n0 := 1) 0 r j)).trans ?_)
  · blk_ext [(idx0 b i).2.2.2.2.2.2.2.2.2]
  · refine (congrFun (Value.flushed16_A m c (pt b i)) _).trans ((out_apply c (pt b i) _ _ _ _ _ _ _ _ _ _ _ _ _ _ _ _ r j).trans ?_)
    simp only [unnormed, blk0 m c b i, blk1 m c b i, blk2 m c b i, blk3 m c b i, blk4 m c b i, blk5 m c b i, blk6 m c b i, blk7 m c b i,
      blk8 m c b i, blk9 m c b i, blk10 m c b i, blk11 m c b i, blk12 m c b i, blk13 m c b i, blk14 m c b i]

end Cert.FirstIdeal.Gen

end
-- ==== Proof.First.Equal.lean ====
module

public import proofs.«01_k».proof.Proof.First.Ref
public import proofs.«01_k».proof.Proof.First.Kernel

/-!
# The first layer's two results are equal
-/

@[expose] public section

set_option maxRecDepth 16384

noncomputable section

namespace Cert.PostFirst

open Idealize.ShloMosaic Idealize.ShloMosaic.TcCoe Idealize.SL.Sem

variable (m : (ℓ : Loc Cert.FirstIdeal.nD Cert.FirstIdeal.τ Cert.FirstIdeal.sig) → Buf (Elt Ideal) ℓ) (m' : (ℓ : Loc Cert.FirstReferenceIdeal.nD Cert.FirstReferenceIdeal.τ Cert.FirstReferenceIdeal.sig) → Buf (Elt Ideal) ℓ) (c : Dev Cert.FirstIdeal.nD)

/-- The two programs' arguments agree. -/
structure Agreed : Prop where
  e0 : m' ((c.tc : Thread Cert.FirstReferenceIdeal.nD Cert.FirstReferenceIdeal.τ).loc Cert.FirstReferenceIdeal.main_arg0) = m ((c.tc : Thread Cert.FirstIdeal.nD Cert.FirstIdeal.τ).loc Cert.FirstIdeal.main_arg0)
  e1 : m' ((c.tc : Thread Cert.FirstReferenceIdeal.nD Cert.FirstReferenceIdeal.τ).loc Cert.FirstReferenceIdeal.main_arg1) = m ((c.tc : Thread Cert.FirstIdeal.nD Cert.FirstIdeal.τ).loc Cert.FirstIdeal.main_arg1)
  e2 : m' ((c.tc : Thread Cert.FirstReferenceIdeal.nD Cert.FirstReferenceIdeal.τ).loc Cert.FirstReferenceIdeal.main_arg2) = m ((c.tc : Thread Cert.FirstIdeal.nD Cert.FirstIdeal.τ).loc Cert.FirstIdeal.main_arg2)
  e3 : m' ((c.tc : Thread Cert.FirstReferenceIdeal.nD Cert.FirstReferenceIdeal.τ).loc Cert.FirstReferenceIdeal.main_arg3) = m ((c.tc : Thread Cert.FirstIdeal.nD Cert.FirstIdeal.τ).loc Cert.FirstIdeal.main_arg3)
  e4 : m' ((c.tc : Thread Cert.FirstReferenceIdeal.nD Cert.FirstReferenceIdeal.τ).loc Cert.FirstReferenceIdeal.main_arg4) = m ((c.tc : Thread Cert.FirstIdeal.nD Cert.FirstIdeal.τ).loc Cert.FirstIdeal.main_arg4)
  e5 : m' ((c.tc : Thread Cert.FirstReferenceIdeal.nD Cert.FirstReferenceIdeal.τ).loc Cert.FirstReferenceIdeal.main_arg5) = m ((c.tc : Thread Cert.FirstIdeal.nD Cert.FirstIdeal.τ).loc Cert.FirstIdeal.main_arg5)
  e6 : m' ((c.tc : Thread Cert.FirstReferenceIdeal.nD Cert.FirstReferenceIdeal.τ).loc Cert.FirstReferenceIdeal.main_arg6) = m ((c.tc : Thread Cert.FirstIdeal.nD Cert.FirstIdeal.τ).loc Cert.FirstIdeal.main_arg6)
  e7 : m' ((c.tc : Thread Cert.FirstReferenceIdeal.nD Cert.FirstReferenceIdeal.τ).loc Cert.FirstReferenceIdeal.main_arg7) = m ((c.tc : Thread Cert.FirstIdeal.nD Cert.FirstIdeal.τ).loc Cert.FirstIdeal.main_arg7)
  e8 : m' ((c.tc : Thread Cert.FirstReferenceIdeal.nD Cert.FirstReferenceIdeal.τ).loc Cert.FirstReferenceIdeal.main_arg8) = m ((c.tc : Thread Cert.FirstIdeal.nD Cert.FirstIdeal.τ).loc Cert.FirstIdeal.main_arg8)
  e9 : m' ((c.tc : Thread Cert.FirstReferenceIdeal.nD Cert.FirstReferenceIdeal.τ).loc Cert.FirstReferenceIdeal.main_arg9) = m ((c.tc : Thread Cert.FirstIdeal.nD Cert.FirstIdeal.τ).loc Cert.FirstIdeal.main_arg9)
  e10 : m' ((c.tc : Thread Cert.FirstReferenceIdeal.nD Cert.FirstReferenceIdeal.τ).loc Cert.FirstReferenceIdeal.main_arg10) = m ((c.tc : Thread Cert.FirstIdeal.nD Cert.FirstIdeal.τ).loc Cert.FirstIdeal.main_arg10)

variable {m m' c} (E : Agreed m m' c)

include E

/-- The reference's result is the kernel's. -/
theorem results_eq : (Cert.FirstReferenceIdeal.Value.res_main_v65 m' c : FVec Ideal Cert.FirstReferenceIdeal.S4x8192x1024 .f32)
    = ((Cert.FirstIdeal.Gen.dats m 0 c).arrAt 16 Cert.FirstIdeal.cfg0.N : FVec Ideal Cert.FirstIdeal.S4x8192x1024 .f32) := by
  funext y
  obtain ⟨b, s, j, rfl⟩ : ∃ (b : Fin 4) (s : Fin 8192) (j : Fin 1024), y = ix3 b s j := ⟨y 0, y 1, y 2, by funext a; fin_cases a <;> rfl⟩
  obtain ⟨i, r, rfl⟩ : ∃ (i : Fin 32) (r : Fin 256), s = ⟨256 * i + r, by omega⟩ :=
    ⟨⟨s / 256, by omega⟩, ⟨s % 256, by omega⟩, Fin.ext (by simp only []; omega)⟩
  refine (Cert.FirstReferenceIdeal.Value.res_at m' c b _ j).trans (Eq.trans ?_ (Cert.FirstIdeal.Gen.result_at m c b i r j).symm)
  rw [E.e0, E.e1, E.e2, E.e3, E.e4, E.e5, E.e6, E.e7, E.e8, E.e9, E.e10]

end Cert.PostFirst

end
-- ==== Proof.Mod.Ref.lean ====
module

public import proofs.«01_k».proof.Proof.Gen.ModulationReferenceIdeal.Run
public import Idealize.ShloMosaic.Lib.Pointwise

/-!
# The reference of the conditioning projection at a point
-/

@[expose] public section

set_option maxRecDepth 16384

noncomputable section

namespace Cert.Mod

open Idealize.ShloMosaic

/-- One entry of the conditioning projection: the rectified vector against one column, plus the bias. -/
def entry (c w : Fin 1024 → EReal) (b : EReal) : EReal := ∑ k, c k * Ideal.logistic (c k) * w k + b

end Cert.Mod

namespace Cert.ModulationReferenceIdeal.Value

open Idealize.ShloMosaic Idealize.ShloMosaic.TcCoe Idealize.ShloMosaic.Tactic Cert.ModulationReferenceIdeal Cert.Mod
open Idealize.SL.Sem

variable (m : (ℓ : Loc nD τ sig) → Buf (Elt Ideal) ℓ) (ρ : Dev nD → PrngReg)

/-- The reference's result at a point, and its arguments as they were. -/
theorem run_at : θ_run defs (onTc (τ := τ) (main (F := Ideal))) ⟨m, fun _ => 0, ρ⟩ fun r => ∀ c : Dev nD,
    (∀ (l : Fin 2) (b : Fin 4) (j : Fin 3072), (r.2.mem ((c.tc : Thread nD τ).loc main_v20) : FVec Ideal S2x4x3072 .f32) (ix3 l b j)
      = entry (fun k => (m ((c.tc : Thread nD τ).loc main_arg0) : FVec Ideal S4x1024 .f32) (ix2 b k))
        (fun k => (m ((c.tc : Thread nD τ).loc main_arg1) : FVec Ideal S2x1024x3072 .f32) (ix3 l k j))
        ((m ((c.tc : Thread nD τ).loc main_arg2) : FVec Ideal S2x3072 .f32) (ix2 l j)))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine (θ_run defs _ _).mono (fun r h c => ⟨fun l b j => ?_, (h c).2⟩) (run m ρ)
  rw [(h c).1]
  obtain rfl | rfl : l = 0 ∨ l = 1 := by omega
  all_goals pointwise [entry, Ideal.logistic]

end Cert.ModulationReferenceIdeal.Value

end
-- ==== Proof.Mod.Kernel.lean ====
module

public import proofs.«01_k».proof.Proof.Gen.ModulationIdeal.Value
public import proofs.«01_k».proof.Proof.Mod.Ref
public import Idealize.ShloMosaic.Lib.Pipeline.ValueKit
public import Idealize.ShloMosaic.Lib.Pipeline.ValueKit.Geometry
public import Idealize.ShloMosaic.Lib.StableHlo.ReadAt

/-!
# The conditioning projection's kernel at a point
-/

@[expose] public section

set_option maxRecDepth 16384

noncomputable section

namespace Cert.ModulationIdeal.Gen

open Idealize.ShloMosaic Idealize.ShloMosaic.TcCoe Idealize.ShloMosaic.Tactic Cert.ModulationIdeal Cert.Mod
open Idealize.SL.Sem
open Idealize.ShloMosaic.Pipeline (Dat Cfg Window)

/-- What the body leaves in its block, entry by entry. -/
theorem out_apply (x0 : Vec Ideal S4x1024 .f32) (x1 : Vec Ideal S1x1024x1024 .f32) (x2 : Vec Ideal S1x1x1024 .f32) (b : Fin 4) (j : Fin 1024) :
    out0_3 x0 x1 x2 (ix3 (n0 := 1) 0 b j)
      = entry (fun k => x0 (ix2 b k)) (fun k => x1 (ix3 (n0 := 1) 0 k j)) (x2 (ix3 (n0 := 1) (n1 := 1) 0 0 j)) := by
  unfold out0_3
  frame_out
  pointwise [k0_pay1, entry]

variable (m : (ℓ : Loc nD τ sig) → Buf (Elt Ideal) ℓ) (c : Dev nD)

/-- The point of the grid that works on the `t`-th third of layer `l`. -/
abbrev pt (l : Fin 2) (t : Fin 3) : Fin cfg0.N := ⟨3 * l + t, lt_of_lt_of_eq (show 3 * l.val + t.val < 6 by omega) rfl⟩

theorem idx0 : ∀ l : Fin 2, ∀ t : Fin 3, win0_0.index (pt l t) = ![0, 0] ∧ win0_1.index (pt l t) = ![l.val, 0, t.val]
    ∧ win0_2.index (pt l t) = ![l.val, 0, t.val] ∧ win0_3.index (pt l t) = ![l.val, 0, t.val] := by
  decide +kernel

section Blocks

variable (l : Fin 2) (t : Fin 3)

theorem blk0 (b : Fin 4) (k : Fin 1024) : (iblk m c 0 (pt l t) : FVec Ideal S4x1024 .f32) (ix2 b k)
    = (m ((c.tc : Thread nD τ).loc main_arg0) : FVec Ideal S4x1024 .f32) (ix2 b k) := by
  blk_simp [iblk]
  refine Eq.trans ?_ (congrFun (V_main_arg0 m c) _)
  blk_ext [(idx0 l t).1]

theorem blk1 (k j : Fin 1024) : (iblk m c 1 (pt l t) : FVec Ideal S1x1024x1024 .f32) (ix3 (n0 := 1) 0 k j)
    = (m ((c.tc : Thread nD τ).loc main_arg1) : FVec Ideal S2x1024x3072 .f32) (ix3 l k ⟨1024 * t + j, by omega⟩) := by
  blk_simp [iblk]
  refine Eq.trans ?_ (congrFun (V_main_arg1 m c) _)
  blk_ext [(idx0 l t).2.1]

theorem blk2 (j : Fin 1024) : (iblk m c 2 (pt l t) : FVec Ideal S1x1x1024 .f32) (ix3 (n0 := 1) (n1 := 1) 0 0 j)
    = (m ((c.tc : Thread nD τ).loc main_arg2) : FVec Ideal S2x3072 .f32) (ix2 l ⟨1024 * t + j, by omega⟩) := by
  blk_simp [iblk]
  refine Eq.trans ?_ (show (V m c main_v0 : FVec Ideal S2x1x3072 .f32) (ix3 (n1 := 1) l 0 ⟨1024 * t + j, by omega⟩) = _ by after_reads_at)
  blk_ext [(idx0 l t).2.2.1]

end Blocks

/-- The kernel's result: every entry of both layers. -/
theorem result_at (l : Fin 2) (t : Fin 3) (b : Fin 4) (j : Fin 1024) :
    ((dats m 0 c).arrAt 3 cfg0.N : FVec Ideal S2x4x3072 .f32) (ix3 l b ⟨1024 * t + j, by omega⟩)
    = entry (fun k => (m ((c.tc : Thread nD τ).loc main_arg0) : FVec Ideal S4x1024 .f32) (ix2 b k))
        (fun k => (m ((c.tc : Thread nD τ).loc main_arg1) : FVec Ideal S2x1024x3072 .f32) (ix3 l k ⟨1024 * t + j, by omega⟩))
        ((m ((c.tc : Thread nD τ).loc main_arg2) : FVec Ideal S2x3072 .f32) (ix2 l ⟨1024 * t + j, by omega⟩)) := by
  refine Eq.trans (congrArg ((dats m 0 c).arrAt 3 cfg0.N) ?_) (((dats m 0 c).arrAt_emb_eq_flushed 3
    (Window.hdisj_of_index_inj win0_3 (by decide +kernel)) (pt l t) (by revert l t; decide +kernel) (ix3 (n0 := 1) 0 b j)).trans ?_)
  · blk_ext [(idx0 l t).2.2.2]
  · refine (congrFun (Value.flushed3 m c (pt l t)) _).trans ((out_apply _ _ _ b j).trans ?_)
    simp only [blk0 m c l t, blk1 m c l t, blk2 m c l t]

end Cert.ModulationIdeal.Gen

end
-- ==== Proof.Mod.Equal.lean ====
module

public import proofs.«01_k».proof.Proof.Mod.Kernel

/-!
# The conditioning projection's two results are equal
-/

@[expose] public section

set_option maxRecDepth 16384

noncomputable section

namespace Cert.Mod

open Idealize.ShloMosaic Idealize.ShloMosaic.TcCoe Idealize.SL.Sem

/-- What the reference makes of every point is the kernel's result, if the arguments agree. -/
theorem results_eq {m : (ℓ : Loc Cert.ModulationIdeal.nD Cert.ModulationIdeal.τ Cert.ModulationIdeal.sig) → Buf (Elt Ideal) ℓ} {m' : (ℓ : Loc Cert.ModulationReferenceIdeal.nD Cert.ModulationReferenceIdeal.τ Cert.ModulationReferenceIdeal.sig) → Buf (Elt Ideal) ℓ}
    {c : Dev Cert.ModulationIdeal.nD} (v : FVec Ideal Cert.ModulationReferenceIdeal.S2x4x3072 .f32)
    (e0 : m' ((c.tc : Thread Cert.ModulationReferenceIdeal.nD Cert.ModulationReferenceIdeal.τ).loc Cert.ModulationReferenceIdeal.main_arg0) = m ((c.tc : Thread Cert.ModulationIdeal.nD Cert.ModulationIdeal.τ).loc Cert.ModulationIdeal.main_arg0))
    (e1 : m' ((c.tc : Thread Cert.ModulationReferenceIdeal.nD Cert.ModulationReferenceIdeal.τ).loc Cert.ModulationReferenceIdeal.main_arg1) = m ((c.tc : Thread Cert.ModulationIdeal.nD Cert.ModulationIdeal.τ).loc Cert.ModulationIdeal.main_arg1))
    (e2 : m' ((c.tc : Thread Cert.ModulationReferenceIdeal.nD Cert.ModulationReferenceIdeal.τ).loc Cert.ModulationReferenceIdeal.main_arg2) = m ((c.tc : Thread Cert.ModulationIdeal.nD Cert.ModulationIdeal.τ).loc Cert.ModulationIdeal.main_arg2))
    (hv : ∀ (l : Fin 2) (b : Fin 4) (j : Fin 3072), v (ix3 l b j)
      = entry (fun k => (m' ((c.tc : Thread Cert.ModulationReferenceIdeal.nD Cert.ModulationReferenceIdeal.τ).loc Cert.ModulationReferenceIdeal.main_arg0) : FVec Ideal Cert.ModulationReferenceIdeal.S4x1024 .f32) (ix2 b k))
          (fun k => (m' ((c.tc : Thread Cert.ModulationReferenceIdeal.nD Cert.ModulationReferenceIdeal.τ).loc Cert.ModulationReferenceIdeal.main_arg1) : FVec Ideal Cert.ModulationReferenceIdeal.S2x1024x3072 .f32) (ix3 l k j))
          ((m' ((c.tc : Thread Cert.ModulationReferenceIdeal.nD Cert.ModulationReferenceIdeal.τ).loc Cert.ModulationReferenceIdeal.main_arg2) : FVec Ideal Cert.ModulationReferenceIdeal.S2x3072 .f32) (ix2 l j))) :
    v = (Cert.ModulationIdeal.Gen.dats m 0 c).arrAt 3 Cert.ModulationIdeal.cfg0.N := by
  funext y
  obtain ⟨l, b, s, rfl⟩ : ∃ (l : Fin 2) (b : Fin 4) (s : Fin 3072), y = ix3 l b s := ⟨y 0, y 1, y 2, by funext a; fin_cases a <;> rfl⟩
  obtain ⟨t, j, rfl⟩ : ∃ (t : Fin 3) (j : Fin 1024), s = ⟨1024 * t + j, by omega⟩ :=
    ⟨⟨s / 1024, by omega⟩, ⟨s % 1024, by omega⟩, Fin.ext (by simp only []; omega)⟩
  refine (hv l b _).trans (Eq.trans ?_ (Cert.ModulationIdeal.Gen.result_at m c l t b j).symm)
  rw [e0, e1, e2]

end Cert.Mod

end
-- ==== Proof.Attn.Keeps.lean ====
/-
  Programs that keep an assertion. `Keeps c P p`: from `P` the program `p` runs to its return, and `P` holds again. The frame
  of the sparse attention kernel is all that is claimed of it, so nothing has to be known of what its buffers hold between two
  steps: `P` says that the buffers are owned, at some contents, and every load, store, loop and branch of the kernel keeps it.
-/
module

public import proofs.«01_k».proof.Proof.Gen.Attention.Launch
public import proofs.«01_k».proof.Proof.Gen.Attention.Skeleton
public import proofs.«01_k».proof.Proof.Gen.Attention.Points
public import Idealize.ShloMosaic.Lib.Pipeline.FrameBody
public import Idealize.ShloMosaic.Lib.Ring
public import Idealize.ShloMosaic.Lib.Tactic

@[expose] public section

set_option maxRecDepth 65536

noncomputable section

namespace Cert.Attn

open Cert.Attention Cert.Attention.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- From `P`, `p` runs to its return and `P` holds again. -/
def Keeps (c : Dev nD) (P : sProp 𝕄) {α : Type} (p : Prog (TpuEff nD τ sig (Elt F) Λ₀ .tc) α) : Prop :=
  P ⊢ wp frame (wpE (defs₀ (F := F)) Variants.none (c : Thread nD τ) none) Set.univ p (fun _ => P)

section Rules

variable {α β : Type}

theorem Keeps.ret {c : Dev nD} {P : sProp 𝕄} (a : α) : Keeps c P (pure a : Prog (TpuEff nD τ sig (Elt F) Λ₀ .tc) α) :=
  le_wp_ret frame (wpE (defs₀ (F := F)) Variants.none (c : Thread nD τ) none) Set.univ a (fun _ => P)

theorem Keeps.bind {c : Dev nD} {P : sProp 𝕄} {p : Prog (TpuEff nD τ sig (Elt F) Λ₀ .tc) α} {k : α → Prog (TpuEff nD τ sig (Elt F) Λ₀ .tc) β}
    (hp : Keeps c P p) (hk : ∀ a, Keeps c P (k a)) : Keeps c P (p >>= k) := by
  unfold Keeps
  rw [wp_bind]
  exact hp.trans (wp_mono _ _ _ fun a => hk a)

theorem Keeps.loop {c : Dev nD} {P : sProp 𝕄} {w : Nat} {σ : Type} (l : Scf.Loop w) (hok : l.OK) (init : σ)
    {body : Fin l.trips → σ → Prog (TpuEff nD τ sig (Elt F) Λ₀ .tc) σ} (hb : ∀ k acc, Keeps c P (body k acc)) :
    Keeps c P (Scf.Loop.for l hok init body) := by
  unfold Keeps
  refine BIBase.Entails.trans ?_ (Scf.wp_for _ _ _ l.lb l.ub l.st hok init body (fun _ _ => P) (fun k acc => hb k acc))
  iintro H
  isplitl [H]; · iexact H
  iintro %acc H
  iexact H

/-- What a program keeps it keeps beside anything else, -/
theorem Keeps.left {c : Dev nD} {P R : sProp 𝕄} {p : Prog (TpuEff nD τ sig (Elt F) Λ₀ .tc) α} (h : Keeps c P p) : Keeps c iprop(P ∗ R) p :=
  (sep_mono_left h).trans (wp_frame_r _ _ _)

theorem Keeps.right {c : Dev nD} {P R : sProp 𝕄} {p : Prog (TpuEff nD τ sig (Elt F) Λ₀ .tc) α} (h : Keeps c R p) : Keeps c iprop(P ∗ R) p :=
  (sep_mono_right h).trans (wp_frame_l _ _ _)

end Rules

/-- Every load from `M` keeps `P`; -/
def Loads (c : Dev nD) (P : sProp 𝕄) {s : Shape} {e : EltTy} (M : Memref sig .tc .vmem s e) : Prop :=
  ∀ (r : LoadRect s) (h : M.view.LoadsAt r),
    Keeps c P (Prog.lift (TpuEff.load (nD := nD) (τ := τ) (Val := Elt F) (Λ := Λ₀) (p := .tc) (cs := .vmem) M r h))

/-- every store to `M` keeps `P`. -/
def Stores (c : Dev nD) (P : sProp 𝕄) {s : Shape} {e : EltTy} (M : Memref sig .tc .vmem s e) : Prop :=
  ∀ (r : Rect s) (w : r.shape.Idx → Elt F e) (Mk : Finset r.shape.Idx) (h : (M.access r).Stores Mk)
    (hm : Mk = Finset.univ ∨ ∀ a, r.stride a = 1),
    Keeps c P (Prog.lift (TpuEff.store (nD := nD) (τ := τ) (Val := Elt F) (Λ := Λ₀) (p := .tc) (cs := .vmem) M r w Mk h hm))

section Buffers

variable {c : Dev nD} {s : Shape} {e : EltTy} {M : Memref sig .tc .vmem s e}

theorem Loads.left {P R : sProp 𝕄} (h : Loads c P M) : Loads c iprop(P ∗ R) M := fun r hr => (h r hr).left
theorem Loads.right {P R : sProp 𝕄} (h : Loads c R M) : Loads c iprop(P ∗ R) M := fun r hr => (h r hr).right
theorem Stores.left {P R : sProp 𝕄} (h : Stores c P M) : Stores c iprop(P ∗ R) M := fun r w Mk hs hm => (h r w Mk hs hm).left
theorem Stores.right {P R : sProp 𝕄} (h : Stores c R M) : Stores c iprop(P ∗ R) M := fun r w Mk hs hm => (h r w Mk hs hm).right

/-- A buffer owned at given contents can be loaded from; -/
theorem loads_owns (x : s.Idx → Elt F e) : Loads c (owns (c : Thread nD τ) M fullShare x : sProp 𝕄) M := by
  intro r h
  unfold Keeps owns
  iintro ⟨%f, %hf, H⟩
  iapply (wp_load Variants.none (c : Thread nD τ) none Set.univ (M.view.setOn_subset_set r.set)) $$ [H]
  · iexact H
  iintro H
  iapply (le_wp_ret _ _ _ _ _)
  iexists f
  isplitr; · ipureintro; exact hf
  iexact H

/-- one owned at some contents can be loaded from, -/
theorem loads_some : Loads c (iprop(∃ x, owns (c : Thread nD τ) M fullShare x) : sProp 𝕄) M := by
  intro r h
  unfold Keeps
  unfold owns
  iintro ⟨%x, %f, %hf, H⟩
  iapply (wp_load Variants.none (c : Thread nD τ) none Set.univ (M.view.setOn_subset_set r.set)) $$ [H]
  · iexact H
  iintro H
  iapply (le_wp_ret _ _ _ _ _)
  iexists x, f
  isplitr; · ipureintro; exact hf
  iexact H

/-- and stored to. -/
theorem stores_some : Stores c (iprop(∃ x, owns (c : Thread nD τ) M fullShare x) : sProp 𝕄) M := by
  intro r w Mk h hm
  unfold Keeps owns
  iintro ⟨%x, %f, -, H⟩
  iapply (wp_store Variants.none (c : Thread nD τ) none Set.univ (View.setOn_slice_subset_set M.view r Mk)) $$ [H]
  · iexact H
  iintro H
  iapply (le_wp_ret _ _ _ _ _)
  iexists _, _
  isplitr; swap; · iexact H
  ipureintro; rfl

end Buffers

/-- The kernel's fourteen buffers under `P`: every one can be loaded from, and the output and the scratch ones stored to. -/
structure Has (c : Dev nD) (P : sProp 𝕄)
    (arg2 : Memref sig .tc .vmem S1x1x64x2048 .bf16) (arg3 : Memref sig .tc .vmem S1x8x256 .f32)
    (arg4 : Memref sig .tc .vmem S1x8192x64 .bf16) (arg5 : Memref sig .tc .vmem S1x1x64x2048 .bf16)
    (arg6 : Memref sig .tc .vmem S1x8192x128 .bf16) (arg7 : Memref sig .tc .vmem S1x32x80x256 .bf16)
    (arg8 : Memref sig .tc .vmem S1x512x256 .f32) (arg9 : Memref sig .tc .vmem S8192x256 .f32)
    (arg10 : Memref sig .tc .vmem S8192x256 .i16) (arg11 : Memref sig .tc .vmem S8192x256 .i16)
    (arg12 : Memref sig .tc .vmem S1x128 .f32) (arg13 : Memref sig .tc .vmem S128x2048 .bf16)
    (arg14 : Memref sig .tc .vmem S1x2048 .f32) (arg15 : Memref sig .tc .vmem S80x2048 .f32) : Prop where
  l2 : Loads c P arg2
  l3 : Loads c P arg3
  l4 : Loads c P arg4
  l5 : Loads c P arg5
  l6 : Loads c P arg6
  l7 : Loads c P arg7
  l8 : Loads c P arg8
  l9 : Loads c P arg9
  l10 : Loads c P arg10
  l11 : Loads c P arg11
  l12 : Loads c P arg12
  l13 : Loads c P arg13
  l14 : Loads c P arg14
  l15 : Loads c P arg15
  s8 : Stores c P arg8
  s9 : Stores c P arg9
  s10 : Stores c P arg10
  s11 : Stores c P arg11
  s12 : Stores c P arg12
  s13 : Stores c P arg13
  s14 : Stores c P arg14
  s15 : Stores c P arg15

end Cert.Attn

end
-- ==== Proof.Attn.Trips.lean ====
/-
  The sparse attention kernel keeps its buffers: part by part and loop by loop, in the order in which the skeleton names them,
  each load and each store is one of `Has`, each loop keeps what its trip keeps, each branch what both its sides keep.
-/
module

public import proofs.«01_k».proof.Proof.Attn.Keeps

@[expose] public section

set_option maxRecDepth 65536

noncomputable section

namespace Cert.Attn

open Cert.Attention Cert.Attention.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

variable {c : Dev nD} {P : sProp (MT nD τ sig Unit (Elt F) ℕ (UR sig nD τ) ℕ)} {i : grid0.Coords}
  {arg2 : Memref sig .tc .vmem S1x1x64x2048 .bf16} {harg2 : arg2.IsWhole}
  {arg3 : Memref sig .tc .vmem S1x8x256 .f32} {harg3 : arg3.IsWhole}
  {arg4 : Memref sig .tc .vmem S1x8192x64 .bf16} {harg4 : arg4.IsWhole}
  {arg5 : Memref sig .tc .vmem S1x1x64x2048 .bf16} {harg5 : arg5.IsWhole}
  {arg6 : Memref sig .tc .vmem S1x8192x128 .bf16} {harg6 : arg6.IsWhole}
  {arg7 : Memref sig .tc .vmem S1x32x80x256 .bf16} {harg7 : arg7.IsWhole}
  {arg8 : Memref sig .tc .vmem S1x512x256 .f32} {harg8 : arg8.IsWhole}
  {arg9 : Memref sig .tc .vmem S8192x256 .f32} {harg9 : arg9.IsWhole}
  {arg10 : Memref sig .tc .vmem S8192x256 .i16} {harg10 : arg10.IsWhole}
  {arg11 : Memref sig .tc .vmem S8192x256 .i16} {harg11 : arg11.IsWhole}
  {arg12 : Memref sig .tc .vmem S1x128 .f32} {harg12 : arg12.IsWhole}
  {arg13 : Memref sig .tc .vmem S128x2048 .bf16} {harg13 : arg13.IsWhole}
  {arg14 : Memref sig .tc .vmem S1x2048 .f32} {harg14 : arg14.IsWhole}
  {arg15 : Memref sig .tc .vmem S80x2048 .f32} {harg15 : arg15.IsWhole}

theorem keeps_k0_part1 (H : Has c P arg2 arg3 arg4 arg5 arg6 arg7 arg8 arg9 arg10 arg11 arg12 arg13 arg14 arg15) (c0_i32_0 : BitVec 32) (c1_i32_2 : BitVec 32) (k0_t1 : Fin (k0_t1_loop i).trips) :
    Keeps c P (k0_part1 i arg2 harg2 arg3 harg3 arg4 harg4 arg5 harg5 arg6 harg6 arg7 harg7 arg8 harg8 arg9 harg9 arg10 harg10 arg11 harg11 arg12 harg12 arg13 harg13 arg14 harg14 arg15 harg15 c0_i32_0 c1_i32_2 k0_t1) := by
  rw [k0_part1_eq_skeleton]
  unfold k0_part1_skel
  repeat first | with_reducible refine Keeps.bind ?_ fun _ => ?_ | with_reducible exact Keeps.ret _ | split | dsimp only
  exact H.l4 _ _
  repeat first | with_reducible refine Keeps.bind ?_ fun _ => ?_ | with_reducible exact Keeps.ret _ | split | dsimp only
  exact H.l2 _ _
  repeat first | with_reducible refine Keeps.bind ?_ fun _ => ?_ | with_reducible exact Keeps.ret _ | split | dsimp only
  exact H.l3 _ _
  repeat first | with_reducible refine Keeps.bind ?_ fun _ => ?_ | with_reducible exact Keeps.ret _ | split | dsimp only
  exact H.l3 _ _
  repeat first | with_reducible refine Keeps.bind ?_ fun _ => ?_ | with_reducible exact Keeps.ret _ | split | dsimp only
  exact H.l3 _ _
  repeat first | with_reducible refine Keeps.bind ?_ fun _ => ?_ | with_reducible exact Keeps.ret _ | split | dsimp only
  exact H.l3 _ _
  repeat first | with_reducible refine Keeps.bind ?_ fun _ => ?_ | with_reducible exact Keeps.ret _ | split | dsimp only

theorem keeps_k0_part2 (H : Has c P arg2 arg3 arg4 arg5 arg6 arg7 arg8 arg9 arg10 arg11 arg12 arg13 arg14 arg15) (v4 : IVec S1x256 32) (v5 : IVec S256x256 32) (v216 : BitVec 32) (v222 : FVec F S256x2048 .f32) (v245 : FVec F S256x256 .f32) (v248 : FVec F S256x256 .f32) (v249 : Vec F S1x1x256 .f32) :
    Keeps c P (k0_part2 i arg2 harg2 arg3 harg3 arg4 harg4 arg5 harg5 arg6 harg6 arg7 harg7 arg8 harg8 arg9 harg9 arg10 harg10 arg11 harg11 arg12 harg12 arg13 harg13 arg14 harg14 arg15 harg15 v4 v5 v216 v222 v245 v248 v249) := by
  rw [k0_part2_eq_skeleton]
  unfold k0_part2_skel
  repeat first | with_reducible refine Keeps.bind ?_ fun _ => ?_ | with_reducible exact Keeps.ret _ | split | dsimp only
  exact H.l3 _ _
  repeat first | with_reducible refine Keeps.bind ?_ fun _ => ?_ | with_reducible exact Keeps.ret _ | split | dsimp only
  exact H.l3 _ _
  repeat first | with_reducible refine Keeps.bind ?_ fun _ => ?_ | with_reducible exact Keeps.ret _ | split | dsimp only
  exact H.l3 _ _
  repeat first | with_reducible refine Keeps.bind ?_ fun _ => ?_ | with_reducible exact Keeps.ret _ | split | dsimp only
  exact H.l3 _ _
  repeat first | with_reducible refine Keeps.bind ?_ fun _ => ?_ | with_reducible exact Keeps.ret _ | split | dsimp only

theorem keeps_k0_part3 (H : Has c P arg2 arg3 arg4 arg5 arg6 arg7 arg8 arg9 arg10 arg11 arg12 arg13 arg14 arg15) (v10 : BitVec 32) (c1_i32_3 : BitVec 32) (k0_t2 : Fin (k0_t2_loop i).trips) :
    Keeps c P (k0_part3 i arg2 harg2 arg3 harg3 arg4 harg4 arg5 harg5 arg6 harg6 arg7 harg7 arg8 harg8 arg9 harg9 arg10 harg10 arg11 harg11 arg12 harg12 arg13 harg13 arg14 harg14 arg15 harg15 v10 c1_i32_3 k0_t2) := by
  rw [k0_part3_eq_skeleton]
  unfold k0_part3_skel
  repeat first | with_reducible refine Keeps.bind ?_ fun _ => ?_ | with_reducible exact Keeps.ret _ | split | dsimp only
  exact H.l4 _ _
  repeat first | with_reducible refine Keeps.bind ?_ fun _ => ?_ | with_reducible exact Keeps.ret _ | split | dsimp only
  exact H.l2 _ _
  repeat first | with_reducible refine Keeps.bind ?_ fun _ => ?_ | with_reducible exact Keeps.ret _ | split | dsimp only
  exact H.l3 _ _
  repeat first | with_reducible refine Keeps.bind ?_ fun _ => ?_ | with_reducible exact Keeps.ret _ | split | dsimp only
  exact H.l3 _ _
  repeat first | with_reducible refine Keeps.bind ?_ fun _ => ?_ | with_reducible exact Keeps.ret _ | split | dsimp only
  exact H.l3 _ _
  repeat first | with_reducible refine Keeps.bind ?_ fun _ => ?_ | with_reducible exact Keeps.ret _ | split | dsimp only
  exact H.l3 _ _
  repeat first | with_reducible refine Keeps.bind ?_ fun _ => ?_ | with_reducible exact Keeps.ret _ | split | dsimp only

theorem keeps_k0_part4 (H : Has c P arg2 arg3 arg4 arg5 arg6 arg7 arg8 arg9 arg10 arg11 arg12 arg13 arg14 arg15) (v4 : IVec S1x256 32) (v5 : IVec S256x256 32) (v216 : BitVec 32) (v222 : FVec F S256x2048 .f32) (v245 : FVec F S256x256 .f32) (v248 : FVec F S256x256 .f32) (v249 : Vec F S1x1x256 .f32) :
    Keeps c P (k0_part4 i arg2 harg2 arg3 harg3 arg4 harg4 arg5 harg5 arg6 harg6 arg7 harg7 arg8 harg8 arg9 harg9 arg10 harg10 arg11 harg11 arg12 harg12 arg13 harg13 arg14 harg14 arg15 harg15 v4 v5 v216 v222 v245 v248 v249) := by
  rw [k0_part4_eq_skeleton]
  unfold k0_part4_skel
  repeat first | with_reducible refine Keeps.bind ?_ fun _ => ?_ | with_reducible exact Keeps.ret _ | split | dsimp only
  exact H.l3 _ _
  repeat first | with_reducible refine Keeps.bind ?_ fun _ => ?_ | with_reducible exact Keeps.ret _ | split | dsimp only
  exact H.l3 _ _
  repeat first | with_reducible refine Keeps.bind ?_ fun _ => ?_ | with_reducible exact Keeps.ret _ | split | dsimp only
  exact H.l3 _ _
  repeat first | with_reducible refine Keeps.bind ?_ fun _ => ?_ | with_reducible exact Keeps.ret _ | split | dsimp only
  exact H.l3 _ _
  repeat first | with_reducible refine Keeps.bind ?_ fun _ => ?_ | with_reducible exact Keeps.ret _ | split | dsimp only

theorem keeps_k0_part5 (H : Has c P arg2 arg3 arg4 arg5 arg6 arg7 arg8 arg9 arg10 arg11 arg12 arg13 arg14 arg15) (v72 : FVec F S1x256 .f32) (c0_i32_43 : BitVec 32) (c1_i32_45 : BitVec 32) (k0_t17 : Fin (k0_t17_loop i).trips) :
    Keeps c P (k0_part5 i arg2 harg2 arg3 harg3 arg4 harg4 arg5 harg5 arg6 harg6 arg7 harg7 arg8 harg8 arg9 harg9 arg10 harg10 arg11 harg11 arg12 harg12 arg13 harg13 arg14 harg14 arg15 harg15 v72 c0_i32_43 c1_i32_45 k0_t17) := by
  rw [k0_part5_eq_skeleton]
  unfold k0_part5_skel
  repeat first | with_reducible refine Keeps.bind ?_ fun _ => ?_ | with_reducible exact Keeps.ret _ | split | dsimp only
  exact H.l9 _ _
  repeat first | with_reducible refine Keeps.bind ?_ fun _ => ?_ | with_reducible exact Keeps.ret _ | split | dsimp only

theorem keeps_k0_part6 (H : Has c P arg2 arg3 arg4 arg5 arg6 arg7 arg8 arg9 arg10 arg11 arg12 arg13 arg14 arg15) (v72 : FVec F S1x256 .f32) (v78 : BitVec 32) (c1_i32_46 : BitVec 32) (k0_t18 : Fin (k0_t18_loop i).trips) :
    Keeps c P (k0_part6 i arg2 harg2 arg3 harg3 arg4 harg4 arg5 harg5 arg6 harg6 arg7 harg7 arg8 harg8 arg9 harg9 arg10 harg10 arg11 harg11 arg12 harg12 arg13 harg13 arg14 harg14 arg15 harg15 v72 v78 c1_i32_46 k0_t18) := by
  rw [k0_part6_eq_skeleton]
  unfold k0_part6_skel
  repeat first | with_reducible refine Keeps.bind ?_ fun _ => ?_ | with_reducible exact Keeps.ret _ | split | dsimp only
  exact H.l9 _ _
  repeat first | with_reducible refine Keeps.bind ?_ fun _ => ?_ | with_reducible exact Keeps.ret _ | split | dsimp only

theorem keeps_k0_part7 (H : Has c P arg2 arg3 arg4 arg5 arg6 arg7 arg8 arg9 arg10 arg11 arg12 arg13 arg14 arg15) (v72 : FVec F S1x256 .f32) (c0_i32_49 : BitVec 32) (c1_i32_51 : BitVec 32) (k0_t19 : Fin (k0_t19_loop i).trips) :
    Keeps c P (k0_part7 i arg2 harg2 arg3 harg3 arg4 harg4 arg5 harg5 arg6 harg6 arg7 harg7 arg8 harg8 arg9 harg9 arg10 harg10 arg11 harg11 arg12 harg12 arg13 harg13 arg14 harg14 arg15 harg15 v72 c0_i32_49 c1_i32_51 k0_t19) := by
  rw [k0_part7_eq_skeleton]
  unfold k0_part7_skel
  repeat first | with_reducible refine Keeps.bind ?_ fun _ => ?_ | with_reducible exact Keeps.ret _ | split | dsimp only
  exact H.l9 _ _
  repeat first | with_reducible refine Keeps.bind ?_ fun _ => ?_ | with_reducible exact Keeps.ret _ | split | dsimp only

theorem keeps_k0_part8 (H : Has c P arg2 arg3 arg4 arg5 arg6 arg7 arg8 arg9 arg10 arg11 arg12 arg13 arg14 arg15) (v72 : FVec F S1x256 .f32) (v88 : BitVec 32) (c1_i32_52 : BitVec 32) (k0_t20 : Fin (k0_t20_loop i).trips) :
    Keeps c P (k0_part8 i arg2 harg2 arg3 harg3 arg4 harg4 arg5 harg5 arg6 harg6 arg7 harg7 arg8 harg8 arg9 harg9 arg10 harg10 arg11 harg11 arg12 harg12 arg13 harg13 arg14 harg14 arg15 harg15 v72 v88 c1_i32_52 k0_t20) := by
  rw [k0_part8_eq_skeleton]
  unfold k0_part8_skel
  repeat first | with_reducible refine Keeps.bind ?_ fun _ => ?_ | with_reducible exact Keeps.ret _ | split | dsimp only
  exact H.l9 _ _
  repeat first | with_reducible refine Keeps.bind ?_ fun _ => ?_ | with_reducible exact Keeps.ret _ | split | dsimp only

theorem keeps_k0_part9 (H : Has c P arg2 arg3 arg4 arg5 arg6 arg7 arg8 arg9 arg10 arg11 arg12 arg13 arg14 arg15) (v5 : IVec S256x256 32) (v72 : FVec F S1x256 .f32) (v226 : IVec S1x256 32) (c0_i32_148 : BitVec 32) (c1_i32_150 : BitVec 32) (k0_t22 : Fin (k0_t22_loop i).trips) :
    Keeps c P (k0_part9 i arg2 harg2 arg3 harg3 arg4 harg4 arg5 harg5 arg6 harg6 arg7 harg7 arg8 harg8 arg9 harg9 arg10 harg10 arg11 harg11 arg12 harg12 arg13 harg13 arg14 harg14 arg15 harg15 v5 v72 v226 c0_i32_148 c1_i32_150 k0_t22) := by
  rw [k0_part9_eq_skeleton]
  unfold k0_part9_skel
  repeat first | with_reducible refine Keeps.bind ?_ fun _ => ?_ | with_reducible exact Keeps.ret _ | split | dsimp only
  exact H.l9 _ _
  repeat first | with_reducible refine Keeps.bind ?_ fun _ => ?_ | with_reducible exact Keeps.ret _ | split | dsimp only

theorem keeps_k0_part10 (H : Has c P arg2 arg3 arg4 arg5 arg6 arg7 arg8 arg9 arg10 arg11 arg12 arg13 arg14 arg15) (v5 : IVec S256x256 32) (v72 : FVec F S1x256 .f32) (v226 : IVec S1x256 32) (v232 : BitVec 32) (c1_i32_151 : BitVec 32) (k0_t23 : Fin (k0_t23_loop i).trips) :
    Keeps c P (k0_part10 i arg2 harg2 arg3 harg3 arg4 harg4 arg5 harg5 arg6 harg6 arg7 harg7 arg8 harg8 arg9 harg9 arg10 harg10 arg11 harg11 arg12 harg12 arg13 harg13 arg14 harg14 arg15 harg15 v5 v72 v226 v232 c1_i32_151 k0_t23) := by
  rw [k0_part10_eq_skeleton]
  unfold k0_part10_skel
  repeat first | with_reducible refine Keeps.bind ?_ fun _ => ?_ | with_reducible exact Keeps.ret _ | split | dsimp only
  exact H.l9 _ _
  repeat first | with_reducible refine Keeps.bind ?_ fun _ => ?_ | with_reducible exact Keeps.ret _ | split | dsimp only

theorem keeps_k0_part11 (H : Has c P arg2 arg3 arg4 arg5 arg6 arg7 arg8 arg9 arg10 arg11 arg12 arg13 arg14 arg15) (v4 : IVec S1x256 32) (v5 : IVec S256x256 32) (v72 : FVec F S1x256 .f32) (c0_i32_81 : BitVec 32) (c1_i32_83 : BitVec 32) (k0_t27 : Fin (k0_t27_loop i).trips) :
    Keeps c P (k0_part11 i arg2 harg2 arg3 harg3 arg4 harg4 arg5 harg5 arg6 harg6 arg7 harg7 arg8 harg8 arg9 harg9 arg10 harg10 arg11 harg11 arg12 harg12 arg13 harg13 arg14 harg14 arg15 harg15 v4 v5 v72 c0_i32_81 c1_i32_83 k0_t27) := by
  rw [k0_part11_eq_skeleton]
  unfold k0_part11_skel
  repeat first | with_reducible refine Keeps.bind ?_ fun _ => ?_ | with_reducible exact Keeps.ret _ | split | dsimp only
  exact H.l9 _ _
  repeat first | with_reducible refine Keeps.bind ?_ fun _ => ?_ | with_reducible exact Keeps.ret _ | split | dsimp only
  exact H.l6 _ _
  repeat first | with_reducible refine Keeps.bind ?_ fun _ => ?_ | with_reducible exact Keeps.ret _ | split | dsimp only
  exact H.l13 _ _
  repeat first | with_reducible refine Keeps.bind ?_ fun _ => ?_ | with_reducible exact Keeps.ret _ | split | dsimp only

theorem keeps_k0_part12 (H : Has c P arg2 arg3 arg4 arg5 arg6 arg7 arg8 arg9 arg10 arg11 arg12 arg13 arg14 arg15) (v4 : IVec S1x256 32) (v5 : IVec S256x256 32) (v72 : FVec F S1x256 .f32) (v144 : BitVec 32) (c1_i32_84 : BitVec 32) (k0_t28 : Fin (k0_t28_loop i).trips) :
    Keeps c P (k0_part12 i arg2 harg2 arg3 harg3 arg4 harg4 arg5 harg5 arg6 harg6 arg7 harg7 arg8 harg8 arg9 harg9 arg10 harg10 arg11 harg11 arg12 harg12 arg13 harg13 arg14 harg14 arg15 harg15 v4 v5 v72 v144 c1_i32_84 k0_t28) := by
  rw [k0_part12_eq_skeleton]
  unfold k0_part12_skel
  repeat first | with_reducible refine Keeps.bind ?_ fun _ => ?_ | with_reducible exact Keeps.ret _ | split | dsimp only
  exact H.l9 _ _
  repeat first | with_reducible refine Keeps.bind ?_ fun _ => ?_ | with_reducible exact Keeps.ret _ | split | dsimp only
  exact H.l6 _ _
  repeat first | with_reducible refine Keeps.bind ?_ fun _ => ?_ | with_reducible exact Keeps.ret _ | split | dsimp only
  exact H.l13 _ _
  repeat first | with_reducible refine Keeps.bind ?_ fun _ => ?_ | with_reducible exact Keeps.ret _ | split | dsimp only

theorem keeps_k0_part13 (H : Has c P arg2 arg3 arg4 arg5 arg6 arg7 arg8 arg9 arg10 arg11 arg12 arg13 arg14 arg15) (v4 : IVec S1x256 32) (v5 : IVec S256x256 32) (v72 : FVec F S1x256 .f32) (c0_i32_147 : BitVec 32) (c1_i32_149 : BitVec 32) (k0_t29 : Fin (k0_t29_loop i).trips) :
    Keeps c P (k0_part13 i arg2 harg2 arg3 harg3 arg4 harg4 arg5 harg5 arg6 harg6 arg7 harg7 arg8 harg8 arg9 harg9 arg10 harg10 arg11 harg11 arg12 harg12 arg13 harg13 arg14 harg14 arg15 harg15 v4 v5 v72 c0_i32_147 c1_i32_149 k0_t29) := by
  rw [k0_part13_eq_skeleton]
  unfold k0_part13_skel
  repeat first | with_reducible refine Keeps.bind ?_ fun _ => ?_ | with_reducible exact Keeps.ret _ | split | dsimp only
  exact H.l9 _ _
  repeat first | with_reducible refine Keeps.bind ?_ fun _ => ?_ | with_reducible exact Keeps.ret _ | split | dsimp only
  exact H.l6 _ _
  repeat first | with_reducible refine Keeps.bind ?_ fun _ => ?_ | with_reducible exact Keeps.ret _ | split | dsimp only
  exact H.l13 _ _
  repeat first | with_reducible refine Keeps.bind ?_ fun _ => ?_ | with_reducible exact Keeps.ret _ | split | dsimp only
  exact H.l14 _ _
  repeat first | with_reducible refine Keeps.bind ?_ fun _ => ?_ | with_reducible exact Keeps.ret _ | split | dsimp only

theorem keeps_k0_part14 (H : Has c P arg2 arg3 arg4 arg5 arg6 arg7 arg8 arg9 arg10 arg11 arg12 arg13 arg14 arg15) (v250 : FVec F S256x256 .f32) (v253 : FVec F S256x256 .f32) (v256 : FVec F S256x256 .f32) (v259 : FVec F S256x256 .f32) (v262 : FVec F S256x256 .f32) (v265 : FVec F S256x256 .f32) (v268 : FVec F S256x256 .f32) (v271 : FVec F S256x256 .f32) (v272 : Vec F S1x2048 .f32) :
    Keeps c P (k0_part14 i arg2 harg2 arg3 harg3 arg4 harg4 arg5 harg5 arg6 harg6 arg7 harg7 arg8 harg8 arg9 harg9 arg10 harg10 arg11 harg11 arg12 harg12 arg13 harg13 arg14 harg14 arg15 harg15 v250 v253 v256 v259 v262 v265 v268 v271 v272) := by
  rw [k0_part14_eq_skeleton]
  unfold k0_part14_skel
  repeat first | with_reducible refine Keeps.bind ?_ fun _ => ?_ | with_reducible exact Keeps.ret _ | split | dsimp only

theorem keeps_k0_part15 (H : Has c P arg2 arg3 arg4 arg5 arg6 arg7 arg8 arg9 arg10 arg11 arg12 arg13 arg14 arg15) (v4 : IVec S1x256 32) (v5 : IVec S256x256 32) (v72 : FVec F S1x256 .f32) (v231 : BitVec 32) (c1_i32_150 : BitVec 32) (k0_t30 : Fin (k0_t30_loop i).trips) :
    Keeps c P (k0_part15 i arg2 harg2 arg3 harg3 arg4 harg4 arg5 harg5 arg6 harg6 arg7 harg7 arg8 harg8 arg9 harg9 arg10 harg10 arg11 harg11 arg12 harg12 arg13 harg13 arg14 harg14 arg15 harg15 v4 v5 v72 v231 c1_i32_150 k0_t30) := by
  rw [k0_part15_eq_skeleton]
  unfold k0_part15_skel
  repeat first | with_reducible refine Keeps.bind ?_ fun _ => ?_ | with_reducible exact Keeps.ret _ | split | dsimp only
  exact H.l9 _ _
  repeat first | with_reducible refine Keeps.bind ?_ fun _ => ?_ | with_reducible exact Keeps.ret _ | split | dsimp only
  exact H.l6 _ _
  repeat first | with_reducible refine Keeps.bind ?_ fun _ => ?_ | with_reducible exact Keeps.ret _ | split | dsimp only
  exact H.l13 _ _
  repeat first | with_reducible refine Keeps.bind ?_ fun _ => ?_ | with_reducible exact Keeps.ret _ | split | dsimp only
  exact H.l14 _ _
  repeat first | with_reducible refine Keeps.bind ?_ fun _ => ?_ | with_reducible exact Keeps.ret _ | split | dsimp only

theorem keeps_k0_part16 (H : Has c P arg2 arg3 arg4 arg5 arg6 arg7 arg8 arg9 arg10 arg11 arg12 arg13 arg14 arg15) (v250 : FVec F S256x256 .f32) (v253 : FVec F S256x256 .f32) (v256 : FVec F S256x256 .f32) (v259 : FVec F S256x256 .f32) (v262 : FVec F S256x256 .f32) (v265 : FVec F S256x256 .f32) (v268 : FVec F S256x256 .f32) (v271 : FVec F S256x256 .f32) (v272 : Vec F S1x2048 .f32) :
    Keeps c P (k0_part16 i arg2 harg2 arg3 harg3 arg4 harg4 arg5 harg5 arg6 harg6 arg7 harg7 arg8 harg8 arg9 harg9 arg10 harg10 arg11 harg11 arg12 harg12 arg13 harg13 arg14 harg14 arg15 harg15 v250 v253 v256 v259 v262 v265 v268 v271 v272) := by
  rw [k0_part16_eq_skeleton]
  unfold k0_part16_skel
  repeat first | with_reducible refine Keeps.bind ?_ fun _ => ?_ | with_reducible exact Keeps.ret _ | split | dsimp only

theorem keeps_k0_t1_body (H : Has c P arg2 arg3 arg4 arg5 arg6 arg7 arg8 arg9 arg10 arg11 arg12 arg13 arg14 arg15) (v5 : IVec S256x256 32) (k) (acc)  :
    Keeps c P (k0_t1_body i arg2 harg2 arg3 harg3 arg4 harg4 arg5 harg5 arg6 harg6 arg7 harg7 arg8 harg8 arg9 harg9 arg10 harg10 arg11 harg11 arg12 harg12 arg13 harg13 arg14 harg14 arg15 harg15 v5 k acc) := by
  unfold k0_t1_body
  repeat first | with_reducible refine Keeps.bind ?_ fun _ => ?_ | with_reducible exact Keeps.ret _ | split | dsimp only
  exact keeps_k0_part1 H _ _ _
  repeat first | with_reducible refine Keeps.bind ?_ fun _ => ?_ | with_reducible exact Keeps.ret _ | split | dsimp only
  exact keeps_k0_part2 H _ _ _ _ _ _ _
  repeat first | with_reducible refine Keeps.bind ?_ fun _ => ?_ | with_reducible exact Keeps.ret _ | split | dsimp only
  exact H.l9 _ _
  repeat first | with_reducible refine Keeps.bind ?_ fun _ => ?_ | with_reducible exact Keeps.ret _ | split | dsimp only
  exact H.s9 _ _ _ _ _
  repeat first | with_reducible refine Keeps.bind ?_ fun _ => ?_ | with_reducible exact Keeps.ret _ | split | dsimp only
  exact H.l10 _ _
  repeat first | with_reducible refine Keeps.bind ?_ fun _ => ?_ | with_reducible exact Keeps.ret _ | split | dsimp only
  exact H.s10 _ _ _ _ _
  repeat first | with_reducible refine Keeps.bind ?_ fun _ => ?_ | with_reducible exact Keeps.ret _ | split | dsimp only
  exact H.l11 _ _
  repeat first | with_reducible refine Keeps.bind ?_ fun _ => ?_ | with_reducible exact Keeps.ret _ | split | dsimp only
  exact H.s11 _ _ _ _ _
  repeat first | with_reducible refine Keeps.bind ?_ fun _ => ?_ | with_reducible exact Keeps.ret _ | split | dsimp only

theorem keeps_k0_t2_body (H : Has c P arg2 arg3 arg4 arg5 arg6 arg7 arg8 arg9 arg10 arg11 arg12 arg13 arg14 arg15) (v5 : IVec S256x256 32) (v10 : BitVec 32) (k) (acc)  :
    Keeps c P (k0_t2_body i arg2 harg2 arg3 harg3 arg4 harg4 arg5 harg5 arg6 harg6 arg7 harg7 arg8 harg8 arg9 harg9 arg10 harg10 arg11 harg11 arg12 harg12 arg13 harg13 arg14 harg14 arg15 harg15 v5 v10 k acc) := by
  unfold k0_t2_body
  repeat first | with_reducible refine Keeps.bind ?_ fun _ => ?_ | with_reducible exact Keeps.ret _ | split | dsimp only
  exact keeps_k0_part3 H _ _ _
  repeat first | with_reducible refine Keeps.bind ?_ fun _ => ?_ | with_reducible exact Keeps.ret _ | split | dsimp only
  exact keeps_k0_part4 H _ _ _ _ _ _ _
  repeat first | with_reducible refine Keeps.bind ?_ fun _ => ?_ | with_reducible exact Keeps.ret _ | split | dsimp only
  exact H.l9 _ _
  repeat first | with_reducible refine Keeps.bind ?_ fun _ => ?_ | with_reducible exact Keeps.ret _ | split | dsimp only
  exact H.s9 _ _ _ _ _
  repeat first | with_reducible refine Keeps.bind ?_ fun _ => ?_ | with_reducible exact Keeps.ret _ | split | dsimp only
  exact H.l10 _ _
  repeat first | with_reducible refine Keeps.bind ?_ fun _ => ?_ | with_reducible exact Keeps.ret _ | split | dsimp only
  exact H.s10 _ _ _ _ _
  repeat first | with_reducible refine Keeps.bind ?_ fun _ => ?_ | with_reducible exact Keeps.ret _ | split | dsimp only
  exact H.l11 _ _
  repeat first | with_reducible refine Keeps.bind ?_ fun _ => ?_ | with_reducible exact Keeps.ret _ | split | dsimp only
  exact H.s11 _ _ _ _ _
  repeat first | with_reducible refine Keeps.bind ?_ fun _ => ?_ | with_reducible exact Keeps.ret _ | split | dsimp only

theorem keeps_k0_t3_body (H : Has c P arg2 arg3 arg4 arg5 arg6 arg7 arg8 arg9 arg10 arg11 arg12 arg13 arg14 arg15) (k) (acc)  :
    Keeps c P (k0_t3_body i arg2 harg2 arg3 harg3 arg4 harg4 arg5 harg5 arg6 harg6 arg7 harg7 arg8 harg8 arg9 harg9 arg10 harg10 arg11 harg11 arg12 harg12 arg13 harg13 arg14 harg14 arg15 harg15 k acc) := by
  unfold k0_t3_body
  repeat first | with_reducible refine Keeps.bind ?_ fun _ => ?_ | with_reducible exact Keeps.ret _ | split | dsimp only
  exact H.l10 _ _
  repeat first | with_reducible refine Keeps.bind ?_ fun _ => ?_ | with_reducible exact Keeps.ret _ | split | dsimp only

theorem keeps_k0_t4_body (H : Has c P arg2 arg3 arg4 arg5 arg6 arg7 arg8 arg9 arg10 arg11 arg12 arg13 arg14 arg15) (k) (acc)  :
    Keeps c P (k0_t4_body i arg2 harg2 arg3 harg3 arg4 harg4 arg5 harg5 arg6 harg6 arg7 harg7 arg8 harg8 arg9 harg9 arg10 harg10 arg11 harg11 arg12 harg12 arg13 harg13 arg14 harg14 arg15 harg15 k acc) := by
  unfold k0_t4_body
  repeat first | with_reducible refine Keeps.bind ?_ fun _ => ?_ | with_reducible exact Keeps.ret _ | split | dsimp only
  exact H.l10 _ _
  repeat first | with_reducible refine Keeps.bind ?_ fun _ => ?_ | with_reducible exact Keeps.ret _ | split | dsimp only

theorem keeps_k0_t6_body (H : Has c P arg2 arg3 arg4 arg5 arg6 arg7 arg8 arg9 arg10 arg11 arg12 arg13 arg14 arg15) (k0_t5 : Fin k0_t5_loop.trips) (arg17 : IVec S1x256 32) (k) (acc)  :
    Keeps c P (k0_t6_body i arg2 harg2 arg3 harg3 arg4 harg4 arg5 harg5 arg6 harg6 arg7 harg7 arg8 harg8 arg9 harg9 arg10 harg10 arg11 harg11 arg12 harg12 arg13 harg13 arg14 harg14 arg15 harg15 k0_t5 arg17 k acc) := by
  unfold k0_t6_body
  repeat first | with_reducible refine Keeps.bind ?_ fun _ => ?_ | with_reducible exact Keeps.ret _ | split | dsimp only
  exact H.l10 _ _
  repeat first | with_reducible refine Keeps.bind ?_ fun _ => ?_ | with_reducible exact Keeps.ret _ | split | dsimp only

theorem keeps_k0_t7_body (H : Has c P arg2 arg3 arg4 arg5 arg6 arg7 arg8 arg9 arg10 arg11 arg12 arg13 arg14 arg15) (k0_t5 : Fin k0_t5_loop.trips) (arg17 : IVec S1x256 32) (k) (acc)  :
    Keeps c P (k0_t7_body i arg2 harg2 arg3 harg3 arg4 harg4 arg5 harg5 arg6 harg6 arg7 harg7 arg8 harg8 arg9 harg9 arg10 harg10 arg11 harg11 arg12 harg12 arg13 harg13 arg14 harg14 arg15 harg15 k0_t5 arg17 k acc) := by
  unfold k0_t7_body
  repeat first | with_reducible refine Keeps.bind ?_ fun _ => ?_ | with_reducible exact Keeps.ret _ | split | dsimp only
  exact H.l10 _ _
  repeat first | with_reducible refine Keeps.bind ?_ fun _ => ?_ | with_reducible exact Keeps.ret _ | split | dsimp only

theorem keeps_k0_t5_body (H : Has c P arg2 arg3 arg4 arg5 arg6 arg7 arg8 arg9 arg10 arg11 arg12 arg13 arg14 arg15) (k) (acc)  :
    Keeps c P (k0_t5_body i arg2 harg2 arg3 harg3 arg4 harg4 arg5 harg5 arg6 harg6 arg7 harg7 arg8 harg8 arg9 harg9 arg10 harg10 arg11 harg11 arg12 harg12 arg13 harg13 arg14 harg14 arg15 harg15 k acc) := by
  unfold k0_t5_body
  repeat first | with_reducible refine Keeps.bind ?_ fun _ => ?_ | with_reducible exact Keeps.ret _ | split | dsimp only
  exact Keeps.loop _ _ _ fun _ _ => keeps_k0_t6_body H _ _ _ _
  repeat first | with_reducible refine Keeps.bind ?_ fun _ => ?_ | with_reducible exact Keeps.ret _ | split | dsimp only
  exact Keeps.loop _ _ _ fun _ _ => keeps_k0_t7_body H _ _ _ _
  repeat first | with_reducible refine Keeps.bind ?_ fun _ => ?_ | with_reducible exact Keeps.ret _ | split | dsimp only

theorem keeps_k0_part17 (H : Has c P arg2 arg3 arg4 arg5 arg6 arg7 arg8 arg9 arg10 arg11 arg12 arg13 arg14 arg15) :
    Keeps c P (k0_part17 i arg2 harg2 arg3 harg3 arg4 harg4 arg5 harg5 arg6 harg6 arg7 harg7 arg8 harg8 arg9 harg9 arg10 harg10 arg11 harg11 arg12 harg12 arg13 harg13 arg14 harg14 arg15 harg15) := by
  rw [k0_part17_eq_skeleton]
  unfold k0_part17_skel
  repeat first | with_reducible refine Keeps.bind ?_ fun _ => ?_ | with_reducible exact Keeps.ret _ | split | dsimp only
  exact Keeps.loop _ _ _ fun _ _ => keeps_k0_t1_body H _ _ _
  repeat first | with_reducible refine Keeps.bind ?_ fun _ => ?_ | with_reducible exact Keeps.ret _ | split | dsimp only
  exact Keeps.loop _ _ _ fun _ _ => keeps_k0_t2_body H _ _ _ _
  repeat first | with_reducible refine Keeps.bind ?_ fun _ => ?_ | with_reducible exact Keeps.ret _ | split | dsimp only
  exact Keeps.loop _ _ _ fun _ _ => keeps_k0_t3_body H _ _
  repeat first | with_reducible refine Keeps.bind ?_ fun _ => ?_ | with_reducible exact Keeps.ret _ | split | dsimp only
  exact Keeps.loop _ _ _ fun _ _ => keeps_k0_t4_body H _ _
  repeat first | with_reducible refine Keeps.bind ?_ fun _ => ?_ | with_reducible exact Keeps.ret _ | split | dsimp only
  exact Keeps.loop _ _ _ fun _ _ => keeps_k0_t5_body H _ _
  repeat first | with_reducible refine Keeps.bind ?_ fun _ => ?_ | with_reducible exact Keeps.ret _ | split | dsimp only

theorem keeps_k0_t8_body (H : Has c P arg2 arg3 arg4 arg5 arg6 arg7 arg8 arg9 arg10 arg11 arg12 arg13 arg14 arg15) (v0 : BitVec 32) (v28 : IVec S1x256 16) (v29 : FVec F S16x256 .f32) (c1_i16_15 : BitVec 16) (c0_i16_16 : BitVec 16) (c0_i32_17 : BitVec 32) (k) (acc)  :
    Keeps c P (k0_t8_body i arg2 harg2 arg3 harg3 arg4 harg4 arg5 harg5 arg6 harg6 arg7 harg7 arg8 harg8 arg9 harg9 arg10 harg10 arg11 harg11 arg12 harg12 arg13 harg13 arg14 harg14 arg15 harg15 v0 v28 v29 c1_i16_15 c0_i16_16 c0_i32_17 k acc) := by
  unfold k0_t8_body
  repeat first | with_reducible refine Keeps.bind ?_ fun _ => ?_ | with_reducible exact Keeps.ret _ | split | dsimp only
  exact H.l10 _ _
  repeat first | with_reducible refine Keeps.bind ?_ fun _ => ?_ | with_reducible exact Keeps.ret _ | split | dsimp only

theorem keeps_k0_t9_body (H : Has c P arg2 arg3 arg4 arg5 arg6 arg7 arg8 arg9 arg10 arg11 arg12 arg13 arg14 arg15) (v0 : BitVec 32) (v28 : IVec S1x256 16) (v29 : FVec F S16x256 .f32) (c1_i16_15 : BitVec 16) (c0_i16_16 : BitVec 16) (c0_i32_17 : BitVec 32) (k) (acc)  :
    Keeps c P (k0_t9_body i arg2 harg2 arg3 harg3 arg4 harg4 arg5 harg5 arg6 harg6 arg7 harg7 arg8 harg8 arg9 harg9 arg10 harg10 arg11 harg11 arg12 harg12 arg13 harg13 arg14 harg14 arg15 harg15 v0 v28 v29 c1_i16_15 c0_i16_16 c0_i32_17 k acc) := by
  unfold k0_t9_body
  repeat first | with_reducible refine Keeps.bind ?_ fun _ => ?_ | with_reducible exact Keeps.ret _ | split | dsimp only
  exact H.l10 _ _
  repeat first | with_reducible refine Keeps.bind ?_ fun _ => ?_ | with_reducible exact Keeps.ret _ | split | dsimp only

theorem keeps_k0_t10_body (H : Has c P arg2 arg3 arg4 arg5 arg6 arg7 arg8 arg9 arg10 arg11 arg12 arg13 arg14 arg15) (v0 : BitVec 32) (v28 : IVec S1x256 16) (v29 : FVec F S16x256 .f32) (c1_i16_15 : BitVec 16) (c0_i16_16 : BitVec 16) (c0_i32_17 : BitVec 32) (k) (acc)  :
    Keeps c P (k0_t10_body i arg2 harg2 arg3 harg3 arg4 harg4 arg5 harg5 arg6 harg6 arg7 harg7 arg8 harg8 arg9 harg9 arg10 harg10 arg11 harg11 arg12 harg12 arg13 harg13 arg14 harg14 arg15 harg15 v0 v28 v29 c1_i16_15 c0_i16_16 c0_i32_17 k acc) := by
  unfold k0_t10_body
  repeat first | with_reducible refine Keeps.bind ?_ fun _ => ?_ | with_reducible exact Keeps.ret _ | split | dsimp only
  exact H.l10 _ _
  repeat first | with_reducible refine Keeps.bind ?_ fun _ => ?_ | with_reducible exact Keeps.ret _ | split | dsimp only
  exact H.l11 _ _
  repeat first | with_reducible refine Keeps.bind ?_ fun _ => ?_ | with_reducible exact Keeps.ret _ | split | dsimp only
  exact H.l11 _ _
  repeat first | with_reducible refine Keeps.bind ?_ fun _ => ?_ | with_reducible exact Keeps.ret _ | split | dsimp only
  exact H.s11 _ _ _ _ _
  repeat first | with_reducible refine Keeps.bind ?_ fun _ => ?_ | with_reducible exact Keeps.ret _ | split | dsimp only

theorem keeps_k0_t11_body (H : Has c P arg2 arg3 arg4 arg5 arg6 arg7 arg8 arg9 arg10 arg11 arg12 arg13 arg14 arg15) (v0 : BitVec 32) (v28 : IVec S1x256 16) (v29 : FVec F S16x256 .f32) (c1_i16_15 : BitVec 16) (c0_i16_16 : BitVec 16) (c0_i32_17 : BitVec 32) (k) (acc)  :
    Keeps c P (k0_t11_body i arg2 harg2 arg3 harg3 arg4 harg4 arg5 harg5 arg6 harg6 arg7 harg7 arg8 harg8 arg9 harg9 arg10 harg10 arg11 harg11 arg12 harg12 arg13 harg13 arg14 harg14 arg15 harg15 v0 v28 v29 c1_i16_15 c0_i16_16 c0_i32_17 k acc) := by
  unfold k0_t11_body
  repeat first | with_reducible refine Keeps.bind ?_ fun _ => ?_ | with_reducible exact Keeps.ret _ | split | dsimp only
  exact H.l10 _ _
  repeat first | with_reducible refine Keeps.bind ?_ fun _ => ?_ | with_reducible exact Keeps.ret _ | split | dsimp only
  exact H.l11 _ _
  repeat first | with_reducible refine Keeps.bind ?_ fun _ => ?_ | with_reducible exact Keeps.ret _ | split | dsimp only
  exact H.l11 _ _
  repeat first | with_reducible refine Keeps.bind ?_ fun _ => ?_ | with_reducible exact Keeps.ret _ | split | dsimp only
  exact H.s11 _ _ _ _ _
  repeat first | with_reducible refine Keeps.bind ?_ fun _ => ?_ | with_reducible exact Keeps.ret _ | split | dsimp only

theorem keeps_k0_t12_body (H : Has c P arg2 arg3 arg4 arg5 arg6 arg7 arg8 arg9 arg10 arg11 arg12 arg13 arg14 arg15) (v0 : BitVec 32) (v28 : IVec S1x256 16) (v29 : FVec F S16x256 .f32) (c1_i16_15 : BitVec 16) (c0_i16_16 : BitVec 16) (c0_i32_17 : BitVec 32) (k) (acc)  :
    Keeps c P (k0_t12_body i arg2 harg2 arg3 harg3 arg4 harg4 arg5 harg5 arg6 harg6 arg7 harg7 arg8 harg8 arg9 harg9 arg10 harg10 arg11 harg11 arg12 harg12 arg13 harg13 arg14 harg14 arg15 harg15 v0 v28 v29 c1_i16_15 c0_i16_16 c0_i32_17 k acc) := by
  unfold k0_t12_body
  repeat first | with_reducible refine Keeps.bind ?_ fun _ => ?_ | with_reducible exact Keeps.ret _ | split | dsimp only
  exact H.l11 _ _
  repeat first | with_reducible refine Keeps.bind ?_ fun _ => ?_ | with_reducible exact Keeps.ret _ | split | dsimp only

theorem keeps_k0_t13_body (H : Has c P arg2 arg3 arg4 arg5 arg6 arg7 arg8 arg9 arg10 arg11 arg12 arg13 arg14 arg15) (v0 : BitVec 32) (v28 : IVec S1x256 16) (v29 : FVec F S16x256 .f32) (c1_i16_15 : BitVec 16) (c0_i16_16 : BitVec 16) (c0_i32_17 : BitVec 32) (k) (acc)  :
    Keeps c P (k0_t13_body i arg2 harg2 arg3 harg3 arg4 harg4 arg5 harg5 arg6 harg6 arg7 harg7 arg8 harg8 arg9 harg9 arg10 harg10 arg11 harg11 arg12 harg12 arg13 harg13 arg14 harg14 arg15 harg15 v0 v28 v29 c1_i16_15 c0_i16_16 c0_i32_17 k acc) := by
  unfold k0_t13_body
  repeat first | with_reducible refine Keeps.bind ?_ fun _ => ?_ | with_reducible exact Keeps.ret _ | split | dsimp only
  exact H.l11 _ _
  repeat first | with_reducible refine Keeps.bind ?_ fun _ => ?_ | with_reducible exact Keeps.ret _ | split | dsimp only

theorem keeps_k0_t15_body (H : Has c P arg2 arg3 arg4 arg5 arg6 arg7 arg8 arg9 arg10 arg11 arg12 arg13 arg14 arg15) (v0 : BitVec 32) (v28 : IVec S1x256 16) (v29 : FVec F S16x256 .f32) (c1_i16_15 : BitVec 16) (c0_i16_16 : BitVec 16) (c0_i32_17 : BitVec 32) (k0_t14 : Fin k0_t14_loop.trips) (arg17 : IVec S1x256 32) (k) (acc)  :
    Keeps c P (k0_t15_body i arg2 harg2 arg3 harg3 arg4 harg4 arg5 harg5 arg6 harg6 arg7 harg7 arg8 harg8 arg9 harg9 arg10 harg10 arg11 harg11 arg12 harg12 arg13 harg13 arg14 harg14 arg15 harg15 v0 v28 v29 c1_i16_15 c0_i16_16 c0_i32_17 k0_t14 arg17 k acc) := by
  unfold k0_t15_body
  repeat first | with_reducible refine Keeps.bind ?_ fun _ => ?_ | with_reducible exact Keeps.ret _ | split | dsimp only
  exact H.l11 _ _
  repeat first | with_reducible refine Keeps.bind ?_ fun _ => ?_ | with_reducible exact Keeps.ret _ | split | dsimp only

theorem keeps_k0_t16_body (H : Has c P arg2 arg3 arg4 arg5 arg6 arg7 arg8 arg9 arg10 arg11 arg12 arg13 arg14 arg15) (v0 : BitVec 32) (v28 : IVec S1x256 16) (v29 : FVec F S16x256 .f32) (c1_i16_15 : BitVec 16) (c0_i16_16 : BitVec 16) (c0_i32_17 : BitVec 32) (k0_t14 : Fin k0_t14_loop.trips) (arg17 : IVec S1x256 32) (k) (acc)  :
    Keeps c P (k0_t16_body i arg2 harg2 arg3 harg3 arg4 harg4 arg5 harg5 arg6 harg6 arg7 harg7 arg8 harg8 arg9 harg9 arg10 harg10 arg11 harg11 arg12 harg12 arg13 harg13 arg14 harg14 arg15 harg15 v0 v28 v29 c1_i16_15 c0_i16_16 c0_i32_17 k0_t14 arg17 k acc) := by
  unfold k0_t16_body
  repeat first | with_reducible refine Keeps.bind ?_ fun _ => ?_ | with_reducible exact Keeps.ret _ | split | dsimp only
  exact H.l11 _ _
  repeat first | with_reducible refine Keeps.bind ?_ fun _ => ?_ | with_reducible exact Keeps.ret _ | split | dsimp only

theorem keeps_k0_t14_body (H : Has c P arg2 arg3 arg4 arg5 arg6 arg7 arg8 arg9 arg10 arg11 arg12 arg13 arg14 arg15) (v0 : BitVec 32) (v28 : IVec S1x256 16) (v29 : FVec F S16x256 .f32) (c1_i16_15 : BitVec 16) (c0_i16_16 : BitVec 16) (c0_i32_17 : BitVec 32) (v36 : FVec F S16x256 .f32) (k) (acc)  :
    Keeps c P (k0_t14_body i arg2 harg2 arg3 harg3 arg4 harg4 arg5 harg5 arg6 harg6 arg7 harg7 arg8 harg8 arg9 harg9 arg10 harg10 arg11 harg11 arg12 harg12 arg13 harg13 arg14 harg14 arg15 harg15 v0 v28 v29 c1_i16_15 c0_i16_16 c0_i32_17 v36 k acc) := by
  unfold k0_t14_body
  repeat first | with_reducible refine Keeps.bind ?_ fun _ => ?_ | with_reducible exact Keeps.ret _ | split | dsimp only
  exact Keeps.loop _ _ _ fun _ _ => keeps_k0_t15_body H _ _ _ _ _ _ _ _ _ _
  repeat first | with_reducible refine Keeps.bind ?_ fun _ => ?_ | with_reducible exact Keeps.ret _ | split | dsimp only
  exact Keeps.loop _ _ _ fun _ _ => keeps_k0_t16_body H _ _ _ _ _ _ _ _ _ _
  repeat first | with_reducible refine Keeps.bind ?_ fun _ => ?_ | with_reducible exact Keeps.ret _ | split | dsimp only

theorem keeps_k0_part18 (H : Has c P arg2 arg3 arg4 arg5 arg6 arg7 arg8 arg9 arg10 arg11 arg12 arg13 arg14 arg15) (v0 : BitVec 32) (v28 : IVec S1x256 16) (v29 : FVec F S16x256 .f32) (c1_i16_15 : BitVec 16) (c0_i16_16 : BitVec 16) (c0_i32_17 : BitVec 32) :
    Keeps c P (k0_part18 i arg2 harg2 arg3 harg3 arg4 harg4 arg5 harg5 arg6 harg6 arg7 harg7 arg8 harg8 arg9 harg9 arg10 harg10 arg11 harg11 arg12 harg12 arg13 harg13 arg14 harg14 arg15 harg15 v0 v28 v29 c1_i16_15 c0_i16_16 c0_i32_17) := by
  rw [k0_part18_eq_skeleton]
  unfold k0_part18_skel
  repeat first | with_reducible refine Keeps.bind ?_ fun _ => ?_ | with_reducible exact Keeps.ret _ | split | dsimp only
  exact Keeps.loop _ _ _ fun _ _ => keeps_k0_t8_body H _ _ _ _ _ _ _ _
  repeat first | with_reducible refine Keeps.bind ?_ fun _ => ?_ | with_reducible exact Keeps.ret _ | split | dsimp only
  exact Keeps.loop _ _ _ fun _ _ => keeps_k0_t9_body H _ _ _ _ _ _ _ _
  repeat first | with_reducible refine Keeps.bind ?_ fun _ => ?_ | with_reducible exact Keeps.ret _ | split | dsimp only
  exact Keeps.loop _ _ _ fun _ _ => keeps_k0_t10_body H _ _ _ _ _ _ _ _
  repeat first | with_reducible refine Keeps.bind ?_ fun _ => ?_ | with_reducible exact Keeps.ret _ | split | dsimp only
  exact Keeps.loop _ _ _ fun _ _ => keeps_k0_t11_body H _ _ _ _ _ _ _ _
  repeat first | with_reducible refine Keeps.bind ?_ fun _ => ?_ | with_reducible exact Keeps.ret _ | split | dsimp only
  exact Keeps.loop _ _ _ fun _ _ => keeps_k0_t12_body H _ _ _ _ _ _ _ _
  repeat first | with_reducible refine Keeps.bind ?_ fun _ => ?_ | with_reducible exact Keeps.ret _ | split | dsimp only
  exact Keeps.loop _ _ _ fun _ _ => keeps_k0_t13_body H _ _ _ _ _ _ _ _
  repeat first | with_reducible refine Keeps.bind ?_ fun _ => ?_ | with_reducible exact Keeps.ret _ | split | dsimp only
  exact Keeps.loop _ _ _ fun _ _ => keeps_k0_t14_body H _ _ _ _ _ _ _ _ _
  repeat first | with_reducible refine Keeps.bind ?_ fun _ => ?_ | with_reducible exact Keeps.ret _ | split | dsimp only

theorem keeps_k0_t17_body (H : Has c P arg2 arg3 arg4 arg5 arg6 arg7 arg8 arg9 arg10 arg11 arg12 arg13 arg14 arg15) (v0 : BitVec 32) (v5 : IVec S256x256 32) (v27 : IVec S1x256 32) (v61 : IVec S1x256 32) (v62 : IVec S1x256 32) (k) (acc)  :
    Keeps c P (k0_t17_body i arg2 harg2 arg3 harg3 arg4 harg4 arg5 harg5 arg6 harg6 arg7 harg7 arg8 harg8 arg9 harg9 arg10 harg10 arg11 harg11 arg12 harg12 arg13 harg13 arg14 harg14 arg15 harg15 v0 v5 v27 v61 v62 k acc) := by
  unfold k0_t17_body
  repeat first | with_reducible refine Keeps.bind ?_ fun _ => ?_ | with_reducible exact Keeps.ret _ | split | dsimp only
  exact keeps_k0_part5 H _ _ _ _
  repeat first | with_reducible refine Keeps.bind ?_ fun _ => ?_ | with_reducible exact Keeps.ret _ | split | dsimp only

theorem keeps_k0_t18_body (H : Has c P arg2 arg3 arg4 arg5 arg6 arg7 arg8 arg9 arg10 arg11 arg12 arg13 arg14 arg15) (v0 : BitVec 32) (v5 : IVec S256x256 32) (v27 : IVec S1x256 32) (v61 : IVec S1x256 32) (v62 : IVec S1x256 32) (v78 : BitVec 32) (k) (acc)  :
    Keeps c P (k0_t18_body i arg2 harg2 arg3 harg3 arg4 harg4 arg5 harg5 arg6 harg6 arg7 harg7 arg8 harg8 arg9 harg9 arg10 harg10 arg11 harg11 arg12 harg12 arg13 harg13 arg14 harg14 arg15 harg15 v0 v5 v27 v61 v62 v78 k acc) := by
  unfold k0_t18_body
  repeat first | with_reducible refine Keeps.bind ?_ fun _ => ?_ | with_reducible exact Keeps.ret _ | split | dsimp only
  exact keeps_k0_part6 H _ _ _ _
  repeat first | with_reducible refine Keeps.bind ?_ fun _ => ?_ | with_reducible exact Keeps.ret _ | split | dsimp only

theorem keeps_k0_t19_body (H : Has c P arg2 arg3 arg4 arg5 arg6 arg7 arg8 arg9 arg10 arg11 arg12 arg13 arg14 arg15) (v0 : BitVec 32) (v5 : IVec S256x256 32) (v27 : IVec S1x256 32) (v61 : IVec S1x256 32) (v62 : IVec S1x256 32) (k) (acc)  :
    Keeps c P (k0_t19_body i arg2 harg2 arg3 harg3 arg4 harg4 arg5 harg5 arg6 harg6 arg7 harg7 arg8 harg8 arg9 harg9 arg10 harg10 arg11 harg11 arg12 harg12 arg13 harg13 arg14 harg14 arg15 harg15 v0 v5 v27 v61 v62 k acc) := by
  unfold k0_t19_body
  repeat first | with_reducible refine Keeps.bind ?_ fun _ => ?_ | with_reducible exact Keeps.ret _ | split | dsimp only
  exact keeps_k0_part7 H _ _ _ _
  repeat first | with_reducible refine Keeps.bind ?_ fun _ => ?_ | with_reducible exact Keeps.ret _ | split | dsimp only

theorem keeps_k0_t20_body (H : Has c P arg2 arg3 arg4 arg5 arg6 arg7 arg8 arg9 arg10 arg11 arg12 arg13 arg14 arg15) (v0 : BitVec 32) (v5 : IVec S256x256 32) (v27 : IVec S1x256 32) (v61 : IVec S1x256 32) (v62 : IVec S1x256 32) (v88 : BitVec 32) (k) (acc)  :
    Keeps c P (k0_t20_body i arg2 harg2 arg3 harg3 arg4 harg4 arg5 harg5 arg6 harg6 arg7 harg7 arg8 harg8 arg9 harg9 arg10 harg10 arg11 harg11 arg12 harg12 arg13 harg13 arg14 harg14 arg15 harg15 v0 v5 v27 v61 v62 v88 k acc) := by
  unfold k0_t20_body
  repeat first | with_reducible refine Keeps.bind ?_ fun _ => ?_ | with_reducible exact Keeps.ret _ | split | dsimp only
  exact keeps_k0_part8 H _ _ _ _
  repeat first | with_reducible refine Keeps.bind ?_ fun _ => ?_ | with_reducible exact Keeps.ret _ | split | dsimp only

theorem keeps_k0_t22_body (H : Has c P arg2 arg3 arg4 arg5 arg6 arg7 arg8 arg9 arg10 arg11 arg12 arg13 arg14 arg15) (v0 : BitVec 32) (v5 : IVec S256x256 32) (v27 : IVec S1x256 32) (v61 : IVec S1x256 32) (v62 : IVec S1x256 32) (k0_t21 : Fin k0_t21_loop.trips) (arg17 : IVec S1x256 32) (k) (acc)  :
    Keeps c P (k0_t22_body i arg2 harg2 arg3 harg3 arg4 harg4 arg5 harg5 arg6 harg6 arg7 harg7 arg8 harg8 arg9 harg9 arg10 harg10 arg11 harg11 arg12 harg12 arg13 harg13 arg14 harg14 arg15 harg15 v0 v5 v27 v61 v62 k0_t21 arg17 k acc) := by
  unfold k0_t22_body
  repeat first | with_reducible refine Keeps.bind ?_ fun _ => ?_ | with_reducible exact Keeps.ret _ | split | dsimp only
  exact keeps_k0_part9 H _ _ _ _ _ _
  repeat first | with_reducible refine Keeps.bind ?_ fun _ => ?_ | with_reducible exact Keeps.ret _ | split | dsimp only

theorem keeps_k0_t23_body (H : Has c P arg2 arg3 arg4 arg5 arg6 arg7 arg8 arg9 arg10 arg11 arg12 arg13 arg14 arg15) (v0 : BitVec 32) (v5 : IVec S256x256 32) (v27 : IVec S1x256 32) (v61 : IVec S1x256 32) (v62 : IVec S1x256 32) (k0_t21 : Fin k0_t21_loop.trips) (arg17 : IVec S1x256 32) (v232 : BitVec 32) (k) (acc)  :
    Keeps c P (k0_t23_body i arg2 harg2 arg3 harg3 arg4 harg4 arg5 harg5 arg6 harg6 arg7 harg7 arg8 harg8 arg9 harg9 arg10 harg10 arg11 harg11 arg12 harg12 arg13 harg13 arg14 harg14 arg15 harg15 v0 v5 v27 v61 v62 k0_t21 arg17 v232 k acc) := by
  unfold k0_t23_body
  repeat first | with_reducible refine Keeps.bind ?_ fun _ => ?_ | with_reducible exact Keeps.ret _ | split | dsimp only
  exact keeps_k0_part10 H _ _ _ _ _ _
  repeat first | with_reducible refine Keeps.bind ?_ fun _ => ?_ | with_reducible exact Keeps.ret _ | split | dsimp only

theorem keeps_k0_t21_body (H : Has c P arg2 arg3 arg4 arg5 arg6 arg7 arg8 arg9 arg10 arg11 arg12 arg13 arg14 arg15) (v0 : BitVec 32) (v5 : IVec S256x256 32) (v27 : IVec S1x256 32) (v61 : IVec S1x256 32) (v62 : IVec S1x256 32) (v80 : FVec F S8x256 .f32) (k) (acc)  :
    Keeps c P (k0_t21_body i arg2 harg2 arg3 harg3 arg4 harg4 arg5 harg5 arg6 harg6 arg7 harg7 arg8 harg8 arg9 harg9 arg10 harg10 arg11 harg11 arg12 harg12 arg13 harg13 arg14 harg14 arg15 harg15 v0 v5 v27 v61 v62 v80 k acc) := by
  unfold k0_t21_body
  repeat first | with_reducible refine Keeps.bind ?_ fun _ => ?_ | with_reducible exact Keeps.ret _ | split | dsimp only
  exact Keeps.loop _ _ _ fun _ _ => keeps_k0_t22_body H _ _ _ _ _ _ _ _ _
  repeat first | with_reducible refine Keeps.bind ?_ fun _ => ?_ | with_reducible exact Keeps.ret _ | split | dsimp only
  exact Keeps.loop _ _ _ fun _ _ => keeps_k0_t23_body H _ _ _ _ _ _ _ _ _ _
  repeat first | with_reducible refine Keeps.bind ?_ fun _ => ?_ | with_reducible exact Keeps.ret _ | split | dsimp only

theorem keeps_k0_t24_body (H : Has c P arg2 arg3 arg4 arg5 arg6 arg7 arg8 arg9 arg10 arg11 arg12 arg13 arg14 arg15) (v0 : BitVec 32) (v5 : IVec S256x256 32) (v27 : IVec S1x256 32) (v61 : IVec S1x256 32) (v62 : IVec S1x256 32) (v217 : IVec S1x256 32) (k) (acc)  :
    Keeps c P (k0_t24_body i arg2 harg2 arg3 harg3 arg4 harg4 arg5 harg5 arg6 harg6 arg7 harg7 arg8 harg8 arg9 harg9 arg10 harg10 arg11 harg11 arg12 harg12 arg13 harg13 arg14 harg14 arg15 harg15 v0 v5 v27 v61 v62 v217 k acc) := by
  unfold k0_t24_body
  repeat first | with_reducible refine Keeps.bind ?_ fun _ => ?_ | with_reducible exact Keeps.ret _ | split | dsimp only
  exact H.l9 _ _
  repeat first | with_reducible refine Keeps.bind ?_ fun _ => ?_ | with_reducible exact Keeps.ret _ | split | dsimp only
  exact H.l9 _ _
  repeat first | with_reducible refine Keeps.bind ?_ fun _ => ?_ | with_reducible exact Keeps.ret _ | split | dsimp only
  exact H.s9 _ _ _ _ _
  repeat first | with_reducible refine Keeps.bind ?_ fun _ => ?_ | with_reducible exact Keeps.ret _ | split | dsimp only

theorem keeps_k0_t25_body (H : Has c P arg2 arg3 arg4 arg5 arg6 arg7 arg8 arg9 arg10 arg11 arg12 arg13 arg14 arg15) (v0 : BitVec 32) (v5 : IVec S256x256 32) (v27 : IVec S1x256 32) (v61 : IVec S1x256 32) (v62 : IVec S1x256 32) (v217 : IVec S1x256 32) (k) (acc)  :
    Keeps c P (k0_t25_body i arg2 harg2 arg3 harg3 arg4 harg4 arg5 harg5 arg6 harg6 arg7 harg7 arg8 harg8 arg9 harg9 arg10 harg10 arg11 harg11 arg12 harg12 arg13 harg13 arg14 harg14 arg15 harg15 v0 v5 v27 v61 v62 v217 k acc) := by
  unfold k0_t25_body
  repeat first | with_reducible refine Keeps.bind ?_ fun _ => ?_ | with_reducible exact Keeps.ret _ | split | dsimp only
  exact H.l9 _ _
  repeat first | with_reducible refine Keeps.bind ?_ fun _ => ?_ | with_reducible exact Keeps.ret _ | split | dsimp only
  exact H.l9 _ _
  repeat first | with_reducible refine Keeps.bind ?_ fun _ => ?_ | with_reducible exact Keeps.ret _ | split | dsimp only
  exact H.s9 _ _ _ _ _
  repeat first | with_reducible refine Keeps.bind ?_ fun _ => ?_ | with_reducible exact Keeps.ret _ | split | dsimp only

theorem keeps_k0_part19 (H : Has c P arg2 arg3 arg4 arg5 arg6 arg7 arg8 arg9 arg10 arg11 arg12 arg13 arg14 arg15) (v0 : BitVec 32) (v5 : IVec S256x256 32) (v27 : IVec S1x256 32) (v61 : IVec S1x256 32) (v62 : IVec S1x256 32) :
    Keeps c P (k0_part19 i arg2 harg2 arg3 harg3 arg4 harg4 arg5 harg5 arg6 harg6 arg7 harg7 arg8 harg8 arg9 harg9 arg10 harg10 arg11 harg11 arg12 harg12 arg13 harg13 arg14 harg14 arg15 harg15 v0 v5 v27 v61 v62) := by
  rw [k0_part19_eq_skeleton]
  unfold k0_part19_skel
  repeat first | with_reducible refine Keeps.bind ?_ fun _ => ?_ | with_reducible exact Keeps.ret _ | split | dsimp only
  exact Keeps.loop _ _ _ fun _ _ => keeps_k0_t17_body H _ _ _ _ _ _ _
  repeat first | with_reducible refine Keeps.bind ?_ fun _ => ?_ | with_reducible exact Keeps.ret _ | split | dsimp only
  exact Keeps.loop _ _ _ fun _ _ => keeps_k0_t18_body H _ _ _ _ _ _ _ _
  repeat first | with_reducible refine Keeps.bind ?_ fun _ => ?_ | with_reducible exact Keeps.ret _ | split | dsimp only
  exact Keeps.loop _ _ _ fun _ _ => keeps_k0_t19_body H _ _ _ _ _ _ _
  repeat first | with_reducible refine Keeps.bind ?_ fun _ => ?_ | with_reducible exact Keeps.ret _ | split | dsimp only
  exact Keeps.loop _ _ _ fun _ _ => keeps_k0_t20_body H _ _ _ _ _ _ _ _
  repeat first | with_reducible refine Keeps.bind ?_ fun _ => ?_ | with_reducible exact Keeps.ret _ | split | dsimp only
  exact Keeps.loop _ _ _ fun _ _ => keeps_k0_t21_body H _ _ _ _ _ _ _ _
  repeat first | with_reducible refine Keeps.bind ?_ fun _ => ?_ | with_reducible exact Keeps.ret _ | split | dsimp only
  exact Keeps.loop _ _ _ fun _ _ => keeps_k0_t24_body H _ _ _ _ _ _ _ _
  repeat first | with_reducible refine Keeps.bind ?_ fun _ => ?_ | with_reducible exact Keeps.ret _ | split | dsimp only
  exact Keeps.loop _ _ _ fun _ _ => keeps_k0_t25_body H _ _ _ _ _ _ _ _
  repeat first | with_reducible refine Keeps.bind ?_ fun _ => ?_ | with_reducible exact Keeps.ret _ | split | dsimp only

theorem keeps_k0_t26_body (H : Has c P arg2 arg3 arg4 arg5 arg6 arg7 arg8 arg9 arg10 arg11 arg12 arg13 arg14 arg15) (arg1 : BitVec 32) (k0_h2 : k0_cond2 i = 1#1) (k) (acc)  :
    Keeps c P (k0_t26_body i arg2 harg2 arg3 harg3 arg4 harg4 arg5 harg5 arg6 harg6 arg7 harg7 arg8 harg8 arg9 harg9 arg10 harg10 arg11 harg11 arg12 harg12 arg13 harg13 arg14 harg14 arg15 harg15 arg1 k0_h2 k acc) := by
  unfold k0_t26_body
  repeat first | with_reducible refine Keeps.bind ?_ fun _ => ?_ | with_reducible exact Keeps.ret _ | split | dsimp only
  exact H.l6 _ _
  repeat first | with_reducible refine Keeps.bind ?_ fun _ => ?_ | with_reducible exact Keeps.ret _ | split | dsimp only

theorem keeps_k0_part20 (H : Has c P arg2 arg3 arg4 arg5 arg6 arg7 arg8 arg9 arg10 arg11 arg12 arg13 arg14 arg15) (arg1 : BitVec 32) :
    Keeps c P (k0_part20 i arg2 harg2 arg3 harg3 arg4 harg4 arg5 harg5 arg6 harg6 arg7 harg7 arg8 harg8 arg9 harg9 arg10 harg10 arg11 harg11 arg12 harg12 arg13 harg13 arg14 harg14 arg15 harg15 arg1) := by
  rw [k0_part20_eq_skeleton]
  unfold k0_part20_skel
  repeat first | with_reducible refine Keeps.bind ?_ fun _ => ?_ | with_reducible exact Keeps.ret _ | split | dsimp only
  exact Keeps.loop _ _ _ fun _ _ => keeps_k0_t26_body H _ _ _ _
  repeat first | with_reducible refine Keeps.bind ?_ fun _ => ?_ | with_reducible exact Keeps.ret _ | split | dsimp only
  exact H.l12 _ _
  repeat first | with_reducible refine Keeps.bind ?_ fun _ => ?_ | with_reducible exact Keeps.ret _ | split | dsimp only
  exact H.s12 _ _ _ _ _
  repeat first | with_reducible refine Keeps.bind ?_ fun _ => ?_ | with_reducible exact Keeps.ret _ | split | dsimp only
  exact H.l5 _ _
  repeat first | with_reducible refine Keeps.bind ?_ fun _ => ?_ | with_reducible exact Keeps.ret _ | split | dsimp only
  exact H.l12 _ _
  repeat first | with_reducible refine Keeps.bind ?_ fun _ => ?_ | with_reducible exact Keeps.ret _ | split | dsimp only
  exact H.l5 _ _
  repeat first | with_reducible refine Keeps.bind ?_ fun _ => ?_ | with_reducible exact Keeps.ret _ | split | dsimp only
  exact H.l13 _ _
  repeat first | with_reducible refine Keeps.bind ?_ fun _ => ?_ | with_reducible exact Keeps.ret _ | split | dsimp only
  exact H.s13 _ _ _ _ _
  repeat first | with_reducible refine Keeps.bind ?_ fun _ => ?_ | with_reducible exact Keeps.ret _ | split | dsimp only
  exact H.l13 _ _
  repeat first | with_reducible refine Keeps.bind ?_ fun _ => ?_ | with_reducible exact Keeps.ret _ | split | dsimp only
  exact H.s13 _ _ _ _ _
  repeat first | with_reducible refine Keeps.bind ?_ fun _ => ?_ | with_reducible exact Keeps.ret _ | split | dsimp only
  exact H.l5 _ _
  repeat first | with_reducible refine Keeps.bind ?_ fun _ => ?_ | with_reducible exact Keeps.ret _ | split | dsimp only
  exact H.l12 _ _
  repeat first | with_reducible refine Keeps.bind ?_ fun _ => ?_ | with_reducible exact Keeps.ret _ | split | dsimp only
  exact H.l5 _ _
  repeat first | with_reducible refine Keeps.bind ?_ fun _ => ?_ | with_reducible exact Keeps.ret _ | split | dsimp only
  exact H.l13 _ _
  repeat first | with_reducible refine Keeps.bind ?_ fun _ => ?_ | with_reducible exact Keeps.ret _ | split | dsimp only
  exact H.s13 _ _ _ _ _
  repeat first | with_reducible refine Keeps.bind ?_ fun _ => ?_ | with_reducible exact Keeps.ret _ | split | dsimp only
  exact H.l13 _ _
  repeat first | with_reducible refine Keeps.bind ?_ fun _ => ?_ | with_reducible exact Keeps.ret _ | split | dsimp only
  exact H.s13 _ _ _ _ _
  repeat first | with_reducible refine Keeps.bind ?_ fun _ => ?_ | with_reducible exact Keeps.ret _ | split | dsimp only

theorem keeps_k0_t27_body (H : Has c P arg2 arg3 arg4 arg5 arg6 arg7 arg8 arg9 arg10 arg11 arg12 arg13 arg14 arg15) (v0 : BitVec 32) (v4 : IVec S1x256 32) (v5 : IVec S256x256 32) (v72 : FVec F S1x256 .f32) (v136 : FVec F S80x2048 .f32) (k) (acc)  :
    Keeps c P (k0_t27_body i arg2 harg2 arg3 harg3 arg4 harg4 arg5 harg5 arg6 harg6 arg7 harg7 arg8 harg8 arg9 harg9 arg10 harg10 arg11 harg11 arg12 harg12 arg13 harg13 arg14 harg14 arg15 harg15 v0 v4 v5 v72 v136 k acc) := by
  unfold k0_t27_body
  repeat first | with_reducible refine Keeps.bind ?_ fun _ => ?_ | with_reducible exact Keeps.ret _ | split | dsimp only
  exact keeps_k0_part11 H _ _ _ _ _ _
  repeat first | with_reducible refine Keeps.bind ?_ fun _ => ?_ | with_reducible exact Keeps.ret _ | split | dsimp only
  exact H.l15 _ _
  repeat first | with_reducible refine Keeps.bind ?_ fun _ => ?_ | with_reducible exact Keeps.ret _ | split | dsimp only
  exact H.l7 _ _
  repeat first | with_reducible refine Keeps.bind ?_ fun _ => ?_ | with_reducible exact Keeps.ret _ | split | dsimp only
  exact H.l15 _ _
  repeat first | with_reducible refine Keeps.bind ?_ fun _ => ?_ | with_reducible exact Keeps.ret _ | split | dsimp only
  exact H.s15 _ _ _ _ _
  repeat first | with_reducible refine Keeps.bind ?_ fun _ => ?_ | with_reducible exact Keeps.ret _ | split | dsimp only

theorem keeps_k0_t28_body (H : Has c P arg2 arg3 arg4 arg5 arg6 arg7 arg8 arg9 arg10 arg11 arg12 arg13 arg14 arg15) (v0 : BitVec 32) (v4 : IVec S1x256 32) (v5 : IVec S256x256 32) (v72 : FVec F S1x256 .f32) (v136 : FVec F S80x2048 .f32) (v144 : BitVec 32) (k) (acc)  :
    Keeps c P (k0_t28_body i arg2 harg2 arg3 harg3 arg4 harg4 arg5 harg5 arg6 harg6 arg7 harg7 arg8 harg8 arg9 harg9 arg10 harg10 arg11 harg11 arg12 harg12 arg13 harg13 arg14 harg14 arg15 harg15 v0 v4 v5 v72 v136 v144 k acc) := by
  unfold k0_t28_body
  repeat first | with_reducible refine Keeps.bind ?_ fun _ => ?_ | with_reducible exact Keeps.ret _ | split | dsimp only
  exact keeps_k0_part12 H _ _ _ _ _ _
  repeat first | with_reducible refine Keeps.bind ?_ fun _ => ?_ | with_reducible exact Keeps.ret _ | split | dsimp only
  exact H.l15 _ _
  repeat first | with_reducible refine Keeps.bind ?_ fun _ => ?_ | with_reducible exact Keeps.ret _ | split | dsimp only
  exact H.l7 _ _
  repeat first | with_reducible refine Keeps.bind ?_ fun _ => ?_ | with_reducible exact Keeps.ret _ | split | dsimp only
  exact H.l15 _ _
  repeat first | with_reducible refine Keeps.bind ?_ fun _ => ?_ | with_reducible exact Keeps.ret _ | split | dsimp only
  exact H.s15 _ _ _ _ _
  repeat first | with_reducible refine Keeps.bind ?_ fun _ => ?_ | with_reducible exact Keeps.ret _ | split | dsimp only

theorem keeps_k0_t29_body (H : Has c P arg2 arg3 arg4 arg5 arg6 arg7 arg8 arg9 arg10 arg11 arg12 arg13 arg14 arg15) (v0 : BitVec 32) (v4 : IVec S1x256 32) (v5 : IVec S256x256 32) (v72 : FVec F S1x256 .f32) (v136 : FVec F S80x2048 .f32) (k) (acc)  :
    Keeps c P (k0_t29_body i arg2 harg2 arg3 harg3 arg4 harg4 arg5 harg5 arg6 harg6 arg7 harg7 arg8 harg8 arg9 harg9 arg10 harg10 arg11 harg11 arg12 harg12 arg13 harg13 arg14 harg14 arg15 harg15 v0 v4 v5 v72 v136 k acc) := by
  unfold k0_t29_body
  repeat first | with_reducible refine Keeps.bind ?_ fun _ => ?_ | with_reducible exact Keeps.ret _ | split | dsimp only
  exact keeps_k0_part13 H _ _ _ _ _ _
  repeat first | with_reducible refine Keeps.bind ?_ fun _ => ?_ | with_reducible exact Keeps.ret _ | split | dsimp only
  exact keeps_k0_part14 H _ _ _ _ _ _ _ _ _
  repeat first | with_reducible refine Keeps.bind ?_ fun _ => ?_ | with_reducible exact Keeps.ret _ | split | dsimp only
  exact H.l15 _ _
  repeat first | with_reducible refine Keeps.bind ?_ fun _ => ?_ | with_reducible exact Keeps.ret _ | split | dsimp only
  exact H.l7 _ _
  repeat first | with_reducible refine Keeps.bind ?_ fun _ => ?_ | with_reducible exact Keeps.ret _ | split | dsimp only
  exact H.l15 _ _
  repeat first | with_reducible refine Keeps.bind ?_ fun _ => ?_ | with_reducible exact Keeps.ret _ | split | dsimp only
  exact H.s15 _ _ _ _ _
  repeat first | with_reducible refine Keeps.bind ?_ fun _ => ?_ | with_reducible exact Keeps.ret _ | split | dsimp only
  exact H.l14 _ _
  repeat first | with_reducible refine Keeps.bind ?_ fun _ => ?_ | with_reducible exact Keeps.ret _ | split | dsimp only
  exact H.s14 _ _ _ _ _
  repeat first | with_reducible refine Keeps.bind ?_ fun _ => ?_ | with_reducible exact Keeps.ret _ | split | dsimp only

theorem keeps_k0_t30_body (H : Has c P arg2 arg3 arg4 arg5 arg6 arg7 arg8 arg9 arg10 arg11 arg12 arg13 arg14 arg15) (v0 : BitVec 32) (v4 : IVec S1x256 32) (v5 : IVec S256x256 32) (v72 : FVec F S1x256 .f32) (v136 : FVec F S80x2048 .f32) (v231 : BitVec 32) (k) (acc)  :
    Keeps c P (k0_t30_body i arg2 harg2 arg3 harg3 arg4 harg4 arg5 harg5 arg6 harg6 arg7 harg7 arg8 harg8 arg9 harg9 arg10 harg10 arg11 harg11 arg12 harg12 arg13 harg13 arg14 harg14 arg15 harg15 v0 v4 v5 v72 v136 v231 k acc) := by
  unfold k0_t30_body
  repeat first | with_reducible refine Keeps.bind ?_ fun _ => ?_ | with_reducible exact Keeps.ret _ | split | dsimp only
  exact keeps_k0_part15 H _ _ _ _ _ _
  repeat first | with_reducible refine Keeps.bind ?_ fun _ => ?_ | with_reducible exact Keeps.ret _ | split | dsimp only
  exact keeps_k0_part16 H _ _ _ _ _ _ _ _ _
  repeat first | with_reducible refine Keeps.bind ?_ fun _ => ?_ | with_reducible exact Keeps.ret _ | split | dsimp only
  exact H.l15 _ _
  repeat first | with_reducible refine Keeps.bind ?_ fun _ => ?_ | with_reducible exact Keeps.ret _ | split | dsimp only
  exact H.l7 _ _
  repeat first | with_reducible refine Keeps.bind ?_ fun _ => ?_ | with_reducible exact Keeps.ret _ | split | dsimp only
  exact H.l15 _ _
  repeat first | with_reducible refine Keeps.bind ?_ fun _ => ?_ | with_reducible exact Keeps.ret _ | split | dsimp only
  exact H.s15 _ _ _ _ _
  repeat first | with_reducible refine Keeps.bind ?_ fun _ => ?_ | with_reducible exact Keeps.ret _ | split | dsimp only
  exact H.l14 _ _
  repeat first | with_reducible refine Keeps.bind ?_ fun _ => ?_ | with_reducible exact Keeps.ret _ | split | dsimp only
  exact H.s14 _ _ _ _ _
  repeat first | with_reducible refine Keeps.bind ?_ fun _ => ?_ | with_reducible exact Keeps.ret _ | split | dsimp only

theorem keeps_k0_part21 (H : Has c P arg2 arg3 arg4 arg5 arg6 arg7 arg8 arg9 arg10 arg11 arg12 arg13 arg14 arg15) (v0 : BitVec 32) (v4 : IVec S1x256 32) (v5 : IVec S256x256 32) (v72 : FVec F S1x256 .f32) (v136 : FVec F S80x2048 .f32) :
    Keeps c P (k0_part21 i arg2 harg2 arg3 harg3 arg4 harg4 arg5 harg5 arg6 harg6 arg7 harg7 arg8 harg8 arg9 harg9 arg10 harg10 arg11 harg11 arg12 harg12 arg13 harg13 arg14 harg14 arg15 harg15 v0 v4 v5 v72 v136) := by
  rw [k0_part21_eq_skeleton]
  unfold k0_part21_skel
  repeat first | with_reducible refine Keeps.bind ?_ fun _ => ?_ | with_reducible exact Keeps.ret _ | split | dsimp only
  exact H.l15 _ _
  repeat first | with_reducible refine Keeps.bind ?_ fun _ => ?_ | with_reducible exact Keeps.ret _ | split | dsimp only
  exact H.s15 _ _ _ _ _
  repeat first | with_reducible refine Keeps.bind ?_ fun _ => ?_ | with_reducible exact Keeps.ret _ | split | dsimp only
  exact Keeps.loop _ _ _ fun _ _ => keeps_k0_t27_body H _ _ _ _ _ _ _
  repeat first | with_reducible refine Keeps.bind ?_ fun _ => ?_ | with_reducible exact Keeps.ret _ | split | dsimp only
  exact Keeps.loop _ _ _ fun _ _ => keeps_k0_t28_body H _ _ _ _ _ _ _ _
  repeat first | with_reducible refine Keeps.bind ?_ fun _ => ?_ | with_reducible exact Keeps.ret _ | split | dsimp only
  exact H.l15 _ _
  repeat first | with_reducible refine Keeps.bind ?_ fun _ => ?_ | with_reducible exact Keeps.ret _ | split | dsimp only
  exact H.l13 _ _
  repeat first | with_reducible refine Keeps.bind ?_ fun _ => ?_ | with_reducible exact Keeps.ret _ | split | dsimp only
  exact H.s13 _ _ _ _ _
  repeat first | with_reducible refine Keeps.bind ?_ fun _ => ?_ | with_reducible exact Keeps.ret _ | split | dsimp only
  exact H.l14 _ _
  repeat first | with_reducible refine Keeps.bind ?_ fun _ => ?_ | with_reducible exact Keeps.ret _ | split | dsimp only
  exact H.s14 _ _ _ _ _
  repeat first | with_reducible refine Keeps.bind ?_ fun _ => ?_ | with_reducible exact Keeps.ret _ | split | dsimp only
  exact H.l15 _ _
  repeat first | with_reducible refine Keeps.bind ?_ fun _ => ?_ | with_reducible exact Keeps.ret _ | split | dsimp only
  exact H.s15 _ _ _ _ _
  repeat first | with_reducible refine Keeps.bind ?_ fun _ => ?_ | with_reducible exact Keeps.ret _ | split | dsimp only
  exact Keeps.loop _ _ _ fun _ _ => keeps_k0_t29_body H _ _ _ _ _ _ _
  repeat first | with_reducible refine Keeps.bind ?_ fun _ => ?_ | with_reducible exact Keeps.ret _ | split | dsimp only
  exact Keeps.loop _ _ _ fun _ _ => keeps_k0_t30_body H _ _ _ _ _ _ _ _
  repeat first | with_reducible refine Keeps.bind ?_ fun _ => ?_ | with_reducible exact Keeps.ret _ | split | dsimp only
  exact H.l15 _ _
  repeat first | with_reducible refine Keeps.bind ?_ fun _ => ?_ | with_reducible exact Keeps.ret _ | split | dsimp only
  exact H.l15 _ _
  repeat first | with_reducible refine Keeps.bind ?_ fun _ => ?_ | with_reducible exact Keeps.ret _ | split | dsimp only
  exact H.l8 _ _
  repeat first | with_reducible refine Keeps.bind ?_ fun _ => ?_ | with_reducible exact Keeps.ret _ | split | dsimp only
  exact H.s8 _ _ _ _ _
  repeat first | with_reducible refine Keeps.bind ?_ fun _ => ?_ | with_reducible exact Keeps.ret _ | split | dsimp only
  exact H.l15 _ _
  repeat first | with_reducible refine Keeps.bind ?_ fun _ => ?_ | with_reducible exact Keeps.ret _ | split | dsimp only
  exact H.l15 _ _
  repeat first | with_reducible refine Keeps.bind ?_ fun _ => ?_ | with_reducible exact Keeps.ret _ | split | dsimp only
  exact H.l15 _ _
  repeat first | with_reducible refine Keeps.bind ?_ fun _ => ?_ | with_reducible exact Keeps.ret _ | split | dsimp only
  exact H.l8 _ _
  repeat first | with_reducible refine Keeps.bind ?_ fun _ => ?_ | with_reducible exact Keeps.ret _ | split | dsimp only
  exact H.s8 _ _ _ _ _
  repeat first | with_reducible refine Keeps.bind ?_ fun _ => ?_ | with_reducible exact Keeps.ret _ | split | dsimp only
  exact H.l15 _ _
  repeat first | with_reducible refine Keeps.bind ?_ fun _ => ?_ | with_reducible exact Keeps.ret _ | split | dsimp only

theorem keeps_k0_part22 (H : Has c P arg2 arg3 arg4 arg5 arg6 arg7 arg8 arg9 arg10 arg11 arg12 arg13 arg14 arg15) (v166 : Vec F S64x256 .f32) :
    Keeps c P (k0_part22 i arg2 harg2 arg3 harg3 arg4 harg4 arg5 harg5 arg6 harg6 arg7 harg7 arg8 harg8 arg9 harg9 arg10 harg10 arg11 harg11 arg12 harg12 arg13 harg13 arg14 harg14 arg15 harg15 v166) := by
  rw [k0_part22_eq_skeleton]
  unfold k0_part22_skel
  repeat first | with_reducible refine Keeps.bind ?_ fun _ => ?_ | with_reducible exact Keeps.ret _ | split | dsimp only
  exact H.l15 _ _
  repeat first | with_reducible refine Keeps.bind ?_ fun _ => ?_ | with_reducible exact Keeps.ret _ | split | dsimp only
  exact H.l8 _ _
  repeat first | with_reducible refine Keeps.bind ?_ fun _ => ?_ | with_reducible exact Keeps.ret _ | split | dsimp only
  exact H.s8 _ _ _ _ _
  repeat first | with_reducible refine Keeps.bind ?_ fun _ => ?_ | with_reducible exact Keeps.ret _ | split | dsimp only
  exact H.l15 _ _
  repeat first | with_reducible refine Keeps.bind ?_ fun _ => ?_ | with_reducible exact Keeps.ret _ | split | dsimp only
  exact H.l15 _ _
  repeat first | with_reducible refine Keeps.bind ?_ fun _ => ?_ | with_reducible exact Keeps.ret _ | split | dsimp only
  exact H.l8 _ _
  repeat first | with_reducible refine Keeps.bind ?_ fun _ => ?_ | with_reducible exact Keeps.ret _ | split | dsimp only
  exact H.s8 _ _ _ _ _
  repeat first | with_reducible refine Keeps.bind ?_ fun _ => ?_ | with_reducible exact Keeps.ret _ | split | dsimp only
  exact H.l15 _ _
  repeat first | with_reducible refine Keeps.bind ?_ fun _ => ?_ | with_reducible exact Keeps.ret _ | split | dsimp only
  exact H.l15 _ _
  repeat first | with_reducible refine Keeps.bind ?_ fun _ => ?_ | with_reducible exact Keeps.ret _ | split | dsimp only
  exact H.l8 _ _
  repeat first | with_reducible refine Keeps.bind ?_ fun _ => ?_ | with_reducible exact Keeps.ret _ | split | dsimp only
  exact H.s8 _ _ _ _ _
  repeat first | with_reducible refine Keeps.bind ?_ fun _ => ?_ | with_reducible exact Keeps.ret _ | split | dsimp only
  exact H.l15 _ _
  repeat first | with_reducible refine Keeps.bind ?_ fun _ => ?_ | with_reducible exact Keeps.ret _ | split | dsimp only
  exact H.l15 _ _
  repeat first | with_reducible refine Keeps.bind ?_ fun _ => ?_ | with_reducible exact Keeps.ret _ | split | dsimp only
  exact H.l8 _ _
  repeat first | with_reducible refine Keeps.bind ?_ fun _ => ?_ | with_reducible exact Keeps.ret _ | split | dsimp only
  exact H.s8 _ _ _ _ _
  repeat first | with_reducible refine Keeps.bind ?_ fun _ => ?_ | with_reducible exact Keeps.ret _ | split | dsimp only
  exact H.l15 _ _
  repeat first | with_reducible refine Keeps.bind ?_ fun _ => ?_ | with_reducible exact Keeps.ret _ | split | dsimp only

theorem keeps_cc0_dsa (H : Has c P arg2 arg3 arg4 arg5 arg6 arg7 arg8 arg9 arg10 arg11 arg12 arg13 arg14 arg15) :
    Keeps c P (cc0_dsa i arg2 harg2 arg3 harg3 arg4 harg4 arg5 harg5 arg6 harg6 arg7 harg7 arg8 harg8 arg9 harg9 arg10 harg10 arg11 harg11 arg12 harg12 arg13 harg13 arg14 harg14 arg15 harg15) := by
  rw [cc0_dsa_eq_skeleton]
  unfold cc0_dsa_skel
  repeat first | with_reducible refine Keeps.bind ?_ fun _ => ?_ | with_reducible exact Keeps.ret _ | split | dsimp only
  exact keeps_k0_part17 H
  repeat first | with_reducible refine Keeps.bind ?_ fun _ => ?_ | with_reducible exact Keeps.ret _ | split | dsimp only
  exact keeps_k0_part18 H _ _ _ _ _ _
  repeat first | with_reducible refine Keeps.bind ?_ fun _ => ?_ | with_reducible exact Keeps.ret _ | split | dsimp only
  exact keeps_k0_part19 H _ _ _ _ _
  repeat first | with_reducible refine Keeps.bind ?_ fun _ => ?_ | with_reducible exact Keeps.ret _ | split | dsimp only
  exact keeps_k0_part20 H _
  repeat first | with_reducible refine Keeps.bind ?_ fun _ => ?_ | with_reducible exact Keeps.ret _ | split | dsimp only
  exact keeps_k0_part21 H _ _ _ _ _
  repeat first | with_reducible refine Keeps.bind ?_ fun _ => ?_ | with_reducible exact Keeps.ret _ | split | dsimp only
  exact keeps_k0_part22 H _
  repeat first | with_reducible refine Keeps.bind ?_ fun _ => ?_ | with_reducible exact Keeps.ret _ | split | dsimp only
  exact H.l15 _ _
  repeat first | with_reducible refine Keeps.bind ?_ fun _ => ?_ | with_reducible exact Keeps.ret _ | split | dsimp only
  exact H.l8 _ _
  repeat first | with_reducible refine Keeps.bind ?_ fun _ => ?_ | with_reducible exact Keeps.ret _ | split | dsimp only
  exact H.s8 _ _ _ _ _
  repeat first | with_reducible refine Keeps.bind ?_ fun _ => ?_ | with_reducible exact Keeps.ret _ | split | dsimp only
  exact H.l15 _ _
  repeat first | with_reducible refine Keeps.bind ?_ fun _ => ?_ | with_reducible exact Keeps.ret _ | split | dsimp only
  exact H.l15 _ _
  repeat first | with_reducible refine Keeps.bind ?_ fun _ => ?_ | with_reducible exact Keeps.ret _ | split | dsimp only
  exact H.l8 _ _
  repeat first | with_reducible refine Keeps.bind ?_ fun _ => ?_ | with_reducible exact Keeps.ret _ | split | dsimp only
  exact H.s8 _ _ _ _ _
  repeat first | with_reducible refine Keeps.bind ?_ fun _ => ?_ | with_reducible exact Keeps.ret _ | split | dsimp only
  exact H.l15 _ _
  repeat first | with_reducible refine Keeps.bind ?_ fun _ => ?_ | with_reducible exact Keeps.ret _ | split | dsimp only
  exact H.l15 _ _
  repeat first | with_reducible refine Keeps.bind ?_ fun _ => ?_ | with_reducible exact Keeps.ret _ | split | dsimp only
  exact H.l8 _ _
  repeat first | with_reducible refine Keeps.bind ?_ fun _ => ?_ | with_reducible exact Keeps.ret _ | split | dsimp only
  exact H.s8 _ _ _ _ _
  repeat first | with_reducible refine Keeps.bind ?_ fun _ => ?_ | with_reducible exact Keeps.ret _ | split | dsimp only

end Cert.Attn

end
-- ==== Proof.Attn.Run.lean ====
/-
  The sparse attention kernel's frame: at every grid point the body keeps its buffers, the six inputs at their blocks and the
  output and the scratch ones at some contents (`Has`, `keeps_cc0_dsa`); nothing is said of what it leaves in the output, which
  is forgotten. The launch then gives that every argument array ends as it was and every counter at zero.
-/
module

public import proofs.«01_k».proof.Proof.Attn.Trips
public import proofs.«01_k».proof.Proof.Gen.Attention.Frame
public import Idealize.ShloMosaic.Lib.Pipeline.Frame
public import Idealize.ShloMosaic.Lib.Claim

@[expose] public section

set_option maxRecDepth 65536

noncomputable section

namespace Cert.Attn

open Cert.Attention Cert.Attention.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

open Idealize.ShloMosaic.Pipeline (Dat BodyObligation)

/-- The buffers: the inputs at `x2` … `x7`, the output and the scratch ones at some contents. -/
def Own (c : Dev nD) (arg2 : Memref sig .tc .vmem S1x1x64x2048 .bf16)
    (arg3 : Memref sig .tc .vmem S1x8x256 .f32)
    (arg4 : Memref sig .tc .vmem S1x8192x64 .bf16)
    (arg5 : Memref sig .tc .vmem S1x1x64x2048 .bf16)
    (arg6 : Memref sig .tc .vmem S1x8192x128 .bf16)
    (arg7 : Memref sig .tc .vmem S1x32x80x256 .bf16)
    (arg8 : Memref sig .tc .vmem S1x512x256 .f32)
    (arg9 : Memref sig .tc .vmem S8192x256 .f32)
    (arg10 : Memref sig .tc .vmem S8192x256 .i16)
    (arg11 : Memref sig .tc .vmem S8192x256 .i16)
    (arg12 : Memref sig .tc .vmem S1x128 .f32)
    (arg13 : Memref sig .tc .vmem S128x2048 .bf16)
    (arg14 : Memref sig .tc .vmem S1x2048 .f32)
    (arg15 : Memref sig .tc .vmem S80x2048 .f32)
    (x2 : Vec F S1x1x64x2048 .bf16)
    (x3 : Vec F S1x8x256 .f32)
    (x4 : Vec F S1x8192x64 .bf16)
    (x5 : Vec F S1x1x64x2048 .bf16)
    (x6 : Vec F S1x8192x128 .bf16)
    (x7 : Vec F S1x32x80x256 .bf16) : sProp 𝕄 :=
  iprop(owns (c : Thread nD τ) arg2 fullShare x2
    ∗ owns (c : Thread nD τ) arg3 fullShare x3
    ∗ owns (c : Thread nD τ) arg4 fullShare x4
    ∗ owns (c : Thread nD τ) arg5 fullShare x5
    ∗ owns (c : Thread nD τ) arg6 fullShare x6
    ∗ owns (c : Thread nD τ) arg7 fullShare x7
    ∗ (∃ x, owns (c : Thread nD τ) arg8 fullShare x)
    ∗ (∃ x, owns (c : Thread nD τ) arg9 fullShare x)
    ∗ (∃ x, owns (c : Thread nD τ) arg10 fullShare x)
    ∗ (∃ x, owns (c : Thread nD τ) arg11 fullShare x)
    ∗ (∃ x, owns (c : Thread nD τ) arg12 fullShare x)
    ∗ (∃ x, owns (c : Thread nD τ) arg13 fullShare x)
    ∗ (∃ x, owns (c : Thread nD τ) arg14 fullShare x)
    ∗ (∃ x, owns (c : Thread nD τ) arg15 fullShare x))

theorem has_own (c : Dev nD) {arg2 : Memref sig .tc .vmem S1x1x64x2048 .bf16}
    {arg3 : Memref sig .tc .vmem S1x8x256 .f32}
    {arg4 : Memref sig .tc .vmem S1x8192x64 .bf16}
    {arg5 : Memref sig .tc .vmem S1x1x64x2048 .bf16}
    {arg6 : Memref sig .tc .vmem S1x8192x128 .bf16}
    {arg7 : Memref sig .tc .vmem S1x32x80x256 .bf16}
    {arg8 : Memref sig .tc .vmem S1x512x256 .f32}
    {arg9 : Memref sig .tc .vmem S8192x256 .f32}
    {arg10 : Memref sig .tc .vmem S8192x256 .i16}
    {arg11 : Memref sig .tc .vmem S8192x256 .i16}
    {arg12 : Memref sig .tc .vmem S1x128 .f32}
    {arg13 : Memref sig .tc .vmem S128x2048 .bf16}
    {arg14 : Memref sig .tc .vmem S1x2048 .f32}
    {arg15 : Memref sig .tc .vmem S80x2048 .f32}
    (x2 : Vec F S1x1x64x2048 .bf16)
    (x3 : Vec F S1x8x256 .f32)
    (x4 : Vec F S1x8192x64 .bf16)
    (x5 : Vec F S1x1x64x2048 .bf16)
    (x6 : Vec F S1x8192x128 .bf16)
    (x7 : Vec F S1x32x80x256 .bf16) :
    Has c (Own c arg2 arg3 arg4 arg5 arg6 arg7 arg8 arg9 arg10 arg11 arg12 arg13 arg14 arg15 x2 x3 x4 x5 x6 x7) arg2 arg3 arg4 arg5 arg6 arg7 arg8 arg9 arg10 arg11 arg12 arg13 arg14 arg15 where
  l2 := (loads_owns x2).left
  l3 := ((loads_owns x3).left).right
  l4 := (((loads_owns x4).left).right).right
  l5 := ((((loads_owns x5).left).right).right).right
  l6 := (((((loads_owns x6).left).right).right).right).right
  l7 := ((((((loads_owns x7).left).right).right).right).right).right
  l8 := (((((((loads_some).left).right).right).right).right).right).right
  l9 := ((((((((loads_some).left).right).right).right).right).right).right).right
  l10 := (((((((((loads_some).left).right).right).right).right).right).right).right).right
  l11 := ((((((((((loads_some).left).right).right).right).right).right).right).right).right).right
  l12 := (((((((((((loads_some).left).right).right).right).right).right).right).right).right).right).right
  l13 := ((((((((((((loads_some).left).right).right).right).right).right).right).right).right).right).right).right
  l14 := (((((((((((((loads_some).left).right).right).right).right).right).right).right).right).right).right).right).right
  l15 := (((((((((((((loads_some).right).right).right).right).right).right).right).right).right).right).right).right).right
  s8 := (((((((stores_some).left).right).right).right).right).right).right
  s9 := ((((((((stores_some).left).right).right).right).right).right).right).right
  s10 := (((((((((stores_some).left).right).right).right).right).right).right).right).right
  s11 := ((((((((((stores_some).left).right).right).right).right).right).right).right).right).right
  s12 := (((((((((((stores_some).left).right).right).right).right).right).right).right).right).right).right
  s13 := ((((((((((((stores_some).left).right).right).right).right).right).right).right).right).right).right).right
  s14 := (((((((((((((stores_some).left).right).right).right).right).right).right).right).right).right).right).right).right
  s15 := (((((((((((((stores_some).right).right).right).right).right).right).right).right).right).right).right).right).right

variable (m : (ℓ : Loc nD τ sig) → Buf (Elt F) ℓ) (ρ : Dev nD → PrngReg)

/-- The one output window, forgotten. -/
def forgets0 : Fin 7 → Bool := fun w => w.val == 6

/-- The proof data on core `c`: the arrays as the region finds them; the inputs' blocks left in place; what the body leaves in
    the output unnamed; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Pipeline.Dat.unnamed (cfg := cfg0) 6 t
  Φ _ := Pipeline.ΦA spec0 c
  q _ := fullShare
  owed _ := 0

theorem A_eq (c : Dev nD) (w : Fin cfg0.W) : (dats m 0 c).A w = V m c (Pipeline.arrRef spec0 w) := by
  dsimp only [dats]

theorem afterA_0 (c : Dev nD) (t : Fin cfg0.N) : (dats m 0 c).after 0 t = iblk m c 0 t := by dsimp only [dats]
theorem afterA_1 (c : Dev nD) (t : Fin cfg0.N) : (dats m 0 c).after 1 t = iblk m c 1 t := by dsimp only [dats]
theorem afterA_2 (c : Dev nD) (t : Fin cfg0.N) : (dats m 0 c).after 2 t = iblk m c 2 t := by dsimp only [dats]
theorem afterA_3 (c : Dev nD) (t : Fin cfg0.N) : (dats m 0 c).after 3 t = iblk m c 3 t := by dsimp only [dats]
theorem afterA_4 (c : Dev nD) (t : Fin cfg0.N) : (dats m 0 c).after 4 t = iblk m c 4 t := by dsimp only [dats]
theorem afterA_5 (c : Dev nD) (t : Fin cfg0.N) : (dats m 0 c).after 5 t = iblk m c 5 t := by dsimp only [dats]

theorem beforeA_0 (c : Dev nD) (t : Fin cfg0.N) (d) : (dats m 0 c).before 0 t d = iblk m c 0 t :=
  before0_0_of m (dats m 0 c) (A_eq m c 0) (afterA_0 m c) t d
theorem beforeA_1 (c : Dev nD) (t : Fin cfg0.N) (d) : (dats m 0 c).before 1 t d = iblk m c 1 t :=
  before0_1_of m (dats m 0 c) (A_eq m c 1) (afterA_1 m c) t d
theorem beforeA_2 (c : Dev nD) (t : Fin cfg0.N) (d) : (dats m 0 c).before 2 t d = iblk m c 2 t :=
  before0_2_of m (dats m 0 c) (A_eq m c 2) (afterA_2 m c) t d
theorem beforeA_3 (c : Dev nD) (t : Fin cfg0.N) (d) : (dats m 0 c).before 3 t d = iblk m c 3 t :=
  before0_3_of m (dats m 0 c) (A_eq m c 3) (afterA_3 m c) t d
theorem beforeA_4 (c : Dev nD) (t : Fin cfg0.N) (d) : (dats m 0 c).before 4 t d = iblk m c 4 t :=
  before0_4_of m (dats m 0 c) (A_eq m c 4) (afterA_4 m c) t d
theorem beforeA_5 (c : Dev nD) (t : Fin cfg0.N) (d) : (dats m 0 c).before 5 t d = iblk m c 5 t :=
  before0_5_of m (dats m 0 c) (A_eq m c 5) (afterA_5 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare d))

/-- What the body keeps at point `t`: its buffers, and beside them the generator register and the core's `owes`, which it does not
    read. -/
def Mid (c : Dev nD) (t : Fin cfg0.N) : sProp 𝕄 :=
  iprop(Own c (st0_0 t) (st0_1 t) (st0_2 t) (st0_3 t) (st0_4 t) (st0_5 t) (st0_6 t) (Memref.whole cc0_scratch0) (Memref.whole cc0_scratch1) (Memref.whole cc0_scratch2) (Memref.whole cc0_scratch3) (Memref.whole cc0_scratch4) (Memref.whole cc0_scratch5) (Memref.whole cc0_scratch6) (iblk m c 0 t) (iblk m c 1 t) (iblk m c 2 t) (iblk m c 3 t) (iblk m c 4 t) (iblk m c 5 t)
    ∗ (∃ r, prngReg c r) ∗ (dats m 0 c).owesAt () t.castSucc)

theorem mid_of_pre (c : Dev nD) (t : Fin cfg0.N) : bodyPre m c t ⊢ Mid m c t := by
  unfold bodyPre Mid Own
  simp only [beforeA_0, beforeA_1, beforeA_2, beforeA_3, beforeA_4, beforeA_5]
  rw [show (dats m 0 c).Φ t.castSucc = Pipeline.ΦA spec0 c from rfl]
  unfold Pipeline.ΦA
  rw [scopedRest0_eq]
  simp only [owns_whole]
  iintro ⟨⟨⟨S0, S1, S2, S3, S4, S5, S6⟩, HR⟩, HO, ⟨%d0, H0⟩, ⟨%d1, H1⟩, ⟨%d2, H2⟩, ⟨%d3, H3⟩, ⟨%d4, H4⟩, ⟨%d5, H5⟩, H6⟩
  isplitr [HR HO]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [S0]; · iexact S0
    isplitl [S1]; · iexact S1
    isplitl [S2]; · iexact S2
    isplitl [S3]; · iexact S3
    isplitl [S4]; · iexact S4
    isplitl [S5]; · iexact S5
    iexact S6
  isplitl [HR]; · iexact HR
  iexact HO

theorem post_of_mid (c : Dev nD) (t : Fin cfg0.N) : Mid m c t ⊢ bodyPost m c t := by
  unfold bodyPost Mid Own
  rw [show (dats m 0 c).Φ t.succ = Pipeline.ΦA spec0 c from rfl,
    show (dats m 0 c).owesAt () t.succ = (dats m 0 c).owesAt () t.castSucc from rfl,
    afterA_0, afterA_1, afterA_2, afterA_3, afterA_4, afterA_5]
  unfold Pipeline.ΦA
  rw [scopedRest0_eq]
  simp only [owns_whole]
  iintro ⟨⟨H0, H1, H2, H3, H4, H5, H6, S0, S1, S2, S3, S4, S5, S6⟩, HR, HO⟩
  isplitl [HR S0 S1 S2 S3 S4 S5 S6]
  · isplitr [HR]; swap; · iexact HR
    isplitl [S0]; · iexact S0
    isplitl [S1]; · iexact S1
    isplitl [S2]; · iexact S2
    isplitl [S3]; · iexact S3
    isplitl [S4]; · iexact S4
    isplitl [S5]; · iexact S5
    iexact S6
  isplitl [HO]; · iexact HO
  isplitl [H0]; · iexact H0
  isplitl [H1]; · iexact H1
  isplitl [H2]; · iexact H2
  isplitl [H3]; · iexact H3
  isplitl [H4]; · iexact H4
  isplitl [H5]; · iexact H5
  iexact H6

/-- The body at the point. -/
theorem sound_body (c : Dev nD) (t : Fin cfg0.N) :
    bodyPre m c t ⊢ wp frame (wpE (defs₀ (F := F)) Variants.none c none) Set.univ (bodyAt0 t) (fun _ => bodyPost m c t) :=
  (mid_of_pre m c t).trans ((Keeps.left (keeps_cc0_dsa (has_own c (iblk m c 0 t) (iblk m c 1 t) (iblk m c 2 t) (iblk m c 3 t) (iblk m c 4 t) (iblk m c 5 t))) : Keeps c (Mid m c t) (bodyAt0 t)).trans
    (wp_mono _ _ _ fun _ => post_of_mid m c t))

theorem defs₀_row (t : Fin cfg0.N) : defs₀ (F := F) .tc cfg0.body (cfg0.bodyArgs t (cfg0.slots t)) = bodyAt0 t := by
  unfold defs₀; rw [Defs.onTc_tc]

/-- The body obligation with the output forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
set_option maxHeartbeats 800000 in
/-- The launch: every weakly fair execution terminates, the inputs' arrays at what the region found, every counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the argument arrays end unchanged, and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(Pipeline.RDat.FramePost.arr_in h.1 c 0 rfl).trans (V_main_arg0 m c),
      (Pipeline.RDat.FramePost.arr_in h.1 c 1 rfl).trans (V_main_arg1 m c),
      (Pipeline.RDat.FramePost.arr_in h.1 c 2 rfl).trans (V_main_arg2 m c),
      (Pipeline.RDat.FramePost.arr_in h.1 c 3 rfl).trans (V_main_arg3 m c),
      (Pipeline.RDat.FramePost.arr_in h.1 c 4 rfl).trans (V_main_arg4 m c),
      ((h.1 c).2 main_arg5 (Pipeline.mem_restRefs_of main_arg5 (by decide) (by decide))).trans (V_main_arg5 m c)⟩, h.2⟩)
    (run_main m ρ)

end Cert.Attn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Projection
public import proofs.«01_k».proof.Proof.Gen.Projection.Skeleton
public import proofs.«01_k».proof.Proof.Gen.Projection.Launch
public import proofs.«01_k».proof.Proof.Gen.Projection.Points
public import proofs.«01_k».proof.Proof.Gen.Projection.Frame
public import proofs.«01_k».proof.Proof.Gen.ProjectionIdeal
public import proofs.«01_k».proof.Proof.Gen.ProjectionIdeal.Skeleton
public import proofs.«01_k».proof.Proof.Gen.ProjectionIdeal.Launch
public import proofs.«01_k».proof.Proof.Gen.ProjectionIdeal.Points
public import proofs.«01_k».proof.Proof.Gen.ProjectionIdeal.Frame
public import proofs.«01_k».proof.Proof.Gen.ProjectionIdeal.Value
public import proofs.«01_k».proof.Proof.Gen.Output
public import proofs.«01_k».proof.Proof.Gen.Output.Skeleton
public import proofs.«01_k».proof.Proof.Gen.Output.Launch
public import proofs.«01_k».proof.Proof.Gen.Output.Points
public import proofs.«01_k».proof.Proof.Gen.Output.Frame
public import proofs.«01_k».proof.Proof.Gen.OutputIdeal
public import proofs.«01_k».proof.Proof.Gen.OutputIdeal.Skeleton
public import proofs.«01_k».proof.Proof.Gen.OutputIdeal.Launch
public import proofs.«01_k».proof.Proof.Gen.OutputIdeal.Points
public import proofs.«01_k».proof.Proof.Gen.OutputIdeal.Frame
public import proofs.«01_k».proof.Proof.Gen.OutputIdeal.Value
public import proofs.«01_k».proof.Proof.Gen.ProjectionReferenceIdeal
public import proofs.«01_k».proof.Proof.Gen.ProjectionReferenceIdeal.Run
public import proofs.«01_k».proof.Proof.Gen.OutputReferenceIdeal
public import proofs.«01_k».proof.Proof.Gen.OutputReferenceIdeal.Run
public import proofs.«01_k».proof.Proof.Gen.First
public import proofs.«01_k».proof.Proof.Gen.First.Skeleton
public import proofs.«01_k».proof.Proof.Gen.First.Launch
public import proofs.«01_k».proof.Proof.Gen.First.Points
public import proofs.«01_k».proof.Proof.Gen.First.Frame
public import proofs.«01_k».proof.Proof.Gen.FirstIdeal
public import proofs.«01_k».proof.Proof.Gen.FirstIdeal.Skeleton
public import proofs.«01_k».proof.Proof.Gen.FirstIdeal.Launch
public import proofs.«01_k».proof.Proof.Gen.FirstIdeal.Points
public import proofs.«01_k».proof.Proof.Gen.FirstIdeal.Frame
public import proofs.«01_k».proof.Proof.Gen.FirstIdeal.Value
public import proofs.«01_k».proof.Proof.Gen.FirstReferenceIdeal
public import proofs.«01_k».proof.Proof.Gen.FirstReferenceIdeal.Run
public import proofs.«01_k».proof.Proof.Gen.Modulation
public import proofs.«01_k».proof.Proof.Gen.Modulation.Skeleton
public import proofs.«01_k».proof.Proof.Gen.Modulation.Launch
public import proofs.«01_k».proof.Proof.Gen.Modulation.Points
public import proofs.«01_k».proof.Proof.Gen.Modulation.Frame
public import proofs.«01_k».proof.Proof.Gen.ModulationIdeal
public import proofs.«01_k».proof.Proof.Gen.ModulationIdeal.Skeleton
public import proofs.«01_k».proof.Proof.Gen.ModulationIdeal.Launch
public import proofs.«01_k».proof.Proof.Gen.ModulationIdeal.Points
public import proofs.«01_k».proof.Proof.Gen.ModulationIdeal.Frame
public import proofs.«01_k».proof.Proof.Gen.ModulationIdeal.Value
public import proofs.«01_k».proof.Proof.Gen.ModulationReferenceIdeal
public import proofs.«01_k».proof.Proof.Gen.ModulationReferenceIdeal.Run
public import proofs.«01_k».proof.Proof.Gen.Attention
public import proofs.«01_k».proof.Proof.Gen.Attention.Skeleton
public import proofs.«01_k».proof.Proof.Gen.Attention.Launch
public import proofs.«01_k».proof.Proof.Gen.Attention.Points
public import proofs.«01_k».proof.Proof.Gen.Attention.Frame
public import proofs.«01_k».proof.Proof.S5.Equal
public import proofs.«01_k».proof.Proof.Post.Equal
public import proofs.«01_k».proof.Proof.InProj.Equal
public import proofs.«01_k».proof.Proof.First.Equal
public import proofs.«01_k».proof.Proof.Mod.Equal
public import proofs.«01_k».proof.Proof.Attn.Run
public import Idealize.ShloMosaic.Adequacy
public import Idealize.ShloMosaic.Init

@[expose] public section

noncomputable section

namespace Cert.Proof

open Idealize.ShloMosaic Idealize.SL.Sem Cert.Kernel

theorem frame_k : Cert.quiescent_Kernel (hKernel := Cert.Kernel.Gen.facts) := fun m ρ _ => Cert.Kernel.Gen.frame m ρ

theorem frame_ki : Cert.quiescent_KernelIdeal (hKernelIdeal := Cert.KernelIdeal.Gen.facts) := fun m ρ _ => Cert.KernelIdeal.Gen.frame m ρ

theorem frame_ki_pre : Cert.quiescent_KernelIdeal_pre_finite_arguments (hKernelIdeal := Cert.KernelIdeal.Gen.facts)
    (hPre_finite_arguments := Cert.S5.preFacts) := fun m ρ _ => Cert.KernelIdeal.Gen.frame m ρ

/-- The reference declares no semaphore, so the counters are zero at the end as at the start. -/
theorem frame_ri : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem frame_ri_pre : Cert.quiescent_ReferenceIdeal_pre_finite_arguments (hReferenceIdeal := Cert.ReferenceIdeal.Gen.facts)
    (hPre_finite_arguments := Cert.S5.preFacts) := fun m ρ _ => frame_ri m ρ trivial

/-- The precondition of the claim, read. -/
theorem fine_of_pre (m : (ℓ : Loc Cert.KernelIdeal.nD Cert.KernelIdeal.τ Cert.KernelIdeal.sig) → Buf (Elt Ideal) ℓ)
    (h : Cert.Pre_KernelIdeal_finite_arguments (hPre_finite_arguments := Cert.S5.preFacts) m) (c : Dev Cert.KernelIdeal.nD) : Cert.S5.FineAt m c :=
  have ⟨h0, h1, h2, h3, h4, h5, h6, h7, h8⟩ := h c
  @Cert.S5.fine_of_ones _ _ _ _ _ _ _ _ Cert.S5.preFacts h0 h1 h2 h3 h4 h5 h6 h7 h8

theorem equal : Cert.algebraic_KernelIdeal_ReferenceIdeal_pre_finite_arguments (hKernelIdeal := Cert.KernelIdeal.Gen.facts)
    (hReferenceIdeal := Cert.ReferenceIdeal.Gen.facts) (hPre_finite_arguments := Cert.S5.preFacts) :=
  fun m ρ m' ρ' hp ha => ⟨fun c => Cert.KernelIdeal.Gen.W7 m ρ c (Proc.devRef .tc Cert.KernelIdeal.main_v37),
    (θ_run Cert.KernelIdeal.defs _ _).mono (fun _ h => h) (Cert.KernelIdeal.Gen.run m ρ),
    (θ_run Cert.ReferenceIdeal.defs _ _).mono (fun _ h c => ⟨(h c).1.trans (Cert.S5.results_eq ρ (fine_of_pre m hp c)
        ⟨(ha c).1, (ha c).2.1, (ha c).2.2.1, (ha c).2.2.2.1, (ha c).2.2.2.2.1, (ha c).2.2.2.2.2.1, (ha c).2.2.2.2.2.2.1, (ha c).2.2.2.2.2.2.2⟩), (h c).2⟩)
      (Cert.ReferenceIdeal.Value.run (F := Ideal) m' ρ')⟩

theorem frame_projection : Cert.quiescent_Projection (hProjection := Cert.Projection.Gen.facts) := fun m ρ _ => Cert.Projection.Gen.frame m ρ

theorem frame_projection_i : Cert.quiescent_ProjectionIdeal (hProjectionIdeal := Cert.ProjectionIdeal.Gen.facts) := fun m ρ _ => Cert.ProjectionIdeal.Gen.frame m ρ

theorem frame_projection_r : Cert.quiescent_ProjectionReferenceIdeal (hProjectionReferenceIdeal := Cert.ProjectionReferenceIdeal.Gen.facts) := fun m ρ _ =>
  (θ_run Cert.ProjectionReferenceIdeal.defs _ _).mono (fun r h => ⟨fun c => (h c).2.2.2.2.2.2.2.2, Idealize.ShloMosaic.sem_eq_zero_of_no_sems (by decide) r.2⟩)
    (Cert.ProjectionReferenceIdeal.Value.run (F := Ideal) m ρ)

theorem frame_output : Cert.quiescent_Output (hOutput := Cert.Output.Gen.facts) := fun m ρ _ => Cert.Output.Gen.frame m ρ

theorem frame_output_i : Cert.quiescent_OutputIdeal (hOutputIdeal := Cert.OutputIdeal.Gen.facts) := fun m ρ _ => Cert.OutputIdeal.Gen.frame m ρ

theorem frame_output_r : Cert.quiescent_OutputReferenceIdeal (hOutputReferenceIdeal := Cert.OutputReferenceIdeal.Gen.facts) := fun m ρ _ =>
  (θ_run Cert.OutputReferenceIdeal.defs _ _).mono (fun r h => ⟨fun c => (h c).2, Idealize.ShloMosaic.sem_eq_zero_of_no_sems (by decide) r.2⟩)
    (Cert.OutputReferenceIdeal.Value.run (F := Ideal) m ρ)

theorem equal_output : Cert.algebraic_OutputIdeal_OutputReferenceIdeal (hOutputIdeal := Cert.OutputIdeal.Gen.facts)
    (hOutputReferenceIdeal := Cert.OutputReferenceIdeal.Gen.facts) :=
  fun m ρ m' ρ' _ ha => ⟨fun c => (Cert.OutputIdeal.Gen.dats m 0 c).arrAt 16 Cert.OutputIdeal.cfg0.N,
    Cert.OutputIdeal.Value.run_blocks (F := Ideal) m ρ,
    (θ_run Cert.OutputReferenceIdeal.defs _ _).mono (fun _ h c => ⟨(h c).1.trans (Cert.Post.results_eq
        ⟨(ha c).1, (ha c).2.1, (ha c).2.2.1, (ha c).2.2.2.1, (ha c).2.2.2.2.1, (ha c).2.2.2.2.2.1, (ha c).2.2.2.2.2.2.1, (ha c).2.2.2.2.2.2.2.1, (ha c).2.2.2.2.2.2.2.2.1, (ha c).2.2.2.2.2.2.2.2.2.1, (ha c).2.2.2.2.2.2.2.2.2.2.1, (ha c).2.2.2.2.2.2.2.2.2.2.2⟩), (h c).2⟩)
      (Cert.OutputReferenceIdeal.Value.run (F := Ideal) m' ρ')⟩

theorem equal_projection : Cert.algebraic_ProjectionIdeal_ProjectionReferenceIdeal (hProjectionIdeal := Cert.ProjectionIdeal.Gen.facts)
    (hProjectionReferenceIdeal := Cert.ProjectionReferenceIdeal.Gen.facts) :=
  fun m ρ m' ρ' _ ha =>
    have E : ∀ c, Cert.InProj.Agreed m m' c := fun c => ⟨(ha c).1, (ha c).2.1, (ha c).2.2.1, (ha c).2.2.2⟩
    ⟨fun c => (Cert.ProjectionIdeal.Gen.dats m 0 c).arrAt 6 Cert.ProjectionIdeal.cfg0.N,
    fun c => (Cert.ProjectionIdeal.Gen.dats m 0 c).arrAt 7 Cert.ProjectionIdeal.cfg0.N,
    fun c => (Cert.ProjectionIdeal.Gen.dats m 0 c).arrAt 8 Cert.ProjectionIdeal.cfg0.N,
    fun c => (Cert.ProjectionIdeal.Gen.dats m 0 c).arrAt 9 Cert.ProjectionIdeal.cfg0.N,
    fun c => (Cert.ProjectionIdeal.Gen.dats m 0 c).arrAt 10 Cert.ProjectionIdeal.cfg0.N,
    fun c => (Cert.ProjectionIdeal.Gen.dats m 0 c).arrAt 11 Cert.ProjectionIdeal.cfg0.N,
    fun c => (Cert.ProjectionIdeal.Gen.dats m 0 c).arrAt 12 Cert.ProjectionIdeal.cfg0.N,
    fun c => (Cert.ProjectionIdeal.Gen.dats m 0 c).arrAt 13 Cert.ProjectionIdeal.cfg0.N,
    Cert.ProjectionIdeal.Value.run_blocks (F := Ideal) m ρ,
    (θ_run Cert.ProjectionReferenceIdeal.defs _ _).mono (fun _ h c => ⟨Cert.InProj.eq0 (E c) _ (h c).1,
        Cert.InProj.eq1 (E c) _ (h c).2.1,
        Cert.InProj.eq2 (E c) _ (h c).2.2.1,
        Cert.InProj.eq3 (E c) _ (h c).2.2.2.1,
        Cert.InProj.eq4 (E c) _ (h c).2.2.2.2.1,
        Cert.InProj.eq5 (E c) _ (h c).2.2.2.2.2.1,
        Cert.InProj.eq6 (E c) _ (h c).2.2.2.2.2.2.1,
        Cert.InProj.eq7 (E c) _ (h c).2.2.2.2.2.2.2.1,
        (h c).2.2.2.2.2.2.2.2⟩)
      (Cert.ProjectionReferenceIdeal.Value.run_at m' ρ')⟩

theorem frame_first : Cert.quiescent_First (hFirst := Cert.First.Gen.facts) := fun m ρ _ => Cert.First.Gen.frame m ρ

theorem frame_first_i : Cert.quiescent_FirstIdeal (hFirstIdeal := Cert.FirstIdeal.Gen.facts) := fun m ρ _ => Cert.FirstIdeal.Gen.frame m ρ

theorem frame_first_r : Cert.quiescent_FirstReferenceIdeal (hFirstReferenceIdeal := Cert.FirstReferenceIdeal.Gen.facts) := fun m ρ _ =>
  (θ_run Cert.FirstReferenceIdeal.defs _ _).mono (fun r h => ⟨fun c => (h c).2, Idealize.ShloMosaic.sem_eq_zero_of_no_sems (by decide) r.2⟩)
    (Cert.FirstReferenceIdeal.Value.run (F := Ideal) m ρ)

theorem frame_modulation : Cert.quiescent_Modulation (hModulation := Cert.Modulation.Gen.facts) := fun m ρ _ => Cert.Modulation.Gen.frame m ρ

theorem frame_modulation_i : Cert.quiescent_ModulationIdeal (hModulationIdeal := Cert.ModulationIdeal.Gen.facts) := fun m ρ _ => Cert.ModulationIdeal.Gen.frame m ρ

theorem frame_modulation_r : Cert.quiescent_ModulationReferenceIdeal (hModulationReferenceIdeal := Cert.ModulationReferenceIdeal.Gen.facts) := fun m ρ _ =>
  (θ_run Cert.ModulationReferenceIdeal.defs _ _).mono (fun r h => ⟨fun c => (h c).2, Idealize.ShloMosaic.sem_eq_zero_of_no_sems (by decide) r.2⟩)
    (Cert.ModulationReferenceIdeal.Value.run (F := Ideal) m ρ)

theorem frame_attention : Cert.quiescent_Attention (hAttention := Cert.Attention.Gen.facts) := fun m ρ _ => Cert.Attn.frame m ρ

theorem equal_first : Cert.algebraic_FirstIdeal_FirstReferenceIdeal (hFirstIdeal := Cert.FirstIdeal.Gen.facts)
    (hFirstReferenceIdeal := Cert.FirstReferenceIdeal.Gen.facts) :=
  fun m ρ m' ρ' _ ha => ⟨fun c => (Cert.FirstIdeal.Gen.dats m 0 c).arrAt 16 Cert.FirstIdeal.cfg0.N,
    Cert.FirstIdeal.Value.run_blocks (F := Ideal) m ρ,
    (θ_run Cert.FirstReferenceIdeal.defs _ _).mono (fun _ h c => ⟨(h c).1.trans (Cert.PostFirst.results_eq
        ⟨(ha c).1, (ha c).2.1, (ha c).2.2.1, (ha c).2.2.2.1, (ha c).2.2.2.2.1, (ha c).2.2.2.2.2.1, (ha c).2.2.2.2.2.2.1, (ha c).2.2.2.2.2.2.2.1, (ha c).2.2.2.2.2.2.2.2.1, (ha c).2.2.2.2.2.2.2.2.2.1, (ha c).2.2.2.2.2.2.2.2.2.2.1⟩), (h c).2⟩)
      (Cert.FirstReferenceIdeal.Value.run (F := Ideal) m' ρ')⟩

theorem equal_modulation : Cert.algebraic_ModulationIdeal_ModulationReferenceIdeal (hModulationIdeal := Cert.ModulationIdeal.Gen.facts)
    (hModulationReferenceIdeal := Cert.ModulationReferenceIdeal.Gen.facts) :=
  fun m ρ m' ρ' _ ha => ⟨fun c => (Cert.ModulationIdeal.Gen.dats m 0 c).arrAt 3 Cert.ModulationIdeal.cfg0.N,
    Cert.ModulationIdeal.Value.run_blocks (F := Ideal) m ρ,
    (θ_run Cert.ModulationReferenceIdeal.defs _ _).mono (fun _ h c => ⟨Cert.Mod.results_eq _ (ha c).1 (ha c).2.1 (ha c).2.2 (h c).1, (h c).2⟩)
      (Cert.ModulationReferenceIdeal.Value.run_at m' ρ')⟩

theorem claim : Cert.Claim :=
  ⟨Cert.Kernel.Gen.facts, Cert.KernelIdeal.Gen.facts, Cert.ReferenceIdeal.Gen.facts, Cert.Projection.Gen.facts, Cert.ProjectionIdeal.Gen.facts,
    Cert.ProjectionReferenceIdeal.Gen.facts, Cert.Output.Gen.facts, Cert.OutputIdeal.Gen.facts, Cert.OutputReferenceIdeal.Gen.facts,
    Cert.First.Gen.facts, Cert.FirstIdeal.Gen.facts, Cert.FirstReferenceIdeal.Gen.facts, Cert.Modulation.Gen.facts, Cert.ModulationIdeal.Gen.facts,
    Cert.ModulationReferenceIdeal.Gen.facts, Cert.Attention.Gen.facts, Cert.S5.preFacts,
    frame_k, frame_ki, frame_ki_pre, frame_ri, frame_ri_pre, frame_projection, frame_projection_i, frame_projection_r,
    frame_output, frame_output_i, frame_output_r, frame_first, frame_first_i, frame_first_r,
    frame_modulation, frame_modulation_i, frame_modulation_r, frame_attention, trivial, equal, trivial, equal_projection, trivial, equal_output, trivial, equal_first, trivial, equal_modulation⟩

end Cert.Proof

end
